-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_gradient [hPre_finite_gradient : Cert.Pre_finite_gradient.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_gradient.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_gradient [hPre_finite_gradient : Cert.Pre_finite_gradient.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_gradient.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_rows [hPre_finite_rows : Cert.Pre_finite_rows.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_rows.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_rows [hPre_finite_rows : Cert.Pre_finite_rows.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_rows.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_gradient [hKernel10Ideal : Cert.Kernel10Ideal.Facts] [hPre_finite_gradient : Cert.Pre_finite_gradient.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_gradient m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_gradient [hReference10Ideal : Cert.Reference10Ideal.Facts] [hPre_finite_gradient : Cert.Pre_finite_gradient.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_gradient m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite_rows [hKernel14Ideal : Cert.Kernel14Ideal.Facts] [hPre_finite_rows : Cert.Pre_finite_rows.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_rows m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite_rows [hReference14Ideal : Cert.Reference14Ideal.Facts] [hPre_finite_rows : Cert.Pre_finite_rows.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_rows m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_v1) = v1 c
          ∧ r.2.mem ((c.tc : Thread Cert.Reference2Ideal.nD Cert.Reference2Ideal.τ).loc Cert.Reference2Ideal.main_v4) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite_gradient [hKernel10Ideal : Cert.Kernel10Ideal.Facts] [hReference10Ideal : Cert.Reference10Ideal.Facts] [hPre_finite_gradient : Cert.Pre_finite_gradient.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_gradient m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v29) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v28) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite_rows [hKernel14Ideal : Cert.Kernel14Ideal.Facts] [hReference14Ideal : Cert.Reference14Ideal.Facts] [hPre_finite_rows : Cert.Pre_finite_rows.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_rows m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v63) = v0 c
          ∧ r.2.mem ((c.tc : Thread Cert.Reference14Ideal.nD Cert.Reference14Ideal.τ).loc Cert.Reference14Ideal.main_v68) = v1 c
          ∧ r.2.mem ((c.tc : Thread Cert.Reference14Ideal.nD Cert.Reference14Ideal.τ).loc Cert.Reference14Ideal.main_v67) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v71) = v0 c
          ∧ r.2.mem ((c.tc : Thread Cert.Reference15Ideal.nD Cert.Reference15Ideal.τ).loc Cert.Reference15Ideal.main_v72) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v30) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite_inputs : Cert.Pre_finite_inputs.Facts) (hPre_finite_gradient : Cert.Pre_finite_gradient.Facts) (hPre_finite_rows : Cert.Pre_finite_rows.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_gradient (hKernel10Ideal := hKernel10Ideal) (hPre_finite_gradient := hPre_finite_gradient)
    ∧ quiescent_Reference10Ideal (hReference10Ideal := hReference10Ideal)
    ∧ quiescent_Reference10Ideal_pre_finite_gradient (hReference10Ideal := hReference10Ideal) (hPre_finite_gradient := hPre_finite_gradient)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_rows (hKernel14Ideal := hKernel14Ideal) (hPre_finite_rows := hPre_finite_rows)
    ∧ quiescent_Reference14Ideal (hReference14Ideal := hReference14Ideal)
    ∧ quiescent_Reference14Ideal_pre_finite_rows (hReference14Ideal := hReference14Ideal) (hPre_finite_rows := hPre_finite_rows)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_gradient (hKernel10Ideal := hKernel10Ideal) (hReference10Ideal := hReference10Ideal) (hPre_finite_gradient := hPre_finite_gradient)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_rows (hKernel14Ideal := hKernel14Ideal) (hReference14Ideal := hReference14Ideal) (hPre_finite_rows := hPre_finite_rows)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite_gradient.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x4864 : Shape := ⟨2, ![4096, 4864]⟩

class Facts : Prop where
  pads_S2816x1024_S4096x1024_012800_000 : S2816x1024.Pads (![0, 0] : Fin 2 → Nat) ![1280, 0] ![0, 0] S4096x1024
  h_S_ : 0 < S_.numel
  concatenates_S4096x2816_S4096x1024_S4096x1024_S4096x4864_d1 : Shape.Concatenates [S4096x2816, S4096x1024, S4096x1024] S4096x4864 1
  bcast_S_S4096x4864 : S_.BroadcastsInDim S4096x4864 (![] : Fin 0 → Fin S4096x4864.rank)

variable [Facts]

def fn_pad {F : FTy → Type} [FloatOps F] (arg0 : FVec F S2816x1024 .f32) (arg1 : IVec S_ 32) : FVec F S4096x1024 .f32 :=
  let v0 : FVec F S_ .f32 := sitofp .f32 arg1
  let v1 : FVec F S4096x1024 .f32 := (fun x v => pad S4096x1024 ![0, 0] ![1280, 0] ![0, 0] x v pads_S2816x1024_S4096x1024_012800_000 h_S_) arg0 v0
  v1

def fn {F : FTy → Type} [FloatOps F] (main_arg0 : FVec F S4096x2816 .f32) (main_arg1 : FVec F S4096x2816 .f32) (main_arg2 : FVec F S2816x1024 .f32) (main_arg3 : FVec F S4096x1024 .f32) : IVec S4096x4864 1 :=
  let main_c : IVec S_ 32 := constantI S_ 32 0#32
  let main_v0 : FVec F S4096x1024 .f32 := fn_pad (F := F) main_arg2 main_c
  let main_v1 : FVec F S4096x4864 .f32 := concatenate S4096x4864 1 [⟨S4096x2816, main_arg1⟩, ⟨S4096x1024, main_arg3⟩, ⟨S4096x1024, main_v0⟩] concatenates_S4096x2816_S4096x1024_S4096x1024_S4096x4864_d1
  let main_v2 : FVec F S4096x4864 .f32 := Host.absf main_v1
  let main_cst : FVec F S_ .f32 := constant S_ .f32 0x7F800000#32
  let main_v3 : FVec F S4096x4864 .f32 := broadcastInDim S4096x4864 ![] bcast_S_S4096x4864 main_cst
  let main_v4 : IVec S4096x4864 1 := cmpf .olt main_v2 main_v3
  main_v4
-- ==== Pre_finite_inputs.lean ====
abbrev S4096x3200 : Shape := ⟨2, ![4096, 3200]⟩
abbrev S4096x1024 : Shape := ⟨2, ![4096, 1024]⟩
abbrev S4096x256 : Shape := ⟨2, ![4096, 256]⟩
abbrev S_ : Shape := ⟨0, ![]⟩

class Facts : Prop where
  slices_S4096x3200_S4096x256_0_0 : S4096x3200.Slices ![0, 0] S4096x256
  slices_S4096x3200_S4096x256_0_256 : S4096x3200.Slices ![0, 256] S4096x256
  slices_S4096x3200_S4096x256_0_512 : S4096x3200.Slices ![0, 512] S4096x256
  slices_S4096x1024_S4096x256_0_0 : S4096x1024.Slices ![0, 0] S4096x256
  bcast_S_S4096x256 : S_.BroadcastsInDim S4096x256 (![] : Fin 0 → Fin S4096x256.rank)

variable [Facts]

def fn {F : FTy → Type} [FloatOps F] (main_arg0 : FVec F S4096x3200 .f32) (main_arg1 : FVec F S4096x1024 .f32) : IVec S4096x256 1 :=
  let main_v0 : FVec F S4096x256 .f32 := (extractStridedSlice S4096x256 ![0, 0] · slices_S4096x3200_S4096x256_0_0) main_arg0
  let main_v1 : FVec F S4096x256 .f32 := (extractStridedSlice S4096x256 ![0, 256] · slices_S4096x3200_S4096x256_0_256) main_arg0
  let main_v2 : FVec F S4096x256 .f32 := (extractStridedSlice S4096x256 ![0, 512] · slices_S4096x3200_S4096x256_0_512) main_arg0
  let main_v3 : FVec F S4096x256 .f32 := (extractStridedSlice S4096x256 ![0, 0] · slices_S4096x1024_S4096x256_0_0) main_arg1
  let main_v4 : FVec F S4096x256 .f32 := Host.absf main_v0
  let main_cst : FVec F S_ .f32 := constant S_ .f32 0x7F800000#32
  let main_v5 : FVec F S4096x256 .f32 := broadcastInDim S4096x256 ![] bcast_S_S4096x256 main_cst
  let main_v6 : IVec S4096x256 1 := cmpf .olt main_v4 main_v5
  let main_v7 : FVec F S4096x256 .f32 := Host.absf main_v1
  let main_cst_0 : FVec F S_ .f32 := constant S_ .f32 0x7F800000#32
  let main_v8 : FVec F S4096x256 .f32 := broadcastInDim S4096x256 ![] bcast_S_S4096x256 main_cst_0
  let main_v9 : IVec S4096x256 1 := cmpf .olt main_v7 main_v8
  let main_v10 : FVec F S4096x256 .f32 := Host.absf main_v2
  let main_cst_1 : FVec F S_ .f32 := constant S_ .f32 0x7F800000#32
  let main_v11 : FVec F S4096x256 .f32 := broadcastInDim S4096x256 ![] bcast_S_S4096x256 main_cst_1
  let main_v12 : IVec S4096x256 1 := cmpf .olt main_v10 main_v11
  let main_v13 : FVec F S4096x256 .f32 := Host.absf main_v3
  let main_cst_2 : FVec F S_ .f32 := constant S_ .f32 0x7F800000#32
  let main_v14 : FVec F S4096x256 .f32 := broadcastInDim S4096x256 ![] bcast_S_S4096x256 main_cst_2
  let main_v15 : IVec S4096x256 1 := cmpf .olt main_v13 main_v14
  let main_v16 : IVec S4096x256 1 := andi main_v6 main_v9
  let main_v17 : IVec S4096x256 1 := andi main_v12 main_v15
  let main_v18 : IVec S4096x256 1 := andi main_v16 main_v17
  main_v18
-- ==== Pre_finite_rows.lean ====
abbrev S4096x1024 : Shape := ⟨2, ![4096, 1024]⟩
abbrev S1024 : Shape := ⟨1, ![1024]⟩
abbrev S1x1024 : Shape := ⟨2, ![1, 1024]⟩
abbrev S8193x1024 : Shape := ⟨2, ![8193, 1024]⟩
abbrev S_ : Shape := ⟨0, ![]⟩

class Facts : Prop where
  bcast_S1024_S1x1024_1 : S1024.BroadcastsInDim S1x1024 (![1] : Fin 1 → Fin S1x1024.rank)
  concatenates_S4096x1024_S4096x1024_S1x1024_S8193x1024_d0 : Shape.Concatenates [S4096x1024, S4096x1024, S1x1024] S8193x1024 0
  bcast_S_S8193x1024 : S_.BroadcastsInDim S8193x1024 (![] : Fin 0 → Fin S8193x1024.rank)

variable [Facts]

def fn {F : FTy → Type} [FloatOps F] (main_arg0 : FVec F S4096x1024 .f32) (main_arg1 : FVec F S4096x1024 .f32) (main_arg2 : FVec F S1024 .f32) : IVec S8193x1024 1 :=
  let main_v0 : FVec F S1x1024 .f32 := broadcastInDim S1x1024 ![1] bcast_S1024_S1x1024_1 main_arg2
  let main_v1 : FVec F S8193x1024 .f32 := concatenate S8193x1024 0 [⟨S4096x1024, main_arg0⟩, ⟨S4096x1024, main_arg1⟩, ⟨S1x1024, main_v0⟩] concatenates_S4096x1024_S4096x1024_S1x1024_S8193x1024_d0
  let main_v2 : FVec F S8193x1024 .f32 := Host.absf main_v1
  let main_cst : FVec F S_ .f32 := constant S_ .f32 0x7F800000#32
  let main_v3 : FVec F S8193x1024 .f32 := broadcastInDim S8193x1024 ![] bcast_S_S8193x1024 main_cst
  let main_v4 : IVec S8193x1024 1 := cmpf .olt main_v2 main_v3
  main_v4
-- ==== Kernel.lean ====
abbrev S4096x3200 : Shape := ⟨2, ![4096, 3200]⟩
abbrev S4096x1024 : Shape := ⟨2, ![4096, 1024]⟩
abbrev S2x2048x3200 : Shape := ⟨3, ![2, 2048, 3200]⟩
abbrev S2x2048x256 : Shape := ⟨3, ![2, 2048, 256]⟩
abbrev S2x2048x4x64 : Shape := ⟨4, ![2, 2048, 4, 64]⟩
abbrev S2x4x2048x64 : Shape := ⟨4, ![2, 4, 2048, 64]⟩
abbrev S2x4x2048x2048 : Shape := ⟨4, ![2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x2048x8 : Shape := ⟨4, ![2, 4, 2048, 8]⟩
abbrev S2x4x2048x128 : Shape := ⟨4, ![2, 4, 2048, 128]⟩
abbrev S4096x256 : Shape := ⟨2, ![4096, 256]⟩
abbrev S2048x256 : Shape := ⟨2, ![2048, 256]⟩
abbrev S1x4x2048x128 : Shape := ⟨4, ![1, 4, 2048, 128]⟩
abbrev S4x2048x256 : Shape := ⟨3, ![4, 2048, 256]⟩
abbrev S1x256 : Shape := ⟨2, ![1, 256]⟩
abbrev S1x2048x256 : Shape := ⟨3, ![1, 2048, 256]⟩
abbrev S512x256 : Shape := ⟨2, ![512, 256]⟩
abbrev S512x128 : Shape := ⟨2, ![512, 128]⟩
abbrev S256x256 : Shape := ⟨2, ![256, 256]⟩
abbrev S1x1x512x128 : Shape := ⟨4, ![1, 1, 512, 128]⟩
abbrev S512x1 : Shape := ⟨2, ![512, 1]⟩
abbrev S1x256x256 : Shape := ⟨3, ![1, 256, 256]⟩
abbrev S512 : Shape := ⟨1, ![512]⟩

abbrev nBuf : Space → Nat
  | .hbm => 56
  | .vmem => 18
  | .smem => 0
  | _ => 0

abbrev bufTy : (tb : Table) → Fin (tcTables nBuf tb) → BufTy
  | .hbm, ⟨0, _⟩ => ⟨S4096x3200, .f32⟩
  | .hbm, ⟨1, _⟩ => ⟨S4096x1024, .f32⟩
  | .hbm, ⟨2, _⟩ => ⟨S2x2048x3200, .f32⟩
  | .hbm, ⟨3, _⟩ => ⟨S2x2048x256, .f32⟩
  | .hbm, ⟨4, _⟩ => ⟨S2x2048x4x64, .f32⟩
  | .hbm, ⟨5, _⟩ => ⟨S2x4x2048x64, .f32⟩
  | .hbm, ⟨6, _⟩ => ⟨S2x2048x256, .f32⟩
  | .hbm, ⟨7, _⟩ => ⟨S2x2048x4x64, .f32⟩
  | .hbm, ⟨8, _⟩ => ⟨S2x4x2048x64, .f32⟩
  | .hbm, ⟨9, _⟩ => ⟨S2x2048x256, .f32⟩
  | .hbm, ⟨10, _⟩ => ⟨S2x2048x4x64, .f32⟩
  | .hbm, ⟨11, _⟩ => ⟨S2x4x2048x64, .f32⟩
  | .hbm, ⟨12, _⟩ => ⟨S2x4x2048x2048, .f32⟩
  | .hbm, ⟨13, _⟩ => ⟨S_, .f32⟩
  | .hbm, ⟨14, _⟩ => ⟨S2x4x2048x2048, .f32⟩
  | .hbm, ⟨15, _⟩ => ⟨S2x4x2048x2048, .f32⟩
  | .hbm, ⟨16, _⟩ => ⟨S2048, .i32⟩
  | .hbm, ⟨17, _⟩ => ⟨S1x2048, .i32⟩
  | .hbm, ⟨18, _⟩ => ⟨S2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S2x4x2048x2048, .f32⟩
  | .hbm, ⟨24, _⟩ => ⟨S2x4x2048x2048, .f32⟩
  | .hbm, ⟨25, _⟩ => ⟨S_, .f32⟩
  | .hbm, ⟨26, _⟩ => ⟨S2x4x2048x2048, .f32⟩
  | .hbm, ⟨27, _⟩ => ⟨S2x4x2048x2048, .f32⟩
  | .hbm, ⟨28, _⟩ => ⟨S2x4x2048x2048, .f32⟩
  | .hbm, ⟨29, _⟩ => ⟨S2x4x2048x2048, .f32⟩
  | .hbm, ⟨30, _⟩ => ⟨S2x4x2048x2048, .i1⟩
  | .hbm, ⟨31, _⟩ => ⟨S2x4x2048x2048, .f32⟩
  | .hbm, ⟨32, _⟩ => ⟨S2x4x2048x2048, .f32⟩
  | .hbm, ⟨33, _⟩ => ⟨S2x4x2048x2048, .f32⟩
  | .hbm, ⟨34, _⟩ => ⟨S2x4x2048x2048, .f32⟩
  | .hbm, ⟨35, _⟩ => ⟨S2x4x2048x2048, .f32⟩
  | .hbm, ⟨36, _⟩ => ⟨S2x4x2048x2048, .f32⟩
  | .hbm, ⟨37, _⟩ => ⟨S2x4x2048x2048, .f32⟩
  | .hbm, ⟨38, _⟩ => ⟨S2x4x2048x2048, .f32⟩
  | .hbm, ⟨39, _⟩ => ⟨S2x4x2048x2048, .f32⟩
  | .hbm, ⟨40, _⟩ => ⟨S_, .f32⟩
  | .hbm, ⟨41, _⟩ => ⟨S_, .f32⟩
  | .hbm, ⟨42, _⟩ => ⟨S2x4x2048x2048, .i1⟩
  | .hbm, ⟨43, _⟩ => ⟨S2x4x2048x2048, .f32⟩
  | .hbm, ⟨44, _⟩ => ⟨S2x4x2048x2048, .f32⟩
  | .hbm, ⟨45, _⟩ => ⟨S_, .f32⟩
  | .hbm, ⟨46, _⟩ => ⟨S_, .f32⟩
  | .hbm, ⟨47, _⟩ => ⟨S2x4x2048x2048, .f32⟩
  | .hbm, ⟨48, _⟩ => ⟨S2x4x2048x2048, .f32⟩
  | .hbm, ⟨49, _⟩ => ⟨S2x4x2048x8, .f32⟩
  | .hbm, ⟨50, _⟩ => ⟨S_, .i32⟩
  | .hbm, ⟨51, _⟩ => ⟨S_, .f32⟩
  | .hbm, ⟨52, _⟩ => ⟨S2x4x2048x128, .f32⟩
  | .hbm, ⟨53, _⟩ => ⟨S4096x256, .f32⟩
  | .hbm, ⟨54, _⟩ => ⟨S4096x256, .f32⟩
  | .hbm, ⟨55, _⟩ => ⟨S4096x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x4x2048x128, .f32⟩
  | .local _ .vmem, ⟨9, _⟩ => ⟨S1x4x2048x128, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S4x2048x256, .bf16⟩
  | .local _ .vmem, ⟨17, _⟩ => ⟨S4x2048x256, .bf16⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_call3_v0 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v27_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_52 : BitVec 32 := 0#32
  let c4_i32 : BitVec 32 := 4#32
  let v112 : BitVec 32 := Scalar.addi c0_i32_52 c4_i32
  let c1_i32 : BitVec 32 := 1#32
  ⟨c0_i32_52, v112, c1_i32⟩
def k0_mult1 (k0_t1 : Fin k0_t1_loop.trips) : BitVec 32 :=
  let c0_i32_52 : BitVec 32 := 0#32
  let c1_i32 : BitVec 32 := 1#32
  let arg11 : BitVec 32 := Scf.iv c0_i32_52 c1_i32 k0_t1
  let c512_i32 : BitVec 32 := 512#32
  let v113 : BitVec 32 := Scalar.muli arg11 c512_i32
  v113
def k0_off1 (k0_t1 : Fin k0_t1_loop.trips) : Fin 2 → Nat :=
  let c0_i32_52 : BitVec 32 := 0#32
  let c1_i32 : BitVec 32 := 1#32
  let arg11 : BitVec 32 := Scf.iv c0_i32_52 c1_i32 k0_t1
  let c512_i32 : BitVec 32 := 512#32
  let v113 : BitVec 32 := Scalar.muli arg11 c512_i32
  let v114 : BitVec 32 := v113
  let v115 : Index := Scalar.indexCast v114
  let c0_54 : Index := 0#32
  ![v115.toNat, 0]
def k0_mult2 (k0_t1 : Fin k0_t1_loop.trips) : BitVec 32 :=
  let c0_i32_52 : BitVec 32 := 0#32
  let c1_i32 : BitVec 32 := 1#32
  let arg11 : BitVec 32 := Scf.iv c0_i32_52 c1_i32 k0_t1
  let c512_i32_56 : BitVec 32 := 512#32
  let v120 : BitVec 32 := Scalar.muli arg11 c512_i32_56
  v120
def k0_mult3 (k0_t1 : Fin k0_t1_loop.trips) : BitVec 32 :=
  let c0_i32_52 : BitVec 32 := 0#32
  let c1_i32 : BitVec 32 := 1#32
  let arg11 : BitVec 32 := Scf.iv c0_i32_52 c1_i32 k0_t1
  let c512_i32_66 : BitVec 32 := 512#32
  let v165 : BitVec 32 := Scalar.muli arg11 c512_i32_66
  v165
def k0_off2 (k0_t1 : Fin k0_t1_loop.trips) : Fin 4 → Nat :=
  let c0_67 : Index := 0#32
  let c0_68 : Index := 0#32
  let c0_i32_52 : BitVec 32 := 0#32
  let c1_i32 : BitVec 32 := 1#32
  let arg11 : BitVec 32 := Scf.iv c0_i32_52 c1_i32 k0_t1
  let c512_i32_66 : BitVec 32 := 512#32
  let v165 : BitVec 32 := Scalar.muli arg11 c512_i32_66
  let v166 : BitVec 32 := v165
  let v167 : Index := Scalar.indexCast v166
  let c0_69 : Index := 0#32
  ![0, 0, v167.toNat, 0]
def k0_mult4 (k0_t1 : Fin k0_t1_loop.trips) : BitVec 32 :=
  let c0_i32_52 : BitVec 32 := 0#32
  let c1_i32 : BitVec 32 := 1#32
  let arg11 : BitVec 32 := Scf.iv c0_i32_52 c1_i32 k0_t1
  let c512_i32_70 : BitVec 32 := 512#32
  let v170 : BitVec 32 := Scalar.muli arg11 c512_i32_70
  v170
def k0_off3 (k0_t1 : Fin k0_t1_loop.trips) : Fin 4 → Nat :=
  let c0_71 : Index := 0#32
  let c1_72 : Index := 1#32
  let c0_i32_52 : BitVec 32 := 0#32
  let c1_i32 : BitVec 32 := 1#32
  let arg11 : BitVec 32 := Scf.iv c0_i32_52 c1_i32 k0_t1
  let c512_i32_70 : BitVec 32 := 512#32
  let v170 : BitVec 32 := Scalar.muli arg11 c512_i32_70
  let v171 : BitVec 32 := v170
  let v172 : Index := Scalar.indexCast v171
  let c0_73 : Index := 0#32
  ![0, 1, v172.toNat, 0]
def k0_mult5 (k0_t1 : Fin k0_t1_loop.trips) : BitVec 32 :=
  let c0_i32_52 : BitVec 32 := 0#32
  let c1_i32 : BitVec 32 := 1#32
  let arg11 : BitVec 32 := Scf.iv c0_i32_52 c1_i32 k0_t1
  let c512_i32_74 : BitVec 32 := 512#32
  let v175 : BitVec 32 := Scalar.muli arg11 c512_i32_74
  v175
def k0_off4 (k0_t1 : Fin k0_t1_loop.trips) : Fin 4 → Nat :=
  let c0_75 : Index := 0#32
  let c2_76 : Index := 2#32
  let c0_i32_52 : BitVec 32 := 0#32
  let c1_i32 : BitVec 32 := 1#32
  let arg11 : BitVec 32 := Scf.iv c0_i32_52 c1_i32 k0_t1
  let c512_i32_74 : BitVec 32 := 512#32
  let v175 : BitVec 32 := Scalar.muli arg11 c512_i32_74
  let v176 : BitVec 32 := v175
  let v177 : Index := Scalar.indexCast v176
  let c0_77 : Index := 0#32
  ![0, 2, v177.toNat, 0]
def k0_mult6 (k0_t1 : Fin k0_t1_loop.trips) : BitVec 32 :=
  let c0_i32_52 : BitVec 32 := 0#32
  let c1_i32 : BitVec 32 := 1#32
  let arg11 : BitVec 32 := Scf.iv c0_i32_52 c1_i32 k0_t1
  let c512_i32_78 : BitVec 32 := 512#32
  let v180 : BitVec 32 := Scalar.muli arg11 c512_i32_78
  v180
def k0_off5 (k0_t1 : Fin k0_t1_loop.trips) : Fin 4 → Nat :=
  let c0_79 : Index := 0#32
  let c3_80 : Index := 3#32
  let c0_i32_52 : BitVec 32 := 0#32
  let c1_i32 : BitVec 32 := 1#32
  let arg11 : BitVec 32 := Scf.iv c0_i32_52 c1_i32 k0_t1
  let c512_i32_78 : BitVec 32 := 512#32
  let v180 : BitVec 32 := Scalar.muli arg11 c512_i32_78
  let v181 : BitVec 32 := v180
  let v182 : Index := Scalar.indexCast v181
  let c0_81 : Index := 0#32
  ![0, 3, v182.toNat, 0]
@[reducible] def k0_t2_loop (k0_t1 : Fin k0_t1_loop.trips) : Scf.Loop 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_87 : BitVec 32 := 1#32
  ⟨c0_i32_85, v193, c1_i32_87⟩
def k0_mult7 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_94 : BitVec 32 := 256#32
  let v208 : BitVec 32 := Scalar.muli arg12 c256_i32_94
  v208
def k0_off6 (k0_t1 : Fin k0_t1_loop.trips) (k0_t2 : Fin (k0_t2_loop k0_t1).trips) : Fin 3 → Nat :=
  let c0_95 : Index := 0#32
  let c0_i32_85 : BitVec 32 := 0#32
  let c1_i32_87 : BitVec 32 := 1#32
  let arg12 : BitVec 32 := Scf.iv c0_i32_85 c1_i32_87 k0_t2
  let c256_i32_94 : BitVec 32 := 256#32
  let v208 : BitVec 32 := Scalar.muli arg12 c256_i32_94
  let v209 : BitVec 32 := v208
  let v210 : Index := Scalar.indexCast v209
  let c0_96 : Index := 0#32
  ![0, v210.toNat, 0]
def k0_mult8 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_107 : BitVec 32 := 256#32
  let v246 : BitVec 32 := Scalar.muli arg12 c256_i32_107
  v246
def k0_mult9 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_115 : BitVec 32 := 256#32
  let v271 : BitVec 32 := Scalar.muli arg12 c256_i32_115
  v271
def k0_mult10 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_119 : BitVec 32 := 256#32
  let v278 : BitVec 32 := Scalar.muli arg12 c256_i32_119
  v278
def k0_off7 (k0_t1 : Fin k0_t1_loop.trips) (k0_t2 : Fin (k0_t2_loop k0_t1).trips) : Fin 2 → Nat :=
  let c0_i32_85 : BitVec 32 := 0#32
  let c1_i32_87 : BitVec 32 := 1#32
  let arg12 : BitVec 32 := Scf.iv c0_i32_85 c1_i32_87 k0_t2
  let c256_i32_119 : BitVec 32 := 256#32
  let v278 : BitVec 32 := Scalar.muli arg12 c256_i32_119
  let v279 : BitVec 32 := v278
  let v280 : Index := Scalar.indexCast v279
  let c0_120 : Index := 0#32
  ![v280.toNat, 0]
def k0_mult11 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_123 : BitVec 32 := 256#32
  let v287 : BitVec 32 := Scalar.muli arg12 c256_i32_123
  v287
def k0_mult12 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_128 : BitVec 32 := 256#32
  let v300 : BitVec 32 := Scalar.muli arg12 c256_i32_128
  v300
def k0_off8 (k0_t1 : Fin k0_t1_loop.trips) (k0_t2 : Fin (k0_t2_loop k0_t1).trips) : Fin 3 → Nat :=
  let c1_129 : Index := 1#32
  let c0_i32_85 : BitVec 32 := 0#32
  let c1_i32_87 : BitVec 32 := 1#32
  let arg12 : BitVec 32 := Scf.iv c0_i32_85 c1_i32_87 k0_t2
  let c256_i32_128 : BitVec 32 := 256#32
  let v300 : BitVec 32 := Scalar.muli arg12 c256_i32_128
  let v301 : BitVec 32 := v300
  let v302 : Index := Scalar.indexCast v301
  let c0_130 : Index := 0#32
  ![1, v302.toNat, 0]
def k0_mult13 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_141 : BitVec 32 := 256#32
  let v338 : BitVec 32 := Scalar.muli arg12 c256_i32_141
  v338
def k0_mult14 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_149 : BitVec 32 := 256#32
  let v363 : BitVec 32 := Scalar.muli arg12 c256_i32_149
  v363
def k0_mult15 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_153 : BitVec 32 := 256#32
  let v370 : BitVec 32 := Scalar.muli arg12 c256_i32_153
  v370
def k0_mult16 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_157 : BitVec 32 := 256#32
  let v379 : BitVec 32 := Scalar.muli arg12 c256_i32_157
  v379
def k0_mult17 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_162 : BitVec 32 := 256#32
  let v392 : BitVec 32 := Scalar.muli arg12 c256_i32_162
  v392
def k0_off9 (k0_t1 : Fin k0_t1_loop.trips) (k0_t2 : Fin (k0_t2_loop k0_t1).trips) : Fin 3 → Nat :=
  let c2_163 : Index := 2#32
  let c0_i32_85 : BitVec 32 := 0#32
  let c1_i32_87 : BitVec 32 := 1#32
  let arg12 : BitVec 32 := Scf.iv c0_i32_85 c1_i32_87 k0_t2
  let c256_i32_162 : BitVec 32 := 256#32
  let v392 : BitVec 32 := Scalar.muli arg12 c256_i32_162
  let v393 : BitVec 32 := v392
  let v394 : Index := Scalar.indexCast v393
  let c0_164 : Index := 0#32
  ![2, v394.toNat, 0]
def k0_mult18 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_175 : BitVec 32 := 256#32
  let v430 : BitVec 32 := Scalar.muli arg12 c256_i32_175
  v430
def k0_mult19 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_183 : BitVec 32 := 256#32
  let v455 : BitVec 32 := Scalar.muli arg12 c256_i32_183
  v455
def k0_mult20 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_187 : BitVec 32 := 256#32
  let v462 : BitVec 32 := Scalar.muli arg12 c256_i32_187
  v462
def k0_mult21 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_191 : BitVec 32 := 256#32
  let v471 : BitVec 32 := Scalar.muli arg12 c256_i32_191
  v471
def k0_mult22 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_196 : BitVec 32 := 256#32
  let v484 : BitVec 32 := Scalar.muli arg12 c256_i32_196
  v484
def k0_off10 (k0_t1 : Fin k0_t1_loop.trips) (k0_t2 : Fin (k0_t2_loop k0_t1).trips) : Fin 3 → Nat :=
  let c3_197 : Index := 3#32
  let c0_i32_85 : BitVec 32 := 0#32
  let c1_i32_87 : BitVec 32 := 1#32
  let arg12 : BitVec 32 := Scf.iv c0_i32_85 c1_i32_87 k0_t2
  let c256_i32_196 : BitVec 32 := 256#32
  let v484 : BitVec 32 := Scalar.muli arg12 c256_i32_196
  let v485 : BitVec 32 := v484
  let v486 : Index := Scalar.indexCast v485
  let c0_198 : Index := 0#32
  ![3, v486.toNat, 0]
def k0_mult23 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_209 : BitVec 32 := 256#32
  let v522 : BitVec 32 := Scalar.muli arg12 c256_i32_209
  v522
def k0_mult24 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_217 : BitVec 32 := 256#32
  let v547 : BitVec 32 := Scalar.muli arg12 c256_i32_217
  v547
def k0_mult25 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_221 : BitVec 32 := 256#32
  let v554 : BitVec 32 := Scalar.muli arg12 c256_i32_221
  v554
def k0_mult26 (k0_t1 : Fin k0_t1_loop.trips) (k0_t2 : Fin (k0_t2_loop k0_t1).trips) : BitVec 32 :=
  let c0_i32_85 : BitVec 32 := 0#32
  let c1_i32_87 : BitVec 32 := 1#32
  let arg12 : BitVec 32 := Scf.iv c0_i32_85 c1_i32_87 k0_t2
  let c256_i32_225 : BitVec 32 := 256#32
  let v563 : BitVec 32 := Scalar.muli arg12 c256_i32_225
  v563
@[reducible] def k0_t3_loop (k0_t1 : Fin k0_t1_loop.trips) : Scf.Loop 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let v190 : BitVec 32 := Scalar.addi c0_i32_85 v189
  let c1_i32_88 : BitVec 32 := 1#32
  ⟨v193, v190, c1_i32_88⟩
def k0_mult27 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_94 : BitVec 32 := 256#32
  let v208 : BitVec 32 := Scalar.muli arg12 c256_i32_94
  v208
def k0_off11 (k0_t1 : Fin k0_t1_loop.trips) (k0_t3 : Fin (k0_t3_loop k0_t1).trips) : Fin 3 → Nat :=
  let c0_95 : Index := 0#32
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_94 : BitVec 32 := 256#32
  let v208 : BitVec 32 := Scalar.muli arg12 c256_i32_94
  let v209 : BitVec 32 := v208
  let v210 : Index := Scalar.indexCast v209
  let c0_96 : Index := 0#32
  ![0, v210.toNat, 0]
def k0_mult28 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_107 : BitVec 32 := 256#32
  let v246 : BitVec 32 := Scalar.muli arg12 c256_i32_107
  v246
def k0_mult29 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_115 : BitVec 32 := 256#32
  let v271 : BitVec 32 := Scalar.muli arg12 c256_i32_115
  v271
def k0_mult30 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_119 : BitVec 32 := 256#32
  let v278 : BitVec 32 := Scalar.muli arg12 c256_i32_119
  v278
def k0_off12 (k0_t1 : Fin k0_t1_loop.trips) (k0_t3 : Fin (k0_t3_loop k0_t1).trips) : Fin 2 → Nat :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_119 : BitVec 32 := 256#32
  let v278 : BitVec 32 := Scalar.muli arg12 c256_i32_119
  let v279 : BitVec 32 := v278
  let v280 : Index := Scalar.indexCast v279
  let c0_120 : Index := 0#32
  ![v280.toNat, 0]
def k0_mult31 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_123 : BitVec 32 := 256#32
  let v287 : BitVec 32 := Scalar.muli arg12 c256_i32_123
  v287
def k0_mult32 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_128 : BitVec 32 := 256#32
  let v300 : BitVec 32 := Scalar.muli arg12 c256_i32_128
  v300
def k0_off13 (k0_t1 : Fin k0_t1_loop.trips) (k0_t3 : Fin (k0_t3_loop k0_t1).trips) : Fin 3 → Nat :=
  let c1_129 : Index := 1#32
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_128 : BitVec 32 := 256#32
  let v300 : BitVec 32 := Scalar.muli arg12 c256_i32_128
  let v301 : BitVec 32 := v300
  let v302 : Index := Scalar.indexCast v301
  let c0_130 : Index := 0#32
  ![1, v302.toNat, 0]
def k0_mult33 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_141 : BitVec 32 := 256#32
  let v338 : BitVec 32 := Scalar.muli arg12 c256_i32_141
  v338
def k0_mult34 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_149 : BitVec 32 := 256#32
  let v363 : BitVec 32 := Scalar.muli arg12 c256_i32_149
  v363
def k0_mult35 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_153 : BitVec 32 := 256#32
  let v370 : BitVec 32 := Scalar.muli arg12 c256_i32_153
  v370
def k0_mult36 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_157 : BitVec 32 := 256#32
  let v379 : BitVec 32 := Scalar.muli arg12 c256_i32_157
  v379
def k0_mult37 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_162 : BitVec 32 := 256#32
  let v392 : BitVec 32 := Scalar.muli arg12 c256_i32_162
  v392
def k0_off14 (k0_t1 : Fin k0_t1_loop.trips) (k0_t3 : Fin (k0_t3_loop k0_t1).trips) : Fin 3 → Nat :=
  let c2_163 : Index := 2#32
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_162 : BitVec 32 := 256#32
  let v392 : BitVec 32 := Scalar.muli arg12 c256_i32_162
  let v393 : BitVec 32 := v392
  let v394 : Index := Scalar.indexCast v393
  let c0_164 : Index := 0#32
  ![2, v394.toNat, 0]
def k0_mult38 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_175 : BitVec 32 := 256#32
  let v430 : BitVec 32 := Scalar.muli arg12 c256_i32_175
  v430
def k0_mult39 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_183 : BitVec 32 := 256#32
  let v455 : BitVec 32 := Scalar.muli arg12 c256_i32_183
  v455
def k0_mult40 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_187 : BitVec 32 := 256#32
  let v462 : BitVec 32 := Scalar.muli arg12 c256_i32_187
  v462
def k0_mult41 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_191 : BitVec 32 := 256#32
  let v471 : BitVec 32 := Scalar.muli arg12 c256_i32_191
  v471
def k0_mult42 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_196 : BitVec 32 := 256#32
  let v484 : BitVec 32 := Scalar.muli arg12 c256_i32_196
  v484
def k0_off15 (k0_t1 : Fin k0_t1_loop.trips) (k0_t3 : Fin (k0_t3_loop k0_t1).trips) : Fin 3 → Nat :=
  let c3_197 : Index := 3#32
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_196 : BitVec 32 := 256#32
  let v484 : BitVec 32 := Scalar.muli arg12 c256_i32_196
  let v485 : BitVec 32 := v484
  let v486 : Index := Scalar.indexCast v485
  let c0_198 : Index := 0#32
  ![3, v486.toNat, 0]
def k0_mult43 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_209 : BitVec 32 := 256#32
  let v522 : BitVec 32 := Scalar.muli arg12 c256_i32_209
  v522
def k0_mult44 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_217 : BitVec 32 := 256#32
  let v547 : BitVec 32 := Scalar.muli arg12 c256_i32_217
  v547
def k0_mult45 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_221 : BitVec 32 := 256#32
  let v554 : BitVec 32 := Scalar.muli arg12 c256_i32_221
  v554
def k0_mult46 (k0_t1 : Fin k0_t1_loop.trips) (k0_t3 : Fin (k0_t3_loop k0_t1).trips) : BitVec 32 :=
  let c0_i32_85 : BitVec 32 := 0#32
  let c0_i32_52 : BitVec 32 := 0#32
  let c1_i32 : BitVec 32 := 1#32
  let arg11 : BitVec 32 := Scf.iv c0_i32_52 c1_i32 k0_t1
  let c1_i32_84 : BitVec 32 := 1#32
  let v187 : BitVec 32 := Scalar.addi arg11 c1_i32_84
  let c2_i32 : BitVec 32 := 2#32
  let v188 : BitVec 32 := Scalar.muli v187 c2_i32
  let v189 : BitVec 32 := Scalar.subi v188 c0_i32_85
  let c1_i32_86 : BitVec 32 := 1#32
  let v191 : BitVec 32 := Scalar.divsi v189 c1_i32_86
  let v192 : BitVec 32 := Scalar.muli v191 c1_i32_86
  let v193 : BitVec 32 := Scalar.addi c0_i32_85 v192
  let c1_i32_88 : BitVec 32 := 1#32
  let arg12 : BitVec 32 := Scf.iv v193 c1_i32_88 k0_t3
  let c256_i32_225 : BitVec 32 := 256#32
  let v563 : BitVec 32 := Scalar.muli arg12 c256_i32_225
  v563
def k0_mult47 (k0_t1 : Fin k0_t1_loop.trips) : BitVec 32 :=
  let c0_i32_52 : BitVec 32 := 0#32
  let c1_i32 : BitVec 32 := 1#32
  let arg11 : BitVec 32 := Scf.iv c0_i32_52 c1_i32 k0_t1
  let c512_i32_90 : BitVec 32 := 512#32
  let v198 : BitVec 32 := Scalar.muli arg11 c512_i32_90
  v198
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x3200 : Shape := ⟨2, ![4096, 3200]⟩
abbrev S4096x1024 : Shape := ⟨2, ![4096, 1024]⟩
abbrev S2x2048x3200 : Shape := ⟨3, ![2, 2048, 3200]⟩
abbrev S2x2048x256 : Shape := ⟨3, ![2, 2048, 256]⟩
abbrev S2x2048x4x64 : Shape := ⟨4, ![2, 2048, 4, 64]⟩
abbrev S2x4x2048x64 : Shape := ⟨4, ![2, 4, 2048, 64]⟩
abbrev S4096x256 : Shape := ⟨2, ![4096, 256]⟩
abbrev S2x4x2048x2048 : Shape := ⟨4, ![2, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x64x2048 : Shape := ⟨4, ![2, 4, 64, 2048]⟩

abbrev nBuf : Space → Nat
  | .hbm => 182
  | .vmem => 0
  | .smem => 0
  | _ => 0

abbrev hbmTy0_0 (i : Nat) : BufTy := match i % 128 with
  | 0 => ⟨S4096x3200, .f32⟩
  | 1 => ⟨S4096x1024, .f32⟩
  | 2 => ⟨S2x2048x3200, .f32⟩
  | 3 => ⟨S2x2048x256, .f32⟩
  | 4 => ⟨S2x2048x4x64, .f32⟩
  | 5 => ⟨S2x4x2048x64, .f32⟩
  | 6 => ⟨S2x2048x256, .f32⟩
  | 7 => ⟨S2x2048x4x64, .f32⟩
  | 8 => ⟨S2x4x2048x64, .f32⟩
  | 9 => ⟨S2x2048x256, .f32⟩
  | 10 => ⟨S2x2048x4x64, .f32⟩
  | 11 => ⟨S2x4x2048x64, .f32⟩
  | 12 => ⟨S4096x256, .f32⟩
  | 13 => ⟨S2x2048x256, .f32⟩
  | 14 => ⟨S2x2048x4x64, .f32⟩
  | 15 => ⟨S2x4x2048x64, .f32⟩
  | 16 => ⟨S2x4x2048x2048, .f32⟩
  | 17 => ⟨S_, .f32⟩
  | 18 => ⟨S2x4x2048x2048, .f32⟩
  | 19 => ⟨S2x4x2048x2048, .f32⟩
  | 20 => ⟨S2048, .i32⟩
  | 21 => ⟨S1x2048, .i32⟩
  | 22 => ⟨S2048, .i32⟩
  | 23 => ⟨S2048x1, .i32⟩
  | 24 => ⟨S2048x2048, .i32⟩
  | 25 => ⟨S2048x2048, .i32⟩
  | 26 => ⟨S2048x2048, .i1⟩
  | 27 => ⟨S2x4x2048x2048, .f32⟩
  | 28 => ⟨S_, .f32⟩
  | 29 => ⟨S2x4x2048x2048, .f32⟩
  | 30 => ⟨S2x4x2048x2048, .f32⟩
  | 31 => ⟨S2x4x2048x2048, .f32⟩
  | 32 => ⟨S2x4x2048x2048, .f32⟩
  | 33 => ⟨S2x4x2048x2048, .i1⟩
  | 34 => ⟨S2x4x2048x2048, .f32⟩
  | 35 => ⟨S2x4x2048x2048, .f32⟩
  | 36 => ⟨S2x4x2048x2048, .f32⟩
  | 37 => ⟨S2x4x2048x2048, .f32⟩
  | 38 => ⟨S2x4x2048x2048, .f32⟩
  | 39 => ⟨S2x4x2048x2048, .f32⟩
  | 40 => ⟨S2x4x2048x2048, .f32⟩
  | 41 => ⟨S2x4x2048x2048, .f32⟩
  | 42 => ⟨S_, .f32⟩
  | 43 => ⟨S2x4x2048x2048, .f32⟩
  | 44 => ⟨S2x4x2048x2048, .i1⟩
  | 45 => ⟨S_, .f32⟩
  | 46 => ⟨S2x4x2048x2048, .f32⟩
  | 47 => ⟨S2x4x2048x2048, .f32⟩
  | 48 => ⟨S_, .f32⟩
  | 49 => ⟨S2x4x2048x2048, .f32⟩
  | 50 => ⟨S2x4x2048x2048, .i1⟩
  | 51 => ⟨S_, .f32⟩
  | 52 => ⟨S2x4x2048x2048, .f32⟩
  | 53 => ⟨S2x4x2048x2048, .f32⟩
  | 54 => ⟨S2x4x2048x2048, .f32⟩
  | 55 => ⟨S2x4x2048x2048, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S2x4x2048x2048, .f32⟩
  | 64 => ⟨S2x4x2048x2048, .i1⟩
  | 65 => ⟨S_, .f32⟩
  | 66 => ⟨S2x4x2048x2048, .f32⟩
  | 67 => ⟨S2x4x2048x2048, .f32⟩
  | 68 => ⟨S2x4x2048x2048, .f32⟩
  | 69 => ⟨S2x4x2048x2048, .f32⟩
  | 70 => ⟨S2x4x2048x2048, .f32⟩
  | 71 => ⟨S_, .f32⟩
  | 72 => ⟨S2x4x2048x2048, .f32⟩
  | 73 => ⟨S2x4x2048x2048, .f32⟩
  | 74 => ⟨S2x4x2048x2048, .f32⟩
  | 75 => ⟨S2x4x2048x2048, .f32⟩
  | 76 => ⟨S2x4x2048x2048, .f32⟩
  | 77 => ⟨S_, .f32⟩
  | 78 => ⟨S2x4x2048x2048, .f32⟩
  | 79 => ⟨S2x4x2048x2048, .f32⟩
  | 80 => ⟨S2x4x2048x2048, .f32⟩
  | 81 => ⟨S2x4x2048x2048, .f32⟩
  | 82 => ⟨S2x4x2048x2048, .i1⟩
  | 83 => ⟨S2x4x2048x2048, .f32⟩
  | 84 => ⟨S2x4x2048x2048, .f32⟩
  | 85 => ⟨S2x4x2048x2048, .f32⟩
  | 86 => ⟨S2x4x2048x2048, .f32⟩
  | 87 => ⟨S2x4x2048x2048, .f32⟩
  | 88 => ⟨S2x4x2048x2048, .f32⟩
  | 89 => ⟨S2x4x2048x2048, .f32⟩
  | 90 => ⟨S2x4x2048x2048, .f32⟩
  | 91 => ⟨S_, .f32⟩
  | 92 => ⟨S2x4x2048x2048, .f32⟩
  | 93 => ⟨S2x4x2048x2048, .i1⟩
  | 94 => ⟨S_, .f32⟩
  | 95 => ⟨S2x4x2048x2048, .f32⟩
  | 96 => ⟨S2x4x2048x2048, .f32⟩
  | 97 => ⟨S_, .f32⟩
  | 98 => ⟨S2x4x2048x2048, .f32⟩
  | 99 => ⟨S2x4x2048x2048, .i1⟩
  | 100 => ⟨S_, .f32⟩
  | 101 => ⟨S2x4x2048x2048, .f32⟩
  | 102 => ⟨S2x4x2048x2048, .f32⟩
  | 103 => ⟨S2x4x2048x2048, .f32⟩
  | 104 => ⟨S2x4x2048x2048, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S2x4x2048x2048, .f32⟩
  | 113 => ⟨S2x4x2048x2048, .i1⟩
  | 114 => ⟨S_, .f32⟩
  | 115 => ⟨S2x4x2048x2048, .f32⟩
  | 116 => ⟨S2x4x2048x2048, .f32⟩
  | 117 => ⟨S2x4x2048x2048, .f32⟩
  | 118 => ⟨S2x4x2048x2048, .f32⟩
  | 119 => ⟨S2x4x2048x2048, .f32⟩
  | 120 => ⟨S_, .f32⟩
  | 121 => ⟨S2x4x2048x2048, .f32⟩
  | 122 => ⟨S2x4x2048x2048, .f32⟩
  | 123 => ⟨S2x4x2048x2048, .f32⟩
  | 124 => ⟨S_, .f32⟩
  | 125 => ⟨S_, .f32⟩
  | 126 => ⟨S2x4x2048x2048, .i1⟩
  | 127 => ⟨S2x4x2048x2048, .f32⟩
  | _ => ⟨S4096x3200, .f32⟩

abbrev hbmTy0_1 (i : Nat) : BufTy := match i % 128 with
  | 0 => ⟨S2x4x2048x2048, .f32⟩
  | 1 => ⟨S_, .f32⟩
  | 2 => ⟨S2x4x2048x2048, .f32⟩
  | 3 => ⟨S_, .f32⟩
  | 4 => ⟨S_, .f32⟩
  | 5 => ⟨S2x4x2048x2048, .f32⟩
  | 6 => ⟨S2x4x2048x2048, .f32⟩
  | 7 => ⟨S2x4x2048x2048, .f32⟩
  | 8 => ⟨S2x4x2048x2048, .f32⟩
  | 9 => ⟨S_, .f32⟩
  | 10 => ⟨S_, .f32⟩
  | 11 => ⟨S2x4x2048x2048, .i1⟩
  | 12 => ⟨S2x4x2048x2048, .f32⟩
  | 13 => ⟨S2x4x2048x2048, .f32⟩
  | 14 => ⟨S_, .f32⟩
  | 15 => ⟨S2x4x2048x2048, .f32⟩
  | 16 => ⟨S2x4x2048x64, .f32⟩
  | 17 => ⟨S2x4x64x2048, .f32⟩
  | 18 => ⟨S2x4x2048x64, .f32⟩
  | 19 => ⟨S2x4x2048x2048, .f32⟩
  | 20 => ⟨S_, .f32⟩
  | 21 => ⟨S2x4x2048x2048, .f32⟩
  | 22 => ⟨S2x4x2048x2048, .f32⟩
  | 23 => ⟨S2x4x2048x2048, .f32⟩
  | 24 => ⟨S2x4x2048x2048, .f32⟩
  | 25 => ⟨S_, .f32⟩
  | 26 => ⟨S_, .f32⟩
  | 27 => ⟨S2x4x2048x2048, .f32⟩
  | 28 => ⟨S2x4x2048x2048, .f32⟩
  | 29 => ⟨S_, .f32⟩
  | 30 => ⟨S2x4x2048x2048, .f32⟩
  | 31 => ⟨S2x4x2048x2048, .f32⟩
  | 32 => ⟨S2x4x2048x2048, .f32⟩
  | 33 => ⟨S2x4x2048x2048, .f32⟩
  | 34 => ⟨S2x4x2048x2048, .f32⟩
  | 35 => ⟨S2x4x2048x2048, .f32⟩
  | 36 => ⟨S2x4x2048x2048, .f32⟩
  | 37 => ⟨S2x4x2048x2048, .f32⟩
  | 38 => ⟨S2x4x2048x2048, .f32⟩
  | 39 => ⟨S2x4x2048x2048, .f32⟩
  | 40 => ⟨S_, .f32⟩
  | 41 => ⟨S2x4x2048x2048, .f32⟩
  | 42 => ⟨S2x4x2048x2048, .f32⟩
  | 43 => ⟨S2x4x2048x64, .f32⟩
  | 44 => ⟨S2x4x2048x64, .f32⟩
  | 45 => ⟨S2x2048x4x64, .f32⟩
  | 46 => ⟨S2x2048x256, .f32⟩
  | 47 => ⟨S4096x256, .f32⟩
  | 48 => ⟨S2x2048x4x64, .f32⟩
  | 49 => ⟨S2x2048x256, .f32⟩
  | 50 => ⟨S4096x256, .f32⟩
  | 51 => ⟨S2x2048x4x64, .f32⟩
  | 52 => ⟨S2x2048x256, .f32⟩
  | 53 => ⟨S4096x256, .f32⟩
  | _ => ⟨S4096x3200, .f32⟩

abbrev hbmTy (i : Nat) : BufTy := match i / 128 with
  | 0 => hbmTy0_0 i
  | 1 => hbmTy0_1 i
  | _ => ⟨S4096x3200, .f32⟩

abbrev bufTy : (tb : Table) → Fin (tcTables nBuf tb) → BufTy
  | .hbm, ⟨i, _⟩ => hbmTy i
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1_0 : Ref sig .tc := ⟨.hbm, 41, rfl⟩
abbrev main_call0_call0_cst_0 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_cst_1 : Ref sig .tc := ⟨.hbm, 45, rfl⟩
abbrev main_call0_call0_v15 : Ref sig .tc := ⟨.hbm, 46, rfl⟩
abbrev main_call0_call0_v16 : Ref sig .tc := ⟨.hbm, 47, rfl⟩
abbrev main_call0_call0_cst_2 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_cst_3 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_v21 : Ref sig .tc := ⟨.hbm, 54, rfl⟩
abbrev main_v24_1 : Ref sig .tc := ⟨.hbm, 55, rfl⟩
abbrev main_call0_call0_cst_4 : Ref sig .tc := ⟨.hbm, 56, rfl⟩
abbrev main_call0_call0_cst_5 : Ref sig .tc := ⟨.hbm, 57, rfl⟩
abbrev main_call0_call0_v23 : Ref sig .tc := ⟨.hbm, 58, rfl⟩
abbrev main_call0_call0_cst_6 : Ref sig .tc := ⟨.hbm, 59, rfl⟩
abbrev main_call0_call0_cst_7 : Ref sig .tc := ⟨.hbm, 60, rfl⟩
abbrev main_call0_call0_v24 : Ref sig .tc := ⟨.hbm, 61, rfl⟩
abbrev main_call0_call0_cst_8 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_cst_9 : Ref sig .tc := ⟨.hbm, 65, rfl⟩
abbrev main_call0_call0_v27 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_cst_10 : Ref sig .tc := ⟨.hbm, 71, rfl⟩
abbrev main_call0_call0_v32 : Ref sig .tc := ⟨.hbm, 72, rfl⟩
abbrev main_v24_2 : Ref sig .tc := ⟨.hbm, 73, rfl⟩
abbrev main_v24_0 : Ref sig .tc := ⟨.hbm, 74, rfl⟩
abbrev main_v25 : Ref sig .tc := ⟨.hbm, 75, rfl⟩
abbrev main_call1_v0 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_v4 : Ref sig .tc := ⟨.hbm, 82, rfl⟩
abbrev main_call1_call0_v5 : Ref sig .tc := ⟨.hbm, 83, rfl⟩
abbrev main_call1_call0_v6 : Ref sig .tc := ⟨.hbm, 84, rfl⟩
abbrev main_call1_call0_v7 : Ref sig .tc := ⟨.hbm, 85, rfl⟩
abbrev main_call1_call0_v8 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_v1_0 : Ref sig .tc := ⟨.hbm, 90, rfl⟩
abbrev main_call1_call0_cst_0 : Ref sig .tc := ⟨.hbm, 91, rfl⟩
abbrev main_call1_call0_v13 : Ref sig .tc := ⟨.hbm, 92, rfl⟩
abbrev main_call1_call0_v14 : Ref sig .tc := ⟨.hbm, 93, rfl⟩
abbrev main_call1_call0_cst_1 : Ref sig .tc := ⟨.hbm, 94, rfl⟩
abbrev main_call1_call0_v15 : Ref sig .tc := ⟨.hbm, 95, rfl⟩
abbrev main_call1_call0_v16 : Ref sig .tc := ⟨.hbm, 96, rfl⟩
abbrev main_call1_call0_cst_2 : Ref sig .tc := ⟨.hbm, 97, rfl⟩
abbrev main_call1_call0_v17 : Ref sig .tc := ⟨.hbm, 98, rfl⟩
abbrev main_call1_call0_v18 : Ref sig .tc := ⟨.hbm, 99, rfl⟩
abbrev main_call1_call0_cst_3 : Ref sig .tc := ⟨.hbm, 100, rfl⟩
abbrev main_call1_call0_v19 : Ref sig .tc := ⟨.hbm, 101, rfl⟩
abbrev main_call1_call0_v20 : Ref sig .tc := ⟨.hbm, 102, rfl⟩
abbrev main_call1_call0_v21 : Ref sig .tc := ⟨.hbm, 103, rfl⟩
abbrev main_v26_1 : Ref sig .tc := ⟨.hbm, 104, rfl⟩
abbrev main_call1_call0_cst_4 : Ref sig .tc := ⟨.hbm, 105, rfl⟩
abbrev main_call1_call0_cst_5 : Ref sig .tc := ⟨.hbm, 106, rfl⟩
abbrev main_call1_call0_v23 : Ref sig .tc := ⟨.hbm, 107, rfl⟩
abbrev main_call1_call0_cst_6 : Ref sig .tc := ⟨.hbm, 108, rfl⟩
abbrev main_call1_call0_cst_7 : Ref sig .tc := ⟨.hbm, 109, rfl⟩
abbrev main_call1_call0_v24 : Ref sig .tc := ⟨.hbm, 110, rfl⟩
abbrev main_call1_call0_cst_8 : Ref sig .tc := ⟨.hbm, 111, rfl⟩
abbrev main_call1_call0_v25 : Ref sig .tc := ⟨.hbm, 112, rfl⟩
abbrev main_call1_call0_v26 : Ref sig .tc := ⟨.hbm, 113, rfl⟩
abbrev main_call1_call0_cst_9 : Ref sig .tc := ⟨.hbm, 114, rfl⟩
abbrev main_call1_call0_v27 : Ref sig .tc := ⟨.hbm, 115, rfl⟩
abbrev main_call1_call0_v28 : Ref sig .tc := ⟨.hbm, 116, rfl⟩
abbrev main_call1_call0_v29 : Ref sig .tc := ⟨.hbm, 117, rfl⟩
abbrev main_call1_call0_v30 : Ref sig .tc := ⟨.hbm, 118, rfl⟩
abbrev main_call1_call0_v31 : Ref sig .tc := ⟨.hbm, 119, rfl⟩
abbrev main_call1_call0_cst_10 : Ref sig .tc := ⟨.hbm, 120, rfl⟩
abbrev main_call1_call0_v32 : Ref sig .tc := ⟨.hbm, 121, rfl⟩
abbrev main_v26_2 : Ref sig .tc := ⟨.hbm, 122, rfl⟩
abbrev main_v26_0 : Ref sig .tc := ⟨.hbm, 123, rfl⟩
abbrev main_cst_0 : Ref sig .tc := ⟨.hbm, 124, rfl⟩
abbrev main_call2_v0 : Ref sig .tc := ⟨.hbm, 125, rfl⟩
abbrev main_v27_1 : Ref sig .tc := ⟨.hbm, 126, rfl⟩
abbrev main_call2_v2 : Ref sig .tc := ⟨.hbm, 127, rfl⟩
abbrev main_v27_0 : Ref sig .tc := ⟨.hbm, 128, rfl⟩
abbrev main_call2_cst : Ref sig .tc := ⟨.hbm, 129, rfl⟩
abbrev main_v27_2 : Ref sig .tc := ⟨.hbm, 130, rfl⟩
abbrev main_call3_cst : Ref sig .tc := ⟨.hbm, 131, rfl⟩
abbrev main_call3_v0 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_cst_1 : Ref sig .tc := ⟨.hbm, 137, rfl⟩
abbrev main_call4_v0 : Ref sig .tc := ⟨.hbm, 138, rfl⟩
abbrev main_v32_1 : Ref sig .tc := ⟨.hbm, 139, rfl⟩
abbrev main_call4_v2 : Ref sig .tc := ⟨.hbm, 140, rfl⟩
abbrev main_v32_0 : Ref sig .tc := ⟨.hbm, 141, rfl⟩
abbrev main_call4_cst : Ref sig .tc := ⟨.hbm, 142, rfl⟩
abbrev main_v32_2 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call6_cst : Ref sig .tc := ⟨.hbm, 153, rfl⟩
abbrev main_call6_v0 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_call8_v0 : Ref sig .tc := ⟨.hbm, 160, rfl⟩
abbrev main_call8_v1 : Ref sig .tc := ⟨.hbm, 161, rfl⟩
abbrev main_v43 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S1024x5632 : Shape := ⟨2, ![1024, 5632]⟩
abbrev S4096x2816 : Shape := ⟨2, ![4096, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S1024x5632, .f32⟩
  | .hbm, ⟨4, _⟩ => ⟨S1024x5632, .bf16⟩
  | .hbm, ⟨5, _⟩ => ⟨S4096x1024, .bf16⟩
  | .hbm, ⟨6, _⟩ => ⟨S4096x2816, .f32⟩
  | .hbm, ⟨7, _⟩ => ⟨S4096x2816, .f32⟩
  | .hbm, ⟨8, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S4096x2816 : Shape := ⟨2, ![4096, 2816]⟩
abbrev S1024x5632 : Shape := ⟨2, ![1024, 5632]⟩
abbrev S1024x1408 : Shape := ⟨2, ![1024, 1408]⟩
abbrev S1024x1024 : Shape := ⟨2, ![1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .bf16⟩
  | .hbm, ⟨4, _⟩ => ⟨S4096x2816, .bf16⟩
  | .hbm, ⟨5, _⟩ => ⟨S4096x1024, .f32⟩
  | .hbm, ⟨6, _⟩ => ⟨S1024x5632, .f32⟩
  | .hbm, ⟨7, _⟩ => ⟨S1024x5632, .bf16⟩
  | .hbm, ⟨8, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .bf16⟩
  | .hbm, ⟨4, _⟩ => ⟨S4096x2816, .bf16⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel5.lean ====
abbrev S4096x1024 : Shape := ⟨2, ![4096, 1024]⟩
abbrev S1024x2816 : Shape := ⟨2, ![1024, 2816]⟩
abbrev S4096x2816 : Shape := ⟨2, ![4096, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .bf16⟩
  | .hbm, ⟨3, _⟩ => ⟨S4096x1024, .bf16⟩
  | .hbm, ⟨4, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .bf16⟩
  | .hbm, ⟨3, _⟩ => ⟨S4096x2816, .f32⟩
  | .hbm, ⟨4, _⟩ => ⟨S4096x2816, .f32⟩
  | .hbm, ⟨5, _⟩ => ⟨S2816x1024, .f32⟩
  | .hbm, ⟨6, _⟩ => ⟨S1024x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x3076 : Shape := ⟨2, ![1024, 3076]⟩
abbrev S4096x3200 : Shape := ⟨2, ![4096, 3200]⟩
abbrev S_ : Shape := ⟨0, ![]⟩
abbrev S1024x3200 : Shape := ⟨2, ![1024, 3200]⟩
abbrev S512x3200 : Shape := ⟨2, ![512, 3200]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x3076, .f32⟩
  | .hbm, ⟨2, _⟩ => ⟨S4096x3200, .f32⟩
  | .hbm, ⟨3, _⟩ => ⟨S4096x1024, .f32⟩
  | .hbm, ⟨4, _⟩ => ⟨S_, .i32⟩
  | .hbm, ⟨5, _⟩ => ⟨S_, .f32⟩
  | .hbm, ⟨6, _⟩ => ⟨S1024x3200, .f32⟩
  | .hbm, ⟨7, _⟩ => ⟨S1024x3200, .bf16⟩
  | .hbm, ⟨8, _⟩ => ⟨S4096x3200, .bf16⟩
  | .hbm, ⟨9, _⟩ => ⟨S4096x1024, .f32⟩
  | .local _ .vmem, ⟨0, _⟩ => ⟨S1024x3200, .bf16⟩
  | .local _ .vmem, ⟨1, _⟩ => ⟨S1024x3200, .bf16⟩
  | .local _ .vmem, ⟨2, _⟩ => ⟨S512x3200, .bf16⟩
  | .local _ .vmem, ⟨3, _⟩ => ⟨S512x3200, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x1024 : Shape := ⟨2, ![4096, 1024]⟩
abbrev S1024x3076 : Shape := ⟨2, ![1024, 3076]⟩
abbrev S4096x3200 : Shape := ⟨2, ![4096, 3200]⟩
abbrev S4096x3076 : Shape := ⟨2, ![4096, 3076]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3076, .f32⟩
  | .hbm, ⟨2, _⟩ => ⟨S4096x3200, .f32⟩
  | .hbm, ⟨3, _⟩ => ⟨S4096x1024, .f32⟩
  | .hbm, ⟨4, _⟩ => ⟨S4096x3076, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x3076, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel7.lean ====
abbrev S4096x1024 : Shape := ⟨2, ![4096, 1024]⟩
abbrev S1024x3200 : Shape := ⟨2, ![1024, 3200]⟩
abbrev S4096x3200 : Shape := ⟨2, ![4096, 3200]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x3200, .f32⟩
  | .hbm, ⟨3, _⟩ => ⟨S4096x1024, .bf16⟩
  | .hbm, ⟨4, _⟩ => ⟨S4096x3200, .bf16⟩
  | .hbm, ⟨5, _⟩ => ⟨S1024x3200, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x3200 : Shape := ⟨2, ![1024, 3200]⟩
abbrev S4096x3200 : Shape := ⟨2, ![4096, 3200]⟩
abbrev S3200x1024 : Shape := ⟨2, ![3200, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3200, .f32⟩
  | .hbm, ⟨2, _⟩ => ⟨S4096x3200, .f32⟩
  | .hbm, ⟨3, _⟩ => ⟨S4096x3200, .f32⟩
  | .hbm, ⟨4, _⟩ => ⟨S3200x1024, .f32⟩
  | .hbm, ⟨5, _⟩ => ⟨S1024x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S2816x1024, .bf16⟩
  | .hbm, ⟨6, _⟩ => ⟨S4096x2816, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel11.lean ====
abbrev S4096x1024 : Shape := ⟨2, ![4096, 1024]⟩
abbrev S1024x3076 : Shape := ⟨2, ![1024, 3076]⟩
abbrev S_ : Shape := ⟨0, ![]⟩
abbrev S1024x3200 : Shape := ⟨2, ![1024, 3200]⟩
abbrev S4096x3200 : Shape := ⟨2, ![4096, 3200]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3076, .f32⟩
  | .hbm, ⟨2, _⟩ => ⟨S_, .i32⟩
  | .hbm, ⟨3, _⟩ => ⟨S_, .f32⟩
  | .hbm, ⟨4, _⟩ => ⟨S1024x3200, .f32⟩
  | .hbm, ⟨5, _⟩ => ⟨S1024x3200, .bf16⟩
  | .hbm, ⟨6, _⟩ => ⟨S4096x1024, .bf16⟩
  | .hbm, ⟨7, _⟩ => ⟨S4096x3200, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x3076 : Shape := ⟨2, ![1024, 3076]⟩
abbrev S4096x3076 : Shape := ⟨2, ![4096, 3076]⟩
abbrev S_ : Shape := ⟨0, ![]⟩
abbrev S4096x3200 : Shape := ⟨2, ![4096, 3200]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3076, .f32⟩
  | .hbm, ⟨2, _⟩ => ⟨S4096x3076, .f32⟩
  | .hbm, ⟨3, _⟩ => ⟨S_, .i32⟩
  | .hbm, ⟨4, _⟩ => ⟨S_, .f32⟩
  | .hbm, ⟨5, _⟩ => ⟨S4096x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S1x1024, .f32⟩
  | .hbm, ⟨88, _⟩ => ⟨S_, .f32⟩
  | .hbm, ⟨89, _⟩ => ⟨S6x1024, .f32⟩
  | .hbm, ⟨90, _⟩ => ⟨S8x1024, .f32⟩
  | .hbm, ⟨91, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_18 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Kernel15.lean ====
abbrev S4096x1024 : Shape := ⟨2, ![4096, 1024]⟩
abbrev S4096x3200 : Shape := ⟨2, ![4096, 3200]⟩
abbrev S3x256 : Shape := ⟨2, ![3, 256]⟩
abbrev S_ : Shape := ⟨0, ![]⟩
abbrev S8x256 : Shape := ⟨2, ![8, 256]⟩
abbrev S1 : Shape := ⟨1, ![1]⟩
abbrev S4096x768 : Shape := ⟨2, ![4096, 768]⟩
abbrev S2048x256 : Shape := ⟨2, ![2048, 256]⟩
abbrev S2048x768 : Shape := ⟨2, ![2048, 768]⟩
abbrev S1x256 : Shape := ⟨2, ![1, 256]⟩
abbrev S256 : Shape := ⟨1, ![256]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S3x256, .f32⟩
  | .hbm, ⟨3, _⟩ => ⟨S_, .f32⟩
  | .hbm, ⟨4, _⟩ => ⟨S8x256, .f32⟩
  | .hbm, ⟨5, _⟩ => ⟨S_, .i32⟩
  | .hbm, ⟨6, _⟩ => ⟨S1, .i32⟩
  | .hbm, ⟨7, _⟩ => ⟨S8x256, .f32⟩
  | .hbm, ⟨8, _⟩ => ⟨S4096x768, .f32⟩
  | .hbm, ⟨9, _⟩ => ⟨S8x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S8x256, .f32⟩
  | .local _ .vmem, ⟨9, _⟩ => ⟨S2048x768, .f32⟩
  | .local _ .vmem, ⟨10, _⟩ => ⟨S2048x768, .f32⟩
  | .local _ .vmem, ⟨11, _⟩ => ⟨S8x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x1024 : Shape := ⟨2, ![4096, 1024]⟩
abbrev S4096x3200 : Shape := ⟨2, ![4096, 3200]⟩
abbrev S3x256 : Shape := ⟨2, ![3, 256]⟩
abbrev S2x2048x3200 : Shape := ⟨3, ![2, 2048, 3200]⟩
abbrev S2x2048x256 : Shape := ⟨3, ![2, 2048, 256]⟩
abbrev S4096x256 : Shape := ⟨2, ![4096, 256]⟩
abbrev S_ : Shape := ⟨0, ![]⟩
abbrev S2x2x256 : Shape := ⟨3, ![2, 2, 256]⟩
abbrev S2x2050x256 : Shape := ⟨3, ![2, 2050, 256]⟩
abbrev S1x256 : Shape := ⟨2, ![1, 256]⟩
abbrev S256 : Shape := ⟨1, ![256]⟩
abbrev S1x1x256 : Shape := ⟨3, ![1, 1, 256]⟩
abbrev S2x2048x768 : Shape := ⟨3, ![2, 2048, 768]⟩
abbrev S4096x768 : Shape := ⟨2, ![4096, 768]⟩
abbrev S8x256 : Shape := ⟨2, ![8, 256]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S3x256, .f32⟩
  | .hbm, ⟨3, _⟩ => ⟨S2x2048x3200, .f32⟩
  | .hbm, ⟨4, _⟩ => ⟨S2x2048x256, .f32⟩
  | .hbm, ⟨5, _⟩ => ⟨S2x2048x256, .f32⟩
  | .hbm, ⟨6, _⟩ => ⟨S2x2048x256, .f32⟩
  | .hbm, ⟨7, _⟩ => ⟨S4096x256, .f32⟩
  | .hbm, ⟨8, _⟩ => ⟨S2x2048x256, .f32⟩
  | .hbm, ⟨9, _⟩ => ⟨S2x2048x256, .f32⟩
  | .hbm, ⟨10, _⟩ => ⟨S_, .f32⟩
  | .hbm, ⟨11, _⟩ => ⟨S2x2x256, .f32⟩
  | .hbm, ⟨12, _⟩ => ⟨S2x2050x256, .f32⟩
  | .hbm, ⟨13, _⟩ => ⟨S_, .f32⟩
  | .hbm, ⟨14, _⟩ => ⟨S2x2x256, .f32⟩
  | .hbm, ⟨15, _⟩ => ⟨S1x256, .f32⟩
  | .hbm, ⟨16, _⟩ => ⟨S256, .f32⟩
  | .hbm, ⟨17, _⟩ => ⟨S2x2048x256, .f32⟩
  | .hbm, ⟨18, _⟩ => ⟨S1x1x256, .f32⟩
  | .hbm, ⟨19, _⟩ => ⟨S2x2048x256, .f32⟩
  | .hbm, ⟨20, _⟩ => ⟨S2x2048x256, .f32⟩
  | .hbm, ⟨21, _⟩ => ⟨S_, .f32⟩
  | .hbm, ⟨22, _⟩ => ⟨S2x2048x256, .f32⟩
  | .hbm, ⟨23, _⟩ => ⟨S2x2048x256, .f32⟩
  | .hbm, ⟨24, _⟩ => ⟨S1x256, .f32⟩
  | .hbm, ⟨25, _⟩ => ⟨S256, .f32⟩
  | .hbm, ⟨26, _⟩ => ⟨S2x2048x256, .f32⟩
  | .hbm, ⟨27, _⟩ => ⟨S1x1x256, .f32⟩
  | .hbm, ⟨28, _⟩ => ⟨S2x2048x256, .f32⟩
  | .hbm, ⟨29, _⟩ => ⟨S2x2048x256, .f32⟩
  | .hbm, ⟨30, _⟩ => ⟨S2x2048x256, .f32⟩
  | .hbm, ⟨31, _⟩ => ⟨S1x256, .f32⟩
  | .hbm, ⟨32, _⟩ => ⟨S256, .f32⟩
  | .hbm, ⟨33, _⟩ => ⟨S2x2048x256, .f32⟩
  | .hbm, ⟨34, _⟩ => ⟨S1x1x256, .f32⟩
  | .hbm, ⟨35, _⟩ => ⟨S2x2048x256, .f32⟩
  | .hbm, ⟨36, _⟩ => ⟨S2x2048x256, .f32⟩
  | .hbm, ⟨37, _⟩ => ⟨S2x2048x256, .f32⟩
  | .hbm, ⟨38, _⟩ => ⟨S2x2048x256, .f32⟩
  | .hbm, ⟨39, _⟩ => ⟨S2x2048x256, .f32⟩
  | .hbm, ⟨40, _⟩ => ⟨S2x2048x256, .f32⟩
  | .hbm, ⟨41, _⟩ => ⟨S2x2048x256, .f32⟩
  | .hbm, ⟨42, _⟩ => ⟨S2x2048x256, .f32⟩
  | .hbm, ⟨43, _⟩ => ⟨S2x2048x256, .f32⟩
  | .hbm, ⟨44, _⟩ => ⟨S_, .f32⟩
  | .hbm, ⟨45, _⟩ => ⟨S256, .f32⟩
  | .hbm, ⟨46, _⟩ => ⟨S1x1x256, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S2x2050x256, .f32⟩
  | .hbm, ⟨51, _⟩ => ⟨S1x256, .f32⟩
  | .hbm, ⟨52, _⟩ => ⟨S_, .f32⟩
  | .hbm, ⟨53, _⟩ => ⟨S3x256, .f32⟩
  | .hbm, ⟨54, _⟩ => ⟨S2x2048x256, .f32⟩
  | .hbm, ⟨55, _⟩ => ⟨S2x2048x256, .f32⟩
  | .hbm, ⟨56, _⟩ => ⟨S2x2048x256, .f32⟩
  | .hbm, ⟨57, _⟩ => ⟨S_, .f32⟩
  | .hbm, ⟨58, _⟩ => ⟨S256, .f32⟩
  | .hbm, ⟨59, _⟩ => ⟨S1x1x256, .f32⟩
  | .hbm, ⟨60, _⟩ => ⟨S_, .f32⟩
  | .hbm, ⟨61, _⟩ => ⟨S256, .f32⟩
  | .hbm, ⟨62, _⟩ => ⟨S_, .f32⟩
  | .hbm, ⟨63, _⟩ => ⟨S2x2050x256, .f32⟩
  | .hbm, ⟨64, _⟩ => ⟨S2x2050x256, .f32⟩
  | .hbm, ⟨65, _⟩ => ⟨S1x256, .f32⟩
  | .hbm, ⟨66, _⟩ => ⟨S_, .f32⟩
  | .hbm, ⟨67, _⟩ => ⟨S3x256, .f32⟩
  | .hbm, ⟨68, _⟩ => ⟨S3x256, .f32⟩
  | .hbm, ⟨69, _⟩ => ⟨S2x2048x256, .f32⟩
  | .hbm, ⟨70, _⟩ => ⟨S2x2048x256, .f32⟩
  | .hbm, ⟨71, _⟩ => ⟨S2x2048x256, .f32⟩
  | .hbm, ⟨72, _⟩ => ⟨S_, .f32⟩
  | .hbm, ⟨73, _⟩ => ⟨S256, .f32⟩
  | .hbm, ⟨74, _⟩ => ⟨S1x1x256, .f32⟩
  | .hbm, ⟨75, _⟩ => ⟨S_, .f32⟩
  | .hbm, ⟨76, _⟩ => ⟨S256, .f32⟩
  | .hbm, ⟨77, _⟩ => ⟨S_, .f32⟩
  | .hbm, ⟨78, _⟩ => ⟨S2x2050x256, .f32⟩
  | .hbm, ⟨79, _⟩ => ⟨S2x2050x256, .f32⟩
  | .hbm, ⟨80, _⟩ => ⟨S1x256, .f32⟩
  | .hbm, ⟨81, _⟩ => ⟨S_, .f32⟩
  | .hbm, ⟨82, _⟩ => ⟨S3x256, .f32⟩
  | .hbm, ⟨83, _⟩ => ⟨S3x256, .f32⟩
  | .hbm, ⟨84, _⟩ => ⟨S2x2x256, .f32⟩
  | .hbm, ⟨85, _⟩ => ⟨S2x2048x256, .f32⟩
  | .hbm, ⟨86, _⟩ => ⟨S2x2048x256, .f32⟩
  | .hbm, ⟨87, _⟩ => ⟨S2x2048x256, .f32⟩
  | .hbm, ⟨88, _⟩ => ⟨S2x2048x768, .f32⟩
  | .hbm, ⟨89, _⟩ => ⟨S4096x768, .f32⟩
  | .hbm, ⟨90, _⟩ => ⟨S_, .i32⟩
  | .hbm, ⟨91, _⟩ => ⟨S_, .f32⟩
  | .hbm, ⟨92, _⟩ => ⟨S8x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c : Ref sig .tc := ⟨.hbm, 90, rfl⟩
abbrev main_call0_v0 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Kernel16.lean ====
abbrev S4096x3200 : Shape := ⟨2, ![4096, 3200]⟩
abbrev S3x256 : Shape := ⟨2, ![3, 256]⟩
abbrev S_ : Shape := ⟨0, ![]⟩
abbrev S8x256 : Shape := ⟨2, ![8, 256]⟩
abbrev S1 : Shape := ⟨1, ![1]⟩
abbrev S4096x256 : Shape := ⟨2, ![4096, 256]⟩
abbrev S2048x256 : Shape := ⟨2, ![2048, 256]⟩
abbrev S1x256 : Shape := ⟨2, ![1, 256]⟩

abbrev nBuf : Space → Nat
  | .hbm => 8
  | .vmem => 9
  | .smem => 0
  | _ => 0

abbrev bufTy : (tb : Table) → Fin (tcTables nBuf tb) → BufTy
  | .hbm, ⟨0, _⟩ => ⟨S4096x3200, .f32⟩
  | .hbm, ⟨1, _⟩ => ⟨S3x256, .f32⟩
  | .hbm, ⟨2, _⟩ => ⟨S_, .f32⟩
  | .hbm, ⟨3, _⟩ => ⟨S8x256, .f32⟩
  | .hbm, ⟨4, _⟩ => ⟨S_, .i32⟩
  | .hbm, ⟨5, _⟩ => ⟨S1, .i32⟩
  | .hbm, ⟨6, _⟩ => ⟨S8x256, .f32⟩
  | .hbm, ⟨7, _⟩ => ⟨S4096x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S8x256, .f32⟩
  | .local _ .vmem, ⟨7, _⟩ => ⟨S2048x256, .f32⟩
  | .local _ .vmem, ⟨8, _⟩ => ⟨S2048x256, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4096x3200 : Shape := ⟨2, ![4096, 3200]⟩
abbrev S3x256 : Shape := ⟨2, ![3, 256]⟩
abbrev S2x2048x3200 : Shape := ⟨3, ![2, 2048, 3200]⟩
abbrev S2x2048x256 : Shape := ⟨3, ![2, 2048, 256]⟩
abbrev S_ : Shape := ⟨0, ![]⟩
abbrev S2x2x256 : Shape := ⟨3, ![2, 2, 256]⟩
abbrev S2x2050x256 : Shape := ⟨3, ![2, 2050, 256]⟩
abbrev S1x256 : Shape := ⟨2, ![1, 256]⟩
abbrev S256 : Shape := ⟨1, ![256]⟩
abbrev S1x1x256 : Shape := ⟨3, ![1, 1, 256]⟩
abbrev S4096x256 : Shape := ⟨2, ![4096, 256]⟩

abbrev nBuf : Space → Nat
  | .hbm => 35
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S3x256, .f32⟩
  | .hbm, ⟨2, _⟩ => ⟨S2x2048x3200, .f32⟩
  | .hbm, ⟨3, _⟩ => ⟨S2x2048x256, .f32⟩
  | .hbm, ⟨4, _⟩ => ⟨S2x2048x256, .f32⟩
  | .hbm, ⟨5, _⟩ => ⟨S2x2048x256, .f32⟩
  | .hbm, ⟨6, _⟩ => ⟨S2x2048x256, .f32⟩
  | .hbm, ⟨7, _⟩ => ⟨S_, .f32⟩
  | .hbm, ⟨8, _⟩ => ⟨S2x2x256, .f32⟩
  | .hbm, ⟨9, _⟩ => ⟨S2x2050x256, .f32⟩
  | .hbm, ⟨10, _⟩ => ⟨S1x256, .f32⟩
  | .hbm, ⟨11, _⟩ => ⟨S256, .f32⟩
  | .hbm, ⟨12, _⟩ => ⟨S2x2048x256, .f32⟩
  | .hbm, ⟨13, _⟩ => ⟨S1x1x256, .f32⟩
  | .hbm, ⟨14, _⟩ => ⟨S2x2048x256, .f32⟩
  | .hbm, ⟨15, _⟩ => ⟨S2x2048x256, .f32⟩
  | .hbm, ⟨16, _⟩ => ⟨S_, .f32⟩
  | .hbm, ⟨17, _⟩ => ⟨S2x2048x256, .f32⟩
  | .hbm, ⟨18, _⟩ => ⟨S2x2048x256, .f32⟩
  | .hbm, ⟨19, _⟩ => ⟨S1x256, .f32⟩
  | .hbm, ⟨20, _⟩ => ⟨S256, .f32⟩
  | .hbm, ⟨21, _⟩ => ⟨S2x2048x256, .f32⟩
  | .hbm, ⟨22, _⟩ => ⟨S1x1x256, .f32⟩
  | .hbm, ⟨23, _⟩ => ⟨S2x2048x256, .f32⟩
  | .hbm, ⟨24, _⟩ => ⟨S2x2048x256, .f32⟩
  | .hbm, ⟨25, _⟩ => ⟨S2x2048x256, .f32⟩
  | .hbm, ⟨26, _⟩ => ⟨S1x256, .f32⟩
  | .hbm, ⟨27, _⟩ => ⟨S256, .f32⟩
  | .hbm, ⟨28, _⟩ => ⟨S2x2048x256, .f32⟩
  | .hbm, ⟨29, _⟩ => ⟨S1x1x256, .f32⟩
  | .hbm, ⟨30, _⟩ => ⟨S2x2048x256, .f32⟩
  | .hbm, ⟨31, _⟩ => ⟨S2x2048x256, .f32⟩
  | .hbm, ⟨32, _⟩ => ⟨S2x2048x256, .f32⟩
  | .hbm, ⟨33, _⟩ => ⟨S2x2048x256, .f32⟩
  | .hbm, ⟨34, _⟩ => ⟨S4096x256, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel17.lean ====
abbrev S2x1024x704 : Shape := ⟨3, ![2, 1024, 704]⟩
abbrev S1x256x704 : Shape := ⟨3, ![1, 256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .local _ .vmem, ⟨0, _⟩ => ⟨S1x256x704, .f32⟩
  | .local _ .vmem, ⟨1, _⟩ => ⟨S1x256x704, .f32⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S2x1024x704 : Shape := ⟨3, ![2, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x704x1024 : Shape := ⟨3, ![2, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x1024x769 : Shape := ⟨3, ![2, 1024, 769]⟩
abbrev S1x256x769 : Shape := ⟨3, ![1, 256, 769]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x769, .f32⟩
  | .hbm, ⟨1, _⟩ => ⟨S2x1024x769, .f32⟩
  | .hbm, ⟨2, _⟩ => ⟨S2x1024x769, .f32⟩
  | .hbm, ⟨3, _⟩ => ⟨S2x1024x769, .f32⟩
  | .hbm, ⟨4, _⟩ => ⟨S2x1024x769, .f32⟩
  | .hbm, ⟨5, _⟩ => ⟨S2x1024x769, .f32⟩
  | .hbm, ⟨6, _⟩ => ⟨S2x1024x769, .f32⟩
  | .local _ .vmem, ⟨0, _⟩ => ⟨S1x256x769, .f32⟩
  | .local _ .vmem, ⟨1, _⟩ => ⟨S1x256x769, .f32⟩
  | .local _ .vmem, ⟨2, _⟩ => ⟨S1x256x769, .f32⟩
  | .local _ .vmem, ⟨3, _⟩ => ⟨S1x256x769, .f32⟩
  | .local _ .vmem, ⟨4, _⟩ => ⟨S1x256x769, .f32⟩
  | .local _ .vmem, ⟨5, _⟩ => ⟨S1x256x769, .f32⟩
  | .local _ .vmem, ⟨6, _⟩ => ⟨S1x256x769, .f32⟩
  | .local _ .vmem, ⟨7, _⟩ => ⟨S1x256x769, .f32⟩
  | .local _ .vmem, ⟨8, _⟩ => ⟨S1x256x769, .f32⟩
  | .local _ .vmem, ⟨9, _⟩ => ⟨S1x256x769, .f32⟩
  | .local _ .vmem, ⟨10, _⟩ => ⟨S1x256x769, .f32⟩
  | .local _ .vmem, ⟨11, _⟩ => ⟨S1x256x769, .f32⟩
  | .local _ .vmem, ⟨12, _⟩ => ⟨S1x256x769, .f32⟩
  | .local _ .vmem, ⟨13, _⟩ => ⟨S1x256x769, .f32⟩
  | _, _ => ⟨S2x1024x769, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x769 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x769 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x769 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x769 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x769 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x769 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x769 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2x1024x769 : Shape := ⟨3, ![2, 1024, 769]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x769, .f32⟩
  | .hbm, ⟨1, _⟩ => ⟨S2x1024x769, .f32⟩
  | .hbm, ⟨2, _⟩ => ⟨S2x1024x769, .f32⟩
  | .hbm, ⟨3, _⟩ => ⟨S2x1024x769, .f32⟩
  | .hbm, ⟨4, _⟩ => ⟨S_, .f32⟩
  | .hbm, ⟨5, _⟩ => ⟨S2x1024x769, .f32⟩
  | .hbm, ⟨6, _⟩ => ⟨S2x1024x769, .f32⟩
  | .hbm, ⟨7, _⟩ => ⟨S_, .f32⟩
  | .hbm, ⟨8, _⟩ => ⟨S2x1024x769, .f32⟩
  | .hbm, ⟨9, _⟩ => ⟨S2x1024x769, .f32⟩
  | .hbm, ⟨10, _⟩ => ⟨S2x1024x769, .f32⟩
  | .hbm, ⟨11, _⟩ => ⟨S_, .f32⟩
  | .hbm, ⟨12, _⟩ => ⟨S2x1024x769, .f32⟩
  | .hbm, ⟨13, _⟩ => ⟨S2x1024x769, .f32⟩
  | .hbm, ⟨14, _⟩ => ⟨S2x1024x769, .f32⟩
  | .hbm, ⟨15, _⟩ => ⟨S_, .f32⟩
  | .hbm, ⟨16, _⟩ => ⟨S2x1024x769, .f32⟩
  | .hbm, ⟨17, _⟩ => ⟨S2x1024x769, .f32⟩
  | .hbm, ⟨18, _⟩ => ⟨S2x1024x769, .f32⟩
  | .hbm, ⟨19, _⟩ => ⟨S_, .f32⟩
  | .hbm, ⟨20, _⟩ => ⟨S2x1024x769, .f32⟩
  | .hbm, ⟨21, _⟩ => ⟨S2x1024x769, .f32⟩
  | .hbm, ⟨22, _⟩ => ⟨S_, .f32⟩
  | .hbm, ⟨23, _⟩ => ⟨S2x1024x769, .f32⟩
  | .hbm, ⟨24, _⟩ => ⟨S2x1024x769, .f32⟩
  | .hbm, ⟨25, _⟩ => ⟨S2x1024x769, .f32⟩
  | .hbm, ⟨26, _⟩ => ⟨S_, .f32⟩
  | .hbm, ⟨27, _⟩ => ⟨S2x1024x769, .f32⟩
  | .hbm, ⟨28, _⟩ => ⟨S2x1024x769, .f32⟩
  | .hbm, ⟨29, _⟩ => ⟨S2x1024x769, .f32⟩
  | .hbm, ⟨30, _⟩ => ⟨S_, .f32⟩
  | .hbm, ⟨31, _⟩ => ⟨S2x1024x769, .f32⟩
  | .hbm, ⟨32, _⟩ => ⟨S2x1024x769, .f32⟩
  | .hbm, ⟨33, _⟩ => ⟨S2x1024x769, .f32⟩
  | .hbm, ⟨34, _⟩ => ⟨S_, .f32⟩
  | .hbm, ⟨35, _⟩ => ⟨S2x1024x769, .f32⟩
  | .hbm, ⟨36, _⟩ => ⟨S2x1024x769, .f32⟩
  | _, _ => ⟨S2x1024x769, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x3x64 : Shape := ⟨3, ![2, 3, 64]⟩
abbrev S1x3x64 : Shape := ⟨3, ![1, 3, 64]⟩

abbrev nBuf : Space → Nat
  | .hbm => 7
  | .vmem => 14
  | .smem => 0
  | _ => 0

abbrev bufTy : (tb : Table) → Fin (tcTables nBuf tb) → BufTy
  | .hbm, ⟨0, _⟩ => ⟨S2x3x64, .f32⟩
  | .hbm, ⟨1, _⟩ => ⟨S2x3x64, .f32⟩
  | .hbm, ⟨2, _⟩ => ⟨S2x3x64, .f32⟩
  | .hbm, ⟨3, _⟩ => ⟨S2x3x64, .f32⟩
  | .hbm, ⟨4, _⟩ => ⟨S2x3x64, .f32⟩
  | .hbm, ⟨5, _⟩ => ⟨S2x3x64, .f32⟩
  | .hbm, ⟨6, _⟩ => ⟨S2x3x64, .f32⟩
  | .local _ .vmem, ⟨0, _⟩ => ⟨S1x3x64, .f32⟩
  | .local _ .vmem, ⟨1, _⟩ => ⟨S1x3x64, .f32⟩
  | .local _ .vmem, ⟨2, _⟩ => ⟨S1x3x64, .f32⟩
  | .local _ .vmem, ⟨3, _⟩ => ⟨S1x3x64, .f32⟩
  | .local _ .vmem, ⟨4, _⟩ => ⟨S1x3x64, .f32⟩
  | .local _ .vmem, ⟨5, _⟩ => ⟨S1x3x64, .f32⟩
  | .local _ .vmem, ⟨6, _⟩ => ⟨S1x3x64, .f32⟩
  | .local _ .vmem, ⟨7, _⟩ => ⟨S1x3x64, .f32⟩
  | .local _ .vmem, ⟨8, _⟩ => ⟨S1x3x64, .f32⟩
  | .local _ .vmem, ⟨9, _⟩ => ⟨S1x3x64, .f32⟩
  | .local _ .vmem, ⟨10, _⟩ => ⟨S1x3x64, .f32⟩
  | .local _ .vmem, ⟨11, _⟩ => ⟨S1x3x64, .f32⟩
  | .local _ .vmem, ⟨12, _⟩ => ⟨S1x3x64, .f32⟩
  | .local _ .vmem, ⟨13, _⟩ => ⟨S1x3x64, .f32⟩
  | _, _ => ⟨S2x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S2x3x64 : Shape := ⟨3, ![2, 3, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x64, .f32⟩
  | .hbm, ⟨1, _⟩ => ⟨S2x3x64, .f32⟩
  | .hbm, ⟨2, _⟩ => ⟨S2x3x64, .f32⟩
  | .hbm, ⟨3, _⟩ => ⟨S2x3x64, .f32⟩
  | .hbm, ⟨4, _⟩ => ⟨S_, .f32⟩
  | .hbm, ⟨5, _⟩ => ⟨S2x3x64, .f32⟩
  | .hbm, ⟨6, _⟩ => ⟨S2x3x64, .f32⟩
  | .hbm, ⟨7, _⟩ => ⟨S_, .f32⟩
  | .hbm, ⟨8, _⟩ => ⟨S2x3x64, .f32⟩
  | .hbm, ⟨9, _⟩ => ⟨S2x3x64, .f32⟩
  | .hbm, ⟨10, _⟩ => ⟨S2x3x64, .f32⟩
  | .hbm, ⟨11, _⟩ => ⟨S_, .f32⟩
  | .hbm, ⟨12, _⟩ => ⟨S2x3x64, .f32⟩
  | .hbm, ⟨13, _⟩ => ⟨S2x3x64, .f32⟩
  | .hbm, ⟨14, _⟩ => ⟨S2x3x64, .f32⟩
  | .hbm, ⟨15, _⟩ => ⟨S_, .f32⟩
  | .hbm, ⟨16, _⟩ => ⟨S2x3x64, .f32⟩
  | .hbm, ⟨17, _⟩ => ⟨S2x3x64, .f32⟩
  | .hbm, ⟨18, _⟩ => ⟨S2x3x64, .f32⟩
  | .hbm, ⟨19, _⟩ => ⟨S_, .f32⟩
  | .hbm, ⟨20, _⟩ => ⟨S2x3x64, .f32⟩
  | .hbm, ⟨21, _⟩ => ⟨S2x3x64, .f32⟩
  | .hbm, ⟨22, _⟩ => ⟨S_, .f32⟩
  | .hbm, ⟨23, _⟩ => ⟨S2x3x64, .f32⟩
  | .hbm, ⟨24, _⟩ => ⟨S2x3x64, .f32⟩
  | .hbm, ⟨25, _⟩ => ⟨S2x3x64, .f32⟩
  | .hbm, ⟨26, _⟩ => ⟨S_, .f32⟩
  | .hbm, ⟨27, _⟩ => ⟨S2x3x64, .f32⟩
  | .hbm, ⟨28, _⟩ => ⟨S2x3x64, .f32⟩
  | .hbm, ⟨29, _⟩ => ⟨S2x3x64, .f32⟩
  | .hbm, ⟨30, _⟩ => ⟨S_, .f32⟩
  | .hbm, ⟨31, _⟩ => ⟨S2x3x64, .f32⟩
  | .hbm, ⟨32, _⟩ => ⟨S2x3x64, .f32⟩
  | .hbm, ⟨33, _⟩ => ⟨S2x3x64, .f32⟩
  | .hbm, ⟨34, _⟩ => ⟨S_, .f32⟩
  | .hbm, ⟨35, _⟩ => ⟨S2x3x64, .f32⟩
  | .hbm, ⟨36, _⟩ => ⟨S2x3x64, .f32⟩
  | _, _ => ⟨S2x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x4 : Shape := ⟨2, ![2, 4]⟩
abbrev S1x2x4 : Shape := ⟨3, ![1, 2, 4]⟩

abbrev nBuf : Space → Nat
  | .hbm => 11
  | .vmem => 7
  | .smem => 0
  | _ => 0

abbrev bufTy : (tb : Table) → Fin (tcTables nBuf tb) → BufTy
  | .hbm, ⟨0, _⟩ => ⟨S2x4, .f32⟩
  | .hbm, ⟨1, _⟩ => ⟨S2x4, .f32⟩
  | .hbm, ⟨2, _⟩ => ⟨S2x4, .f32⟩
  | .hbm, ⟨3, _⟩ => ⟨S2x4, .f32⟩
  | .hbm, ⟨4, _⟩ => ⟨S1x2x4, .f32⟩
  | .hbm, ⟨5, _⟩ => ⟨S1x2x4, .f32⟩
  | .hbm, ⟨6, _⟩ => ⟨S1x2x4, .f32⟩
  | .hbm, ⟨7, _⟩ => ⟨S1x2x4, .f32⟩
  | .hbm, ⟨8, _⟩ => ⟨S1x2x4, .f32⟩
  | .hbm, ⟨9, _⟩ => ⟨S1x2x4, .f32⟩
  | .hbm, ⟨10, _⟩ => ⟨S1x2x4, .f32⟩
  | .local _ .vmem, ⟨0, _⟩ => ⟨S1x2x4, .f32⟩
  | .local _ .vmem, ⟨1, _⟩ => ⟨S1x2x4, .f32⟩
  | .local _ .vmem, ⟨2, _⟩ => ⟨S1x2x4, .f32⟩
  | .local _ .vmem, ⟨3, _⟩ => ⟨S1x2x4, .f32⟩
  | .local _ .vmem, ⟨4, _⟩ => ⟨S1x2x4, .f32⟩
  | .local _ .vmem, ⟨5, _⟩ => ⟨S1x2x4, .f32⟩
  | .local _ .vmem, ⟨6, _⟩ => ⟨S1x2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference22Ideal.lean ====
abbrev S2x4 : Shape := ⟨2, ![2, 4]⟩
abbrev S_ : Shape := ⟨0, ![]⟩
abbrev S1x2x4 : Shape := ⟨3, ![1, 2, 4]⟩

abbrev nBuf : Space → Nat
  | .hbm => 40
  | .vmem => 0
  | .smem => 0
  | _ => 0

abbrev bufTy : (tb : Table) → Fin (tcTables nBuf tb) → BufTy
  | .hbm, ⟨0, _⟩ => ⟨S2x4, .f32⟩
  | .hbm, ⟨1, _⟩ => ⟨S2x4, .f32⟩
  | .hbm, ⟨2, _⟩ => ⟨S2x4, .f32⟩
  | .hbm, ⟨3, _⟩ => ⟨S2x4, .f32⟩
  | .hbm, ⟨4, _⟩ => ⟨S_, .f32⟩
  | .hbm, ⟨5, _⟩ => ⟨S2x4, .f32⟩
  | .hbm, ⟨6, _⟩ => ⟨S2x4, .f32⟩
  | .hbm, ⟨7, _⟩ => ⟨S_, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S_, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S_, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S_, .f32⟩
  | .hbm, ⟨20, _⟩ => ⟨S2x4, .f32⟩
  | .hbm, ⟨21, _⟩ => ⟨S2x4, .f32⟩
  | .hbm, ⟨22, _⟩ => ⟨S_, .f32⟩
  | .hbm, ⟨23, _⟩ => ⟨S2x4, .f32⟩
  | .hbm, ⟨24, _⟩ => ⟨S2x4, .f32⟩
  | .hbm, ⟨25, _⟩ => ⟨S2x4, .f32⟩
  | .hbm, ⟨26, _⟩ => ⟨S_, .f32⟩
  | .hbm, ⟨27, _⟩ => ⟨S2x4, .f32⟩
  | .hbm, ⟨28, _⟩ => ⟨S2x4, .f32⟩
  | .hbm, ⟨29, _⟩ => ⟨S2x4, .f32⟩
  | .hbm, ⟨30, _⟩ => ⟨S_, .f32⟩
  | .hbm, ⟨31, _⟩ => ⟨S2x4, .f32⟩
  | .hbm, ⟨32, _⟩ => ⟨S2x4, .f32⟩
  | .hbm, ⟨33, _⟩ => ⟨S2x4, .f32⟩
  | .hbm, ⟨34, _⟩ => ⟨S_, .f32⟩
  | .hbm, ⟨35, _⟩ => ⟨S2x4, .f32⟩
  | .hbm, ⟨36, _⟩ => ⟨S2x4, .f32⟩
  | .hbm, ⟨37, _⟩ => ⟨S1x2x4, .f32⟩
  | .hbm, ⟨38, _⟩ => ⟨S1x2x4, .f32⟩
  | .hbm, ⟨39, _⟩ => ⟨S1x2x4, .f32⟩
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S32x4 : Shape := ⟨2, ![32, 4]⟩
abbrev S1x32x4 : Shape := ⟨3, ![1, 32, 4]⟩
abbrev S1x16x4 : Shape := ⟨3, ![1, 16, 4]⟩

abbrev nBuf : Space → Nat
  | .hbm => 11
  | .vmem => 14
  | .smem => 0
  | _ => 0

abbrev bufTy : (tb : Table) → Fin (tcTables nBuf tb) → BufTy
  | .hbm, ⟨0, _⟩ => ⟨S32x4, .f32⟩
  | .hbm, ⟨1, _⟩ => ⟨S32x4, .f32⟩
  | .hbm, ⟨2, _⟩ => ⟨S32x4, .f32⟩
  | .hbm, ⟨3, _⟩ => ⟨S32x4, .f32⟩
  | .hbm, ⟨4, _⟩ => ⟨S1x32x4, .f32⟩
  | .hbm, ⟨5, _⟩ => ⟨S1x32x4, .f32⟩
  | .hbm, ⟨6, _⟩ => ⟨S1x32x4, .f32⟩
  | .hbm, ⟨7, _⟩ => ⟨S1x32x4, .f32⟩
  | .hbm, ⟨8, _⟩ => ⟨S1x32x4, .f32⟩
  | .hbm, ⟨9, _⟩ => ⟨S1x32x4, .f32⟩
  | .hbm, ⟨10, _⟩ => ⟨S1x32x4, .f32⟩
  | .local _ .vmem, ⟨0, _⟩ => ⟨S1x16x4, .f32⟩
  | .local _ .vmem, ⟨1, _⟩ => ⟨S1x16x4, .f32⟩
  | .local _ .vmem, ⟨2, _⟩ => ⟨S1x16x4, .f32⟩
  | .local _ .vmem, ⟨3, _⟩ => ⟨S1x16x4, .f32⟩
  | .local _ .vmem, ⟨4, _⟩ => ⟨S1x16x4, .f32⟩
  | .local _ .vmem, ⟨5, _⟩ => ⟨S1x16x4, .f32⟩
  | .local _ .vmem, ⟨6, _⟩ => ⟨S1x16x4, .f32⟩
  | .local _ .vmem, ⟨7, _⟩ => ⟨S1x16x4, .f32⟩
  | .local _ .vmem, ⟨8, _⟩ => ⟨S1x16x4, .f32⟩
  | .local _ .vmem, ⟨9, _⟩ => ⟨S1x16x4, .f32⟩
  | .local _ .vmem, ⟨10, _⟩ => ⟨S1x16x4, .f32⟩
  | .local _ .vmem, ⟨11, _⟩ => ⟨S1x16x4, .f32⟩
  | .local _ .vmem, ⟨12, _⟩ => ⟨S1x16x4, .f32⟩
  | .local _ .vmem, ⟨13, _⟩ => ⟨S1x16x4, .f32⟩
  | _, _ => ⟨S32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S32x4 : Shape := ⟨2, ![32, 4]⟩
abbrev S_ : Shape := ⟨0, ![]⟩
abbrev S1x32x4 : Shape := ⟨3, ![1, 32, 4]⟩

abbrev nBuf : Space → Nat
  | .hbm => 40
  | .vmem => 0
  | .smem => 0
  | _ => 0

abbrev bufTy : (tb : Table) → Fin (tcTables nBuf tb) → BufTy
  | .hbm, ⟨0, _⟩ => ⟨S32x4, .f32⟩
  | .hbm, ⟨1, _⟩ => ⟨S32x4, .f32⟩
  | .hbm, ⟨2, _⟩ => ⟨S32x4, .f32⟩
  | .hbm, ⟨3, _⟩ => ⟨S32x4, .f32⟩
  | .hbm, ⟨4, _⟩ => ⟨S_, .f32⟩
  | .hbm, ⟨5, _⟩ => ⟨S32x4, .f32⟩
  | .hbm, ⟨6, _⟩ => ⟨S32x4, .f32⟩
  | .hbm, ⟨7, _⟩ => ⟨S_, .f32⟩
  | .hbm, ⟨8, _⟩ => ⟨S32x4, .f32⟩
  | .hbm, ⟨9, _⟩ => ⟨S32x4, .f32⟩
  | .hbm, ⟨10, _⟩ => ⟨S32x4, .f32⟩
  | .hbm, ⟨11, _⟩ => ⟨S_, .f32⟩
  | .hbm, ⟨12, _⟩ => ⟨S32x4, .f32⟩
  | .hbm, ⟨13, _⟩ => ⟨S32x4, .f32⟩
  | .hbm, ⟨14, _⟩ => ⟨S32x4, .f32⟩
  | .hbm, ⟨15, _⟩ => ⟨S_, .f32⟩
  | .hbm, ⟨16, _⟩ => ⟨S32x4, .f32⟩
  | .hbm, ⟨17, _⟩ => ⟨S32x4, .f32⟩
  | .hbm, ⟨18, _⟩ => ⟨S32x4, .f32⟩
  | .hbm, ⟨19, _⟩ => ⟨S_, .f32⟩
  | .hbm, ⟨20, _⟩ => ⟨S32x4, .f32⟩
  | .hbm, ⟨21, _⟩ => ⟨S32x4, .f32⟩
  | .hbm, ⟨22, _⟩ => ⟨S_, .f32⟩
  | .hbm, ⟨23, _⟩ => ⟨S32x4, .f32⟩
  | .hbm, ⟨24, _⟩ => ⟨S32x4, .f32⟩
  | .hbm, ⟨25, _⟩ => ⟨S32x4, .f32⟩
  | .hbm, ⟨26, _⟩ => ⟨S_, .f32⟩
  | .hbm, ⟨27, _⟩ => ⟨S32x4, .f32⟩
  | .hbm, ⟨28, _⟩ => ⟨S32x4, .f32⟩
  | .hbm, ⟨29, _⟩ => ⟨S32x4, .f32⟩
  | .hbm, ⟨30, _⟩ => ⟨S_, .f32⟩
  | .hbm, ⟨31, _⟩ => ⟨S32x4, .f32⟩
  | .hbm, ⟨32, _⟩ => ⟨S32x4, .f32⟩
  | .hbm, ⟨33, _⟩ => ⟨S32x4, .f32⟩
  | .hbm, ⟨34, _⟩ => ⟨S_, .f32⟩
  | .hbm, ⟨35, _⟩ => ⟨S32x4, .f32⟩
  | .hbm, ⟨36, _⟩ => ⟨S32x4, .f32⟩
  | .hbm, ⟨37, _⟩ => ⟨S1x32x4, .f32⟩
  | .hbm, ⟨38, _⟩ => ⟨S1x32x4, .f32⟩
  | .hbm, ⟨39, _⟩ => ⟨S1x32x4, .f32⟩
  | _, _ => ⟨S32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S2x1024 : Shape := ⟨2, ![2, 1024]⟩
abbrev S1x2x1024 : Shape := ⟨3, ![1, 2, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference24Ideal.lean ====
abbrev S2x1024 : Shape := ⟨2, ![2, 1024]⟩
abbrev S_ : Shape := ⟨0, ![]⟩
abbrev S1x2x1024 : Shape := ⟨3, ![1, 2, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S1x2x1024, .f32⟩
  | .hbm, ⟨38, _⟩ => ⟨S1x2x1024, .f32⟩
  | .hbm, ⟨39, _⟩ => ⟨S1x2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Sb.Trip.lean ====
/- The kernel's outer loop, one trip at a time: a trip takes one block of 512 queries, goes through the key blocks
   up to its own by the inner loop, and stores the block's rows of dq. -/
module

public import proofs.«01_k».proof.Proof.Gen.KernelIdeal.Loops

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v5 v10 v15 v20 : IVec S1x256 1) (v93 v94 : IVec S512x256 32) (v95 : IVec S512x128 32)
  (v101 v107 : FVec F S256x256 .bf16)

/-- What one trip of the outer loop touches: the queries, the incoming gradient, the tails and the two scratches at
   the contents given, the three results at theirs. -/
abbrev TripO (X1 : BufTy.Contents (Elt F) arg1.view.ty) (X4 : BufTy.Contents (Elt F) arg4.view.ty)
    (X5 : BufTy.Contents (Elt F) arg5.view.ty) (X9 : BufTy.Contents (Elt F) arg9.view.ty)
    (X10 : BufTy.Contents (Elt F) arg10.view.ty) (f6 : BufTy.Contents (Elt F) arg6.view.ty)
    (f7 : BufTy.Contents (Elt F) arg7.view.ty) (f8 : BufTy.Contents (Elt F) arg8.view.ty) : sProp 𝕄 :=
  iprop((arg1.view.loc (c : Thread nD τ) ↦[arg1.view.set]{fullShare} X1)
    ∗ (arg4.view.loc (c : Thread nD τ) ↦[arg4.view.set]{fullShare} X4)
    ∗ (arg5.view.loc (c : Thread nD τ) ↦[arg5.view.set]{fullShare} X5)
    ∗ (arg9.view.loc (c : Thread nD τ) ↦[arg9.view.set]{fullShare} X9)
    ∗ (arg10.view.loc (c : Thread nD τ) ↦[arg10.view.set]{fullShare} X10)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8))

/-- One trip of the outer loop: the pieces it writes into dq, dk and dv, as functions of what dk and dv hold before
   it, together with the proof that the trip runs and leaves them. -/
@[irreducible] def tripO (X1 : BufTy.Contents (Elt F) arg1.view.ty) (X4 : BufTy.Contents (Elt F) arg4.view.ty)
    (X5 : BufTy.Contents (Elt F) arg5.view.ty) (X9 : BufTy.Contents (Elt F) arg9.view.ty)
    (X10 : BufTy.Contents (Elt F) arg10.view.ty) (k : Fin k0_t1_loop.trips) :
    Σ' (L6 : BufTy.Contents (Elt F) arg7.view.ty → BufTy.Contents (Elt F) arg8.view.ty → List (View.Piece (Elt F) S2048x256 .f32))
      (L7 : BufTy.Contents (Elt F) arg7.view.ty → BufTy.Contents (Elt F) arg8.view.ty → List (View.Piece (Elt F) S2048x256 .f32)),
      { L8 : BufTy.Contents (Elt F) arg7.view.ty → BufTy.Contents (Elt F) arg8.view.ty → List (View.Piece (Elt F) S2048x256 .f32) //
        ∀ (E : Set ℕ) (f6 : BufTy.Contents (Elt F) arg6.view.ty) (f7 : BufTy.Contents (Elt F) arg7.view.ty)
          (f8 : BufTy.Contents (Elt F) arg8.view.ty),
          TripO (F := F) c arg1 arg4 arg5 arg6 arg7 arg8 arg9 arg10 X1 X4 X5 X9 X10 f6 f7 f8
          ⊢ wp frame (wpE (defs₀ (F := F)) Variants.none (c : Thread nD τ) none) E
              (k0_t1_body (F := F) i arg1 harg1 arg2 harg2 arg3 harg3 arg4 harg4 arg5 harg5 arg6 harg6 arg7 harg7 arg8 harg8 arg9 harg9 arg10 harg10 v5 v10 v15 v20 v93 v94 v95 v101 v107 k ())
              (fun _ => TripO (F := F) c arg1 arg4 arg5 arg6 arg7 arg8 arg9 arg10 X1 X4 X5 X9 X10
                (arg6.view.writes (Elt F) f6 (L6 f7 f8)) (arg7.view.writes (Elt F) f7 (L7 f7 f8))
                (arg8.view.writes (Elt F) f8 (L8 f7 f8))) } := by
  refine ⟨?_, ?_, ?_, fun E f6 f7 f8 => ?run⟩
  case run =>
    unfold k0_t1_body
    iintro ⟨H1, H4, H5, H9, H10, H6, H7, H8⟩
    sl_exec
    sl_step
    sl_close

end Cert.Proof.KernelIdeal

end
-- ==== Proof.Sb.Loop.lean ====
/- The kernel's outer loop as a whole: the pieces its trips leave in dq, dk and dv, and the invariant by which the
   body's run goes through it. -/
module

public import proofs.«01_k».proof.Proof.Sb.Trip

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v5 v10 v15 v20 : IVec S1x256 1) (v93 v94 : IVec S512x256 32) (v95 : IVec S512x128 32)
  (v101 v107 : FVec F S256x256 .bf16)

variable (X1 : BufTy.Contents (Elt F) arg1.view.ty) (X4 : BufTy.Contents (Elt F) arg4.view.ty)
  (X5 : BufTy.Contents (Elt F) arg5.view.ty) (X9 : BufTy.Contents (Elt F) arg9.view.ty)
  (X10 : BufTy.Contents (Elt F) arg10.view.ty)
  (G7 : BufTy.Contents (Elt F) arg7.view.ty) (G8 : BufTy.Contents (Elt F) arg8.view.ty)

/-- Three lists of pieces: dq's, dk's and dv's. -/
abbrev Pcs (F : FTy → Type) : Type := List (View.Piece (Elt F) S2048x256 .f32) × List (View.Piece (Elt F) S2048x256 .f32) × List (View.Piece (Elt F) S2048x256 .f32)

/-- The pieces before trip `k + 1`, from those before trip `k`. -/
@[irreducible] def pbStep (k : ℕ) (prev : Pcs F) : Pcs F :=
  if h : k < k0_t1_loop.trips then
    ((tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 ⟨k, h⟩).1 (arg7.view.writes (Elt F) G7 prev.2.1) (arg8.view.writes (Elt F) G8 prev.2.2) ++ prev.1,
     (tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 ⟨k, h⟩).2.1 (arg7.view.writes (Elt F) G7 prev.2.1) (arg8.view.writes (Elt F) G8 prev.2.2) ++ prev.2.1,
     (tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 ⟨k, h⟩).2.2.1 (arg7.view.writes (Elt F) G7 prev.2.1) (arg8.view.writes (Elt F) G8 prev.2.2) ++ prev.2.2)
  else prev

/-- The pieces the trips before `k` leave, the last first, from the contents dk and dv have at the loop's entry. -/
def pbO : ℕ → Pcs F
  | 0 => ([], [], [])
  | k + 1 => pbStep (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k (pbO k)

theorem pbO_succ (k : Fin k0_t1_loop.trips) :
    pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 (k.val + 1)
      = ((tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k).1 (arg7.view.writes (Elt F) G7 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).2.1) (arg8.view.writes (Elt F) G8 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).2.2) ++ (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).1,
     (tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k).2.1 (arg7.view.writes (Elt F) G7 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).2.1) (arg8.view.writes (Elt F) G8 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).2.2) ++ (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).2.1,
     (tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k).2.2.1 (arg7.view.writes (Elt F) G7 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).2.1) (arg8.view.writes (Elt F) G8 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).2.2) ++ (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k.val).2.2) := by
  rw [pbO.eq_2]; unfold pbStep; exact dif_pos k.isLt

/-- Before trip `k`: what is read stands as it was; dq, dk and dv hold the earlier trips' pieces over what they held. -/
abbrev invO (G6 : BufTy.Contents (Elt F) arg6.view.ty) (k : ℕ) (_ : PUnit) : sProp 𝕄 :=
  iprop((arg1.view.loc (c : Thread nD τ) ↦[arg1.view.set]{fullShare} X1)
    ∗ (arg4.view.loc (c : Thread nD τ) ↦[arg4.view.set]{fullShare} X4)
    ∗ (arg5.view.loc (c : Thread nD τ) ↦[arg5.view.set]{fullShare} X5)
    ∗ (arg9.view.loc (c : Thread nD τ) ↦[arg9.view.set]{fullShare} X9)
    ∗ (arg10.view.loc (c : Thread nD τ) ↦[arg10.view.set]{fullShare} X10)
    ∗ (∃ f, (arg6.view.loc (c : Thread nD τ) ↦[arg6.view.set]{fullShare} f) ∗ ⌜f = arg6.view.writes (Elt F) G6 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k).1⌝)
    ∗ (∃ f, (arg7.view.loc (c : Thread nD τ) ↦[arg7.view.set]{fullShare} f) ∗ ⌜f = arg7.view.writes (Elt F) G7 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k).2.1⌝)
    ∗ (∃ f, (arg8.view.loc (c : Thread nD τ) ↦[arg8.view.set]{fullShare} f) ∗ ⌜f = arg8.view.writes (Elt F) G8 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 k).2.2⌝))

set_option warn.classDefReducibility false in
/-- The outer loop by its invariant. -/
@[sl_loop] def loopInvO (E : Set ℕ) (G6 : BufTy.Contents (Elt F) arg6.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 v5 v10 v15 v20 v93 v94 v95 v101 v107 where
  inv := invO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 G6
  step k acc := by
    iintro ⟨H1, H4, H5, H9, H10, ⟨%f6, H6, %h6⟩, ⟨%f7, H7, %h7⟩, ⟨%f8, H8, %h8⟩⟩
    iapply (wp_wand_r Idealize.ShloMosaic.frame (wpE (defs₀ (F := F)) Variants.none (c : Thread nD τ) none) E)
    isplitl [H1 H4 H5 H9 H10 H6 H7 H8]
    · iapply ((tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k).2.2.2 E f6 f7 f8)
      isplitl [H1]; · iexact H1
      isplitl [H4]; · iexact H4
      isplitl [H5]; · iexact H5
      isplitl [H9]; · iexact H9
      isplitl [H10]; · iexact H10
      isplitl [H6]; · iexact H6
      isplitl [H7]; · iexact H7
      iexact H8
    · iintro %yld ⟨H1, H4, H5, H9, H10, H6, H7, H8⟩
      isplitl [H1]; · iexact H1
      isplitl [H4]; · iexact H4
      isplitl [H5]; · iexact H5
      isplitl [H9]; · iexact H9
      isplitl [H10]; · iexact H10
      simp only [pbO_succ]
      isplitl [H6]
      · iexists _; isplitl [H6]; · iexact H6
        ipureintro; rw [h6, h7, h8, ← View.writes_append]
      isplitl [H7]
      · iexists _; isplitl [H7]; · iexact H7
        ipureintro; rw [h7, h8, ← View.writes_append]
      · iexists _; isplitl [H8]; · iexact H8
        ipureintro; rw [h7, h8, ← View.writes_append]

end Cert.Proof.KernelIdeal

end
-- ==== Proof.Sb.Body.lean ====
/- The kernel's body, run once at any grid point: what it leaves in dq, dk and dv. -/
module

public import proofs.«01_k».proof.Proof.Sb.Loop
public import proofs.«01_k».proof.Proof.Gen.KernelIdeal.Frame
public import Idealize.ShloMosaic.Lib.Ring

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
/-- The kernel's body on whole staging buffers: the pieces it leaves in dq, and dk and dv as it leaves them, with the
   proof that it runs from the inputs at any contents, gives them back as they were, and leaves the two scratches at
   something. -/
def kernelRun (x1 x2 x3 x4 : Vec F S2048x256 .f32) (x5 : Vec F S1x4x2048x128 .f32) :
    Σ' (L6 : List (View.Piece (Elt F) S2048x256 .f32)) (O7 : Vec F S2048x256 .f32), { O8 : Vec F S2048x256 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (∃ f, arg9.view.loc (c : Thread nD τ) ↦[arg9.view.set]{fullShare} f) ∗ (∃ f, arg10.view.loc (c : Thread nD τ) ↦[arg10.view.set]{fullShare} f)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
              ∗ (∃ f, arg6.view.loc (c : Thread nD τ) ↦[arg6.view.set]{fullShare} arg6.view.writes (Elt F) f L6)
              ∗ owns (c : Thread nD τ) arg7 fullShare O7 ∗ owns (c : Thread nD τ) arg8 fullShare O8
              ∗ (∃ f, arg9.view.loc (c : Thread nD τ) ↦[arg9.view.set]{fullShare} f) ∗ (∃ f, arg10.view.loc (c : Thread nD τ) ↦[arg10.view.set]{fullShare} f)) -∗ K ⟨⟩))
          ⊢ wp frame (wpE (defs₀ (F := F)) Variants.none c none) E
              (cc0_sb_bwd i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_sb_bwd_eq_skeleton]; unfold cc0_sb_bwd_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, H9⟩, ⟨%f10, H10⟩, Hk⟩
    obtain rfl := harg1.eq_unread hf1; obtain rfl := harg2.eq_unread hf2; obtain rfl := harg3.eq_unread hf3; obtain rfl := harg4.eq_unread hf4; obtain rfl := harg5.eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr
      swap; · iexact H7
      ipureintro; rfl
    isplitl [H8]
    · iexists _; isplitr
      swap; · iexact H8
      ipureintro; rfl
    isplitl [H9]; · iexists _; iexact H9
    iexists _; iexact H10

end Cert.Proof.KernelIdeal

end
-- ==== Proof.Sb.Offs.lean ====
/- Where the kernel's loads and stores are: trip `k` of the outer loop takes the 512 rows from `512 k`, trip `j` of the
   inner one the 256 rows from `256 j`, and the inner loop has `2 (k + 1)` trips. -/
module

public import proofs.«01_k».proof.Proof.Gen.KernelIdeal

@[expose] public section

set_option maxRecDepth 8192

namespace Cert.Proof.KernelIdeal

open Cert.KernelIdeal Cert.KernelIdeal.Gen
open Idealize.ShloMosaic Idealize.ShloMosaic.TcCoe

theorem trips1 : k0_t1_loop.trips = 4 := by decide +kernel

theorem trips2 : ∀ k : Fin k0_t1_loop.trips, (k0_t2_loop k).trips = 2 * (k.val + 1) := by decide +kernel

theorem trips3 : ∀ k : Fin k0_t1_loop.trips, (k0_t3_loop k).trips = 0 := by decide +kernel

theorem off1 : ∀ k : Fin k0_t1_loop.trips, k0_off1 k = ![512 * k.val, 0] := by decide +kernel

theorem off2 : ∀ k : Fin k0_t1_loop.trips, k0_off2 k = ![0, 0, 512 * k.val, 0] := by decide +kernel
theorem off3 : ∀ k : Fin k0_t1_loop.trips, k0_off3 k = ![0, 1, 512 * k.val, 0] := by decide +kernel
theorem off4 : ∀ k : Fin k0_t1_loop.trips, k0_off4 k = ![0, 2, 512 * k.val, 0] := by decide +kernel
theorem off5 : ∀ k : Fin k0_t1_loop.trips, k0_off5 k = ![0, 3, 512 * k.val, 0] := by decide +kernel

theorem off7 : ∀ (k : Fin k0_t1_loop.trips) (j : Fin (k0_t2_loop k).trips), k0_off7 k j = ![256 * j.val, 0] := by decide +kernel
theorem off6 : ∀ (k : Fin k0_t1_loop.trips) (j : Fin (k0_t2_loop k).trips), k0_off6 k j = ![0, 256 * j.val, 0] := by decide +kernel
theorem off8 : ∀ (k : Fin k0_t1_loop.trips) (j : Fin (k0_t2_loop k).trips), k0_off8 k j = ![1, 256 * j.val, 0] := by decide +kernel
theorem off9 : ∀ (k : Fin k0_t1_loop.trips) (j : Fin (k0_t2_loop k).trips), k0_off9 k j = ![2, 256 * j.val, 0] := by decide +kernel
theorem off10 : ∀ (k : Fin k0_t1_loop.trips) (j : Fin (k0_t2_loop k).trips), k0_off10 k j = ![3, 256 * j.val, 0] := by decide +kernel

end Cert.Proof.KernelIdeal
-- ==== Proof.Sb.Frame.lean ====
/- The kernel's run as a whole: the pipeline's proof data, the body's obligation at every grid point, and the frame. -/
module

public import proofs.«01_k».proof.Proof.Sb.Body
public import proofs.«01_k».proof.Proof.Sb.Offs
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Claim

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One trip of the outer loop stores one piece into dq: the 512 rows of its block. -/
theorem tripO_dq (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v5 v10 v15 v20 : IVec S1x256 1) (v93 v94 : IVec S512x256 32) (v95 : IVec S512x128 32)
  (v101 v107 : FVec F S256x256 .bf16)
  (X1 : BufTy.Contents (Elt F) arg1.view.ty) (X4 : BufTy.Contents (Elt F) arg4.view.ty)
  (X5 : BufTy.Contents (Elt F) arg5.view.ty) (X9 : BufTy.Contents (Elt F) arg9.view.ty)
  (X10 : BufTy.Contents (Elt F) arg10.view.ty) (k : Fin k0_t1_loop.trips) (f7 : BufTy.Contents (Elt F) arg7.view.ty)
  (f8 : BufTy.Contents (Elt F) arg8.view.ty) :
  ∃ w, (tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k).1 f7 f8
    = [(⟨Rect.unit (s := S2048x256) (k0_off1 k) S512x256.size (k0_off1_inb k), w⟩ : View.Piece (Elt F) S2048x256 .f32)] := by
  unfold tripO; exact ⟨_, rfl⟩

/-- The first `n` trips' pieces of dq cover the rows before `512 n`. -/
theorem pbO_dq_cover (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v5 v10 v15 v20 : IVec S1x256 1) (v93 v94 : IVec S512x256 32) (v95 : IVec S512x128 32)
  (v101 v107 : FVec F S256x256 .bf16)
  (X1 : BufTy.Contents (Elt F) arg1.view.ty) (X4 : BufTy.Contents (Elt F) arg4.view.ty)
  (X5 : BufTy.Contents (Elt F) arg5.view.ty) (X9 : BufTy.Contents (Elt F) arg9.view.ty)
  (X10 : BufTy.Contents (Elt F) arg10.view.ty) (G7 : BufTy.Contents (Elt F) arg7.view.ty)
  (G8 : BufTy.Contents (Elt F) arg8.view.ty) (y : S2048x256.Idx) :
  ∀ n, n ≤ k0_t1_loop.trips → (y 0).val < 512 * n →
    ∃ pc ∈ (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 n).1, y ∈ pc.1.set := by
  intro n
  induction n with
  | zero => intro _ h; omega
  | succ n ih =>
    intro hn hy
    rw [pbO_succ (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 ⟨n, hn⟩]
    by_cases hlt : (y 0).val < 512 * n
    · obtain ⟨pc, hpc, hm⟩ := ih (by omega) hlt
      exact ⟨pc, List.mem_append_right _ hpc, hm⟩
    · obtain ⟨w, hw⟩ := tripO_dq (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 ⟨n, hn⟩
        (arg7.view.writes (Elt F) G7 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 n).2.1)
        (arg8.view.writes (Elt F) G8 (pbO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 G7 G8 n).2.2)
      refine ⟨_, List.mem_append_left _ (by rw [hw]; exact List.mem_singleton_self _), ?_⟩
      rw [Rect.mem_set_unit, off1]
      have h1 : (y 1).val < 256 := (y 1).isLt
      intro a
      match a with
      | ⟨0, _⟩ => exact ⟨by show 512 * n ≤ (y 0).val; omega, by show (y 0).val < 512 * n + 512; omega⟩
      | ⟨1, _⟩ => exact ⟨by show 0 ≤ (y 1).val; omega, by show (y 1).val < 0 + 256; omega⟩

/-- The run of the body at point `t`, on the point's blocks. -/
abbrev runAt (c : Dev nD) (t : Fin cfg0.N) :=
  kernelRun (F := F) c (grid0.coords t) (st0_0 t) (hstage0_0 _) (st0_1 t) (hstage0_1 _) (st0_2 t) (hstage0_2 _)
    (st0_3 t) (hstage0_3 _) (st0_4 t) (hstage0_4 _) (st0_5 t) (hstage0_5 _) (st0_6 t) (hstage0_6 _)
    (st0_7 t) (hstage0_7 _) (Memref.whole cc0_scratch0) (Memref.isWhole_whole _) (Memref.whole cc0_scratch1)
    (Memref.isWhole_whole _) (X0_0 m c t) (X0_1 m c t) (X0_2 m c t) (iblk m c 3 t) (iblk m c 4 t)

/-- The body's pieces of dq cover its block. -/
theorem runAt_cover (c : Dev nD) (t : Fin cfg0.N) (y : S2048x256.Idx) : ∃ pc ∈ (runAt (F := F) m c t).1, y ∈ pc.1.set := by
  refine pbO_dq_cover (F := F) _ _ _ _ _ _ _ _ _ _ _ _ _ _ _ _ _ _ _ _ _ _ _ _ _ _ _ _ _ _ _ _ _ _ _ _ _ _ y k0_t1_loop.trips le_rfl ?_
  rw [trips1]; exact (y 0).isLt

/-- The pipeline's proof data: after the body at point `t` each input's buffer holds its block, dq's the pieces' values,
   dk's and dv's what the run leaves. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => View.canon (runAt (F := F) m c t).1
    | ⟨6, _⟩ => (runAt (F := F) m c t).2.1
    | ⟨7, _⟩ => (runAt (F := F) m c t).2.2.1
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = View.canon (runAt (F := F) m c t).1 := by dsimp only [dats]
theorem after0_6 (c : Dev nD) (t : Fin cfg0.N) : (dats m 0 c).after 6 t = (runAt (F := F) m c t).2.1 := by dsimp only [dats]
theorem after0_7 (c : Dev nD) (t : Fin cfg0.N) : (dats m 0 c).after 7 t = (runAt (F := F) m c t).2.2.1 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The two scratches as the body's run holds them are the scoped buffers the launch hands over. -/
theorem scratch_eq (c : Dev nD) :
    (Pipeline.ΦA (Val := Elt F) (U := UR sig nD τ) (τ := τ) spec0 c : sProp 𝕄)
      = iprop(((∃ f, (Memref.whole cc0_scratch0).view.loc (c : Thread nD τ) ↦[(Memref.whole cc0_scratch0).view.set]{fullShare} f)
        ∗ (∃ f, (Memref.whole cc0_scratch1).view.loc (c : Thread nD τ) ↦[(Memref.whole cc0_scratch1).view.set]{fullShare} f))
        ∗ ∃ r, prngReg c r) := by
  unfold Pipeline.ΦA
  rw [scopedRest0_eq, show (Memref.whole cc0_scratch0).view.set = Finset.univ from View.set_whole _,
    show (Memref.whole cc0_scratch1).view.set = Finset.univ from View.set_whole _]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    show (dats m 0 c).Φ t.castSucc = Pipeline.ΦA spec0 c from rfl, scratch_eq]
  iintro ⟨⟨⟨HS0, HS1⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt (F := F) m c t).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, ⟨%e5, H5⟩, H6, H7, HS0, HS1⟩
  isplitl [HS0 HS1 HP]
  · isplitl [HS0 HS1]
    · isplitl [HS0]; · iexact HS0
      iexact HS1
    iexact HP
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ (runAt_cover m c t)
  isplitl [H6]; · iexact H6
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with each array of the pipeline at what the proof data say and every semaphore counter at
   zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Sb.Same.lean ====
/- The kernel and the ideal kernel are the same program: their tables and their entry functions are equal. -/
module

public import proofs.«01_k».proof.Proof.Gen.Kernel
public import proofs.«01_k».proof.Proof.Gen.KernelIdeal
public import Idealize.ShloMosaic.PureOps.BitExact

@[expose] public section

set_option maxRecDepth 16384

namespace Cert.Proof

open Idealize.ShloMosaic Idealize.ShloMosaic.TcCoe Idealize.SL Idealize.SL.Sem

/-- The two body tables are equal. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- The two programs' tables are equal. -/
theorem defs_same : Cert.Kernel.defs (F := Bits) = Cert.KernelIdeal.defs (F := Bits) :=
  congrArg (Pipeline.defs _) defs₀_same

set_option maxHeartbeats 2000000 in
/-- The two entry functions are equal. -/
theorem main_same : Cert.Kernel.main (F := Bits) = Cert.KernelIdeal.main (F := Bits) := rfl

end Cert.Proof
-- ==== Proof.Sb.Reals.lean ====
/- Extended-real operations at real arguments: each is the real operation. -/
module

public import Idealize.ShloMosaic.PureOps.Ideal.Laws

@[expose] public section

noncomputable section

namespace Cert.Proof

open Idealize.ShloMosaic

/-- A finite sum of reals, read in the extended reals. -/
theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem coe_min (a b : ℝ) : min (a : EReal) (b : EReal) = ((min a b : ℝ) : EReal) :=
  (EReal.coe_strictMono.monotone.map_min).symm

theorem coe_max (a b : ℝ) : max (a : EReal) (b : EReal) = ((max a b : ℝ) : EReal) :=
  (EReal.coe_strictMono.monotone.map_max).symm

theorem coe_abs (a : ℝ) : max (a : EReal) (-(a : EReal)) = ((|a| : ℝ) : EReal) := by
  rw [← EReal.coe_neg, coe_max]; rfl

theorem log_coe_pos {r : ℝ} (h : 0 < r) : Ideal.log (r : EReal) = ((Real.log r : ℝ) : EReal) := by
  rw [Ideal.log_coe, if_neg (not_le.mpr h)]

theorem coe_ite {p : Prop} [Decidable p] (a b : ℝ) : (if p then (a : EReal) else (b : EReal)) = (((if p then a else b) : ℝ) : EReal) := by
  split <;> rfl

/-- The logarithm of the logistic function, in the form that does not overflow. -/
def ls (x : ℝ) : ℝ := min x 0 - Real.log (1 + Real.exp (0 - |x|))

/-- The kernel's spelling of it. -/
theorem ls_coe (x : ℝ) :
    min (x : EReal) 0 - Ideal.log (1 + Ideal.exp (0 - max (x : EReal) (-(x : EReal)))) = ((ls x : ℝ) : EReal) := by
  have h : (0 : ℝ) < 1 + Real.exp (0 - |x|) := by positivity
  rw [coe_abs, ← EReal.coe_zero, ← EReal.coe_sub, Ideal.exp_coe, ← EReal.coe_one, ← EReal.coe_add, log_coe_pos h, coe_min,
    ← EReal.coe_sub]
  rfl

end Cert.Proof
-- ==== Proof.Sb.Head.lean ====
/- What one head's step of the kernel computes at one pair of a query block and a key block: the weights, their
   derivative, the scores' derivative, the running sum and the four products, each as one of the kernel's own values. -/
module

public import proofs.«01_k».proof.Proof.Gen.KernelIdeal.Skeleton
public import Idealize.ShloMosaic.Lib.Pointwise
public import proofs.«01_k».proof.Proof.Sb.Reals

@[expose] public section

set_option maxRecDepth 8192

noncomputable section

namespace Cert.Proof.KernelIdeal

open Cert.KernelIdeal Cert.KernelIdeal.Gen
open Idealize.ShloMosaic Idealize.ShloMosaic.TcCoe

section
variable {F : FTy → Type} [FloatOps F]

/-- The head's weights: from the mask `st`, the lane numbers `v95`, the triangle `v101`, the key block's number `a12`, the
    scaled queries `qi`, the rows of the sums `tl` and the head's keys `kh`. -/
def hA (st : IVec S512x256 1) (v95 : IVec S512x128 32) (v101 : FVec F S256x256 .bf16) (a12 : BitVec 32)
    (qi : FVec F S512x256 .bf16) (tl : FVec F S512x128 .f32) (kh : Vec F S1x256x256 .bf16) : FVec F S512x256 .f32 :=
  k0_pay24 st (k0_pay18 qi kh) (k0_pay20 v95 tl a12) (k0_pay22 v101 qi st kh) (k0_pay23 v101 qi st kh)

/-- The weights times the incoming derivative `dO` along the head's values `vh`. -/
def hDl (dO : FVec F S512x256 .bf16) (a : FVec F S512x256 .f32) (vh : Vec F S1x256x256 .bf16) : FVec F S512x256 .f32 :=
  k0_pay11 dO a vh

/-- The scores' derivative, from the running sum `cs` and the weights `a`. -/
def hDz (st : IVec S512x256 1) (v107 : FVec F S256x256 .bf16) (qi dO : FVec F S512x256 .bf16) (a : FVec F S512x256 .f32)
    (kh vh : Vec F S1x256x256 .bf16) (cs : FVec F S512x1 .f32) : FVec F S512x256 .bf16 :=
  k0_pay12 v107 dO cs st (k0_pay9 qi kh) a vh

/-- The running sum after the block. -/
def hCs (cs : FVec F S512x1 .f32) (dl : FVec F S512x256 .f32) : FVec F S512x1 .f32 := k0_pay16 cs dl

/-- dq's accumulator after the head. -/
def hQ (dq : FVec F S512x256 .f32) (dz : FVec F S512x256 .bf16) (kh : Vec F S1x256x256 .bf16) : FVec F S512x256 .f32 :=
  k0_pay2 dq dz kh

/-- dk's rows after the head, and dv's: the rows plus a product along the queries. -/
def hK (qm : FVec F S512x256 .bf16) (dz : FVec F S512x256 .bf16) (old : Vec F S256x256 .f32) : FVec F S256x256 .f32 :=
  k0_pay3 qm dz old

def hV (dm : FVec F S512x256 .bf16) (a : FVec F S512x256 .f32) (old : Vec F S256x256 .f32) : FVec F S256x256 .f32 :=
  k0_pay4 dm a old

end

/-! ## The same over the reals -/

section
variable (st : IVec S512x256 1) (v95 : IVec S512x128 32) (v101 v107 : FVec Ideal S256x256 .bf16) (a12 : BitVec 32)
    (qi dO qm : FVec Ideal S512x256 .bf16) (a dl : FVec Ideal S512x256 .f32) (tl : FVec Ideal S512x128 .f32) (kh vh : Vec Ideal S1x256x256 .bf16)
    (cs : FVec Ideal S512x1 .f32) (old : Vec Ideal S256x256 .f32) (dq : FVec Ideal S512x256 .f32) (dz : FVec Ideal S512x256 .bf16)
    (P : Fin 512 → Fin 256 → Prop) [∀ r l, Decidable (P r l)] (q d m A D Z Q : Fin 512 → Fin 256 → ℝ) (k v O : Fin 256 → Fin 256 → ℝ)
    (T C : Fin 512 → ℝ)

/-- The scores of a block. -/
def bZ (q : Fin 512 → Fin 256 → ℝ) (k : Fin 256 → Fin 256 → ℝ) (r : Fin 512) (s : Fin 256) : ℝ := ∑ x, q r x * k s x

/-- The weights of a block: `T` is the sum over the later blocks. -/
def bA (P : Fin 512 → Fin 256 → Prop) [∀ r l, Decidable (P r l)] (q : Fin 512 → Fin 256 → ℝ) (k : Fin 256 → Fin 256 → ℝ)
    (T : Fin 512 → ℝ) (r : Fin 512) (s : Fin 256) : ℝ :=
  if P r s then Real.exp (ls (bZ q k r s) + (∑ x, (if P r x then ls (bZ q k r x) - bZ q k r x else 0) * (if s < x then 1 else 0)) + T r) else 0

/-- The scores' derivative of a block: `C` is the sum over the earlier blocks. -/
def bDz (P : Fin 512 → Fin 256 → Prop) [∀ r l, Decidable (P r l)] (q : Fin 512 → Fin 256 → ℝ) (k : Fin 256 → Fin 256 → ℝ)
    (D : Fin 512 → Fin 256 → ℝ) (C : Fin 512 → ℝ) (r : Fin 512) (s : Fin 256) : ℝ :=
  if P r s then D r s * (1 - Real.exp (ls (bZ q k r s)))
    - Real.exp (ls (bZ q k r s)) * ((∑ x, D r x * (if x < s then 1 else 0)) + C r) else 0

theorem sel_coe {p : Prop} [Decidable p] {b : BitVec 1} (h : b = 1#1 ↔ p) (x y : ℝ) :
    Scalar.select b (x : EReal) (y : EReal) = (((if p then x else y) : ℝ) : EReal) := by
  unfold Scalar.select
  by_cases hp : p
  · rw [if_pos (show b = 1 from h.mpr hp), if_pos hp]
  · rw [if_neg (show ¬b = 1 from fun e => hp (h.mp e)), if_neg hp]

theorem z_val (hq : ∀ r x, qi (ix2 r x) = ((q r x : ℝ) : EReal)) (hk : ∀ s x, kh (ix3 0 s x) = ((k s x : ℝ) : EReal)) (r : Fin 512) (l : Fin 256) :
    k0_pay17 qi kh (ix2 r l) = ((bZ q k r l : ℝ) : EReal) := by
  pointwise [k0_pay17]
  simp only [hq, hk, ← EReal.coe_mul, coe_sum]
  rfl

theorem ls_val (hq : ∀ r x, qi (ix2 r x) = ((q r x : ℝ) : EReal)) (hk : ∀ s x, kh (ix3 0 s x) = ((k s x : ℝ) : EReal)) (r : Fin 512) (l : Fin 256) :
    k0_pay18 qi kh (ix2 r l) = ((ls (bZ q k r l) : ℝ) : EReal) := by
  rw [← ls_coe, ← z_val qi kh q k hq hk]
  pointwise [k0_pay18]
  rfl

theorem ls_val' (hq : ∀ r x, qi (ix2 r x) = ((q r x : ℝ) : EReal)) (hk : ∀ s x, kh (ix3 0 s x) = ((k s x : ℝ) : EReal)) (r : Fin 512) (l : Fin 256) :
    k0_pay9 qi kh (ix2 r l) = ((ls (bZ q k r l) : ℝ) : EReal) := ls_val qi kh q k hq hk r l

/-- The weights. -/
theorem hA_val (hq : ∀ r x, qi (ix2 r x) = ((q r x : ℝ) : EReal)) (hk : ∀ s x, kh (ix3 0 s x) = ((k s x : ℝ) : EReal))
    (hst : ∀ r l, st (ix2 r l) = 1#1 ↔ P r l) (h101 : ∀ x l, v101 (ix2 x l) = (((if l < x then 1 else 0) : ℝ) : EReal))
    (hT : ∀ r, k0_pay20 v95 tl a12 (ix2 r 0) = ((T r : ℝ) : EReal)) (r : Fin 512) (l : Fin 256) :
    hA st v95 v101 a12 qi tl kh (ix2 r l) = ((bA P q k T r l : ℝ) : EReal) := by
  have hS : ∀ r l, k0_pay19 qi st kh (ix2 r l) = (((if P r l then ls (bZ q k r l) - bZ q k r l else 0) : ℝ) : EReal) := fun r l => by
    rw [← sel_coe (hst r l)]
    pointwise [k0_pay19]
    rw [ls_val qi kh q k hq hk, z_val qi kh q k hq hk, EReal.coe_sub, EReal.coe_zero]
  pointwise [hA, k0_pay24, k0_pay22, k0_pay23, k0_pay21]
  simp only [hS, hT, h101, ls_val qi kh q k hq hk, ← EReal.coe_sub, ← EReal.coe_mul, coe_sum, ← EReal.coe_add, Ideal.exp_coe, sub_self,
    zero_mul, Finset.sum_const_zero, add_zero]
  rw [← EReal.coe_zero, sel_coe (hst r l)]
  rfl

theorem hDl_val (hd : ∀ r x, dO (ix2 r x) = ((d r x : ℝ) : EReal)) (hv : ∀ s x, vh (ix3 0 s x) = ((v s x : ℝ) : EReal))
    (ha : ∀ r l, a (ix2 r l) = ((A r l : ℝ) : EReal)) (r : Fin 512) (l : Fin 256) :
    k0_pay11 dO a vh (ix2 r l) = ((A r l * bZ d v r l : ℝ) : EReal) := by
  pointwise [k0_pay11]
  simp only [hd, hv, ha, ← EReal.coe_mul, coe_sum]
  rfl

theorem hDz_val (hq : ∀ r x, qi (ix2 r x) = ((q r x : ℝ) : EReal)) (hk : ∀ s x, kh (ix3 0 s x) = ((k s x : ℝ) : EReal))
    (hst : ∀ r l, st (ix2 r l) = 1#1 ↔ P r l) (h107 : ∀ x l, v107 (ix2 x l) = (((if x < l then 1 else 0) : ℝ) : EReal))
    (hD : ∀ r l, k0_pay11 dO a vh (ix2 r l) = ((D r l : ℝ) : EReal)) (hC : ∀ r, cs (ix2 r 0) = ((C r : ℝ) : EReal))
    (r : Fin 512) (l : Fin 256) :
    hDz st v107 qi dO a kh vh cs (ix2 r l) = ((bDz P q k D C r l : ℝ) : EReal) := by
  pointwise [hDz, k0_pay12]
  simp only [hD, hC, h107, ls_val' qi kh q k hq hk, Ideal.exp_coe, ← EReal.coe_sub, ← EReal.coe_mul, coe_sum, ← EReal.coe_add, sub_self,
    zero_mul, Finset.sum_const_zero, add_zero]
  rw [← EReal.coe_zero, ← EReal.coe_one]
  simp only [← EReal.coe_sub, ← EReal.coe_mul]
  rw [sel_coe (hst r l)]
  rfl

theorem hCs_val (hC : ∀ r, cs (ix2 r 0) = ((C r : ℝ) : EReal)) (hD : ∀ r l, dl (ix2 r l) = ((D r l : ℝ) : EReal)) (r : Fin 512) :
    hCs cs dl (ix2 r 0) = ((C r + ∑ s, D r s : ℝ) : EReal) := by
  pointwise [hCs, k0_pay16]
  simp only [hC, hD, coe_sum, ← EReal.coe_add]

theorem hQ_val (hQ' : ∀ r l, dq (ix2 r l) = ((Q r l : ℝ) : EReal)) (hZ : ∀ r l, dz (ix2 r l) = ((Z r l : ℝ) : EReal))
    (hk : ∀ s x, kh (ix3 0 s x) = ((k s x : ℝ) : EReal)) (r : Fin 512) (l : Fin 256) :
    hQ dq dz kh (ix2 r l) = ((Q r l + ∑ s, Z r s * k s l : ℝ) : EReal) := by
  pointwise [hQ, k0_pay2]
  simp only [hQ', hZ, hk, ← EReal.coe_mul, coe_sum, ← EReal.coe_add]

theorem hK_val (hm : ∀ r l, qm (ix2 r l) = ((m r l : ℝ) : EReal)) (hZ : ∀ r l, dz (ix2 r l) = ((Z r l : ℝ) : EReal))
    (hO : ∀ s l, old (ix2 s l) = ((O s l : ℝ) : EReal)) (s l : Fin 256) :
    hK qm dz old (ix2 s l) = ((O s l + ∑ r, Z r s * m r l : ℝ) : EReal) := by
  pointwise [hK, k0_pay3]
  simp only [hm, hZ, hO, ← EReal.coe_mul, coe_sum, ← EReal.coe_add]

theorem hV_val (hm : ∀ r l, qm (ix2 r l) = ((m r l : ℝ) : EReal)) (hZ : ∀ r l, a (ix2 r l) = ((Z r l : ℝ) : EReal))
    (hO : ∀ s l, old (ix2 s l) = ((O s l : ℝ) : EReal)) (s l : Fin 256) :
    hV qm a old (ix2 s l) = ((O s l + ∑ r, Z r s * m r l : ℝ) : EReal) := by
  pointwise [hV, k0_pay4]
  simp only [hm, hZ, hO, ← EReal.coe_mul, coe_sum, ← EReal.coe_add]

end
end Cert.Proof.KernelIdeal
-- ==== Proof.Sb.Trip2.lean ====
/- One trip of the kernel's inner loop: what it yields and what it leaves in dk and dv, in the words of one head's step. -/
module

public import proofs.«01_k».proof.Proof.Sb.Frame
public import proofs.«01_k».proof.Proof.Sb.Head
public import Idealize.ShloMosaic.Lib.WritesUnit

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- A covered load of the rectangle stored last reads what was stored. -/
theorem readCov_last {Val : EltTy → Type} [∀ e, Nonempty (Val e)] {sig : RefSig} {κ : Kind} {sp : Space} {s : Shape} {e : EltTy}
    (v : View sig κ sp s e) {off size : Fin s.rank → ℕ} (inb inb' : ∀ a, off a + size a ≤ s.size a)
    (w : (Rect.unit off size inb).shape.Idx → Val e) (L : List (View.Piece Val s e)) :
    v.readCov (⟨Rect.unit off size inb, w⟩ :: L) (Rect.unit off size inb').toLoadRect = w :=
  funext fun x => View.read_writes_cons_emb v _ (Rect.unit off size inb) w L x

section
variable (𝒱 : Variants) (c : Dev nD) (bd : Option 𝒱.V) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v20 : IVec S1x256 1) (v93 v94 : IVec S512x256 32) (v95 : IVec S512x128 32)
  (v101 v107 : FVec F S256x256 .bf16) (k0_t1 : Fin k0_t1_loop.trips) (arg11 : BitVec 32)
  (v119 v124 v129 v134 v139 v144 v149 v154 v159 : FVec F S512x256 .bf16)
  (v168 v173 v178 v183 : Vec F S1x1x512x128 .f32)
  (X9 : BufTy.Contents (Elt F) arg9.view.ty) (X10 : BufTy.Contents (Elt F) arg10.view.ty)
  (k : Fin (k0_t2_loop k0_t1).trips)

/-- The trip's number as a word, and its mask. -/
def tA12 : BitVec 32 := Scf.iv 0#32 1#32 k
def tSt : IVec S512x256 1 := k0_pay7 v93 v94 k0_t1 arg11 0#32 1#32 k

/-- What the trip yields: the four running sums and dq's accumulator. -/
theorem trip2_yield (acc : FVec F S512x1 .f32 × FVec F S512x1 .f32 × FVec F S512x1 .f32 × FVec F S512x1 .f32 × FVec F S512x256 .f32)
    (f7 : BufTy.Contents (Elt F) arg7.view.ty) (f8 : BufTy.Contents (Elt F) arg8.view.ty) :
    (trip_k0_t2 (F := F) 𝒱 c bd i arg1 harg1 arg2 harg2 arg3 harg3 arg4 harg4 arg5 harg5 arg6 harg6 arg7 harg7 arg8 harg8 arg9 harg9 arg10 harg10 v20 v93 v94 v95 v101 v107 k0_t1 arg11 v119 v124 v129 v134 v139 v144 v149 v154 v159 v168 v173 v178 v183 X9 X10 k).1 acc f7 f8
      = (hCs acc.1 (hDl v124 (hA (tSt v93 v94 k0_t1 arg11 k) v95 v101 (tA12 k0_t1 k) v119 (k0_pay101 v168) (View.readAt (Elt F) arg9.view (Rect.unit (s := S4x2048x256) (k0_off6 k0_t1 k) S1x256x256.size (k0_off6_inb k0_t1 k)).toLoadRect X9)) (View.readAt (Elt F) arg10.view (Rect.unit (s := S4x2048x256) (k0_off6 k0_t1 k) S1x256x256.size (k0_off6_inb k0_t1 k)).toLoadRect X10)),
         hCs acc.2.1 (hDl v124 (hA (tSt v93 v94 k0_t1 arg11 k) v95 v101 (tA12 k0_t1 k) v119 (k0_pay102 v173) (View.readAt (Elt F) arg9.view (Rect.unit (s := S4x2048x256) (k0_off8 k0_t1 k) S1x256x256.size (k0_off8_inb k0_t1 k)).toLoadRect X9)) (View.readAt (Elt F) arg10.view (Rect.unit (s := S4x2048x256) (k0_off8 k0_t1 k) S1x256x256.size (k0_off8_inb k0_t1 k)).toLoadRect X10)),
         hCs acc.2.2.1 (hDl v124 (hA (tSt v93 v94 k0_t1 arg11 k) v95 v101 (tA12 k0_t1 k) v119 (k0_pay103 v178) (View.readAt (Elt F) arg9.view (Rect.unit (s := S4x2048x256) (k0_off9 k0_t1 k) S1x256x256.size (k0_off9_inb k0_t1 k)).toLoadRect X9)) (View.readAt (Elt F) arg10.view (Rect.unit (s := S4x2048x256) (k0_off9 k0_t1 k) S1x256x256.size (k0_off9_inb k0_t1 k)).toLoadRect X10)),
         hCs acc.2.2.2.1 (hDl v124 (hA (tSt v93 v94 k0_t1 arg11 k) v95 v101 (tA12 k0_t1 k) v119 (k0_pay104 v183) (View.readAt (Elt F) arg9.view (Rect.unit (s := S4x2048x256) (k0_off10 k0_t1 k) S1x256x256.size (k0_off10_inb k0_t1 k)).toLoadRect X9)) (View.readAt (Elt F) arg10.view (Rect.unit (s := S4x2048x256) (k0_off10 k0_t1 k) S1x256x256.size (k0_off10_inb k0_t1 k)).toLoadRect X10)),
         (hQ (hQ (hQ (hQ acc.2.2.2.2 (hDz (tSt v93 v94 k0_t1 arg11 k) v107 v119 v124 (hA (tSt v93 v94 k0_t1 arg11 k) v95 v101 (tA12 k0_t1 k) v119 (k0_pay101 v168) (View.readAt (Elt F) arg9.view (Rect.unit (s := S4x2048x256) (k0_off6 k0_t1 k) S1x256x256.size (k0_off6_inb k0_t1 k)).toLoadRect X9)) (View.readAt (Elt F) arg9.view (Rect.unit (s := S4x2048x256) (k0_off6 k0_t1 k) S1x256x256.size (k0_off6_inb k0_t1 k)).toLoadRect X9) (View.readAt (Elt F) arg10.view (Rect.unit (s := S4x2048x256) (k0_off6 k0_t1 k) S1x256x256.size (k0_off6_inb k0_t1 k)).toLoadRect X10) acc.1) (View.readAt (Elt F) arg9.view (Rect.unit (s := S4x2048x256) (k0_off6 k0_t1 k) S1x256x256.size (k0_off6_inb k0_t1 k)).toLoadRect X9)) (hDz (tSt v93 v94 k0_t1 arg11 k) v107 v119 v124 (hA (tSt v93 v94 k0_t1 arg11 k) v95 v101 (tA12 k0_t1 k) v119 (k0_pay102 v173) (View.readAt (Elt F) arg9.view (Rect.unit (s := S4x2048x256) (k0_off8 k0_t1 k) S1x256x256.size (k0_off8_inb k0_t1 k)).toLoadRect X9)) (View.readAt (Elt F) arg9.view (Rect.unit (s := S4x2048x256) (k0_off8 k0_t1 k) S1x256x256.size (k0_off8_inb k0_t1 k)).toLoadRect X9) (View.readAt (Elt F) arg10.view (Rect.unit (s := S4x2048x256) (k0_off8 k0_t1 k) S1x256x256.size (k0_off8_inb k0_t1 k)).toLoadRect X10) acc.2.1) (View.readAt (Elt F) arg9.view (Rect.unit (s := S4x2048x256) (k0_off8 k0_t1 k) S1x256x256.size (k0_off8_inb k0_t1 k)).toLoadRect X9)) (hDz (tSt v93 v94 k0_t1 arg11 k) v107 v119 v124 (hA (tSt v93 v94 k0_t1 arg11 k) v95 v101 (tA12 k0_t1 k) v119 (k0_pay103 v178) (View.readAt (Elt F) arg9.view (Rect.unit (s := S4x2048x256) (k0_off9 k0_t1 k) S1x256x256.size (k0_off9_inb k0_t1 k)).toLoadRect X9)) (View.readAt (Elt F) arg9.view (Rect.unit (s := S4x2048x256) (k0_off9 k0_t1 k) S1x256x256.size (k0_off9_inb k0_t1 k)).toLoadRect X9) (View.readAt (Elt F) arg10.view (Rect.unit (s := S4x2048x256) (k0_off9 k0_t1 k) S1x256x256.size (k0_off9_inb k0_t1 k)).toLoadRect X10) acc.2.2.1) (View.readAt (Elt F) arg9.view (Rect.unit (s := S4x2048x256) (k0_off9 k0_t1 k) S1x256x256.size (k0_off9_inb k0_t1 k)).toLoadRect X9)) (hDz (tSt v93 v94 k0_t1 arg11 k) v107 v119 v124 (hA (tSt v93 v94 k0_t1 arg11 k) v95 v101 (tA12 k0_t1 k) v119 (k0_pay104 v183) (View.readAt (Elt F) arg9.view (Rect.unit (s := S4x2048x256) (k0_off10 k0_t1 k) S1x256x256.size (k0_off10_inb k0_t1 k)).toLoadRect X9)) (View.readAt (Elt F) arg9.view (Rect.unit (s := S4x2048x256) (k0_off10 k0_t1 k) S1x256x256.size (k0_off10_inb k0_t1 k)).toLoadRect X9) (View.readAt (Elt F) arg10.view (Rect.unit (s := S4x2048x256) (k0_off10 k0_t1 k) S1x256x256.size (k0_off10_inb k0_t1 k)).toLoadRect X10) acc.2.2.2.1) (View.readAt (Elt F) arg9.view (Rect.unit (s := S4x2048x256) (k0_off10 k0_t1 k) S1x256x256.size (k0_off10_inb k0_t1 k)).toLoadRect X9))) := by
  unfold trip_k0_t2; rfl

/-- The last piece the trip stores into dk: the rows of its key block, four heads' products added. -/
theorem trip2_dk (acc : FVec F S512x1 .f32 × FVec F S512x1 .f32 × FVec F S512x1 .f32 × FVec F S512x1 .f32 × FVec F S512x256 .f32)
    (f7 : BufTy.Contents (Elt F) arg7.view.ty) (f8 : BufTy.Contents (Elt F) arg8.view.ty) :
    ∃ w₁ w₂ w₃, (trip_k0_t2 (F := F) 𝒱 c bd i arg1 harg1 arg2 harg2 arg3 harg3 arg4 harg4 arg5 harg5 arg6 harg6 arg7 harg7 arg8 harg8 arg9 harg9 arg10 harg10 v20 v93 v94 v95 v101 v107 k0_t1 arg11 v119 v124 v129 v134 v139 v144 v149 v154 v159 v168 v173 v178 v183 X9 X10 k).2.1 acc f7 f8
      = [(⟨Rect.unit (s := S2048x256) (k0_off7 k0_t1 k) S256x256.size (k0_off7_inb k0_t1 k),
          (hK v144 (hDz (tSt v93 v94 k0_t1 arg11 k) v107 v119 v124 (hA (tSt v93 v94 k0_t1 arg11 k) v95 v101 (tA12 k0_t1 k) v119 (k0_pay104 v183) (View.readAt (Elt F) arg9.view (Rect.unit (s := S4x2048x256) (k0_off10 k0_t1 k) S1x256x256.size (k0_off10_inb k0_t1 k)).toLoadRect X9)) (View.readAt (Elt F) arg9.view (Rect.unit (s := S4x2048x256) (k0_off10 k0_t1 k) S1x256x256.size (k0_off10_inb k0_t1 k)).toLoadRect X9) (View.readAt (Elt F) arg10.view (Rect.unit (s := S4x2048x256) (k0_off10 k0_t1 k) S1x256x256.size (k0_off10_inb k0_t1 k)).toLoadRect X10) acc.2.2.2.1) (hK v139 (hDz (tSt v93 v94 k0_t1 arg11 k) v107 v119 v124 (hA (tSt v93 v94 k0_t1 arg11 k) v95 v101 (tA12 k0_t1 k) v119 (k0_pay103 v178) (View.readAt (Elt F) arg9.view (Rect.unit (s := S4x2048x256) (k0_off9 k0_t1 k) S1x256x256.size (k0_off9_inb k0_t1 k)).toLoadRect X9)) (View.readAt (Elt F) arg9.view (Rect.unit (s := S4x2048x256) (k0_off9 k0_t1 k) S1x256x256.size (k0_off9_inb k0_t1 k)).toLoadRect X9) (View.readAt (Elt F) arg10.view (Rect.unit (s := S4x2048x256) (k0_off9 k0_t1 k) S1x256x256.size (k0_off9_inb k0_t1 k)).toLoadRect X10) acc.2.2.1) (hK v134 (hDz (tSt v93 v94 k0_t1 arg11 k) v107 v119 v124 (hA (tSt v93 v94 k0_t1 arg11 k) v95 v101 (tA12 k0_t1 k) v119 (k0_pay102 v173) (View.readAt (Elt F) arg9.view (Rect.unit (s := S4x2048x256) (k0_off8 k0_t1 k) S1x256x256.size (k0_off8_inb k0_t1 k)).toLoadRect X9)) (View.readAt (Elt F) arg9.view (Rect.unit (s := S4x2048x256) (k0_off8 k0_t1 k) S1x256x256.size (k0_off8_inb k0_t1 k)).toLoadRect X9) (View.readAt (Elt F) arg10.view (Rect.unit (s := S4x2048x256) (k0_off8 k0_t1 k) S1x256x256.size (k0_off8_inb k0_t1 k)).toLoadRect X10) acc.2.1) (hK v129 (hDz (tSt v93 v94 k0_t1 arg11 k) v107 v119 v124 (hA (tSt v93 v94 k0_t1 arg11 k) v95 v101 (tA12 k0_t1 k) v119 (k0_pay101 v168) (View.readAt (Elt F) arg9.view (Rect.unit (s := S4x2048x256) (k0_off6 k0_t1 k) S1x256x256.size (k0_off6_inb k0_t1 k)).toLoadRect X9)) (View.readAt (Elt F) arg9.view (Rect.unit (s := S4x2048x256) (k0_off6 k0_t1 k) S1x256x256.size (k0_off6_inb k0_t1 k)).toLoadRect X9) (View.readAt (Elt F) arg10.view (Rect.unit (s := S4x2048x256) (k0_off6 k0_t1 k) S1x256x256.size (k0_off6_inb k0_t1 k)).toLoadRect X10) acc.1) (View.readAt (Elt F) arg7.view (Rect.unit (s := S2048x256) (k0_off7 k0_t1 k) S256x256.size (k0_off7_inb k0_t1 k)).toLoadRect f7)))))⟩ : View.Piece (Elt F) S2048x256 .f32),
         ⟨Rect.unit (s := S2048x256) (k0_off7 k0_t1 k) S256x256.size (k0_off7_inb k0_t1 k), w₁⟩, ⟨Rect.unit (s := S2048x256) (k0_off7 k0_t1 k) S256x256.size (k0_off7_inb k0_t1 k), w₂⟩, ⟨Rect.unit (s := S2048x256) (k0_off7 k0_t1 k) S256x256.size (k0_off7_inb k0_t1 k), w₃⟩] := by
  unfold trip_k0_t2
  exact ⟨_, _, _, Eq.trans (congrArg (fun w => (⟨Rect.unit (s := S2048x256) (k0_off7 k0_t1 k) S256x256.size (k0_off7_inb k0_t1 k), w⟩ : View.Piece (Elt F) S2048x256 .f32) :: _)
    (congrArg (hK v144 _) ((readCov_last _ _ _ _ _).trans (congrArg (hK v139 _) ((readCov_last _ _ _ _ _).trans
      (congrArg (fun o => k0_pay29 v134 _ (k0_pay28 o) (constant S256x256 .f32 0x00000000#32)) (readCov_last _ _ _ _ _))))))) rfl⟩

/-- The last piece the trip stores into dv: the rows of its key block, four heads' products added. -/
theorem trip2_dv (acc : FVec F S512x1 .f32 × FVec F S512x1 .f32 × FVec F S512x1 .f32 × FVec F S512x1 .f32 × FVec F S512x256 .f32)
    (f7 : BufTy.Contents (Elt F) arg7.view.ty) (f8 : BufTy.Contents (Elt F) arg8.view.ty) :
    ∃ w₁ w₂ w₃, (trip_k0_t2 (F := F) 𝒱 c bd i arg1 harg1 arg2 harg2 arg3 harg3 arg4 harg4 arg5 harg5 arg6 harg6 arg7 harg7 arg8 harg8 arg9 harg9 arg10 harg10 v20 v93 v94 v95 v101 v107 k0_t1 arg11 v119 v124 v129 v134 v139 v144 v149 v154 v159 v168 v173 v178 v183 X9 X10 k).2.2.1 acc f7 f8
      = [(⟨Rect.unit (s := S2048x256) (k0_off7 k0_t1 k) S256x256.size (k0_off7_inb k0_t1 k),
          (hV (k0_pay100 v20 v124) (hA (tSt v93 v94 k0_t1 arg11 k) v95 v101 (tA12 k0_t1 k) v119 (k0_pay104 v183) (View.readAt (Elt F) arg9.view (Rect.unit (s := S4x2048x256) (k0_off10 k0_t1 k) S1x256x256.size (k0_off10_inb k0_t1 k)).toLoadRect X9)) (hV v159 (hA (tSt v93 v94 k0_t1 arg11 k) v95 v101 (tA12 k0_t1 k) v119 (k0_pay103 v178) (View.readAt (Elt F) arg9.view (Rect.unit (s := S4x2048x256) (k0_off9 k0_t1 k) S1x256x256.size (k0_off9_inb k0_t1 k)).toLoadRect X9)) (hV v154 (hA (tSt v93 v94 k0_t1 arg11 k) v95 v101 (tA12 k0_t1 k) v119 (k0_pay102 v173) (View.readAt (Elt F) arg9.view (Rect.unit (s := S4x2048x256) (k0_off8 k0_t1 k) S1x256x256.size (k0_off8_inb k0_t1 k)).toLoadRect X9)) (hV v149 (hA (tSt v93 v94 k0_t1 arg11 k) v95 v101 (tA12 k0_t1 k) v119 (k0_pay101 v168) (View.readAt (Elt F) arg9.view (Rect.unit (s := S4x2048x256) (k0_off6 k0_t1 k) S1x256x256.size (k0_off6_inb k0_t1 k)).toLoadRect X9)) (View.readAt (Elt F) arg8.view (Rect.unit (s := S2048x256) (k0_off7 k0_t1 k) S256x256.size (k0_off7_inb k0_t1 k)).toLoadRect f8)))))⟩ : View.Piece (Elt F) S2048x256 .f32),
         ⟨Rect.unit (s := S2048x256) (k0_off7 k0_t1 k) S256x256.size (k0_off7_inb k0_t1 k), w₁⟩, ⟨Rect.unit (s := S2048x256) (k0_off7 k0_t1 k) S256x256.size (k0_off7_inb k0_t1 k), w₂⟩, ⟨Rect.unit (s := S2048x256) (k0_off7 k0_t1 k) S256x256.size (k0_off7_inb k0_t1 k), w₃⟩] := by
  unfold trip_k0_t2
  exact ⟨_, _, _, Eq.trans (congrArg (fun w => (⟨Rect.unit (s := S2048x256) (k0_off7 k0_t1 k) S256x256.size (k0_off7_inb k0_t1 k), w⟩ : View.Piece (Elt F) S2048x256 .f32) :: _)
    (congrArg (hV (k0_pay100 v20 v124) _) ((readCov_last _ _ _ _ _).trans (congrArg (hV v159 _) ((readCov_last _ _ _ _ _).trans
      (congrArg (hV v154 _) (readCov_last _ _ _ _ _))))))) rfl⟩

end
end Cert.Proof.KernelIdeal
-- ==== Proof.Sb.Spec.lean ====
/- The gradient over the reals, one head at a time, and what one block of the kernel's step is of it. -/
module

public import proofs.«01_k».proof.Proof.Sb.Head

@[expose] public section

noncomputable section

namespace Cert.Proof

/-! ## One head: `z` are its scores, `p` the incoming derivatives of its weights (query row, key row) -/

/-- The logarithms of the rests of the keys between `s` and `t`, added. -/
def aT (z : ℕ → ℕ → ℝ) (t s : ℕ) : ℝ := ∑ x ∈ Finset.range 2048, if s < x then (if x < t then ls (z t x) - z t x else 0) else 0

/-- The weight of key `s` for query `t`. -/
def aA (z : ℕ → ℕ → ℝ) (t s : ℕ) : ℝ := if s < t then Real.exp (ls (z t s) + aT z t s) else 0

/-- The weight times its derivative. -/
def aD (z p : ℕ → ℕ → ℝ) (t s : ℕ) : ℝ := aA z t s * p t s

/-- The derivative of the score. -/
def aZ (z p : ℕ → ℕ → ℝ) (t s : ℕ) : ℝ :=
  if s < t then aD z p t s * (1 - Real.exp (ls (z t s))) - Real.exp (ls (z t s)) * ∑ x ∈ Finset.range s, aD z p t x else 0

theorem aA_zero (z : ℕ → ℕ → ℝ) {t s : ℕ} (h : t ≤ s) : aA z t s = 0 := if_neg (by omega)
theorem aZ_zero (z p : ℕ → ℕ → ℝ) {t s : ℕ} (h : t ≤ s) : aZ z p t s = 0 := if_neg (by omega)

/-- A sum over the keys after `256 j + s` is the rest of its block and the keys after the block. -/
theorem sum_after (f : ℕ → ℝ) (j : ℕ) (hj : 256 * j + 256 ≤ 2048) (s : Fin 256) :
    (∑ x ∈ Finset.range 2048, if 256 * j + s.val < x then f x else 0)
      = (∑ x : Fin 256, f (256 * j + x.val) * (if s < x then 1 else 0)) + ∑ x ∈ Finset.range 2048, if 256 * j + 255 < x then f x else 0 := by
  obtain ⟨n, hn⟩ : ∃ n, 2048 = (256 * j + 256) + n := ⟨2048 - (256 * j + 256), by omega⟩
  rw [hn, Finset.sum_range_add, Finset.sum_range_add, Finset.sum_range_add (fun x => if 256 * j + 255 < x then f x else 0)]
  have e1 : (∑ x ∈ Finset.range (256 * j), if 256 * j + s.val < x then f x else 0) = 0 :=
    Finset.sum_eq_zero fun x hx => if_neg (by have := Finset.mem_range.mp hx; omega)
  have e2 : (∑ x ∈ Finset.range (256 * j + 256), if 256 * j + 255 < x then f x else 0) = 0 :=
    Finset.sum_eq_zero fun x hx => if_neg (by have := Finset.mem_range.mp hx; omega)
  have e3 : (∑ x ∈ Finset.range n, if 256 * j + s.val < 256 * j + 256 + x then f (256 * j + 256 + x) else 0)
      = ∑ x ∈ Finset.range n, if 256 * j + 255 < 256 * j + 256 + x then f (256 * j + 256 + x) else 0 :=
    Finset.sum_congr rfl fun x _ => by have := s.isLt; rw [if_pos (by omega), if_pos (by omega)]
  rw [e1, e2, e3, zero_add, zero_add, Finset.sum_range]
  refine congrArg (· + _) (Finset.sum_congr rfl fun x _ => ?_)
  by_cases hs : s < x
  · rw [if_pos hs, if_pos (by have := Fin.lt_def.mp hs; omega), mul_one]
  · rw [if_neg hs, if_neg (by have := fun h => hs (Fin.lt_def.mpr h); omega), mul_zero]

/-- A sum over the keys before `256 j + s` is the earlier blocks and the start of its own. -/
theorem sum_before (f : ℕ → ℝ) (j : ℕ) (s : Fin 256) :
    (∑ x ∈ Finset.range (256 * j + s.val), f x)
      = (∑ x : Fin 256, f (256 * j + x.val) * (if x < s then 1 else 0)) + ∑ x ∈ Finset.range (256 * j), f x := by
  rw [Finset.sum_range_add, add_comm]
  refine congrArg (· + _) ?_
  obtain ⟨n, hn⟩ : ∃ n, 256 = s.val + n := ⟨256 - s.val, by have := s.isLt; omega⟩
  have e : (∑ x : Fin 256, f (256 * j + x.val) * (if x < s then 1 else 0))
      = ∑ x ∈ Finset.range 256, f (256 * j + x) * (if x < s.val then 1 else 0) :=
    (Finset.sum_range (fun x => f (256 * j + x) * (if x < s.val then 1 else 0))).symm
  rw [e, show Finset.range 256 = Finset.range (s.val + n) from congrArg Finset.range hn, Finset.sum_range_add]
  rw [Finset.sum_eq_zero (s := Finset.range n) (fun x _ => by rw [if_neg (by omega), mul_zero]), add_zero]
  exact Finset.sum_congr rfl fun x hx => by rw [if_pos (Finset.mem_range.mp hx), mul_one]

namespace KernelIdeal

section
variable (z p : ℕ → ℕ → ℝ) (i j : ℕ) (hj : 256 * j + 256 ≤ 2048) (q : Fin 512 → Fin 256 → ℝ) (k : Fin 256 → Fin 256 → ℝ)
  (hz : ∀ r l, bZ q k r l = z (512 * i + r.val) (256 * j + l.val))
include hz

/-- The weights of a block of the kernel are the head's. -/
theorem bA_eq (hj : 256 * j + 256 ≤ 2048) (r : Fin 512) (l : Fin 256) :
    bA (fun r l => 256 * j + l.val < 512 * i + r.val) q k (fun r => aT z (512 * i + r.val) (256 * j + 255)) r l
      = aA z (512 * i + r.val) (256 * j + l.val) := by
  unfold bA aA
  rw [hz]
  refine if_congr Iff.rfl (congrArg Real.exp ?_) rfl
  rw [add_assoc]
  refine congrArg (ls (z (512 * i + r.val) (256 * j + l.val)) + ·) ?_
  rw [aT, sum_after (fun x => if x < 512 * i + r.val then ls (z (512 * i + r.val) x) - z (512 * i + r.val) x else 0) j hj l]
  simp only [hz]
  rfl

/-- The scores' derivative of a block is the head's. -/
theorem bDz_eq (r : Fin 512) (l : Fin 256) :
    bDz (fun r l => 256 * j + l.val < 512 * i + r.val) q k (fun r l => aD z p (512 * i + r.val) (256 * j + l.val))
        (fun r => ∑ x ∈ Finset.range (256 * j), aD z p (512 * i + r.val) x) r l
      = aZ z p (512 * i + r.val) (256 * j + l.val) := by
  unfold bDz aZ
  rw [hz, sum_before]

end
end KernelIdeal
end Cert.Proof
-- ==== Proof.Sb.HeadVal.lean ====
/- One head's block of the kernel's step is the block of the head's gradient; reads of blocks of an array. -/
module

public import proofs.«01_k».proof.Proof.Sb.Spec
public import Idealize.ShloMosaic.Lib.WritesUnit

@[expose] public section

noncomputable section

namespace Cert.Proof.KernelIdeal

open Cert.KernelIdeal Cert.KernelIdeal.Gen
open Idealize.ShloMosaic Idealize.ShloMosaic.TcCoe Idealize.ShloMosaic.Tactic

/-- A load of whole rows from row `o` on. -/
theorem readAt_rows {Val : EltTy → Type} {sig : RefSig} {κ : Kind} {sp : Space} {e : EltTy} {d : Fin 2 → ℕ}
    (v : View sig κ sp ⟨2, d⟩ e) (X : BufTy.Contents Val v.ty) (g : ℕ → ℕ → Val e)
    (h : ∀ y : (⟨2, d⟩ : Shape).Idx, v.read Val X y = g (y 0).val (y 1).val)
    {off size : Fin 2 → ℕ} {o : ℕ} (hoff : off = ![o, 0]) (inb : ∀ a : Fin 2, off a + size a ≤ d a)
    (x : (Rect.unit (s := ⟨2, d⟩) off size inb).toLoadRect.shape.Idx) :
    v.readAt Val (Rect.unit (s := ⟨2, d⟩) off size inb).toLoadRect X x = g (o + (x (0 : Fin 2)).val) (x (1 : Fin 2)).val := by
  subst hoff
  rw [View.readAt_apply, h]
  congr 1
  · exact congrArg (o + ·) (Nat.one_mul _)
  · exact (Nat.zero_add _).trans (Nat.one_mul _)

/-- A load of whole rows from row `o` on of plane `a`. -/
theorem readAt_plane {Val : EltTy → Type} {sig : RefSig} {κ : Kind} {sp : Space} {e : EltTy} {d : Fin 3 → ℕ}
    (v : View sig κ sp ⟨3, d⟩ e) (X : BufTy.Contents Val v.ty) (g : ℕ → ℕ → ℕ → Val e)
    (h : ∀ y : (⟨3, d⟩ : Shape).Idx, v.read Val X y = g (y 0).val (y 1).val (y 2).val)
    {off size : Fin 3 → ℕ} {a o : ℕ} (hoff : off = ![a, o, 0]) (inb : ∀ b : Fin 3, off b + size b ≤ d b)
    (x : (Rect.unit (s := ⟨3, d⟩) off size inb).toLoadRect.shape.Idx) (hx : (x (0 : Fin 3)).val = 0) :
    v.readAt Val (Rect.unit (s := ⟨3, d⟩) off size inb).toLoadRect X x = g a (o + (x (1 : Fin 3)).val) (x (2 : Fin 3)).val := by
  subst hoff
  rw [View.readAt_apply, h]
  congr 1
  · exact (congrArg (a + ·) ((Nat.one_mul _).trans hx))
  · exact congrArg (o + ·) (Nat.one_mul _)
  · exact (Nat.zero_add _).trans (Nat.one_mul _)

section
variable (st : IVec S512x256 1) (v95 : IVec S512x128 32) (v101 v107 : FVec Ideal S256x256 .bf16) (a12 : BitVec 32)
    (qi dO : FVec Ideal S512x256 .bf16) (tl : FVec Ideal S512x128 .f32) (kh vh : Vec Ideal S1x256x256 .bf16)
    (cs : FVec Ideal S512x1 .f32) (i j : ℕ) (q d : Fin 512 → Fin 256 → ℝ) (k v : Fin 256 → Fin 256 → ℝ) (z p : ℕ → ℕ → ℝ)

/-- What is known of one head's arguments in block `(i, j)`. -/
structure HeadIn : Prop where
  hj : 256 * j + 256 ≤ 2048
  hq : ∀ r x, qi (ix2 r x) = ((q r x : ℝ) : EReal)
  hd : ∀ r x, dO (ix2 r x) = ((d r x : ℝ) : EReal)
  hk : ∀ s x, kh (ix3 0 s x) = ((k s x : ℝ) : EReal)
  hv : ∀ s x, vh (ix3 0 s x) = ((v s x : ℝ) : EReal)
  hst : ∀ r l, st (ix2 r l) = 1#1 ↔ 256 * j + l.val < 512 * i + r.val
  h101 : ∀ x l : Fin 256, v101 (ix2 x l) = (((if l < x then 1 else 0) : ℝ) : EReal)
  h107 : ∀ x l : Fin 256, v107 (ix2 x l) = (((if x < l then 1 else 0) : ℝ) : EReal)
  hT : ∀ r : Fin 512, k0_pay20 v95 tl a12 (ix2 r 0) = ((aT z (512 * i + r.val) (256 * j + 255) : ℝ) : EReal)
  hC : ∀ r : Fin 512, cs (ix2 r 0) = ((∑ x ∈ Finset.range (256 * j), aD z p (512 * i + r.val) x : ℝ) : EReal)
  hz : ∀ r l, bZ q k r l = z (512 * i + r.val) (256 * j + l.val)
  hp : ∀ r l, bZ d v r l = p (512 * i + r.val) (256 * j + l.val)

variable {st v95 v101 v107 a12 qi dO tl kh vh cs i j q d k v z p}
variable (H : HeadIn st v95 v101 v107 a12 qi dO tl kh vh cs i j q d k v z p)
include H

theorem HeadIn.a_val (r : Fin 512) (l : Fin 256) :
    hA st v95 v101 a12 qi tl kh (ix2 r l) = ((aA z (512 * i + r.val) (256 * j + l.val) : ℝ) : EReal) :=
  (hA_val st v95 v101 a12 qi tl kh _ q k _ H.hq H.hk H.hst H.h101 H.hT r l).trans
    (congrArg _ (bA_eq z i j q k H.hz H.hj r l))

theorem HeadIn.dl_val (r : Fin 512) (l : Fin 256) :
    hDl dO (hA st v95 v101 a12 qi tl kh) vh (ix2 r l) = ((aD z p (512 * i + r.val) (256 * j + l.val) : ℝ) : EReal) := by
  refine (hDl_val dO _ vh d (fun r l => aA z (512 * i + r.val) (256 * j + l.val)) v H.hd H.hv H.a_val r l).trans ?_
  rw [H.hp]
  rfl

theorem HeadIn.dz_val (r : Fin 512) (l : Fin 256) :
    hDz st v107 qi dO (hA st v95 v101 a12 qi tl kh) kh vh cs (ix2 r l)
      = ((aZ z p (512 * i + r.val) (256 * j + l.val) : ℝ) : EReal) :=
  (hDz_val st v107 qi dO _ kh vh cs _ q _ k _ H.hq H.hk H.hst H.h107 H.dl_val H.hC r l).trans
    (congrArg _ (bDz_eq z p i j q k H.hz r l))

theorem HeadIn.cs_val (r : Fin 512) :
    hCs cs (hDl dO (hA st v95 v101 a12 qi tl kh) vh) (ix2 r 0)
      = ((∑ x ∈ Finset.range (256 * (j + 1)), aD z p (512 * i + r.val) x : ℝ) : EReal) := by
  refine (hCs_val _ cs _ _ H.hC H.dl_val r).trans ?_
  rw [Nat.mul_add, Nat.mul_one, Finset.sum_range_add, ← Finset.sum_range (fun x => aD z p (512 * i + r.val) (256 * j + x))]

end
end Cert.Proof.KernelIdeal
-- ==== Proof.Sb.Grad.lean ====
/- The gradient of the attention over the reals on a batch's rows: four heads of 64 lanes side by side. -/
module

public import proofs.«01_k».proof.Proof.Sb.Spec

@[expose] public section

noncomputable section

namespace Cert.Proof

/-- Head `h`'s lanes of an array of rows. -/
def lane (h : ℕ) (f : ℕ → ℕ → ℝ) (s l : ℕ) : ℝ := if l / 64 = h then f s l else 0

/-- The scaled queries. -/
def sQ (Q : ℕ → ℕ → ℝ) (t l : ℕ) : ℝ := Q t l * (1 / 8)

/-- Rows that the scaling leaves as they are given. -/
def pre (D : ℕ → ℕ → ℝ) (t l : ℕ) : ℝ := D t l * 8

/-- Head `h`'s products of the scaled rows with the keys. -/
def zS (Q K : ℕ → ℕ → ℝ) (h t s : ℕ) : ℝ := ∑ x : Fin 256, sQ Q t x.val * lane h K s x.val

theorem zS_pre (D V : ℕ → ℕ → ℝ) (h t s : ℕ) : (∑ x : Fin 256, D t x.val * lane h V s x.val) = zS (pre D) V h t s :=
  Finset.sum_congr rfl fun x _ => by unfold sQ pre; ring

/-- What key `s` adds to dq's row `t` (before its scaling), and query `t` to dk's and dv's row `s`. -/
def dqS (Q K V D : ℕ → ℕ → ℝ) (t s l : ℕ) : ℝ := ∑ h ∈ Finset.range 4, aZ (zS Q K h) (zS (pre D) V h) t s * lane h K s l
def dkS (Q K V D : ℕ → ℕ → ℝ) (t s l : ℕ) : ℝ := ∑ h ∈ Finset.range 4, aZ (zS Q K h) (zS (pre D) V h) t s * lane h (sQ Q) t l
def dvS (Q K D : ℕ → ℕ → ℝ) (t s l : ℕ) : ℝ := ∑ h ∈ Finset.range 4, aA (zS Q K h) t s * lane h D t l

theorem dkS_zero (Q K V D : ℕ → ℕ → ℝ) {t s : ℕ} (h : t ≤ s) (l : ℕ) : dkS Q K V D t s l = 0 :=
  Finset.sum_eq_zero fun _ _ => by rw [aZ_zero _ _ h, zero_mul]
theorem dvS_zero (Q K D : ℕ → ℕ → ℝ) {t s : ℕ} (h : t ≤ s) (l : ℕ) : dvS Q K D t s l = 0 :=
  Finset.sum_eq_zero fun _ _ => by rw [aA_zero _ h, zero_mul]
theorem dqS_zero (Q K V D : ℕ → ℕ → ℝ) {t s : ℕ} (h : t ≤ s) (l : ℕ) : dqS Q K V D t s l = 0 :=
  Finset.sum_eq_zero fun _ _ => by rw [aZ_zero _ _ h, zero_mul]

/-- A sum over four heads of sums, added one by one. -/
theorem heads_sum {n : ℕ} (b : ℝ) (f : ℕ → ℕ → ℝ) :
    b + (∑ s : Fin n, f s.val 0) + (∑ s : Fin n, f s.val 1) + (∑ s : Fin n, f s.val 2) + (∑ s : Fin n, f s.val 3)
      = b + ∑ s ∈ Finset.range n, ∑ h ∈ Finset.range 4, f s h := by
  simp only [Finset.sum_range_succ, Finset.sum_range_zero, zero_add, Finset.sum_add_distrib]
  simp only [Finset.sum_range]
  ring

theorem dq_block (Q K V D : ℕ → ℕ → ℝ) (t j l : ℕ) :
    (∑ x ∈ Finset.range (256 * j), dqS Q K V D t x l)
        + (∑ s : Fin 256, aZ (zS Q K 0) (zS (pre D) V 0) t (256 * j + s.val) * lane 0 K (256 * j + s.val) l)
        + (∑ s : Fin 256, aZ (zS Q K 1) (zS (pre D) V 1) t (256 * j + s.val) * lane 1 K (256 * j + s.val) l)
        + (∑ s : Fin 256, aZ (zS Q K 2) (zS (pre D) V 2) t (256 * j + s.val) * lane 2 K (256 * j + s.val) l)
        + (∑ s : Fin 256, aZ (zS Q K 3) (zS (pre D) V 3) t (256 * j + s.val) * lane 3 K (256 * j + s.val) l)
      = ∑ x ∈ Finset.range (256 * (j + 1)), dqS Q K V D t x l := by
  rw [Nat.mul_add, Nat.mul_one, Finset.sum_range_add,
    heads_sum _ (fun s h => aZ (zS Q K h) (zS (pre D) V h) t (256 * j + s) * lane h K (256 * j + s) l)]
  rfl

theorem dk_block (Q K V D : ℕ → ℕ → ℝ) (G : ℕ → ℕ → ℝ) (t j y l : ℕ) (hy : 256 * j ≤ y ∧ y < 256 * j + 256) :
    (G (256 * j + (y - 256 * j)) l + (if 256 * j + (y - 256 * j) < 256 * j then ∑ r ∈ Finset.range 512, dkS Q K V D (t + r) (256 * j + (y - 256 * j)) l else 0))
        + (∑ r : Fin 512, aZ (zS Q K 0) (zS (pre D) V 0) (t + r.val) (256 * j + (y - 256 * j)) * lane 0 (sQ Q) (t + r.val) l)
        + (∑ r : Fin 512, aZ (zS Q K 1) (zS (pre D) V 1) (t + r.val) (256 * j + (y - 256 * j)) * lane 1 (sQ Q) (t + r.val) l)
        + (∑ r : Fin 512, aZ (zS Q K 2) (zS (pre D) V 2) (t + r.val) (256 * j + (y - 256 * j)) * lane 2 (sQ Q) (t + r.val) l)
        + (∑ r : Fin 512, aZ (zS Q K 3) (zS (pre D) V 3) (t + r.val) (256 * j + (y - 256 * j)) * lane 3 (sQ Q) (t + r.val) l)
      = G y l + if y < 256 * (j + 1) then ∑ r ∈ Finset.range 512, dkS Q K V D (t + r) y l else 0 := by
  rw [if_neg (by omega), show 256 * j + (y - 256 * j) = y by omega, if_pos (by omega), add_zero,
    heads_sum _ (fun r h => aZ (zS Q K h) (zS (pre D) V h) (t + r) y * lane h (sQ Q) (t + r) l)]
  rfl

theorem dv_block (Q K D : ℕ → ℕ → ℝ) (G : ℕ → ℕ → ℝ) (t j y l : ℕ) (hy : 256 * j ≤ y ∧ y < 256 * j + 256) :
    (G (256 * j + (y - 256 * j)) l + (if 256 * j + (y - 256 * j) < 256 * j then ∑ r ∈ Finset.range 512, dvS Q K D (t + r) (256 * j + (y - 256 * j)) l else 0))
        + (∑ r : Fin 512, aA (zS Q K 0) (t + r.val) (256 * j + (y - 256 * j)) * lane 0 D (t + r.val) l)
        + (∑ r : Fin 512, aA (zS Q K 1) (t + r.val) (256 * j + (y - 256 * j)) * lane 1 D (t + r.val) l)
        + (∑ r : Fin 512, aA (zS Q K 2) (t + r.val) (256 * j + (y - 256 * j)) * lane 2 D (t + r.val) l)
        + (∑ r : Fin 512, aA (zS Q K 3) (t + r.val) (256 * j + (y - 256 * j)) * lane 3 D (t + r.val) l)
      = G y l + if y < 256 * (j + 1) then ∑ r ∈ Finset.range 512, dvS Q K D (t + r) y l else 0 := by
  rw [if_neg (by omega), show 256 * j + (y - 256 * j) = y by omega, if_pos (by omega), add_zero,
    heads_sum _ (fun r h => aA (zS Q K h) (t + r) y * lane h D (t + r) l)]
  rfl

end Cert.Proof
-- ==== Proof.Sb.Inner.lean ====
/- The kernel's inner loop over the reals: what it carries, and what it has added to dk and dv, after any number of trips. -/
module

public import proofs.«01_k».proof.Proof.Sb.Trip2
public import proofs.«01_k».proof.Proof.Sb.Offs
public import proofs.«01_k».proof.Proof.Sb.HeadVal
public import proofs.«01_k».proof.Proof.Sb.Grad

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

section
variable (𝒱 : Variants) (c : Dev nD) (bd : Option 𝒱.V) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v20 : IVec S1x256 1) (v93 v94 : IVec S512x256 32) (v95 : IVec S512x128 32)
  (v101 v107 : FVec Ideal S256x256 .bf16) (k0_t1 : Fin k0_t1_loop.trips) (arg11 : BitVec 32)
  (v119 v124 v129 v134 v139 v144 v149 v154 v159 : FVec Ideal S512x256 .bf16)
  (v168 v173 v178 v183 : Vec Ideal S1x1x512x128 .f32)
  (X9 : BufTy.Contents (Elt Ideal) arg9.view.ty) (X10 : BufTy.Contents (Elt Ideal) arg10.view.ty)

  (Q K V D : ℕ → ℕ → ℝ)

/-- What is known of the arguments of trip `k0_t1` of the outer loop. -/
structure InnerIn : Prop where
  hq : ∀ (r : Fin 512) (x : Fin 256), v119 (ix2 r x) = ((sQ Q (512 * k0_t1.val + r.val) x.val : ℝ) : EReal)
  hd : ∀ (r : Fin 512) (x : Fin 256), v124 (ix2 r x) = ((D (512 * k0_t1.val + r.val) x.val : ℝ) : EReal)
  hm0 : ∀ (r : Fin 512) (x : Fin 256), v129 (ix2 r x) = ((lane 0 (sQ Q) (512 * k0_t1.val + r.val) x.val : ℝ) : EReal)
  hn0 : ∀ (r : Fin 512) (x : Fin 256), v149 (ix2 r x) = ((lane 0 D (512 * k0_t1.val + r.val) x.val : ℝ) : EReal)
  hT0 : ∀ (k : Fin (k0_t2_loop k0_t1).trips) (r : Fin 512), k0_pay20 v95 (k0_pay101 v168) (tA12 k0_t1 k) (ix2 r 0)
      = ((aT (zS Q K 0) (512 * k0_t1.val + r.val) (256 * k.val + 255) : ℝ) : EReal)
  hm1 : ∀ (r : Fin 512) (x : Fin 256), v134 (ix2 r x) = ((lane 1 (sQ Q) (512 * k0_t1.val + r.val) x.val : ℝ) : EReal)
  hn1 : ∀ (r : Fin 512) (x : Fin 256), v154 (ix2 r x) = ((lane 1 D (512 * k0_t1.val + r.val) x.val : ℝ) : EReal)
  hT1 : ∀ (k : Fin (k0_t2_loop k0_t1).trips) (r : Fin 512), k0_pay20 v95 (k0_pay102 v173) (tA12 k0_t1 k) (ix2 r 0)
      = ((aT (zS Q K 1) (512 * k0_t1.val + r.val) (256 * k.val + 255) : ℝ) : EReal)
  hm2 : ∀ (r : Fin 512) (x : Fin 256), v139 (ix2 r x) = ((lane 2 (sQ Q) (512 * k0_t1.val + r.val) x.val : ℝ) : EReal)
  hn2 : ∀ (r : Fin 512) (x : Fin 256), v159 (ix2 r x) = ((lane 2 D (512 * k0_t1.val + r.val) x.val : ℝ) : EReal)
  hT2 : ∀ (k : Fin (k0_t2_loop k0_t1).trips) (r : Fin 512), k0_pay20 v95 (k0_pay103 v178) (tA12 k0_t1 k) (ix2 r 0)
      = ((aT (zS Q K 2) (512 * k0_t1.val + r.val) (256 * k.val + 255) : ℝ) : EReal)
  hm3 : ∀ (r : Fin 512) (x : Fin 256), v144 (ix2 r x) = ((lane 3 (sQ Q) (512 * k0_t1.val + r.val) x.val : ℝ) : EReal)
  hn3 : ∀ (r : Fin 512) (x : Fin 256), (k0_pay100 v20 v124) (ix2 r x) = ((lane 3 D (512 * k0_t1.val + r.val) x.val : ℝ) : EReal)
  hT3 : ∀ (k : Fin (k0_t2_loop k0_t1).trips) (r : Fin 512), k0_pay20 v95 (k0_pay104 v183) (tA12 k0_t1 k) (ix2 r 0)
      = ((aT (zS Q K 3) (512 * k0_t1.val + r.val) (256 * k.val + 255) : ℝ) : EReal)
  hk : ∀ y, arg9.view.read (Elt Ideal) X9 y = ((lane (y 0).val K (y 1).val (y 2).val : ℝ) : EReal)
  hv : ∀ y, arg10.view.read (Elt Ideal) X10 y = ((lane (y 0).val V (y 1).val (y 2).val : ℝ) : EReal)
  hst : ∀ (k : Fin (k0_t2_loop k0_t1).trips) (r : Fin 512) (l : Fin 256),
    tSt v93 v94 k0_t1 arg11 k (ix2 r l) = 1#1 ↔ 256 * k.val + l.val < 512 * k0_t1.val + r.val
  h101 : ∀ x l : Fin 256, v101 (ix2 x l) = (((if l < x then 1 else 0) : ℝ) : EReal)
  h107 : ∀ x l : Fin 256, v107 (ix2 x l) = (((if x < l then 1 else 0) : ℝ) : EReal)

/-- The loop's state before trip `n`: the running sums, dq's rows, and dk and dv, which held `G7` and `G8` at the start. -/
structure InnerAt (G7 G8 : ℕ → ℕ → ℝ) (f7 : BufTy.Contents (Elt Ideal) arg7.view.ty) (f8 : BufTy.Contents (Elt Ideal) arg8.view.ty) (n : ℕ)
    (s : (FVec Ideal S512x1 .f32 × FVec Ideal S512x1 .f32 × FVec Ideal S512x1 .f32 × FVec Ideal S512x1 .f32 × FVec Ideal S512x256 .f32)
      × List (View.Piece (Elt Ideal) S2048x256 .f32) × List (View.Piece (Elt Ideal) S2048x256 .f32)) : Prop where
  c0 : ∀ r : Fin 512, s.1.1 (ix2 r 0) = ((∑ x ∈ Finset.range (256 * n), aD (zS Q K 0) (zS (pre D) V 0) (512 * k0_t1.val + r.val) x : ℝ) : EReal)
  c1 : ∀ r : Fin 512, s.1.2.1 (ix2 r 0) = ((∑ x ∈ Finset.range (256 * n), aD (zS Q K 1) (zS (pre D) V 1) (512 * k0_t1.val + r.val) x : ℝ) : EReal)
  c2 : ∀ r : Fin 512, s.1.2.2.1 (ix2 r 0) = ((∑ x ∈ Finset.range (256 * n), aD (zS Q K 2) (zS (pre D) V 2) (512 * k0_t1.val + r.val) x : ℝ) : EReal)
  c3 : ∀ r : Fin 512, s.1.2.2.2.1 (ix2 r 0) = ((∑ x ∈ Finset.range (256 * n), aD (zS Q K 3) (zS (pre D) V 3) (512 * k0_t1.val + r.val) x : ℝ) : EReal)
  dq : ∀ (r : Fin 512) (l : Fin 256), s.1.2.2.2.2 (ix2 r l) = ((∑ x ∈ Finset.range (256 * n), dqS Q K V D (512 * k0_t1.val + r.val) x l.val : ℝ) : EReal)
  dk : ∀ y, arg7.view.read (Elt Ideal) (arg7.view.writes (Elt Ideal) f7 s.2.1) y
    = ((G7 (y 0).val (y 1).val + (if (y 0).val < 256 * n then ∑ r ∈ Finset.range 512, dkS Q K V D (512 * k0_t1.val + r) (y 0).val (y 1).val else 0) : ℝ) : EReal)
  dv : ∀ y, arg8.view.read (Elt Ideal) (arg8.view.writes (Elt Ideal) f8 s.2.2) y
    = ((G8 (y 0).val (y 1).val + (if (y 0).val < 256 * n then ∑ r ∈ Finset.range 512, dvS Q K D (512 * k0_t1.val + r) (y 0).val (y 1).val else 0) : ℝ) : EReal)

variable {Q K V D}
variable (H : InnerIn arg9 arg10 v20 v93 v94 v95 v101 v107 k0_t1 arg11 v119 v124 v129 v134 v139 v144 v149 v154 v159 v168 v173 v178 v183 X9 X10 Q K V D) {G7 G8 : ℕ → ℕ → ℝ}
  {f7 : BufTy.Contents (Elt Ideal) arg7.view.ty} {f8 : BufTy.Contents (Elt Ideal) arg8.view.ty}
  {s : (FVec Ideal S512x1 .f32 × FVec Ideal S512x1 .f32 × FVec Ideal S512x1 .f32 × FVec Ideal S512x1 .f32 × FVec Ideal S512x256 .f32)
      × List (View.Piece (Elt Ideal) S2048x256 .f32) × List (View.Piece (Elt Ideal) S2048x256 .f32)}
  (k : Fin (k0_t2_loop k0_t1).trips)
  (S : InnerAt arg7 arg8 k0_t1 Q K V D G7 G8 f7 f8 k.val s)
theorem inner_bound : 256 * k.val + 256 ≤ 2048 := by
  have h1 : k.val < 2 * (k0_t1.val + 1) := trips2 k0_t1 ▸ k.isLt
  have h2 : k0_t1.val < 4 := trips1 ▸ k0_t1.isLt
  omega

include H S

theorem head0 : HeadIn (tSt v93 v94 k0_t1 arg11 k) v95 v101 v107 (tA12 k0_t1 k) v119 v124 (k0_pay101 v168)
    (View.readAt (Elt Ideal) arg9.view (Rect.unit (s := S4x2048x256) (k0_off6 k0_t1 k) S1x256x256.size (k0_off6_inb k0_t1 k)).toLoadRect X9) (View.readAt (Elt Ideal) arg10.view (Rect.unit (s := S4x2048x256) (k0_off6 k0_t1 k) S1x256x256.size (k0_off6_inb k0_t1 k)).toLoadRect X10)
    s.1.1 k0_t1.val k.val (fun r x => sQ Q (512 * k0_t1.val + r.val) x.val) (fun r x => D (512 * k0_t1.val + r.val) x.val)
    (fun s x => lane 0 K (256 * k.val + s.val) x.val) (fun s x => lane 0 V (256 * k.val + s.val) x.val) (zS Q K 0) (zS (pre D) V 0) where
  hj := inner_bound k0_t1 k
  hq := H.hq
  hd := H.hd
  hk s x := readAt_plane arg9.view X9 (fun a b c => ((lane a K b c : ℝ) : EReal)) H.hk (off6 k0_t1 k) _ (ix3 0 s x) rfl
  hv s x := readAt_plane arg10.view X10 (fun a b c => ((lane a V b c : ℝ) : EReal)) H.hv (off6 k0_t1 k) _ (ix3 0 s x) rfl
  hst := H.hst k
  h101 := H.h101
  h107 := H.h107
  hT := H.hT0 k
  hC := S.c0
  hz r l := rfl
  hp r l := zS_pre D V 0 _ _

theorem head1 : HeadIn (tSt v93 v94 k0_t1 arg11 k) v95 v101 v107 (tA12 k0_t1 k) v119 v124 (k0_pay102 v173)
    (View.readAt (Elt Ideal) arg9.view (Rect.unit (s := S4x2048x256) (k0_off8 k0_t1 k) S1x256x256.size (k0_off8_inb k0_t1 k)).toLoadRect X9) (View.readAt (Elt Ideal) arg10.view (Rect.unit (s := S4x2048x256) (k0_off8 k0_t1 k) S1x256x256.size (k0_off8_inb k0_t1 k)).toLoadRect X10)
    s.1.2.1 k0_t1.val k.val (fun r x => sQ Q (512 * k0_t1.val + r.val) x.val) (fun r x => D (512 * k0_t1.val + r.val) x.val)
    (fun s x => lane 1 K (256 * k.val + s.val) x.val) (fun s x => lane 1 V (256 * k.val + s.val) x.val) (zS Q K 1) (zS (pre D) V 1) where
  hj := inner_bound k0_t1 k
  hq := H.hq
  hd := H.hd
  hk s x := readAt_plane arg9.view X9 (fun a b c => ((lane a K b c : ℝ) : EReal)) H.hk (off8 k0_t1 k) _ (ix3 0 s x) rfl
  hv s x := readAt_plane arg10.view X10 (fun a b c => ((lane a V b c : ℝ) : EReal)) H.hv (off8 k0_t1 k) _ (ix3 0 s x) rfl
  hst := H.hst k
  h101 := H.h101
  h107 := H.h107
  hT := H.hT1 k
  hC := S.c1
  hz r l := rfl
  hp r l := zS_pre D V 1 _ _

theorem head2 : HeadIn (tSt v93 v94 k0_t1 arg11 k) v95 v101 v107 (tA12 k0_t1 k) v119 v124 (k0_pay103 v178)
    (View.readAt (Elt Ideal) arg9.view (Rect.unit (s := S4x2048x256) (k0_off9 k0_t1 k) S1x256x256.size (k0_off9_inb k0_t1 k)).toLoadRect X9) (View.readAt (Elt Ideal) arg10.view (Rect.unit (s := S4x2048x256) (k0_off9 k0_t1 k) S1x256x256.size (k0_off9_inb k0_t1 k)).toLoadRect X10)
    s.1.2.2.1 k0_t1.val k.val (fun r x => sQ Q (512 * k0_t1.val + r.val) x.val) (fun r x => D (512 * k0_t1.val + r.val) x.val)
    (fun s x => lane 2 K (256 * k.val + s.val) x.val) (fun s x => lane 2 V (256 * k.val + s.val) x.val) (zS Q K 2) (zS (pre D) V 2) where
  hj := inner_bound k0_t1 k
  hq := H.hq
  hd := H.hd
  hk s x := readAt_plane arg9.view X9 (fun a b c => ((lane a K b c : ℝ) : EReal)) H.hk (off9 k0_t1 k) _ (ix3 0 s x) rfl
  hv s x := readAt_plane arg10.view X10 (fun a b c => ((lane a V b c : ℝ) : EReal)) H.hv (off9 k0_t1 k) _ (ix3 0 s x) rfl
  hst := H.hst k
  h101 := H.h101
  h107 := H.h107
  hT := H.hT2 k
  hC := S.c2
  hz r l := rfl
  hp r l := zS_pre D V 2 _ _

theorem head3 : HeadIn (tSt v93 v94 k0_t1 arg11 k) v95 v101 v107 (tA12 k0_t1 k) v119 v124 (k0_pay104 v183)
    (View.readAt (Elt Ideal) arg9.view (Rect.unit (s := S4x2048x256) (k0_off10 k0_t1 k) S1x256x256.size (k0_off10_inb k0_t1 k)).toLoadRect X9) (View.readAt (Elt Ideal) arg10.view (Rect.unit (s := S4x2048x256) (k0_off10 k0_t1 k) S1x256x256.size (k0_off10_inb k0_t1 k)).toLoadRect X10)
    s.1.2.2.2.1 k0_t1.val k.val (fun r x => sQ Q (512 * k0_t1.val + r.val) x.val) (fun r x => D (512 * k0_t1.val + r.val) x.val)
    (fun s x => lane 3 K (256 * k.val + s.val) x.val) (fun s x => lane 3 V (256 * k.val + s.val) x.val) (zS Q K 3) (zS (pre D) V 3) where
  hj := inner_bound k0_t1 k
  hq := H.hq
  hd := H.hd
  hk s x := readAt_plane arg9.view X9 (fun a b c => ((lane a K b c : ℝ) : EReal)) H.hk (off10 k0_t1 k) _ (ix3 0 s x) rfl
  hv s x := readAt_plane arg10.view X10 (fun a b c => ((lane a V b c : ℝ) : EReal)) H.hv (off10 k0_t1 k) _ (ix3 0 s x) rfl
  hst := H.hst k
  h101 := H.h101
  h107 := H.h107
  hT := H.hT3 k
  hC := S.c3
  hz r l := rfl
  hp r l := zS_pre D V 3 _ _

theorem inner_step :
    InnerAt arg7 arg8 k0_t1 Q K V D G7 G8 f7 f8 (k.val + 1)
      ((trip_k0_t2 (F := Ideal) 𝒱 c bd i arg1 harg1 arg2 harg2 arg3 harg3 arg4 harg4 arg5 harg5 arg6 harg6 arg7 harg7 arg8 harg8 arg9 harg9 arg10 harg10 v20 v93 v94 v95 v101 v107 k0_t1 arg11 v119 v124 v129 v134 v139 v144 v149 v154 v159 v168 v173 v178 v183 X9 X10 k).1 s.1 (arg7.view.writes (Elt Ideal) f7 s.2.1) (arg8.view.writes (Elt Ideal) f8 s.2.2),
       (trip_k0_t2 (F := Ideal) 𝒱 c bd i arg1 harg1 arg2 harg2 arg3 harg3 arg4 harg4 arg5 harg5 arg6 harg6 arg7 harg7 arg8 harg8 arg9 harg9 arg10 harg10 v20 v93 v94 v95 v101 v107 k0_t1 arg11 v119 v124 v129 v134 v139 v144 v149 v154 v159 v168 v173 v178 v183 X9 X10 k).2.1 s.1 (arg7.view.writes (Elt Ideal) f7 s.2.1) (arg8.view.writes (Elt Ideal) f8 s.2.2) ++ s.2.1,
       (trip_k0_t2 (F := Ideal) 𝒱 c bd i arg1 harg1 arg2 harg2 arg3 harg3 arg4 harg4 arg5 harg5 arg6 harg6 arg7 harg7 arg8 harg8 arg9 harg9 arg10 harg10 v20 v93 v94 v95 v101 v107 k0_t1 arg11 v119 v124 v129 v134 v139 v144 v149 v154 v159 v168 v173 v178 v183 X9 X10 k).2.2.1 s.1 (arg7.view.writes (Elt Ideal) f7 s.2.1) (arg8.view.writes (Elt Ideal) f8 s.2.2) ++ s.2.2) := by
  have h0 := head0 arg7 arg8 arg9 arg10 v20 v93 v94 v95 v101 v107 k0_t1 arg11 v119 v124 v129 v134 v139 v144 v149 v154 v159 v168 v173 v178 v183 X9 X10 H k S
  have h1 := head1 arg7 arg8 arg9 arg10 v20 v93 v94 v95 v101 v107 k0_t1 arg11 v119 v124 v129 v134 v139 v144 v149 v154 v159 v168 v173 v178 v183 X9 X10 H k S
  have h2 := head2 arg7 arg8 arg9 arg10 v20 v93 v94 v95 v101 v107 k0_t1 arg11 v119 v124 v129 v134 v139 v144 v149 v154 v159 v168 v173 v178 v183 X9 X10 H k S
  have h3 := head3 arg7 arg8 arg9 arg10 v20 v93 v94 v95 v101 v107 k0_t1 arg11 v119 v124 v129 v134 v139 v144 v149 v154 v159 v168 v173 v178 v183 X9 X10 H k S
  constructor
  · intro r
    rw [trip2_yield]
    exact h0.cs_val r
  · intro r
    rw [trip2_yield]
    exact h1.cs_val r
  · intro r
    rw [trip2_yield]
    exact h2.cs_val r
  · intro r
    rw [trip2_yield]
    exact h3.cs_val r
  · intro r l
    rw [trip2_yield]
    refine (hQ_val _ _ _ _ _ _ (hQ_val _ _ _ _ _ _ (hQ_val _ _ _ _ _ _ (hQ_val _ _ _ _ _ _ S.dq h0.dz_val h0.hk) h1.dz_val h1.hk) h2.dz_val h2.hk) h3.dz_val h3.hk r l).trans ?_
    exact congrArg _ (dq_block Q K V D _ k.val l.val)
  · intro y
    obtain ⟨w₁, w₂, w₃, e⟩ := trip2_dk 𝒱 c bd i arg1 harg1 arg2 harg2 arg3 harg3 arg4 harg4 arg5 harg5 arg6 harg6 arg7 harg7 arg8 harg8 arg9 harg9 arg10 harg10 v20 v93 v94 v95 v101 v107 k0_t1 arg11 v119 v124 v129 v134 v139 v144 v149 v154 v159 v168 v173 v178 v183 X9 X10 k s.1 (arg7.view.writes (Elt Ideal) f7 s.2.1) (arg8.view.writes (Elt Ideal) f8 s.2.2)
    rw [e, View.writes_append]
    by_cases hy : 256 * k.val ≤ (y 0).val ∧ (y 0).val < 256 * k.val + 256
    · have hx : (y 0).val - 256 * k.val < 256 := by omega
      rw [View.read_writes_cons_rows_of_mem (size := S256x256.size) arg7.view _ _ _ _ y (show S256x256.Idx from ix2 ⟨(y 0).val - 256 * k.val, hx⟩ (y 1)) (off7 k0_t1 k)
        (show (y 0).val = 256 * k.val + ((y 0).val - 256 * k.val) by omega) rfl]
      have hO : ∀ (s' l' : Fin 256), View.readAt (Elt Ideal) arg7.view (Rect.unit (s := S2048x256) (k0_off7 k0_t1 k) S256x256.size (k0_off7_inb k0_t1 k)).toLoadRect
          (arg7.view.writes (Elt Ideal) f7 s.2.1) (ix2 s' l') = (((fun (a b : Fin 256) => (fun a b => (G7 a b + (if a < 256 * k.val then ∑ r ∈ Finset.range 512, dkS Q K V D (512 * k0_t1.val + r) a b else 0) : ℝ)) (256 * k.val + a.val) b.val) s' l' : ℝ) : EReal) :=
        fun s' l' => readAt_rows (Val := Elt Ideal) (e := .f32) (size := S256x256.size) arg7.view _ (fun a b => (((fun a b => (G7 a b + (if a < 256 * k.val then ∑ r ∈ Finset.range 512, dkS Q K V D (512 * k0_t1.val + r) a b else 0) : ℝ)) a b : ℝ) : EReal)) S.dk (off7 k0_t1 k) (k0_off7_inb k0_t1 k) (ix2 s' l')
      refine (hK_val _ _ _ _ _ _ H.hm3 h3.dz_val (hK_val _ _ _ _ _ _ H.hm2 h2.dz_val (hK_val _ _ _ _ _ _ H.hm1 h1.dz_val
        (hK_val _ _ _ _ _ _ H.hm0 h0.dz_val hO))) _ _).trans ?_
      exact congrArg _ (dk_block Q K V D _ _ k.val (y 0).val (y 1).val hy)
    · rw [View.read_writes_cons_rows_of_not_mem (W := 256) (size := S256x256.size) arg7.view _ _ _ _ y (off7 k0_t1 k) rfl (by omega),
        View.read_writes_cons_rows_of_not_mem (W := 256) (size := S256x256.size) arg7.view _ _ _ _ y (off7 k0_t1 k) rfl (by omega),
        View.read_writes_cons_rows_of_not_mem (W := 256) (size := S256x256.size) arg7.view _ _ _ _ y (off7 k0_t1 k) rfl (by omega),
        View.read_writes_cons_rows_of_not_mem (W := 256) (size := S256x256.size) arg7.view _ _ _ _ y (off7 k0_t1 k) rfl (by omega)]
      refine (S.dk y).trans (congrArg _ (congrArg _ ?_))
      exact if_congr (by omega) rfl rfl
  · intro y
    obtain ⟨w₁, w₂, w₃, e⟩ := trip2_dv 𝒱 c bd i arg1 harg1 arg2 harg2 arg3 harg3 arg4 harg4 arg5 harg5 arg6 harg6 arg7 harg7 arg8 harg8 arg9 harg9 arg10 harg10 v20 v93 v94 v95 v101 v107 k0_t1 arg11 v119 v124 v129 v134 v139 v144 v149 v154 v159 v168 v173 v178 v183 X9 X10 k s.1 (arg7.view.writes (Elt Ideal) f7 s.2.1) (arg8.view.writes (Elt Ideal) f8 s.2.2)
    rw [e, View.writes_append]
    by_cases hy : 256 * k.val ≤ (y 0).val ∧ (y 0).val < 256 * k.val + 256
    · have hx : (y 0).val - 256 * k.val < 256 := by omega
      rw [View.read_writes_cons_rows_of_mem (size := S256x256.size) arg8.view _ _ _ _ y (show S256x256.Idx from ix2 ⟨(y 0).val - 256 * k.val, hx⟩ (y 1)) (off7 k0_t1 k)
        (show (y 0).val = 256 * k.val + ((y 0).val - 256 * k.val) by omega) rfl]
      have hO : ∀ (s' l' : Fin 256), View.readAt (Elt Ideal) arg8.view (Rect.unit (s := S2048x256) (k0_off7 k0_t1 k) S256x256.size (k0_off7_inb k0_t1 k)).toLoadRect
          (arg8.view.writes (Elt Ideal) f8 s.2.2) (ix2 s' l') = (((fun (a b : Fin 256) => (fun a b => (G8 a b + (if a < 256 * k.val then ∑ r ∈ Finset.range 512, dvS Q K D (512 * k0_t1.val + r) a b else 0) : ℝ)) (256 * k.val + a.val) b.val) s' l' : ℝ) : EReal) :=
        fun s' l' => readAt_rows (Val := Elt Ideal) (e := .f32) (size := S256x256.size) arg8.view _ (fun a b => (((fun a b => (G8 a b + (if a < 256 * k.val then ∑ r ∈ Finset.range 512, dvS Q K D (512 * k0_t1.val + r) a b else 0) : ℝ)) a b : ℝ) : EReal)) S.dv (off7 k0_t1 k) (k0_off7_inb k0_t1 k) (ix2 s' l')
      refine (hV_val _ _ _ _ _ _ H.hn3 h3.a_val (hV_val _ _ _ _ _ _ H.hn2 h2.a_val (hV_val _ _ _ _ _ _ H.hn1 h1.a_val
        (hV_val _ _ _ _ _ _ H.hn0 h0.a_val hO))) _ _).trans ?_
      exact congrArg _ (dv_block Q K D _ _ k.val (y 0).val (y 1).val hy)
    · rw [View.read_writes_cons_rows_of_not_mem (W := 256) (size := S256x256.size) arg8.view _ _ _ _ y (off7 k0_t1 k) rfl (by omega),
        View.read_writes_cons_rows_of_not_mem (W := 256) (size := S256x256.size) arg8.view _ _ _ _ y (off7 k0_t1 k) rfl (by omega),
        View.read_writes_cons_rows_of_not_mem (W := 256) (size := S256x256.size) arg8.view _ _ _ _ y (off7 k0_t1 k) rfl (by omega),
        View.read_writes_cons_rows_of_not_mem (W := 256) (size := S256x256.size) arg8.view _ _ _ _ y (off7 k0_t1 k) rfl (by omega)]
      refine (S.dv y).trans (congrArg _ (congrArg _ ?_))
      exact if_congr (by omega) rfl rfl

end
end Cert.Proof.KernelIdeal
-- ==== Proof.Sb.Outer.lean ====
/- One trip of the outer loop, in the words of the inner loop's state after all its trips. -/
module

public import proofs.«01_k».proof.Proof.Sb.Trip2

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

section
variable (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v5 v10 v15 v20 : IVec S1x256 1) (v93 v94 : IVec S512x256 32) (v95 : IVec S512x128 32)
  (v101 v107 : FVec F S256x256 .bf16)
  (X1 : BufTy.Contents (Elt F) arg1.view.ty) (X4 : BufTy.Contents (Elt F) arg4.view.ty)
  (X5 : BufTy.Contents (Elt F) arg5.view.ty) (X9 : BufTy.Contents (Elt F) arg9.view.ty)
  (X10 : BufTy.Contents (Elt F) arg10.view.ty) (k : Fin k0_t1_loop.trips)

/-- The inner loop's state within trip `k`, before its trip `n`, from the contents dk and dv hold at the trip's start. -/
def inner (f7 : BufTy.Contents (Elt F) arg7.view.ty) (f8 : BufTy.Contents (Elt F) arg8.view.ty) (n : ℕ) :=
  st_k0_t2 (F := F) Variants.none c none i arg1 harg1 arg2 harg2 arg3 harg3 arg4 harg4 arg5 harg5 arg6 harg6 arg7 harg7 arg8 harg8 arg9 harg9 arg10 harg10 v20 v93 v94 v95 v101 v107 k (Scf.iv 0#32 1#32 k) (tripO.sl.r arg1 X1 k) (tripO.sl.r_1 arg4 X4 k) (tripO.sl.r_2 arg1 v5 X1 k) (tripO.sl.r_3 arg1 v10 X1 k) (tripO.sl.r_4 arg1 v15 X1 k) (tripO.sl.r_5 arg1 v20 X1 k) (tripO.sl.r_6 arg4 v5 X4 k) (tripO.sl.r_7 arg4 v10 X4 k) (tripO.sl.r_8 arg4 v15 X4 k) (View.readAt (Elt F) arg5.view (Rect.unit (s := S1x4x2048x128) (k0_off2 k) S1x1x512x128.size (k0_off2_inb k)).toLoadRect X5) (View.readAt (Elt F) arg5.view (Rect.unit (s := S1x4x2048x128) (k0_off3 k) S1x1x512x128.size (k0_off3_inb k)).toLoadRect X5) (View.readAt (Elt F) arg5.view (Rect.unit (s := S1x4x2048x128) (k0_off4 k) S1x1x512x128.size (k0_off4_inb k)).toLoadRect X5) (View.readAt (Elt F) arg5.view (Rect.unit (s := S1x4x2048x128) (k0_off5 k) S1x1x512x128.size (k0_off5_inb k)).toLoadRect X5) X9 X10 f7 f8 (k0_pay105, k0_pay105, k0_pay105, k0_pay105, k0_pay106) n

/-- What the trip stores: the rows of dq, and what the inner loop stored into dk and dv. -/
theorem tripO_pieces (f7 : BufTy.Contents (Elt F) arg7.view.ty) (f8 : BufTy.Contents (Elt F) arg8.view.ty) :
    (tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k).1 f7 f8
        = [⟨Rect.unit (s := S2048x256) (k0_off1 k) ![512, 256] (k0_off1_inb k), k0_pay6 (inner c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k f7 f8 (k0_t2_loop k).trips).1.2.2.2.2⟩]
      ∧ (tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k).2.1 f7 f8 = (inner c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k f7 f8 (k0_t2_loop k).trips).2.1
      ∧ (tripO (F := F) c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k).2.2.1 f7 f8 = (inner c i arg1 harg1 arg2 harg2 arg3 harg3 arg4 harg4 arg5 harg5 arg6 harg6 arg7 harg7 arg8 harg8 arg9 harg9 arg10 harg10 v5 v10 v15 v20 v93 v94 v95 v101 v107 X1 X4 X5 X9 X10 k f7 f8 (k0_t2_loop k).trips).2.2 := by
  unfold tripO
  dsimp only
  rw [show Scf.trips (Scalar.addi 0#32 (Scalar.muli (Scalar.divsi (Scalar.subi (Scalar.muli (Scalar.addi (Scf.iv 0#32 1#32 k) 1#32) 2#32) 0#32) 1#32) 1#32)) (Scalar.addi 0#32 (Scalar.subi (Scalar.muli (Scalar.addi (Scf.iv 0#32 1#32 k) 1#32) 2#32) 0#32)) 1#32 = 0 from trips3 k]
  exact ⟨rfl, rfl, rfl⟩

end
end Cert.Proof.KernelIdeal
-- ==== Proof.Sb.Masks.lean ====
/- The kernel's masks, triangles, lane numbers and scalings at an index. -/
module

public import proofs.«01_k».proof.Proof.Sb.Trip2
public import proofs.«01_k».proof.Proof.Sb.Offs
public import proofs.«01_k».proof.Proof.Sb.Grad
public import Idealize.ShloMosaic.Lib.WordCmp

@[expose] public section

noncomputable section

namespace Cert.Proof.KernelIdeal

open Cert.KernelIdeal Cert.KernelIdeal.Gen
open Idealize.ShloMosaic Idealize.ShloMosaic.TcCoe Idealize.ShloMosaic.Tactic Idealize.ShloMosaic.WordCmp

theorem iv_eq (n : ℕ) : Scf.iv 0#32 1#32 n = BitVec.ofNat 32 n := by simp [Scf.iv]

theorem eighth : Ideal.ofBits .f32 0x3E000000#32 = (((1 : ℝ) / 8 : ℝ) : EReal) := by
  simp [Ideal.ofBits, Ideal.ieee, -EReal.coe_mul]
  norm_num

/-- The lanes of the four heads. -/
theorem lanes0 : ∀ l : Fin 256, k0_pay111 (ix2 0 l) = 1#1 ↔ l.val / 64 = 0 := by
  intro l; pointwise [k0_pay111]; revert l; decide
theorem lanes1 : ∀ l : Fin 256, k0_pay112 (ix2 0 l) = 1#1 ↔ l.val / 64 = 1 := by
  intro l; pointwise [k0_pay112]; revert l; decide
theorem lanes2 : ∀ l : Fin 256, k0_pay113 (ix2 0 l) = 1#1 ↔ l.val / 64 = 2 := by
  intro l; pointwise [k0_pay113]; revert l; decide
theorem lanes3 : ∀ l : Fin 256, k0_pay114 (ix2 0 l) = 1#1 ↔ l.val / 64 = 3 := by
  intro l; pointwise [k0_pay114]; revert l; decide

theorem bit_coe (p : Prop) [Decidable p] :
    (((BitVec.setWidth 32 (BitVec.ofBool (decide p))).toInt : ℝ) : EReal) = (((if p then 1 else 0) : ℝ) : EReal) := by
  by_cases h : p <;> simp [h]

/-- The two triangles. -/
theorem tri_after (x l : Fin 256) : k0_pay125 (F := Ideal) (ix2 x l) = (((if l < x then 1 else 0) : ℝ) : EReal) := by
  pointwise [k0_pay125]
  rw [cmpi_sgt_ofNat (by omega) (by omega)]
  exact (bit_coe _).trans (by simp only [Fin.lt_def])
theorem tri_before (x l : Fin 256) : k0_pay126 (F := Ideal) (ix2 x l) = (((if x < l then 1 else 0) : ℝ) : EReal) := by
  pointwise [k0_pay126]
  rw [cmpi_slt_ofNat (by omega) (by omega)]
  exact (bit_coe _).trans (by simp only [Fin.lt_def])

/-- The mask of block `(i, j)`: the keys before the query. -/
theorem mask_iff {v93 v94 : IVec S512x256 32} (h93 : ∀ (r : Fin 512) (l : Fin 256), v93 (ix2 r l) = BitVec.ofNat 32 r.val)
    (h94 : ∀ (r : Fin 512) (l : Fin 256), v94 (ix2 r l) = BitVec.ofNat 32 l.val) (i : Fin k0_t1_loop.trips) (k : Fin (k0_t2_loop i).trips)
    (r : Fin 512) (l : Fin 256) :
    tSt v93 v94 i (Scf.iv 0#32 1#32 i) k (ix2 r l) = 1#1 ↔ 256 * k.val + l.val < 512 * i.val + r.val := by
  have h1 : k.val < 2 * (i.val + 1) := trips2 i ▸ k.isLt
  have h2 : i.val < 4 := trips1 ▸ i.isLt
  pointwise [tSt, k0_pay7]
  rw [h93, h94, iv_eq, iv_eq, cmpi_slt_eq]
  have e : IntOp.addi (BitVec.ofNat 32 l.val) (Scalar.subi (Scalar.muli (BitVec.ofNat 32 k.val) 256#32) (Scalar.muli (BitVec.ofNat 32 i.val) 512#32))
      = BitVec.ofInt 32 ((l.val : ℤ) + (k.val * 256 - i.val * 512)) := by
    rw [sub_eq_add_neg (k.val * 256 : ℤ)]
    simp only [IntOp.addi, Scalar.subi, Scalar.muli, IntOp.subi, IntOp.muli, BitVec.ofInt_add, BitVec.ofInt_neg, BitVec.ofInt_mul,
      BitVec.ofInt_natCast, BitVec.sub_eq_add_neg]
    rfl
  rw [e, BitVec.toInt_ofInt, Int.bmod_eq_of_le (by omega) (by omega), ← BitVec.ofInt_natCast, BitVec.toInt_ofInt, Int.bmod_eq_of_le (by omega) (by omega)]
  have hb : ∀ p : Prop, [Decidable p] → (BitVec.ofBool (decide p) = 1#1 ↔ p) := fun p _ => by by_cases h : p <;> simp [h]
  rw [hb]
  omega

/-- The tails' column of a block, picked by its lane number. -/
theorem tail_pick {v95 : IVec S512x128 32} (h95 : ∀ (r : Fin 512) (l : Fin 128), v95 (ix2 r l) = BitVec.ofNat 32 l.val)
    (tl : FVec Ideal S512x128 .f32) (n : ℕ) (hn : n < 128) (r : Fin 512) :
    k0_pay20 v95 tl (BitVec.ofNat 32 n) (ix2 r 0) = tl (ix2 r ⟨n, hn⟩) := by
  pointwise [k0_pay20]
  rw [Finset.sum_eq_single ⟨n, hn⟩]
  · rw [h95, cmpi_eq_eq]; simp [Scalar.select]
  · intro x _ hx
    rw [h95, cmpi_eq_eq]
    have : ¬ BitVec.ofNat 32 x.val = BitVec.ofNat 32 n := fun e => hx (Fin.ext (by
      show x.val = n
      have := congrArg BitVec.toNat e; simp only [BitVec.toNat_ofNat] at this; have := x.isLt; omega))
    simp [Scalar.select, this]
  · intro h; exact absurd (Finset.mem_univ _) h

section
variable (v : IVec S1x256 1) (h : ℕ) (hv : ∀ l : Fin 256, v (ix2 0 l) = 1#1 ↔ l.val / 64 = h)
include hv

theorem pick_lane (f : ℕ → ℕ → ℝ) (s : ℕ) (l : Fin 256) : Scalar.select (v (ix2 0 l)) ((f s l.val : ℝ) : EReal) 0 = ((lane h f s l.val : ℝ) : EReal) := by
  rw [← EReal.coe_zero, sel_coe (hv l)]; rfl

end

section
variable {w : Vec Ideal S512x256 .f32} {f : ℕ → ℕ → ℝ} {o : ℕ}
  (hw : ∀ (r : Fin 512) (l : Fin 256), w (ix2 r l) = ((f (o + r.val) l.val : ℝ) : EReal))
include hw

/-- The scaled queries of a block, and the rows of the incoming derivative; each head's lanes of them. -/
theorem q_val (r : Fin 512) (l : Fin 256) : k0_pay91 w (ix2 r l) = ((sQ f (o + r.val) l.val : ℝ) : EReal) := by
  pointwise [k0_pay91]
  rw [hw, eighth, ← EReal.coe_mul]; rfl
theorem d_val (r : Fin 512) (l : Fin 256) : k0_pay92 w (ix2 r l) = ((f (o + r.val) l.val : ℝ) : EReal) := by
  pointwise [k0_pay92]
  rw [hw]
theorem qm0_val (r : Fin 512) (l : Fin 256) : k0_pay93 k0_pay111 w (ix2 r l) = ((lane 0 (sQ f) (o + r.val) l.val : ℝ) : EReal) := by
  pointwise [k0_pay93]; rw [q_val hw]; exact pick_lane _ _ lanes0 _ _ _
theorem qm1_val (r : Fin 512) (l : Fin 256) : k0_pay94 k0_pay112 w (ix2 r l) = ((lane 1 (sQ f) (o + r.val) l.val : ℝ) : EReal) := by
  pointwise [k0_pay94]; rw [q_val hw]; exact pick_lane _ _ lanes1 _ _ _
theorem qm2_val (r : Fin 512) (l : Fin 256) : k0_pay95 k0_pay113 w (ix2 r l) = ((lane 2 (sQ f) (o + r.val) l.val : ℝ) : EReal) := by
  pointwise [k0_pay95]; rw [q_val hw]; exact pick_lane _ _ lanes2 _ _ _
theorem qm3_val (r : Fin 512) (l : Fin 256) : k0_pay96 k0_pay114 w (ix2 r l) = ((lane 3 (sQ f) (o + r.val) l.val : ℝ) : EReal) := by
  pointwise [k0_pay96]; rw [q_val hw]; exact pick_lane _ _ lanes3 _ _ _
theorem dm0_val (r : Fin 512) (l : Fin 256) : k0_pay97 k0_pay111 w (ix2 r l) = ((lane 0 f (o + r.val) l.val : ℝ) : EReal) := by
  pointwise [k0_pay97]; rw [d_val hw]; exact pick_lane _ _ lanes0 _ _ _
theorem dm1_val (r : Fin 512) (l : Fin 256) : k0_pay98 k0_pay112 w (ix2 r l) = ((lane 1 f (o + r.val) l.val : ℝ) : EReal) := by
  pointwise [k0_pay98]; rw [d_val hw]; exact pick_lane _ _ lanes1 _ _ _
theorem dm2_val (r : Fin 512) (l : Fin 256) : k0_pay99 k0_pay113 w (ix2 r l) = ((lane 2 f (o + r.val) l.val : ℝ) : EReal) := by
  pointwise [k0_pay99]; rw [d_val hw]; exact pick_lane _ _ lanes2 _ _ _
theorem dm3_val (r : Fin 512) (l : Fin 256) : k0_pay100 k0_pay114 (k0_pay92 w) (ix2 r l) = ((lane 3 f (o + r.val) l.val : ℝ) : EReal) := by
  pointwise [k0_pay100]; rw [d_val hw]; exact pick_lane _ _ lanes3 _ _ _

end
end Cert.Proof.KernelIdeal
-- ==== Proof.Sb.OuterIn.lean ====
/- The kernel's outer loop over the reals: what dq, dk and dv hold after any number of trips. -/
module

public import proofs.«01_k».proof.Proof.Sb.Inner
public import proofs.«01_k».proof.Proof.Sb.Outer
public import proofs.«01_k».proof.Proof.Sb.Masks

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

/-- A load of rows `o` on of plane `a` of the tails. -/
theorem readAt_tails (v : View sig .tc .vmem S1x4x2048x128 .f32) (X : BufTy.Contents (Elt Ideal) v.ty) (g : ℕ → ℕ → ℕ → EReal)
    (h : ∀ y, (y 3).val < 8 → v.read (Elt Ideal) X y = g (y 1).val (y 2).val (y 3).val)
    {off : Fin 4 → ℕ} {a o : ℕ} (hoff : off = ![0, a, o, 0]) (inb : ∀ b, off b + S1x1x512x128.size b ≤ S1x4x2048x128.size b)
    (r : Fin 512) (l : Fin 128) (hl : l.val < 8) :
    v.readAt (Elt Ideal) (Rect.unit (s := S1x4x2048x128) off S1x1x512x128.size inb).toLoadRect X (ix4 0 0 r l) = g a (o + r.val) l.val := by
  subst hoff
  have e3 : (((Rect.unit (s := S1x4x2048x128) ![0, a, o, 0] S1x1x512x128.size inb).toLoadRect.idx (ix4 0 0 r l)) 3).val = l.val :=
    (Nat.zero_add _).trans (Nat.one_mul _)
  rw [View.readAt_apply, h _ (e3 ▸ hl), e3]
  congr 1
  exact congrArg (o + ·) (Nat.one_mul _)

theorem pay101_apply (w : Vec Ideal S1x1x512x128 .f32) (r : Fin 512) (l : Fin 128) : k0_pay101 w (ix2 r l) = w (ix4 0 0 r l) := by pointwise [k0_pay101]
theorem pay102_apply (w : Vec Ideal S1x1x512x128 .f32) (r : Fin 512) (l : Fin 128) : k0_pay102 w (ix2 r l) = w (ix4 0 0 r l) := by pointwise [k0_pay102]
theorem pay103_apply (w : Vec Ideal S1x1x512x128 .f32) (r : Fin 512) (l : Fin 128) : k0_pay103 w (ix2 r l) = w (ix4 0 0 r l) := by pointwise [k0_pay103]
theorem pay104_apply (w : Vec Ideal S1x1x512x128 .f32) (r : Fin 512) (l : Fin 128) : k0_pay104 w (ix2 r l) = w (ix4 0 0 r l) := by pointwise [k0_pay104]

section
variable (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v93 v94 : IVec S512x256 32) (v95 : IVec S512x128 32)
  (v101 v107 : FVec Ideal S256x256 .bf16)
  (X1 : BufTy.Contents (Elt Ideal) arg1.view.ty) (X4 : BufTy.Contents (Elt Ideal) arg4.view.ty)
  (X5 : BufTy.Contents (Elt Ideal) arg5.view.ty) (X9 : BufTy.Contents (Elt Ideal) arg9.view.ty)
  (X10 : BufTy.Contents (Elt Ideal) arg10.view.ty) (Q K V D : ℕ → ℕ → ℝ)

/-- What is known of the arrays at the outer loop. -/
structure OuterIn : Prop where
  hQ : ∀ y, arg1.view.read (Elt Ideal) X1 y = ((Q (y 0).val (y 1).val : ℝ) : EReal)
  hD : ∀ y, arg4.view.read (Elt Ideal) X4 y = ((D (y 0).val (y 1).val : ℝ) : EReal)
  hT : ∀ y, (y 3).val < 8 → arg5.view.read (Elt Ideal) X5 y = ((aT (zS Q K (y 1).val) (y 2).val (256 * (y 3).val + 255) : ℝ) : EReal)
  hk : ∀ y, arg9.view.read (Elt Ideal) X9 y = ((lane (y 0).val K (y 1).val (y 2).val : ℝ) : EReal)
  hv : ∀ y, arg10.view.read (Elt Ideal) X10 y = ((lane (y 0).val V (y 1).val (y 2).val : ℝ) : EReal)
  h93 : ∀ (r : Fin 512) (l : Fin 256), v93 (ix2 r l) = BitVec.ofNat 32 r.val
  h94 : ∀ (r : Fin 512) (l : Fin 256), v94 (ix2 r l) = BitVec.ofNat 32 l.val
  h95 : ∀ (r : Fin 512) (l : Fin 128), v95 (ix2 r l) = BitVec.ofNat 32 l.val
  h101 : ∀ x l : Fin 256, v101 (ix2 x l) = (((if l < x then 1 else 0) : ℝ) : EReal)
  h107 : ∀ x l : Fin 256, v107 (ix2 x l) = (((if x < l then 1 else 0) : ℝ) : EReal)

variable {Q K V D}
variable (H : OuterIn arg1 arg4 arg5 arg9 arg10 v93 v94 v95 v101 v107 X1 X4 X5 X9 X10 Q K V D)
include H

theorem rowsQ (k : Fin k0_t1_loop.trips) (r : Fin 512) (l : Fin 256) :
    View.readAt (Elt Ideal) arg1.view (Rect.unit (s := S2048x256) (k0_off1 k) S512x256.size (k0_off1_inb k)).toLoadRect X1 (ix2 r l)
      = ((Q (512 * k.val + r.val) l.val : ℝ) : EReal) :=
  readAt_rows (Val := Elt Ideal) (e := .f32) (size := S512x256.size) arg1.view _ (fun a b => ((Q a b : ℝ) : EReal)) H.hQ (off1 k) (k0_off1_inb k) (ix2 r l)

theorem rowsD (k : Fin k0_t1_loop.trips) (r : Fin 512) (l : Fin 256) :
    View.readAt (Elt Ideal) arg4.view (Rect.unit (s := S2048x256) (k0_off1 k) S512x256.size (k0_off1_inb k)).toLoadRect X4 (ix2 r l)
      = ((D (512 * k.val + r.val) l.val : ℝ) : EReal) :=
  readAt_rows (Val := Elt Ideal) (e := .f32) (size := S512x256.size) arg4.view _ (fun a b => ((D a b : ℝ) : EReal)) H.hD (off1 k) (k0_off1_inb k) (ix2 r l)

/-- What the inner loop asks of its arguments. -/
theorem innerIn (k : Fin k0_t1_loop.trips) : InnerIn arg9 arg10 k0_pay114 v93 v94 v95 v101 v107 k (Scf.iv 0#32 1#32 k) (tripO.sl.r arg1 X1 k) (tripO.sl.r_1 arg4 X4 k) (tripO.sl.r_2 arg1 k0_pay111 X1 k) (tripO.sl.r_3 arg1 k0_pay112 X1 k) (tripO.sl.r_4 arg1 k0_pay113 X1 k) (tripO.sl.r_5 arg1 k0_pay114 X1 k) (tripO.sl.r_6 arg4 k0_pay111 X4 k) (tripO.sl.r_7 arg4 k0_pay112 X4 k) (tripO.sl.r_8 arg4 k0_pay113 X4 k) (View.readAt (Elt Ideal) arg5.view (Rect.unit (s := S1x4x2048x128) (k0_off2 k) S1x1x512x128.size (k0_off2_inb k)).toLoadRect X5) (View.readAt (Elt Ideal) arg5.view (Rect.unit (s := S1x4x2048x128) (k0_off3 k) S1x1x512x128.size (k0_off3_inb k)).toLoadRect X5) (View.readAt (Elt Ideal) arg5.view (Rect.unit (s := S1x4x2048x128) (k0_off4 k) S1x1x512x128.size (k0_off4_inb k)).toLoadRect X5) (View.readAt (Elt Ideal) arg5.view (Rect.unit (s := S1x4x2048x128) (k0_off5 k) S1x1x512x128.size (k0_off5_inb k)).toLoadRect X5) X9 X10 Q K V D where
  hq := q_val (rowsQ arg1 arg4 arg5 arg9 arg10 v93 v94 v95 v101 v107 X1 X4 X5 X9 X10 H k)
  hd := d_val (rowsD arg1 arg4 arg5 arg9 arg10 v93 v94 v95 v101 v107 X1 X4 X5 X9 X10 H k)
  hm0 := qm0_val (rowsQ arg1 arg4 arg5 arg9 arg10 v93 v94 v95 v101 v107 X1 X4 X5 X9 X10 H k)
  hn0 := dm0_val (rowsD arg1 arg4 arg5 arg9 arg10 v93 v94 v95 v101 v107 X1 X4 X5 X9 X10 H k)
  hT0 j r := by
    have h1 : j.val < 2 * (k.val + 1) := trips2 k ▸ j.isLt
    have h2 : k.val < 4 := trips1 ▸ k.isLt
    rw [tA12, iv_eq, tail_pick H.h95 _ _ (by omega), pay101_apply]
    exact readAt_tails arg5.view X5 (fun h t j => ((aT (zS Q K h) t (256 * j + 255) : ℝ) : EReal)) H.hT (off2 k) _ r _ (by show j.val < 8; omega)
  hm1 := qm1_val (rowsQ arg1 arg4 arg5 arg9 arg10 v93 v94 v95 v101 v107 X1 X4 X5 X9 X10 H k)
  hn1 := dm1_val (rowsD arg1 arg4 arg5 arg9 arg10 v93 v94 v95 v101 v107 X1 X4 X5 X9 X10 H k)
  hT1 j r := by
    have h1 : j.val < 2 * (k.val + 1) := trips2 k ▸ j.isLt
    have h2 : k.val < 4 := trips1 ▸ k.isLt
    rw [tA12, iv_eq, tail_pick H.h95 _ _ (by omega), pay102_apply]
    exact readAt_tails arg5.view X5 (fun h t j => ((aT (zS Q K h) t (256 * j + 255) : ℝ) : EReal)) H.hT (off3 k) _ r _ (by show j.val < 8; omega)
  hm2 := qm2_val (rowsQ arg1 arg4 arg5 arg9 arg10 v93 v94 v95 v101 v107 X1 X4 X5 X9 X10 H k)
  hn2 := dm2_val (rowsD arg1 arg4 arg5 arg9 arg10 v93 v94 v95 v101 v107 X1 X4 X5 X9 X10 H k)
  hT2 j r := by
    have h1 : j.val < 2 * (k.val + 1) := trips2 k ▸ j.isLt
    have h2 : k.val < 4 := trips1 ▸ k.isLt
    rw [tA12, iv_eq, tail_pick H.h95 _ _ (by omega), pay103_apply]
    exact readAt_tails arg5.view X5 (fun h t j => ((aT (zS Q K h) t (256 * j + 255) : ℝ) : EReal)) H.hT (off4 k) _ r _ (by show j.val < 8; omega)
  hm3 := qm3_val (rowsQ arg1 arg4 arg5 arg9 arg10 v93 v94 v95 v101 v107 X1 X4 X5 X9 X10 H k)
  hn3 := dm3_val (rowsD arg1 arg4 arg5 arg9 arg10 v93 v94 v95 v101 v107 X1 X4 X5 X9 X10 H k)
  hT3 j r := by
    have h1 : j.val < 2 * (k.val + 1) := trips2 k ▸ j.isLt
    have h2 : k.val < 4 := trips1 ▸ k.isLt
    rw [tA12, iv_eq, tail_pick H.h95 _ _ (by omega), pay104_apply]
    exact readAt_tails arg5.view X5 (fun h t j => ((aT (zS Q K h) t (256 * j + 255) : ℝ) : EReal)) H.hT (off5 k) _ r _ (by show j.val < 8; omega)
  hk := H.hk
  hv := H.hv
  hst := mask_iff H.h93 H.h94 k
  h101 := H.h101
  h107 := H.h107

variable {G7 G8 : ℕ → ℕ → ℝ} {f7 : BufTy.Contents (Elt Ideal) arg7.view.ty} {f8 : BufTy.Contents (Elt Ideal) arg8.view.ty}

/-- The inner loop's state before its trip `n`. -/
theorem inner_at (k : Fin k0_t1_loop.trips) (h7 : ∀ y, arg7.view.read (Elt Ideal) f7 y = ((G7 (y 0).val (y 1).val : ℝ) : EReal))
    (h8 : ∀ y, arg8.view.read (Elt Ideal) f8 y = ((G8 (y 0).val (y 1).val : ℝ) : EReal)) :
    ∀ n, n ≤ (k0_t2_loop k).trips → InnerAt arg7 arg8 k Q K V D G7 G8 f7 f8 n (inner (F := Ideal) c i arg1 harg1 arg2 harg2 arg3 harg3 arg4 harg4 arg5 harg5 arg6 harg6 arg7 harg7 arg8 harg8 arg9 harg9 arg10 harg10 k0_pay111 k0_pay112 k0_pay113 k0_pay114 v93 v94 v95 v101 v107 X1 X4 X5 X9 X10 k f7 f8 n) := by
  intro n
  induction n with
  | zero =>
    intro _
    constructor
    · intro r; exact (show k0_pay105 (F := Ideal) (ix2 r 0) = 0 by pointwise [k0_pay105]).trans (by simp)
    · intro r; exact (show k0_pay105 (F := Ideal) (ix2 r 0) = 0 by pointwise [k0_pay105]).trans (by simp)
    · intro r; exact (show k0_pay105 (F := Ideal) (ix2 r 0) = 0 by pointwise [k0_pay105]).trans (by simp)
    · intro r; exact (show k0_pay105 (F := Ideal) (ix2 r 0) = 0 by pointwise [k0_pay105]).trans (by simp)
    · intro r l; exact (show k0_pay106 (F := Ideal) (ix2 r l) = 0 by pointwise [k0_pay106]).trans (by simp)
    · intro y; exact (h7 y).trans (by simp)
    · intro y; exact (h8 y).trans (by simp)
  | succ n ih =>
    intro hn
    have S := ih (by omega)
    have e := st_k0_t2_succ (F := Ideal) Variants.none c none i arg1 harg1 arg2 harg2 arg3 harg3 arg4 harg4 arg5 harg5 arg6 harg6 arg7 harg7 arg8 harg8 arg9 harg9 arg10 harg10 k0_pay114 v93 v94 v95 v101 v107 k (Scf.iv 0#32 1#32 k) (tripO.sl.r arg1 X1 k) (tripO.sl.r_1 arg4 X4 k) (tripO.sl.r_2 arg1 k0_pay111 X1 k) (tripO.sl.r_3 arg1 k0_pay112 X1 k) (tripO.sl.r_4 arg1 k0_pay113 X1 k) (tripO.sl.r_5 arg1 k0_pay114 X1 k) (tripO.sl.r_6 arg4 k0_pay111 X4 k) (tripO.sl.r_7 arg4 k0_pay112 X4 k) (tripO.sl.r_8 arg4 k0_pay113 X4 k) (View.readAt (Elt Ideal) arg5.view (Rect.unit (s := S1x4x2048x128) (k0_off2 k) S1x1x512x128.size (k0_off2_inb k)).toLoadRect X5) (View.readAt (Elt Ideal) arg5.view (Rect.unit (s := S1x4x2048x128) (k0_off3 k) S1x1x512x128.size (k0_off3_inb k)).toLoadRect X5) (View.readAt (Elt Ideal) arg5.view (Rect.unit (s := S1x4x2048x128) (k0_off4 k) S1x1x512x128.size (k0_off4_inb k)).toLoadRect X5) (View.readAt (Elt Ideal) arg5.view (Rect.unit (s := S1x4x2048x128) (k0_off5 k) S1x1x512x128.size (k0_off5_inb k)).toLoadRect X5) X9 X10 f7 f8 (k0_pay105, k0_pay105, k0_pay105, k0_pay105, k0_pay106) ⟨n, hn⟩
    unfold inner at S ⊢
    rw [e]
    exact inner_step Variants.none c none i arg1 harg1 arg2 harg2 arg3 harg3 arg4 harg4 arg5 harg5 arg6 harg6 arg7 harg7 arg8 harg8 arg9 harg9 arg10 harg10 k0_pay114 v93 v94 v95 v101 v107 k (Scf.iv 0#32 1#32 k) (tripO.sl.r arg1 X1 k) (tripO.sl.r_1 arg4 X4 k) (tripO.sl.r_2 arg1 k0_pay111 X1 k) (tripO.sl.r_3 arg1 k0_pay112 X1 k) (tripO.sl.r_4 arg1 k0_pay113 X1 k) (tripO.sl.r_5 arg1 k0_pay114 X1 k) (tripO.sl.r_6 arg4 k0_pay111 X4 k) (tripO.sl.r_7 arg4 k0_pay112 X4 k) (tripO.sl.r_8 arg4 k0_pay113 X4 k) (View.readAt (Elt Ideal) arg5.view (Rect.unit (s := S1x4x2048x128) (k0_off2 k) S1x1x512x128.size (k0_off2_inb k)).toLoadRect X5) (View.readAt (Elt Ideal) arg5.view (Rect.unit (s := S1x4x2048x128) (k0_off3 k) S1x1x512x128.size (k0_off3_inb k)).toLoadRect X5) (View.readAt (Elt Ideal) arg5.view (Rect.unit (s := S1x4x2048x128) (k0_off4 k) S1x1x512x128.size (k0_off4_inb k)).toLoadRect X5) (View.readAt (Elt Ideal) arg5.view (Rect.unit (s := S1x4x2048x128) (k0_off5 k) S1x1x512x128.size (k0_off5_inb k)).toLoadRect X5) X9 X10 (innerIn arg1 arg4 arg5 arg9 arg10 v93 v94 v95 v101 v107 X1 X4 X5 X9 X10 H k) ⟨n, hn⟩ S

end
end Cert.Proof.KernelIdeal
-- ==== Proof.Sb.OuterVal.lean ====
/- The kernel's three results over the reals after the outer loop. -/
module

public import proofs.«01_k».proof.Proof.Sb.OuterIn

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

/-- The sums over the queries, the later ones adding nothing to a key's row. -/
theorem dk_rows (Q K V D : ℕ → ℕ → ℝ) (k y l : ℕ) :
    (∑ t ∈ Finset.range (512 * k), dkS Q K V D t y l) + (if y < 256 * (2 * (k + 1)) then ∑ r ∈ Finset.range 512, dkS Q K V D (512 * k + r) y l else 0)
      = ∑ t ∈ Finset.range (512 * (k + 1)), dkS Q K V D t y l := by
  rw [Nat.mul_add 512, Nat.mul_one, Finset.sum_range_add]
  refine congrArg (_ + ·) ?_
  by_cases h : y < 256 * (2 * (k + 1))
  · rw [if_pos h]
  · rw [if_neg h]
    exact (Finset.sum_eq_zero fun r hr => dkS_zero Q K V D (by have := Finset.mem_range.mp hr; omega) l).symm
theorem dv_rows (Q K D : ℕ → ℕ → ℝ) (k y l : ℕ) :
    (∑ t ∈ Finset.range (512 * k), dvS Q K D t y l) + (if y < 256 * (2 * (k + 1)) then ∑ r ∈ Finset.range 512, dvS Q K D (512 * k + r) y l else 0)
      = ∑ t ∈ Finset.range (512 * (k + 1)), dvS Q K D t y l := by
  rw [Nat.mul_add 512, Nat.mul_one, Finset.sum_range_add]
  refine congrArg (_ + ·) ?_
  by_cases h : y < 256 * (2 * (k + 1))
  · rw [if_pos h]
  · rw [if_neg h]
    exact (Finset.sum_eq_zero fun r hr => dvS_zero Q K D (by have := Finset.mem_range.mp hr; omega) l).symm
theorem dq_row (Q K V D : ℕ → ℕ → ℝ) (t n l : ℕ) (h : t < n) (hn : n ≤ 2048) :
    (∑ x ∈ Finset.range n, dqS Q K V D t x l) = ∑ x ∈ Finset.range 2048, dqS Q K V D t x l := by
  refine Finset.sum_subset (Finset.range_subset_range.mpr hn) fun x _ hx => dqS_zero Q K V D ?_ l
  have : ¬ x < n := fun h => hx (Finset.mem_range.mpr h)
  omega

section
variable (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (v93 v94 : IVec S512x256 32) (v95 : IVec S512x128 32)
  (v101 v107 : FVec Ideal S256x256 .bf16)
  (X1 : BufTy.Contents (Elt Ideal) arg1.view.ty) (X4 : BufTy.Contents (Elt Ideal) arg4.view.ty)
  (X5 : BufTy.Contents (Elt Ideal) arg5.view.ty) (X9 : BufTy.Contents (Elt Ideal) arg9.view.ty)
  (X10 : BufTy.Contents (Elt Ideal) arg10.view.ty)
  {Q K V D : ℕ → ℕ → ℝ} (H : OuterIn arg1 arg4 arg5 arg9 arg10 v93 v94 v95 v101 v107 X1 X4 X5 X9 X10 Q K V D)
  (G7 : BufTy.Contents (Elt Ideal) arg7.view.ty) (G8 : BufTy.Contents (Elt Ideal) arg8.view.ty)

/-- Before trip `n`: dk and dv hold the sums over the queries of the earlier trips, dq their rows. -/
structure OuterAt (Q K V D : ℕ → ℕ → ℝ) (n : ℕ) (p : List (View.Piece (Elt Ideal) S2048x256 .f32) × List (View.Piece (Elt Ideal) S2048x256 .f32) × List (View.Piece (Elt Ideal) S2048x256 .f32)) : Prop where
  dq : ∀ f y, (y 0).val < 512 * n → arg6.view.read (Elt Ideal) (arg6.view.writes (Elt Ideal) f p.1) y
    = (((∑ x ∈ Finset.range 2048, dqS Q K V D (y 0).val x (y 1).val) * (1 / 8) : ℝ) : EReal)
  dk : ∀ y, arg7.view.read (Elt Ideal) (arg7.view.writes (Elt Ideal) G7 p.2.1) y = ((∑ t ∈ Finset.range (512 * n), dkS Q K V D t (y 0).val (y 1).val : ℝ) : EReal)
  dv : ∀ y, arg8.view.read (Elt Ideal) (arg8.view.writes (Elt Ideal) G8 p.2.2) y = ((∑ t ∈ Finset.range (512 * n), dvS Q K D t (y 0).val (y 1).val : ℝ) : EReal)

include H

theorem outer_at (h7 : ∀ y, arg7.view.read (Elt Ideal) G7 y = 0) (h8 : ∀ y, arg8.view.read (Elt Ideal) G8 y = 0) :
    ∀ n, n ≤ k0_t1_loop.trips → OuterAt arg6 arg7 arg8 G7 G8 Q K V D n (pbO (F := Ideal) c i arg1 harg1 arg2 harg2 arg3 harg3 arg4 harg4 arg5 harg5 arg6 harg6 arg7 harg7 arg8 harg8 arg9 harg9 arg10 harg10 k0_pay111 k0_pay112 k0_pay113 k0_pay114 v93 v94 v95 v101 v107 X1 X4 X5 X9 X10 G7 G8 n) := by
  intro n
  induction n with
  | zero =>
    intro _
    constructor
    · intro f y hy; omega
    · intro y; exact (h7 y).trans (by simp)
    · intro y; exact (h8 y).trans (by simp)
  | succ n ih =>
    intro hn
    have hn4 : n < 4 := trips1 ▸ hn
    have S := ih (by omega)
    have e := pbO_succ (F := Ideal) c i arg1 harg1 arg2 harg2 arg3 harg3 arg4 harg4 arg5 harg5 arg6 harg6 arg7 harg7 arg8 harg8 arg9 harg9 arg10 harg10 k0_pay111 k0_pay112 k0_pay113 k0_pay114 v93 v94 v95 v101 v107 X1 X4 X5 X9 X10 G7 G8 ⟨n, hn⟩
    dsimp only at e
    rw [e]
    generalize pbO (F := Ideal) c i arg1 harg1 arg2 harg2 arg3 harg3 arg4 harg4 arg5 harg5 arg6 harg6 arg7 harg7 arg8 harg8 arg9 harg9 arg10 harg10 k0_pay111 k0_pay112 k0_pay113 k0_pay114 v93 v94 v95 v101 v107 X1 X4 X5 X9 X10 G7 G8 n = p at S ⊢
    obtain ⟨e6, e7, e8⟩ := tripO_pieces (F := Ideal) c i arg1 harg1 arg2 harg2 arg3 harg3 arg4 harg4 arg5 harg5 arg6 harg6 arg7 harg7 arg8 harg8 arg9 harg9 arg10 harg10 k0_pay111 k0_pay112 k0_pay113 k0_pay114 v93 v94 v95 v101 v107 X1 X4 X5 X9 X10 ⟨n, hn⟩ (arg7.view.writes (Elt Ideal) G7 p.2.1) (arg8.view.writes (Elt Ideal) G8 p.2.2)
    have T := inner_at c i arg1 harg1 arg2 harg2 arg3 harg3 arg4 harg4 arg5 harg5 arg6 harg6 arg7 harg7 arg8 harg8 arg9 harg9 arg10 harg10 v93 v94 v95 v101 v107 X1 X4 X5 X9 X10 H ⟨n, hn⟩
      (G7 := fun a b => ∑ t ∈ Finset.range (512 * n), dkS Q K V D t a b) (G8 := fun a b => ∑ t ∈ Finset.range (512 * n), dvS Q K D t a b) S.dk S.dv _ le_rfl
    rw [e6, e7, e8]
    generalize inner (F := Ideal) c i arg1 harg1 arg2 harg2 arg3 harg3 arg4 harg4 arg5 harg5 arg6 harg6 arg7 harg7 arg8 harg8 arg9 harg9 arg10 harg10 k0_pay111 k0_pay112 k0_pay113 k0_pay114 v93 v94 v95 v101 v107 X1 X4 X5 X9 X10 ⟨n, hn⟩ (arg7.view.writes (Elt Ideal) G7 p.2.1) (arg8.view.writes (Elt Ideal) G8 p.2.2) (k0_t2_loop ⟨n, hn⟩).trips = s at T ⊢
    rw [trips2 ⟨n, hn⟩] at T
    constructor
    · intro f y hy
      rw [View.writes_append]
      by_cases h : 512 * n ≤ (y 0).val
      · have hx : (y 0).val - 512 * n < 512 := by omega
        rw [View.read_writes_cons_rows_of_mem (size := S512x256.size) arg6.view _ _ _ _ y (show S512x256.Idx from ix2 ⟨(y 0).val - 512 * n, hx⟩ (y 1)) (off1 ⟨n, hn⟩)
          (show (y 0).val = 512 * n + ((y 0).val - 512 * n) by omega) rfl]
        have e6 : ∀ (w : FVec Ideal S512x256 .f32) (r : Fin 512) (l : Fin 256), k0_pay6 w (ix2 r l) = w (ix2 r l) * (((1 : ℝ) / 8 : ℝ) : EReal) := by
          intro w r l; pointwise [k0_pay6]; rw [eighth]
        refine (e6 _ _ _).trans ?_
        refine (congrArg (· * (((1 : ℝ) / 8 : ℝ) : EReal)) (T.dq ⟨(y 0).val - 512 * n, hx⟩ (y 1))).trans ?_
        rw [← EReal.coe_mul]
        refine congrArg (fun a : ℝ => ((a * (1 / 8) : ℝ) : EReal)) ?_
        show (∑ x ∈ Finset.range (256 * (2 * (n + 1))), dqS Q K V D (512 * n + ((y 0).val - 512 * n)) x (y 1).val) = _
        rw [show 512 * n + ((y 0).val - 512 * n) = (y 0).val by omega]
        exact dq_row Q K V D _ _ _ (by omega) (by omega)
      · rw [View.read_writes_cons_rows_of_not_mem (W := 512) (size := S512x256.size) arg6.view _ _ _ _ y (off1 ⟨n, hn⟩) rfl (by show (y 0).val < 512 * n ∨ _; omega)]
        exact S.dq f y (by omega)
    · intro y
      rw [View.writes_append]
      exact (T.dk y).trans (congrArg _ (dk_rows Q K V D n _ _))
    · intro y
      rw [View.writes_append]
      exact (T.dv y).trans (congrArg _ (dv_rows Q K D n _ _))

end
end Cert.Proof.KernelIdeal
-- ==== Proof.Sb.RunVal.lean ====
/- What a grid point's run leaves in dq, dk and dv, over the reals, from what its blocks hold. -/
module

public import proofs.«01_k».proof.Proof.Sb.OuterVal

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI

/-- Four planes stored one by one. -/
theorem read_planes (v : View sig .tc .vmem S4x2048x256 .bf16) (f : BufTy.Contents (Elt Ideal) v.ty) (g : ℕ → ℕ → ℕ → EReal)
    (i0 : ∀ a, (![0, 0, 0] : Fin 3 → ℕ) a + S1x2048x256.size a ≤ S4x2048x256.size a)
    (i1 : ∀ a, (![1, 0, 0] : Fin 3 → ℕ) a + S1x2048x256.size a ≤ S4x2048x256.size a)
    (i2 : ∀ a, (![2, 0, 0] : Fin 3 → ℕ) a + S1x2048x256.size a ≤ S4x2048x256.size a)
    (i3 : ∀ a, (![3, 0, 0] : Fin 3 → ℕ) a + S1x2048x256.size a ≤ S4x2048x256.size a)
    (w0 w1 w2 w3 : FVec Ideal S1x2048x256 .bf16)
    (h0 : ∀ (r : Fin 2048) (l : Fin 256), w0 (ix3 0 r l) = g 0 r.val l.val) (h1 : ∀ (r : Fin 2048) (l : Fin 256), w1 (ix3 0 r l) = g 1 r.val l.val)
    (h2 : ∀ (r : Fin 2048) (l : Fin 256), w2 (ix3 0 r l) = g 2 r.val l.val) (h3 : ∀ (r : Fin 2048) (l : Fin 256), w3 (ix3 0 r l) = g 3 r.val l.val)
    (y : S4x2048x256.Idx) :
    v.read (Elt Ideal) (v.writes (Elt Ideal) f
      [(⟨Rect.unit (s := S4x2048x256) ![3, 0, 0] S1x2048x256.size i3, w3⟩ : View.Piece (Elt Ideal) S4x2048x256 .bf16),
       ⟨Rect.unit (s := S4x2048x256) ![2, 0, 0] S1x2048x256.size i2, w2⟩, ⟨Rect.unit (s := S4x2048x256) ![1, 0, 0] S1x2048x256.size i1, w1⟩,
       ⟨Rect.unit (s := S4x2048x256) ![0, 0, 0] S1x2048x256.size i0, w0⟩]) y = g (y 0).val (y 1).val (y 2).val := by
  have h4 : (y 0).val < 4 := (y 0).isLt
  have hm : ∀ n, (y 0).val = n → ∀ a : Fin 3, (y a).val = (![n, 0, 0] : Fin 3 → ℕ) a + ((ix3 (n0 := 1) 0 (y 1) (y 2)) a).val := fun n hn =>
    Fin.forall_fin_succ.mpr ⟨hn, Fin.forall_fin_two.mpr ⟨(Nat.zero_add _).symm, (Nat.zero_add _).symm⟩⟩
  rcases (show (y 0).val = 3 ∨ (y 0).val = 2 ∨ (y 0).val = 1 ∨ (y 0).val = 0 by omega) with h | h | h | h
  · rw [View.read_writes_cons_unit_of_mem v f i3 w3 _ y (show S1x2048x256.Idx from ix3 0 (y 1) (y 2)) rfl (hm 3 h), h]
    exact h3 _ _
  · rw [View.read_writes_cons_unit_of_not_mem v f i3 w3 _ y rfl 0 (Or.inl (by show (y 0).val < 3; omega)),
      View.read_writes_cons_unit_of_mem v f i2 w2 _ y (show S1x2048x256.Idx from ix3 0 (y 1) (y 2)) rfl (hm 2 h), h]
    exact h2 _ _
  · rw [View.read_writes_cons_unit_of_not_mem v f i3 w3 _ y rfl 0 (Or.inl (by show (y 0).val < 3; omega)),
      View.read_writes_cons_unit_of_not_mem v f i2 w2 _ y rfl 0 (Or.inl (by show (y 0).val < 2; omega)),
      View.read_writes_cons_unit_of_mem v f i1 w1 _ y (show S1x2048x256.Idx from ix3 0 (y 1) (y 2)) rfl (hm 1 h), h]
    exact h1 _ _
  · rw [View.read_writes_cons_unit_of_not_mem v f i3 w3 _ y rfl 0 (Or.inl (by show (y 0).val < 3; omega)),
      View.read_writes_cons_unit_of_not_mem v f i2 w2 _ y rfl 0 (Or.inl (by show (y 0).val < 2; omega)),
      View.read_writes_cons_unit_of_not_mem v f i1 w1 _ y rfl 0 (Or.inl (by show (y 0).val < 1; omega)),
      View.read_writes_cons_unit_of_mem v f i0 w0 _ y (show S1x2048x256.Idx from ix3 0 (y 1) (y 2)) rfl (hm 0 h), h]
    exact h0 _ _

section
variable {w : Vec Ideal S2048x256 .f32} {f : ℕ → ℕ → ℝ} (hw : ∀ (r : Fin 2048) (l : Fin 256), w (ix2 r l) = ((f r.val l.val : ℝ) : EReal))
include hw

/-- The keys and the values on one head's lanes. -/
theorem km0_val (r : Fin 2048) (l : Fin 256) : k0_pay115 w (ix3 0 r l) = ((lane 0 f r.val l.val : ℝ) : EReal) := by
  pointwise [k0_pay115]; rw [hw]; exact pick_lane _ _ lanes0 _ _ _
theorem km1_val (r : Fin 2048) (l : Fin 256) : k0_pay117 (k0_pay116 w) (ix3 0 r l) = ((lane 1 f r.val l.val : ℝ) : EReal) := by
  pointwise [k0_pay117, k0_pay116]; rw [hw]; exact pick_lane _ _ lanes1 _ _ _
theorem km2_val (r : Fin 2048) (l : Fin 256) : k0_pay118 k0_pay113 w (ix3 0 r l) = ((lane 2 f r.val l.val : ℝ) : EReal) := by
  pointwise [k0_pay118]; rw [hw]; exact pick_lane _ _ lanes2 _ _ _
theorem km3_val (r : Fin 2048) (l : Fin 256) : k0_pay119 k0_pay114 w (ix3 0 r l) = ((lane 3 f r.val l.val : ℝ) : EReal) := by
  pointwise [k0_pay119]; rw [hw]; exact pick_lane _ _ lanes3 _ _ _
theorem vm0_val (r : Fin 2048) (l : Fin 256) : k0_pay120 k0_pay111 w (ix3 0 r l) = ((lane 0 f r.val l.val : ℝ) : EReal) := by
  pointwise [k0_pay120]; rw [hw]; exact pick_lane _ _ lanes0 _ _ _
theorem vm1_val (r : Fin 2048) (l : Fin 256) : k0_pay122 (k0_pay121 k0_pay112 w) (ix3 0 r l) = ((lane 1 f r.val l.val : ℝ) : EReal) := by
  pointwise [k0_pay122, k0_pay121]; rw [hw]; exact pick_lane _ _ lanes1 _ _ _
theorem vm2_val (r : Fin 2048) (l : Fin 256) : k0_pay123 k0_pay113 w (ix3 0 r l) = ((lane 2 f r.val l.val : ℝ) : EReal) := by
  pointwise [k0_pay123]; rw [hw]; exact pick_lane _ _ lanes2 _ _ _
theorem vm3_val (r : Fin 2048) (l : Fin 256) : k0_pay124 k0_pay114 w (ix3 0 r l) = ((lane 3 f r.val l.val : ℝ) : EReal) := by
  pointwise [k0_pay124]; rw [hw]; exact pick_lane _ _ lanes3 _ _ _

end

theorem read_zero (v : View sig .tc .vmem S2048x256 .f32) (f : BufTy.Contents (Elt Ideal) v.ty) (inb : ∀ a, (![0, 0] : Fin 2 → ℕ) a + S2048x256.size a ≤ S2048x256.size a)
    (w : FVec Ideal S2048x256 .f32) (hw : ∀ (r : Fin 2048) (l : Fin 256), w (ix2 r l) = 0) (y : S2048x256.Idx) :
    v.read (Elt Ideal) (v.writes (Elt Ideal) f [(⟨Rect.unit (s := S2048x256) ![0, 0] S2048x256.size inb, w⟩ : View.Piece (Elt Ideal) S2048x256 .f32)]) y = 0 := by
  rw [View.read_writes_cons_rows_of_mem (size := S2048x256.size) v f inb w [] y (show S2048x256.Idx from ix2 (y 0) (y 1)) rfl (Nat.zero_add _).symm rfl]
  exact hw _ _

theorem read_whole {arg : Memref sig .tc .vmem S2048x256 .f32} (harg : arg.IsWhole) (x : Vec Ideal S2048x256 .f32) (g : ℕ → ℕ → ℝ)
    (hx : ∀ y : S2048x256.Idx, x y = ((g (y 0).val (y 1).val : ℝ) : EReal)) (inb : ∀ a, (![0, 0] : Fin 2 → ℕ) a + S2048x256.size a ≤ S2048x256.size a) (r : Fin 2048) (l : Fin 256) :
    View.readAt (Elt Ideal) arg.view (Rect.unit (s := S2048x256) ![0, 0] S2048x256.size inb).toLoadRect (harg.unread x) (ix2 r l) = ((g r.val l.val : ℝ) : EReal) := by
  refine (readAt_rows (Val := Elt Ideal) (e := .f32) (size := S2048x256.size) arg.view _ (fun a b => ((g a b : ℝ) : EReal))
    (fun y => by rw [harg.read_unread]; exact hx y) (o := 0) rfl inb (ix2 r l)).trans ?_
  rw [Nat.zero_add]
  rfl

section
variable (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S1x4x2048x128 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .f32) (harg8 : arg8.IsWhole)
  (arg9 : Memref sig .tc .vmem S4x2048x256 .bf16) (harg9 : arg9.IsWhole)
  (arg10 : Memref sig .tc .vmem S4x2048x256 .bf16) (harg10 : arg10.IsWhole)
  (x1 x2 x3 x4 : Vec Ideal S2048x256 .f32) (x5 : Vec Ideal S1x4x2048x128 .f32)
  {Q K V D : ℕ → ℕ → ℝ}
  (h1 : ∀ y : S2048x256.Idx, x1 y = ((Q (y 0).val (y 1).val : ℝ) : EReal)) (h2 : ∀ y : S2048x256.Idx, x2 y = ((K (y 0).val (y 1).val : ℝ) : EReal))
  (h3 : ∀ y : S2048x256.Idx, x3 y = ((V (y 0).val (y 1).val : ℝ) : EReal)) (h4 : ∀ y : S2048x256.Idx, x4 y = ((D (y 0).val (y 1).val : ℝ) : EReal))
  (h5 : ∀ y : S1x4x2048x128.Idx, (y 3).val < 8 → x5 y = ((aT (zS Q K (y 1).val) (y 2).val (256 * (y 3).val + 255) : ℝ) : EReal))
include h1 h2 h3 h4 h5

theorem outerIn : OuterIn arg1 arg4 arg5 arg9 arg10 kernelRun.sl.v93 kernelRun.sl.v94 kernelRun.sl.v95 (k0_pay125 (F := Ideal)) (k0_pay126 (F := Ideal))
    (harg1.unread x1) (harg4.unread x4) (harg5.unread x5) (arg9.view.writes (Elt Ideal) arg9.view.junk (kernelRun.sl.H9_4 c arg2 harg2 x2))
    (arg10.view.writes (Elt Ideal) arg10.view.junk (kernelRun.sl.H10_4 c arg3 harg3 x3)) Q K V D where
  hQ y := by rw [harg1.read_unread]; exact h1 y
  hD y := by rw [harg4.read_unread]; exact h4 y
  hT y hy := by rw [harg5.read_unread]; exact h5 y hy
  hk y := read_planes arg9.view _ (fun a b c => ((lane a K b c : ℝ) : EReal)) _ _ _ _ _ _ _ _
    (km0_val (read_whole harg2 x2 K h2 _)) (km1_val (read_whole harg2 x2 K h2 _)) (km2_val (read_whole harg2 x2 K h2 _)) (km3_val (read_whole harg2 x2 K h2 _)) y
  hv y := read_planes arg10.view _ (fun a b c => ((lane a V b c : ℝ) : EReal)) _ _ _ _ _ _ _ _
    (vm0_val (read_whole harg3 x3 V h3 _)) (vm1_val (read_whole harg3 x3 V h3 _)) (vm2_val (read_whole harg3 x3 V h3 _)) (vm3_val (read_whole harg3 x3 V h3 _)) y
  h93 r l := by pointwise [kernelRun.sl.v93]
  h94 r l := by pointwise [kernelRun.sl.v94]
  h95 r l := by pointwise [kernelRun.sl.v95]
  h101 := tri_after
  h107 := tri_before

theorem run_vals :
    (∀ f y, arg6.view.read (Elt Ideal) (arg6.view.writes (Elt Ideal) f (kernelRun (F := Ideal) c i arg1 harg1 arg2 harg2 arg3 harg3 arg4 harg4 arg5 harg5 arg6 harg6 arg7 harg7 arg8 harg8 arg9 harg9 arg10 harg10 x1 x2 x3 x4 x5).1) y
        = (((∑ s ∈ Finset.range 2048, dqS Q K V D (y 0).val s (y 1).val) * (1 / 8) : ℝ) : EReal))
      ∧ (∀ y : S2048x256.Idx, (kernelRun (F := Ideal) c i arg1 harg1 arg2 harg2 arg3 harg3 arg4 harg4 arg5 harg5 arg6 harg6 arg7 harg7 arg8 harg8 arg9 harg9 arg10 harg10 x1 x2 x3 x4 x5).2.1 y = ((∑ t ∈ Finset.range 2048, dkS Q K V D t (y 0).val (y 1).val : ℝ) : EReal))
      ∧ (∀ y : S2048x256.Idx, (kernelRun (F := Ideal) c i arg1 harg1 arg2 harg2 arg3 harg3 arg4 harg4 arg5 harg5 arg6 harg6 arg7 harg7 arg8 harg8 arg9 harg9 arg10 harg10 x1 x2 x3 x4 x5).2.2.1 y = ((∑ t ∈ Finset.range 2048, dvS Q K D t (y 0).val (y 1).val : ℝ) : EReal)) := by
  have H := outerIn c arg1 harg1 arg2 harg2 arg3 harg3 arg4 harg4 arg5 harg5 arg9 arg10 x1 x2 x3 x4 x5 h1 h2 h3 h4 h5
  have S := outer_at c i arg1 harg1 arg2 harg2 arg3 harg3 arg4 harg4 arg5 harg5 arg6 harg6 arg7 harg7 arg8 harg8 arg9 harg9 arg10 harg10 kernelRun.sl.v93 kernelRun.sl.v94 kernelRun.sl.v95 (k0_pay125 (F := Ideal)) (k0_pay126 (F := Ideal)) _ _ _ _ _ H
    (arg7.view.writes (Elt Ideal) arg7.view.junk kernelRun.sl.H7_1) (arg8.view.writes (Elt Ideal) arg8.view.junk kernelRun.sl.H8_1)
    (fun y => read_zero arg7.view _ _ _ (fun r l => by pointwise [k0_pay127]) y) (fun y => read_zero arg8.view _ _ _ (fun r l => by pointwise [k0_pay1, kernelRun.sl.cst_49]) y) _ le_rfl
  have e : 512 * k0_t1_loop.trips = 2048 := by rw [trips1]
  refine ⟨fun f y => ?_, fun y => ?_, fun y => ?_⟩
  · exact S.dq f y (by rw [e]; exact (y 0).isLt)
  · have := S.dk y
    rw [e, ← View.writes_append] at this
    exact this
  · have := S.dv y
    rw [e, ← View.writes_append] at this
    exact this

end
end Cert.Proof.KernelIdeal
-- ==== Proof.Sb.Rows.lean ====
/- The rows of the projections that belong to one batch element. -/
module

public import proofs.«01_k».proof.Proof.Sb.Grad

@[expose] public section

noncomputable section

namespace Cert.Proof

/-- The query rows of batch element `b`. -/
def rowQ (R : ℕ → ℕ → ℝ) (b t l : ℕ) : ℝ := R (2048 * b + t) l
/-- The key rows of batch element `b`. -/
def rowK (R : ℕ → ℕ → ℝ) (b t l : ℕ) : ℝ := R (2048 * b + t) (256 + l)
/-- The value rows of batch element `b`. -/
def rowV (R : ℕ → ℕ → ℝ) (b t l : ℕ) : ℝ := R (2048 * b + t) (512 + l)

end Cert.Proof
-- ==== Proof.Sb.Arrays.lean ====
module

public import proofs.«01_k».proof.Proof.Sb.RunVal
public import proofs.«01_k».proof.Proof.Sb.Frame
public import proofs.«01_k».proof.Proof.Sb.Rows
public import Idealize.ShloMosaic.Lib.Pipeline.ValueKit

/-!
The arrays of the kernel: what the body reads at each grid point, entry by entry, and what the three
result arrays hold at the end.
-/

@[expose] public section

set_option maxRecDepth 8192

noncomputable section

namespace Cert.Proof.KernelIdeal

open Idealize.ShloMosaic Idealize.ShloMosaic.TcCoe Cert.KernelIdeal Cert.KernelIdeal.Gen Idealize.SL.Sem

variable (m : (ℓ : Loc nD τ sig) → Buf (Elt Ideal) ℓ)

/-- Which block of its array each window is at, at grid point `t`. -/
theorem index_facts (t : Fin cfg0.N) :
    ((cfg0.win 0).index t 0 = t.val ∧ (cfg0.win 0).index t 1 = 0) ∧ ((cfg0.win 1).index t 0 = t.val ∧ (cfg0.win 1).index t 1 = 1)
    ∧ ((cfg0.win 2).index t 0 = t.val ∧ (cfg0.win 2).index t 1 = 2) ∧ ((cfg0.win 3).index t 0 = t.val ∧ (cfg0.win 3).index t 1 = 0)
    ∧ ((cfg0.win 4).index t 0 = t.val ∧ (cfg0.win 4).index t 1 = 0 ∧ (cfg0.win 4).index t 2 = 0 ∧ (cfg0.win 4).index t 3 = 0)
    ∧ ((cfg0.win 5).index t 0 = t.val ∧ (cfg0.win 5).index t 1 = 0) ∧ ((cfg0.win 6).index t 0 = t.val ∧ (cfg0.win 6).index t 1 = 0)
    ∧ ((cfg0.win 7).index t 0 = t.val ∧ (cfg0.win 7).index t 1 = 0) := by
  revert t; decide +kernel

/-- The query rows of a grid point. -/
theorem q_block (c : Dev nD) (t : Fin cfg0.N) (y : S2048x256.Idx) (i : S4096x3200.Idx)
    (h0 : (i 0).val = 2048 * t.val + (y 0).val) (h1 : (i 1).val = 0 + (y 1).val) :
    X0_0 m c t y = m ((c : Thread nD τ).loc main_arg0) i := by
  unfold X0_0 Pipeline.Window.fill
  rw [dif_pos (moved0_0 t y)]
  unfold iblk
  rw [View.read_apply, cast_eq]
  show V m c main_arg0 _ = _
  rw [V_main_arg0]
  refine congrArg _ (funext fun a => Fin.ext ?_)
  refine (Pipeline.Window.rect_emb_val (cfg0.win 0) t _ a).trans ?_
  match a with
  | ⟨0, _⟩ => show (cfg0.win 0).index t 0 * 2048 + (y 0).val = (i 0).val; rw [(index_facts t).1.1, h0]; omega
  | ⟨1, _⟩ => show (cfg0.win 0).index t 1 * 256 + (y 1).val = (i 1).val; rw [(index_facts t).1.2, h1]

/-- The key rows of a grid point. -/
theorem k_block (c : Dev nD) (t : Fin cfg0.N) (y : S2048x256.Idx) (i : S4096x3200.Idx)
    (h0 : (i 0).val = 2048 * t.val + (y 0).val) (h1 : (i 1).val = 256 + (y 1).val) :
    X0_1 m c t y = m ((c : Thread nD τ).loc main_arg0) i := by
  unfold X0_1 Pipeline.Window.fill
  rw [dif_pos (moved0_1 t y)]
  unfold iblk
  rw [View.read_apply, cast_eq]
  show V m c main_arg0 _ = _
  rw [V_main_arg0]
  refine congrArg _ (funext fun a => Fin.ext ?_)
  refine (Pipeline.Window.rect_emb_val (cfg0.win 1) t _ a).trans ?_
  match a with
  | ⟨0, _⟩ => show (cfg0.win 1).index t 0 * 2048 + (y 0).val = (i 0).val; rw [(index_facts t).2.1.1, h0]; omega
  | ⟨1, _⟩ => show (cfg0.win 1).index t 1 * 256 + (y 1).val = (i 1).val; rw [(index_facts t).2.1.2, h1]

/-- The value rows of a grid point. -/
theorem v_block (c : Dev nD) (t : Fin cfg0.N) (y : S2048x256.Idx) (i : S4096x3200.Idx)
    (h0 : (i 0).val = 2048 * t.val + (y 0).val) (h1 : (i 1).val = 512 + (y 1).val) :
    X0_2 m c t y = m ((c : Thread nD τ).loc main_arg0) i := by
  unfold X0_2 Pipeline.Window.fill
  rw [dif_pos (moved0_2 t y)]
  unfold iblk
  rw [View.read_apply, cast_eq]
  show V m c main_arg0 _ = _
  rw [V_main_arg0]
  refine congrArg _ (funext fun a => Fin.ext ?_)
  refine (Pipeline.Window.rect_emb_val (cfg0.win 2) t _ a).trans ?_
  match a with
  | ⟨0, _⟩ => show (cfg0.win 2).index t 0 * 2048 + (y 0).val = (i 0).val; rw [(index_facts t).2.2.1.1, h0]; omega
  | ⟨1, _⟩ => show (cfg0.win 2).index t 1 * 256 + (y 1).val = (i 1).val; rw [(index_facts t).2.2.1.2, h1]

/-- The rows of the gradient a grid point is given. -/
theorem d_block (c : Dev nD) (t : Fin cfg0.N) (y : S2048x256.Idx) (i : S4096x1024.Idx)
    (h0 : (i 0).val = 2048 * t.val + (y 0).val) (h1 : (i 1).val = (y 1).val) :
    iblk m c 3 t y = m ((c : Thread nD τ).loc main_arg1) i := by
  unfold iblk
  rw [View.read_apply, cast_eq]
  show V m c main_arg1 _ = _
  rw [V_main_arg1]
  refine congrArg _ (funext fun a => Fin.ext ?_)
  refine (Pipeline.Window.rect_emb_val (cfg0.win 3) t _ a).trans ?_
  match a with
  | ⟨0, _⟩ => show (cfg0.win 3).index t 0 * 2048 + (y 0).val = (i 0).val; rw [(index_facts t).2.2.2.1.1, h0]; omega
  | ⟨1, _⟩ => show (cfg0.win 3).index t 1 * 256 + (y 1).val = (i 1).val; rw [(index_facts t).2.2.2.1.2, h1]; omega

/-- The carried tails of a grid point. -/
theorem tail_block (c : Dev nD) (t : Fin cfg0.N) (y : S1x4x2048x128.Idx) (i : S2x4x2048x128.Idx)
    (h0 : (i 0).val = t.val) (h1 : (i 1).val = (y 1).val) (h2 : (i 2).val = (y 2).val) (h3 : (i 3).val = (y 3).val) :
    iblk m c 4 t y = V m c main_v26 i := by
  have hy : (y 0).val = 0 := Nat.lt_one_iff.mp (y 0).isLt
  unfold iblk
  rw [View.read_apply, cast_eq]
  show V m c main_v26 _ = _
  refine congrArg _ (funext fun a => Fin.ext ?_)
  refine (Pipeline.Window.rect_emb_val (cfg0.win 4) t _ a).trans ?_
  match a with
  | ⟨0, _⟩ => show (cfg0.win 4).index t 0 * 1 + (y 0).val = (i 0).val; rw [(index_facts t).2.2.2.2.1.1, h0, hy]; omega
  | ⟨1, _⟩ => show (cfg0.win 4).index t 1 * 4 + (y 1).val = (i 1).val; rw [(index_facts t).2.2.2.2.1.2.1, h1]; omega
  | ⟨2, _⟩ => show (cfg0.win 4).index t 2 * 2048 + (y 2).val = (i 2).val; rw [(index_facts t).2.2.2.2.1.2.2.1, h2]; omega
  | ⟨3, _⟩ => show (cfg0.win 4).index t 3 * 128 + (y 3).val = (i 3).val; rw [(index_facts t).2.2.2.2.1.2.2.2, h3]; omega

section

variable {R G : ℕ → ℕ → ℝ} (c : Dev nD)
  (hR : ∀ i : S4096x3200.Idx, (i 1).val < 768 → m ((c : Thread nD τ).loc main_arg0) i = ((R (i 0).val (i 1).val : ℝ) : EReal))
  (hG : ∀ i : S4096x1024.Idx, (i 1).val < 256 → m ((c : Thread nD τ).loc main_arg1) i = ((G (i 0).val (i 1).val : ℝ) : EReal))
  (hT : ∀ i : S2x4x2048x128.Idx, (i 3).val < 8 → V m c main_v26 i
    = ((aT (zS (rowQ R (i 0).val) (rowK R (i 0).val) (i 1).val) (i 2).val (256 * (i 3).val + 255) : ℝ) : EReal))
include hR hG hT

/-- What the body leaves at grid point `t`. -/
theorem point_vals (t : Fin cfg0.N) :
    (∀ y : S2048x256.Idx, View.canon (runAt m c t).1 y
      = (((∑ s ∈ Finset.range 2048, dqS (rowQ R t.val) (rowK R t.val) (rowV R t.val) (rowQ G t.val) (y 0).val s (y 1).val) * (1 / 8) : ℝ) : EReal))
    ∧ (∀ y : S2048x256.Idx, (runAt m c t).2.1 y
      = ((∑ s ∈ Finset.range 2048, dkS (rowQ R t.val) (rowK R t.val) (rowV R t.val) (rowQ G t.val) s (y 0).val (y 1).val : ℝ) : EReal))
    ∧ (∀ y : S2048x256.Idx, (runAt m c t).2.2.1 y
      = ((∑ s ∈ Finset.range 2048, dvS (rowQ R t.val) (rowK R t.val) (rowQ G t.val) s (y 0).val (y 1).val : ℝ) : EReal)) := by
  have ht : t.val < 2 := t.isLt
  have h := run_vals (c := c) (i := grid0.coords t) (arg1 := st0_0 t) (harg1 := hstage0_0 _) (arg2 := st0_1 t) (harg2 := hstage0_1 _)
    (arg3 := st0_2 t) (harg3 := hstage0_2 _) (arg4 := st0_3 t) (harg4 := hstage0_3 _) (arg5 := st0_4 t) (harg5 := hstage0_4 _)
    (arg6 := st0_5 t) (harg6 := hstage0_5 _) (arg7 := st0_6 t) (harg7 := hstage0_6 _) (arg8 := st0_7 t) (harg8 := hstage0_7 _)
    (arg9 := Memref.whole cc0_scratch0) (harg9 := Memref.isWhole_whole _) (arg10 := Memref.whole cc0_scratch1)
    (harg10 := Memref.isWhole_whole _) (x1 := X0_0 m c t) (x2 := X0_1 m c t) (x3 := X0_2 m c t) (x4 := iblk m c 3 t) (x5 := iblk m c 4 t)
    (Q := rowQ R t.val) (K := rowK R t.val) (V := rowV R t.val) (D := rowQ G t.val)
    (fun y => by
      have e0 : (y 0).val < 2048 := (y 0).isLt
      have e1 : (y 1).val < 256 := (y 1).isLt
      rw [q_block m c t y (ValueIdx.ix2 (n0 := 4096) (n1 := 3200) ⟨2048 * t.val + (y 0).val, by omega⟩ ⟨0 + (y 1).val, by omega⟩) rfl rfl,
        hR _ (by show 0 + (y 1).val < 768; omega)]
      show ((R (2048 * t.val + (y 0).val) (0 + (y 1).val) : ℝ) : EReal) = _
      rw [Nat.zero_add, rowQ])
    (fun y => by
      have e0 : (y 0).val < 2048 := (y 0).isLt
      have e1 : (y 1).val < 256 := (y 1).isLt
      rw [k_block m c t y (ValueIdx.ix2 (n0 := 4096) (n1 := 3200) ⟨2048 * t.val + (y 0).val, by omega⟩ ⟨256 + (y 1).val, by omega⟩) rfl rfl,
        hR _ (by show 256 + (y 1).val < 768; omega)]
      rfl)
    (fun y => by
      have e0 : (y 0).val < 2048 := (y 0).isLt
      have e1 : (y 1).val < 256 := (y 1).isLt
      rw [v_block m c t y (ValueIdx.ix2 (n0 := 4096) (n1 := 3200) ⟨2048 * t.val + (y 0).val, by omega⟩ ⟨512 + (y 1).val, by omega⟩) rfl rfl,
        hR _ (by show 512 + (y 1).val < 768; omega)]
      rfl)
    (fun y => by
      have e0 : (y 0).val < 2048 := (y 0).isLt
      have e1 : (y 1).val < 256 := (y 1).isLt
      refine (d_block m c t y (ValueIdx.ix2 (n0 := 4096) (n1 := 1024) ⟨2048 * t.val + (y 0).val, by omega⟩ ⟨(y 1).val, by omega⟩) rfl rfl).trans ?_
      rw [hG _ (by show (y 1).val < 256; omega)]
      rfl)
    (fun y hy => by
      have e1 : (y 1).val < 4 := (y 1).isLt
      have e2 : (y 2).val < 2048 := (y 2).isLt
      refine (tail_block m c t y (ValueIdx.ix4 (n0 := 2) (n1 := 4) (n2 := 2048) (n3 := 128) ⟨t.val, ht⟩ ⟨(y 1).val, e1⟩ ⟨(y 2).val, e2⟩ ⟨(y 3).val, by omega⟩) rfl rfl rfl rfl).trans ?_
      exact hT _ hy)
  refine ⟨fun y => ?_, h.2.1, h.2.2⟩
  rw [← h.1 (Classical.choice inferInstance) y]
  exact (congrFun (View.read_writes_eq_canon _ _ _ (runAt_cover m c t)) y).symm

/-- The queries' gradient at the end of the run. -/
theorem dq_arr : (dats m 0 c).arrAt 5 cfg0.N = fun i : S4096x256.Idx =>
    (((((∑ s ∈ Finset.range 2048, dqS (rowQ R ((i 0).val / 2048)) (rowK R ((i 0).val / 2048)) (rowV R ((i 0).val / 2048)) (rowQ G ((i 0).val / 2048)) ((i 0).val % 2048) s (i 1).val) * (1 / 8) : ℝ)) : ℝ) : EReal) := by
  refine (dats m 0 c).arrAt_eq_of_covers 5 _ (by decide +kernel) (fun t _ y => ?_)
  have e0 : (((((cfg0.win 5).blk t).view.emb y : S4096x256.Idx) 0).val) = 2048 * t.val + (y 0).val := by
    refine (Pipeline.Window.rect_emb_val (cfg0.win 5) t y 0).trans ?_
    show (cfg0.win 5).index t 0 * 2048 + (y 0).val = _
    rw [(index_facts t).2.2.2.2.2.1.1]; omega
  have e1 : (((((cfg0.win 5).blk t).view.emb y : S4096x256.Idx) 1).val) = (y 1).val := by
    refine (Pipeline.Window.rect_emb_val (cfg0.win 5) t y 1).trans ?_
    show (cfg0.win 5).index t 1 * 256 + (y 1).val = _
    rw [(index_facts t).2.2.2.2.2.1.2]; omega
  have hy : (y 0).val < 2048 := (y 0).isLt
  rw [cast_eq]
  refine ((point_vals m c hR hG hT t).1 y).trans ?_
  rw [e0, e1, Nat.mul_add_div (by decide), Nat.div_eq_of_lt hy, Nat.mul_add_mod, Nat.mod_eq_of_lt hy, Nat.add_zero]

/-- The keys' gradient at the end of the run. -/
theorem dk_arr : (dats m 0 c).arrAt 6 cfg0.N = fun i : S4096x256.Idx =>
    ((((∑ s ∈ Finset.range 2048, dkS (rowQ R ((i 0).val / 2048)) (rowK R ((i 0).val / 2048)) (rowV R ((i 0).val / 2048)) (rowQ G ((i 0).val / 2048)) s ((i 0).val % 2048) (i 1).val : ℝ)) : ℝ) : EReal) := by
  refine (dats m 0 c).arrAt_eq_of_covers 6 _ (by decide +kernel) (fun t _ y => ?_)
  have e0 : (((((cfg0.win 6).blk t).view.emb y : S4096x256.Idx) 0).val) = 2048 * t.val + (y 0).val := by
    refine (Pipeline.Window.rect_emb_val (cfg0.win 6) t y 0).trans ?_
    show (cfg0.win 6).index t 0 * 2048 + (y 0).val = _
    rw [(index_facts t).2.2.2.2.2.2.1.1]; omega
  have e1 : (((((cfg0.win 6).blk t).view.emb y : S4096x256.Idx) 1).val) = (y 1).val := by
    refine (Pipeline.Window.rect_emb_val (cfg0.win 6) t y 1).trans ?_
    show (cfg0.win 6).index t 1 * 256 + (y 1).val = _
    rw [(index_facts t).2.2.2.2.2.2.1.2]; omega
  have hy : (y 0).val < 2048 := (y 0).isLt
  rw [cast_eq]
  refine ((point_vals m c hR hG hT t).2.1 y).trans ?_
  rw [e0, e1, Nat.mul_add_div (by decide), Nat.div_eq_of_lt hy, Nat.mul_add_mod, Nat.mod_eq_of_lt hy, Nat.add_zero]

/-- The values' gradient at the end of the run. -/
theorem dv_arr : (dats m 0 c).arrAt 7 cfg0.N = fun i : S4096x256.Idx =>
    ((((∑ s ∈ Finset.range 2048, dvS (rowQ R ((i 0).val / 2048)) (rowK R ((i 0).val / 2048)) (rowQ G ((i 0).val / 2048)) s ((i 0).val % 2048) (i 1).val : ℝ)) : ℝ) : EReal) := by
  refine (dats m 0 c).arrAt_eq_of_covers 7 _ (by decide +kernel) (fun t _ y => ?_)
  have e0 : (((((cfg0.win 7).blk t).view.emb y : S4096x256.Idx) 0).val) = 2048 * t.val + (y 0).val := by
    refine (Pipeline.Window.rect_emb_val (cfg0.win 7) t y 0).trans ?_
    show (cfg0.win 7).index t 0 * 2048 + (y 0).val = _
    rw [(index_facts t).2.2.2.2.2.2.2.1]; omega
  have e1 : (((((cfg0.win 7).blk t).view.emb y : S4096x256.Idx) 1).val) = (y 1).val := by
    refine (Pipeline.Window.rect_emb_val (cfg0.win 7) t y 1).trans ?_
    show (cfg0.win 7).index t 1 * 256 + (y 1).val = _
    rw [(index_facts t).2.2.2.2.2.2.2.2]; omega
  have hy : (y 0).val < 2048 := (y 0).isLt
  rw [cast_eq]
  refine ((point_vals m c hR hG hT t).2.2 y).trans ?_
  rw [e0, e1, Nat.mul_add_div (by decide), Nat.div_eq_of_lt hy, Nat.mul_add_mod, Nat.mod_eq_of_lt hy, Nat.add_zero]

end

end Cert.Proof.KernelIdeal
-- ==== Proof.Sb.RefIn.lean ====
module

public import proofs.«01_k».proof.Proof.Gen.ReferenceIdeal.Read
public import proofs.«01_k».proof.Proof.Sb.Rows

/-!
The reference's queries, keys, values and the gradient it is given, and the scores and products of
heads it forms from them, at real arguments.
-/

@[expose] public section

noncomputable section

namespace Cert.Proof

open Idealize.ShloMosaic Idealize.ShloMosaic.ValueIdx Cert.ReferenceIdeal Cert.ReferenceIdeal.Read

/-- The sum over the lanes of one head is the sum over the 256 lanes with the other heads' lanes zero. -/
theorem lane_sum (h : Fin 4) (f g : ℕ → ℕ → ℝ) (t s : ℕ) :
    ∑ x : Fin 256, f t x.val * lane h.val g s x.val = ∑ d : Fin 64, f t (64 * h.val + d.val) * g s (64 * h.val + d.val) := by
  have hh := h.isLt
  have e : ∀ x : Fin 256, f t x.val * lane h.val g s x.val = if x.val / 64 = h.val then f t x.val * g s x.val else 0 := by
    intro x; unfold lane; split <;> simp
  rw [Finset.sum_congr rfl fun x _ => e x, ← Finset.sum_filter]
  refine Finset.sum_bij' (fun (x : Fin 256) _ => (⟨x.val % 64, Nat.mod_lt _ (by decide)⟩ : Fin 64))
    (fun (d : Fin 64) _ => (⟨64 * h.val + d.val, by omega⟩ : Fin 256)) ?_ ?_ ?_ ?_ ?_
  · intro x _; exact Finset.mem_univ _
  · intro d _; simp only [Finset.mem_filter, Finset.mem_univ, true_and]; omega
  · intro x hx; simp only [Finset.mem_filter, Finset.mem_univ, true_and] at hx; apply Fin.ext; show 64 * h.val + x.val % 64 = x.val; omega
  · intro d _; apply Fin.ext; show (64 * h.val + d.val) % 64 = d.val; omega
  · intro x hx
    simp only [Finset.mem_filter, Finset.mem_univ, true_and] at hx
    have hx' : 64 * h.val + x.val % 64 = x.val := by omega
    simp only [hx']

section

variable {x0 : (⟨S4096x3200, .f32⟩ : BufTy).Contents (Elt Ideal)} {x1 : (⟨S4096x1024, .f32⟩ : BufTy).Contents (Elt Ideal)}
  {R G : ℕ → ℕ → ℝ}
  (hR : ∀ i : S4096x3200.Idx, (i 1).val < 768 → x0 i = ((R (i 0).val (i 1).val : ℝ) : EReal))
  (hG : ∀ i : S4096x1024.Idx, (i 1).val < 256 → x1 i = ((G (i 0).val (i 1).val : ℝ) : EReal))
include hR

theorem q_at (i : S2x4x2048x64.Idx) :
    val_main_v3 (F := Ideal) x0 i = ((rowQ R (i 0).val (i 2).val (64 * (i 1).val + (i 3).val) : ℝ) : EReal) := by
  have h0 : (i 0).val < 2 := (i 0).isLt
  have h1 : (i 1).val < 4 := (i 1).isLt
  have h2 : (i 2).val < 2048 := (i 2).isLt
  have h3 : (i 3).val < 64 := (i 3).isLt
  rw [val_main_v3_apply, val_main_v2_apply, val_main_v1_apply, val_main_v0_apply, hR _ (by dsimp only; omega)]
  unfold rowQ
  congr 2 <;> dsimp only <;> omega

theorem k_at (i : S2x4x2048x64.Idx) :
    val_main_v6 (F := Ideal) x0 i = ((rowK R (i 0).val (i 2).val (64 * (i 1).val + (i 3).val) : ℝ) : EReal) := by
  have h0 : (i 0).val < 2 := (i 0).isLt
  have h1 : (i 1).val < 4 := (i 1).isLt
  have h2 : (i 2).val < 2048 := (i 2).isLt
  have h3 : (i 3).val < 64 := (i 3).isLt
  rw [val_main_v6_apply, val_main_v5_apply, val_main_v4_apply, val_main_v0_apply, hR _ (by dsimp only; omega)]
  unfold rowK
  congr 2 <;> dsimp only <;> omega

theorem v_at (i : S2x4x2048x64.Idx) :
    val_main_v9 (F := Ideal) x0 i = ((rowV R (i 0).val (i 2).val (64 * (i 1).val + (i 3).val) : ℝ) : EReal) := by
  have h0 : (i 0).val < 2 := (i 0).isLt
  have h1 : (i 1).val < 4 := (i 1).isLt
  have h2 : (i 2).val < 2048 := (i 2).isLt
  have h3 : (i 3).val < 64 := (i 3).isLt
  rw [val_main_v9_apply, val_main_v8_apply, val_main_v7_apply, val_main_v0_apply, hR _ (by dsimp only; omega)]
  unfold rowV
  congr 2 <;> dsimp only <;> omega

/-- The scores of head `h`. -/
theorem score_at (i : S2x4x2048x2048.Idx) :
    val_main_v16 (F := Ideal) x0 i
      = ((zS (rowQ R (i 0).val) (rowK R (i 0).val) (i 1).val (i 2).val (i 3).val : ℝ) : EReal) := by
  have h1 : (i 1).val < 4 := (i 1).isLt
  have e8 : Ideal.ofBits .f32 0x3E000000#32 = ((1 / 8 : ℝ) : EReal) := by
    simp [Ideal.ofBits, Ideal.ieee, -EReal.coe_mul]; norm_num
  rw [val_main_v16_apply, val_main_v14_apply, val_main_v15_apply]
  simp only [q_at hR, k_at hR]
  show (∑ k : Fin 64, ((rowQ R (i 0).val (i 2).val (64 * (i 1).val + k.val) : ℝ) : EReal) * ((rowK R (i 0).val (i 3).val (64 * (i 1).val + k.val) : ℝ) : EReal))
    * Ideal.ofBits .f32 0x3E000000#32 = _
  rw [e8]
  simp only [← EReal.coe_mul]
  rw [coe_sum, ← EReal.coe_mul]
  congr 1
  unfold zS
  refine Eq.trans ?_ (lane_sum ⟨(i 1).val, h1⟩ (sQ (rowQ R (i 0).val)) (rowK R (i 0).val) (i 2).val (i 3).val).symm
  rw [Finset.sum_mul]
  refine Finset.sum_congr rfl fun k _ => ?_
  unfold sQ
  ring

include hG

omit hR in
theorem ct_at (i : S2x4x2048x64.Idx) :
    val_main_v13 (F := Ideal) x1 i = ((rowQ G (i 0).val (i 2).val (64 * (i 1).val + (i 3).val) : ℝ) : EReal) := by
  have h0 : (i 0).val < 2 := (i 0).isLt
  have h1 : (i 1).val < 4 := (i 1).isLt
  have h2 : (i 2).val < 2048 := (i 2).isLt
  have h3 : (i 3).val < 64 := (i 3).isLt
  rw [val_main_v13_apply, val_main_v12_apply, val_main_v11_apply, val_main_v10_apply, hG _ (by dsimp only; omega)]
  unfold rowQ
  congr 2 <;> dsimp only <;> omega

/-- The products of the given gradient's rows with the value rows of head `h`. -/
theorem prob_at (i : S2x4x2048x2048.Idx) :
    val_main_v36 (F := Ideal) x0 x1 i
      = ((zS (pre (rowQ G (i 0).val)) (rowV R (i 0).val) (i 1).val (i 2).val (i 3).val : ℝ) : EReal) := by
  have h1 : (i 1).val < 4 := (i 1).isLt
  rw [val_main_v36_apply]
  simp only [ct_at hG, v_at hR]
  show (∑ k : Fin 64, ((rowQ G (i 0).val (i 2).val (64 * (i 1).val + k.val) : ℝ) : EReal) * ((rowV R (i 0).val (i 3).val (64 * (i 1).val + k.val) : ℝ) : EReal)) = _
  simp only [← EReal.coe_mul]
  rw [coe_sum, ← zS_pre]
  congr 1
  exact (lane_sum ⟨(i 1).val, h1⟩ (rowQ G (i 0).val) (rowV R (i 0).val) (i 2).val (i 3).val).symm

end

end Cert.Proof
-- ==== Proof.Sb.Cumsum.lean ====
module

public import proofs.«01_k».proof.Proof.Sb.Reals
public import Idealize.ShloMosaic.PureOps.Ideal
public import Idealize.ShloMosaic.Lib.ValueIdx

/-!
The running sums along the last axis of a rank-four array, read at an index: a window of the whole
length, padded at the high end (sums of what comes after) or at the low end (sums of what comes
before).
-/

@[expose] public section

namespace Cert.Proof

open Idealize.ShloMosaic Idealize.ShloMosaic.ValueIdx

variable {A B M N N1 : ℕ}

/-- A left fold of additions is the start plus the sum. -/
theorem foldl_add_sum {n : ℕ} (g : Fin n → EReal) (v : EReal) :
    (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← List.ofFn_eq_map, List.sum_ofFn]

/-- The positions of a window that is one wide on the first three axes. -/
def winEquiv (N : ℕ) : Fin N ≃ (⟨4, ![1, 1, 1, N]⟩ : Shape).Idx where
  toFun k := ix4 (0 : Fin 1) (0 : Fin 1) (0 : Fin 1) k
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A window sum at an index, as the sum over the window's last coordinate. -/
theorem window_sum (lo hi : ℕ) (x : (⟨4, ![A, B, M, N]⟩ : Shape).Idx → EReal) {u : Shape} (init : u.Idx → EReal)
    (hinit : ∀ i, init i = 0)
    (h : (⟨4, ![A, B, M, N]⟩ : Shape).ReduceWindows ![1, 1, 1, N] ![1, 1, 1, 1] ![0, 0, 0, lo] ![0, 0, 0, hi] ⟨4, ![A, B, M, N]⟩)
    (hu : 0 < u.numel) (b : Fin A) (c : Fin B) (t : Fin M) (s : Fin N) (f : ℕ → ℝ)
    (hx : ∀ k : Fin N, x (ix4 b c t k) = ((f k.val : ℝ) : EReal)) :
    Host.reduceWindowAdd (F := Ideal) (φ := .f32) ![1, 1, 1, N] ![1, 1, 1, 1] ![0, 0, 0, lo] ![0, 0, 0, hi] x init h hu (ix4 b c t s)
      = ((∑ n ∈ Finset.range N, if lo ≤ s.val + n ∧ s.val + n - lo < N then f (s.val + n - lo) else 0 : ℝ) : EReal) := by
  unfold Host.reduceWindowAdd
  rw [Ideal.hostReduceWindowAdd_def]
  unfold Ideal.hostReduceWindowAdd Host.reduceWindow
  dsimp only
  rw [foldl_add_sum, hinit, zero_add, ← coe_sum, ← Fin.sum_univ_eq_sum_range (fun n => (((if lo ≤ s.val + n ∧ s.val + n - lo < N then f (s.val + n - lo) else 0 : ℝ)) : EReal))]
  refine ((Equiv.sum_comp (Shape.rowMajor (⟨4, ![1, 1, 1, N]⟩ : Shape)).symm (fun w : (⟨4, ![1, 1, 1, N]⟩ : Shape).Idx =>
    if hin : ∀ a : Fin 4, (![0, 0, 0, lo] : Fin 4 → ℕ) a ≤ ((ix4 b c t s : (⟨4, ![A, B, M, N]⟩ : Shape).Idx) a).val * (![1, 1, 1, 1] : Fin 4 → ℕ) a + (w a).val ∧
        ((ix4 b c t s : (⟨4, ![A, B, M, N]⟩ : Shape).Idx) a).val * (![1, 1, 1, 1] : Fin 4 → ℕ) a + (w a).val - (![0, 0, 0, lo] : Fin 4 → ℕ) a < (⟨4, ![A, B, M, N]⟩ : Shape).size a
      then x (fun a => ⟨((ix4 b c t s : (⟨4, ![A, B, M, N]⟩ : Shape).Idx) a).val * (![1, 1, 1, 1] : Fin 4 → ℕ) a + (w a).val - (![0, 0, 0, lo] : Fin 4 → ℕ) a, (hin a).2⟩) else 0)).trans
    ((Equiv.sum_comp (winEquiv N) _).symm)).trans (Finset.sum_congr rfl fun n _ => ?_)
  have hb := b.isLt
  have hc := c.isLt
  have ht := t.isLt
  by_cases hn : lo ≤ s.val + n.val ∧ s.val + n.val - lo < N
  · have hin : ∀ a : Fin 4, (![0, 0, 0, lo] : Fin 4 → ℕ) a ≤ ((ix4 b c t s : (⟨4, ![A, B, M, N]⟩ : Shape).Idx) a).val * (![1, 1, 1, 1] : Fin 4 → ℕ) a + ((winEquiv N n) a).val ∧
        ((ix4 b c t s : (⟨4, ![A, B, M, N]⟩ : Shape).Idx) a).val * (![1, 1, 1, 1] : Fin 4 → ℕ) a + ((winEquiv N n) a).val - (![0, 0, 0, lo] : Fin 4 → ℕ) a < (⟨4, ![A, B, M, N]⟩ : Shape).size a := by
      intro a
      match a with
      | ⟨0, _⟩ => exact ⟨Nat.zero_le _, by show b.val * 1 + 0 - 0 < A; omega⟩
      | ⟨1, _⟩ => exact ⟨Nat.zero_le _, by show c.val * 1 + 0 - 0 < B; omega⟩
      | ⟨2, _⟩ => exact ⟨Nat.zero_le _, by show t.val * 1 + 0 - 0 < M; omega⟩
      | ⟨3, _⟩ => exact ⟨by show lo ≤ s.val * 1 + n.val; omega, by show s.val * 1 + n.val - lo < N; omega⟩
    rw [dif_pos hin, if_pos hn]
    refine (congrArg x (funext fun a => Fin.ext ?_)).trans (hx ⟨s.val + n.val - lo, hn.2⟩)
    match a with
    | ⟨0, _⟩ => show b.val * 1 + 0 - 0 = b.val; omega
    | ⟨1, _⟩ => show c.val * 1 + 0 - 0 = c.val; omega
    | ⟨2, _⟩ => show t.val * 1 + 0 - 0 = t.val; omega
    | ⟨3, _⟩ => show s.val * 1 + n.val - lo = s.val + n.val - lo; omega
  · rw [dif_neg (fun hin => hn (by
      have h3 := hin 3
      change lo ≤ s.val * 1 + n.val ∧ s.val * 1 + n.val - lo < N at h3
      rwa [Nat.mul_one] at h3)), if_neg hn, EReal.coe_zero]

/-- The sums of what comes at or after each position. -/
theorem cumsum_after (x : (⟨4, ![A, B, M, N]⟩ : Shape).Idx → EReal) {u : Shape} (init : u.Idx → EReal)
    (hinit : ∀ i, init i = 0)
    (h : (⟨4, ![A, B, M, N]⟩ : Shape).ReduceWindows ![1, 1, 1, N] ![1, 1, 1, 1] ![0, 0, 0, 0] ![0, 0, 0, N1] ⟨4, ![A, B, M, N]⟩)
    (hu : 0 < u.numel) (b : Fin A) (c : Fin B) (t : Fin M) (s : Fin N) (f : ℕ → ℝ)
    (hx : ∀ k : Fin N, x (ix4 b c t k) = ((f k.val : ℝ) : EReal)) :
    Host.reduceWindowAdd (F := Ideal) (φ := .f32) ![1, 1, 1, N] ![1, 1, 1, 1] ![0, 0, 0, 0] ![0, 0, 0, N1] x init h hu (ix4 b c t s)
      = ((∑ k ∈ Finset.range N, if s.val ≤ k then f k else 0 : ℝ) : EReal) := by
  rw [window_sum 0 N1 x init hinit h hu b c t s f hx]
  congr 1
  have hs := s.isLt
  rw [← Finset.sum_filter, ← Finset.sum_filter]
  refine Finset.sum_bij' (fun n _ => s.val + n) (fun k _ => k - s.val) ?_ ?_ ?_ ?_ ?_ <;>
    intro n hn <;> simp only [Finset.mem_filter, Finset.mem_range] at hn ⊢ <;> first | omega | (congr 1)

/-- The sums of what comes at or before each position. -/
theorem cumsum_before (hN : N1 + 1 = N) (x : (⟨4, ![A, B, M, N]⟩ : Shape).Idx → EReal) {u : Shape} (init : u.Idx → EReal)
    (hinit : ∀ i, init i = 0)
    (h : (⟨4, ![A, B, M, N]⟩ : Shape).ReduceWindows ![1, 1, 1, N] ![1, 1, 1, 1] ![0, 0, 0, N1] ![0, 0, 0, 0] ⟨4, ![A, B, M, N]⟩)
    (hu : 0 < u.numel) (b : Fin A) (c : Fin B) (t : Fin M) (s : Fin N) (f : ℕ → ℝ)
    (hx : ∀ k : Fin N, x (ix4 b c t k) = ((f k.val : ℝ) : EReal)) :
    Host.reduceWindowAdd (F := Ideal) (φ := .f32) ![1, 1, 1, N] ![1, 1, 1, 1] ![0, 0, 0, N1] ![0, 0, 0, 0] x init h hu (ix4 b c t s)
      = ((∑ k ∈ Finset.range N, if k ≤ s.val then f k else 0 : ℝ) : EReal) := by
  rw [window_sum N1 0 x init hinit h hu b c t s f hx]
  congr 1
  have hs := s.isLt
  rw [← Finset.sum_filter, ← Finset.sum_filter]
  refine Finset.sum_bij' (fun n _ => s.val + n - N1) (fun k _ => k + N1 - s.val) ?_ ?_ ?_ ?_ ?_ <;>
    intro n hn <;> simp only [Finset.mem_filter, Finset.mem_range] at hn ⊢ <;> first | omega | (congr 1)

end Cert.Proof
-- ==== Proof.Sb.RefSoft.lean ====
module

public import proofs.«01_k».proof.Proof.Sb.RefIn
public import proofs.«01_k».proof.Proof.Sb.Cumsum

/-!
The logarithm of the logistic function as the reference computes it, and the factors its derivative
uses, at a real score.
-/

@[expose] public section

noncomputable section

namespace Cert.Proof

open Idealize.ShloMosaic Idealize.ShloMosaic.ValueIdx Cert.ReferenceIdeal Cert.ReferenceIdeal.Read

theorem inf_word : Ideal.ofBits .f32 0x7F800000#32 = ⊤ := by
  simp [Ideal.ofBits, Ideal.ieee]

theorem zero_word : Ideal.ofBits .f32 0x00000000#32 = 0 := by
  simp [Ideal.ofBits, Ideal.ieee]

/-- A value never differs from itself. -/
theorem select_une (x a b : EReal) : Scalar.select (Ideal.cmp .une x x) a b = b := by
  simp [Scalar.select, Ideal.cmp]

/-- A real is not the positive infinity. -/
theorem select_top (x : ℝ) (a b : EReal) : Scalar.select (Ideal.cmp .oeq (x : EReal) ⊤) a b = b := by
  simp [Scalar.select, Ideal.cmp]

/-- The logarithm of the logistic function at the negated argument. -/
theorem ls_neg (z : ℝ) : ls (-z) = ls z - z := by
  unfold ls
  rw [abs_neg]
  have : min (-z) 0 = min z 0 - z := by
    rcases le_total z 0 with h | h
    · rw [min_eq_right (by linarith), min_eq_left h]; ring
    · rw [min_eq_left (by linarith), min_eq_right h]; ring
  rw [this]; ring

/-- The logistic function at the two opposite arguments adds to one. -/
theorem exp_ls_neg (z : ℝ) : Real.exp (ls z - z) = 1 - Real.exp (ls z) := by
  have h : ∀ z : ℝ, 0 ≤ z → Real.exp (ls z - z) = 1 - Real.exp (ls z) := by
    intro z hz
    have hp : (0 : ℝ) < 1 + Real.exp (-z) := by positivity
    have e : ls z = -Real.log (1 + Real.exp (-z)) := by
      unfold ls; rw [min_eq_right hz, abs_of_nonneg hz, zero_sub, zero_sub]
    rw [e, sub_eq_add_neg, Real.exp_add, Real.exp_neg (Real.log _), Real.exp_log hp]
    field_simp
    ring
  rcases le_total 0 z with hz | hz
  · exact h z hz
  · have h' := h (-z) (by linarith)
    rw [ls_neg] at h'
    have : ls z - z - -z = ls z := by ring
    rw [this] at h'
    linarith

/-- `max x 0 + log (1 + exp (−|x|))` at a real, negated: the logarithm of the logistic function at the negated argument. -/
theorem softplus_coe (x : ℝ) :
    max ((x : ℝ) : EReal) 0 + Ideal.log (1 + Ideal.exp (-(max ((x : ℝ) : EReal) (-(x : EReal))))) = ((-ls (-x) : ℝ) : EReal) := by
  have h : (0 : ℝ) < 1 + Real.exp (-|x|) := by positivity
  rw [coe_abs, ← EReal.coe_zero, coe_max, ← EReal.coe_neg, Ideal.exp_coe, ← EReal.coe_one, ← EReal.coe_add, log_coe_pos h,
    ← EReal.coe_add]
  congr 1
  unfold ls
  have : min (-x) 0 = -max x 0 := by rw [← neg_zero, min_neg_neg, neg_zero]
  rw [this, abs_neg, zero_sub]
  ring

section

variable {x0 : (⟨S4096x3200, .f32⟩ : BufTy).Contents (Elt Ideal)} (i : S2x4x2048x2048.Idx) {z : ℝ}
  (hz : val_main_v16 (F := Ideal) x0 i = ((z : ℝ) : EReal))
include hz

theorem soft_arg : val_main_call0_v0 (F := Ideal) x0 i = ((-z : ℝ) : EReal) := by
  rw [val_main_call0_v0_apply, hz]; exact (EReal.coe_neg z).symm

theorem soft_at : val_main_call0_v1_0 (F := Ideal) x0 i = ((-(ls z) : ℝ) : EReal) := by
  have h := softplus_coe (-z)
  have e : ls (-(-z)) = ls z := by rw [neg_neg]
  rw [e] at h
  simp only [val_main_call0_v1_0_apply, val_main_call0_call0_v4_apply, val_main_call0_call0_v11_apply, val_main_call0_call0_v10_apply, val_main_call0_call0_v9_apply, val_main_call0_call0_v8_apply, val_main_call0_call0_v7_apply, val_main_call0_call0_v3_apply,
    val_main_call0_call0_v2_apply, val_main_call0_call0_v1_apply, val_main_call0_call0_v0_apply, val_main_call0_call0_cst_apply, soft_arg i hz]
  refine (select_une _ _ _).trans ?_
  refine Eq.trans ?_ h
  simp only [Ideal.ofBits_def, zero_word, Ideal.subf_def, sub_zero, Ideal.addf_def, Ideal.maximumf_def, Ideal.hostUnary_log1p_def,
    Ideal.hostUnary_exp_def, Ideal.hostNegf_def, Ideal.negf_def, Ideal.log1p]
  rfl

/-- Its derivative's factor. -/
theorem soft_factor : val_main_v24_1 (F := Ideal) x0 i = ((Real.exp (-z + (ls z)) : ℝ) : EReal) := by
  simp only [val_main_v24_1_apply, val_main_call0_call0_v21_apply, val_main_call0_call0_v20_apply, val_main_call0_call0_v19_apply, val_main_call0_call0_v18_apply, val_main_call0_call0_v17_apply, val_main_call0_call0_v16_apply, val_main_call0_call0_v15_apply, val_main_call0_call0_v14_apply, val_main_call0_call0_v13_apply,
    val_main_call0_call0_cst_0_apply, val_main_call0_call0_cst_1_apply, val_main_call0_call0_cst_2_apply, val_main_call0_call0_cst_3_apply, soft_at i hz, soft_arg i hz, Ideal.ofBits_def, inf_word, zero_word,
    Ideal.cmpf_def, select_top, Ideal.subf_def, Ideal.hostUnary_exp_def]
  rw [← EReal.coe_sub, Ideal.exp_coe, sub_neg_eq_add]

theorem soft_log : val_main_v24_0 (F := Ideal) x0 i = ((ls z : ℝ) : EReal) := by
  rw [val_main_v24_0_apply, soft_at i hz, Ideal.hostNegf_def, Ideal.negf_def, ← EReal.coe_neg, neg_neg]

theorem soft_neg_arg : val_main_call1_v0 (F := Ideal) x0 i = ((z : ℝ) : EReal) := by
  rw [val_main_call1_v0_apply, val_main_v25_apply, hz, Ideal.hostNegf_def, Ideal.hostNegf_def, Ideal.negf_def, Ideal.negf_def, neg_neg]

theorem soft_neg_at : val_main_call1_v1_0 (F := Ideal) x0 i = ((-(ls z - z) : ℝ) : EReal) := by
  have h := softplus_coe (z)
  have e : ls (-(z)) = ls z - z := by exact ls_neg z
  rw [e] at h
  simp only [val_main_call1_v1_0_apply, val_main_call1_call0_v4_apply, val_main_call1_call0_v11_apply, val_main_call1_call0_v10_apply, val_main_call1_call0_v9_apply, val_main_call1_call0_v8_apply, val_main_call1_call0_v7_apply, val_main_call1_call0_v3_apply,
    val_main_call1_call0_v2_apply, val_main_call1_call0_v1_apply, val_main_call1_call0_v0_apply, val_main_call1_call0_cst_apply, soft_neg_arg i hz]
  refine (select_une _ _ _).trans ?_
  refine Eq.trans ?_ h
  simp only [Ideal.ofBits_def, zero_word, Ideal.subf_def, sub_zero, Ideal.addf_def, Ideal.maximumf_def, Ideal.hostUnary_log1p_def,
    Ideal.hostUnary_exp_def, Ideal.hostNegf_def, Ideal.negf_def, Ideal.log1p]
  rfl

/-- Its derivative's factor. -/
theorem soft_neg_factor : val_main_v26_1 (F := Ideal) x0 i = ((Real.exp (z + (ls z - z)) : ℝ) : EReal) := by
  simp only [val_main_v26_1_apply, val_main_call1_call0_v21_apply, val_main_call1_call0_v20_apply, val_main_call1_call0_v19_apply, val_main_call1_call0_v18_apply, val_main_call1_call0_v17_apply, val_main_call1_call0_v16_apply, val_main_call1_call0_v15_apply, val_main_call1_call0_v14_apply, val_main_call1_call0_v13_apply,
    val_main_call1_call0_cst_0_apply, val_main_call1_call0_cst_1_apply, val_main_call1_call0_cst_2_apply, val_main_call1_call0_cst_3_apply, soft_neg_at i hz, soft_neg_arg i hz, Ideal.ofBits_def, inf_word, zero_word,
    Ideal.cmpf_def, select_top, Ideal.subf_def, Ideal.hostUnary_exp_def]
  rw [← EReal.coe_sub, Ideal.exp_coe, sub_neg_eq_add]

theorem soft_neg_log : val_main_v26_0 (F := Ideal) x0 i = ((ls z - z : ℝ) : EReal) := by
  rw [val_main_v26_0_apply, soft_neg_at i hz, Ideal.hostNegf_def, Ideal.negf_def, ← EReal.coe_neg, neg_neg]

end

end Cert.Proof
-- ==== Proof.Sb.RefGrad.lean ====
module

public import proofs.«01_k».proof.Proof.Sb.RefSoft
public import Idealize.ShloMosaic.Lib.WordCmp

/-!
The reference's weights, the derivatives of its scores, and its three gradients, at real arguments.
-/

@[expose] public section

noncomputable section

namespace Cert.Proof

open Idealize.ShloMosaic Idealize.ShloMosaic.ValueIdx Cert.ReferenceIdeal Cert.ReferenceIdeal.Read

/-- The scores of head `h` of batch element `b`. -/
def headZ (R : ℕ → ℕ → ℝ) (b h : ℕ) : ℕ → ℕ → ℝ := zS (rowQ R b) (rowK R b) h
/-- The derivatives of the weights of head `h` of batch element `b`. -/
def headP (R G : ℕ → ℕ → ℝ) (b h : ℕ) : ℕ → ℕ → ℝ := zS (pre (rowQ G b)) (rowV R b) h

/-- The mask: keys strictly before the query. -/
theorem mask_at (j : S2048x2048.Idx) : val_main_v23 (F := Ideal) j = BitVec.ofBool (decide ((j 1).val < (j 0).val)) := by
  have h0 : (j 0).val < 2048 := (j 0).isLt
  have h1 : (j 1).val < 2048 := (j 1).isLt
  rw [val_main_v23_apply, val_main_v21_apply, val_main_v22_apply, val_main_v18_apply, val_main_v20_apply, val_main_v17_apply, val_main_v19_apply]
  exact WordCmp.cmpi_slt_ofNat (w := 32) (a := (j 1).val) (b := (j 0).val) (by omega) (by omega)

/-- A choice by a truth value. -/
theorem select_ofBool (p : Prop) [Decidable p] (a b : EReal) : Scalar.select (BitVec.ofBool (decide p)) a b = if p then a else b := by
  by_cases hp : p <;> simp [Scalar.select, hp]

section

variable {x0 : (⟨S4096x3200, .f32⟩ : BufTy).Contents (Elt Ideal)} {x1 : (⟨S4096x1024, .f32⟩ : BufTy).Contents (Elt Ideal)}
  {R G : ℕ → ℕ → ℝ}
  (hR : ∀ i : S4096x3200.Idx, (i 1).val < 768 → x0 i = ((R (i 0).val (i 1).val : ℝ) : EReal))
  (hG : ∀ i : S4096x1024.Idx, (i 1).val < 256 → x1 i = ((G (i 0).val (i 1).val : ℝ) : EReal))
include hR

/-- The masked logarithms of the rests. -/
theorem rest_at (i : S2x4x2048x2048.Idx) : val_main_v27_0 (F := Ideal) x0 i
    = (((if (i 3).val < (i 2).val then ls (headZ R (i 0).val (i 1).val (i 2).val (i 3).val) - headZ R (i 0).val (i 1).val (i 2).val (i 3).val else 0) : ℝ) : EReal) := by
  rw [val_main_v27_0_apply, val_main_v27_1_apply, mask_at, soft_neg_log i (score_at hR i), val_main_call2_v2_apply, val_main_call2_v0_apply,
    val_main_cst_0_apply, Ideal.ofBits_def, zero_word, select_ofBool, ← EReal.coe_zero, coe_ite]
  rfl

/-- The logarithms of the rests of the keys between, added. -/
theorem after_at (b : Fin 2) (h : Fin 4) (t s : Fin 2048) :
    val_main_v29 (F := Ideal) x0 (ValueIdx.ix4 b h t s) = ((aT (headZ R b.val h.val) t.val s.val : ℝ) : EReal) := by
  rw [val_main_v29_apply, rest_at hR]
  unfold val_main_v28
  rw [cumsum_after (N1 := 2047) (val_main_v27_0 (F := Ideal) x0) (val_main_call3_v0 (F := Ideal)) (fun i => by
      rw [val_main_call3_v0_apply, val_main_call3_cst_apply, Ideal.ofBits_def, zero_word]) _ _ b h t s
    (fun k => if k < t.val then ls (headZ R b.val h.val t.val k) - headZ R b.val h.val t.val k else 0) (fun k => rest_at hR (ValueIdx.ix4 b h t k))]
  refine (EReal.coe_sub _ _).symm.trans ?_
  congr 1
  unfold aT
  have hs := s.isLt
  have e : ∀ f : ℕ → ℝ, (∑ k ∈ Finset.range 2048, if s.val ≤ k then f k else 0) - f s.val = ∑ k ∈ Finset.range 2048, if s.val < k then f k else 0 := by
    intro f
    have e2 : f s.val = ∑ k ∈ Finset.range 2048, if k = s.val then f k else 0 := by
      rw [Finset.sum_ite_eq' (Finset.range 2048) s.val f, if_pos (Finset.mem_range.mpr hs)]
    rw [e2, ← Finset.sum_sub_distrib]
    refine Finset.sum_congr rfl fun k _ => ?_
    rcases lt_trichotomy s.val k with hk | hk | hk
    · rw [if_pos hk.le, if_neg (by omega), if_pos hk, sub_zero]
    · rw [if_pos hk.le, if_pos hk.symm, if_neg (by omega), sub_self]
    · rw [if_neg (by omega), if_neg (by omega), if_neg (by omega), sub_zero]
  exact e (fun k => if k < t.val then ls (headZ R b.val h.val t.val k) - headZ R b.val h.val t.val k else 0)

/-- The unmasked weights. -/
theorem raw_at (i : S2x4x2048x2048.Idx) : val_main_v31 (F := Ideal) x0 i
    = ((Real.exp (ls (headZ R (i 0).val (i 1).val (i 2).val (i 3).val) + aT (headZ R (i 0).val (i 1).val) (i 2).val (i 3).val) : ℝ) : EReal) := by
  have h := (congrArg (val_main_v29 (F := Ideal) x0) (ValueIdx.eq_ix4 i)).trans (after_at hR (i 0) (i 1) (i 2) (i 3))
  rw [val_main_v31_apply, val_main_v30_apply, soft_log i (score_at hR i), h, Ideal.hostUnary_exp_def, Ideal.addf_def, ← EReal.coe_add, Ideal.exp_coe]
  rfl

/-- The weights. -/
theorem weight_at (i : S2x4x2048x2048.Idx) : val_main_v32_0 (F := Ideal) x0 i
    = ((aA (headZ R (i 0).val (i 1).val) (i 2).val (i 3).val : ℝ) : EReal) := by
  rw [val_main_v32_0_apply, val_main_v32_1_apply, mask_at, raw_at hR, val_main_call4_v2_apply, val_main_call4_v0_apply,
    val_main_cst_1_apply, Ideal.ofBits_def, zero_word, select_ofBool, ← EReal.coe_zero, coe_ite]
  rfl

include hG

/-- The weights times their derivatives. -/
theorem dl_at (i : S2x4x2048x2048.Idx) : val_main_v38 (F := Ideal) x0 x1 i
    = ((aD (headZ R (i 0).val (i 1).val) (headP R G (i 0).val (i 1).val) (i 2).val (i 3).val : ℝ) : EReal) := by
  rw [val_main_v38_apply, val_main_v37_apply, val_main_v32_1_apply, mask_at, raw_at hR, val_main_call5_v0_apply, val_main_call5_cst_apply,
    Ideal.ofBits_def, zero_word, select_ofBool, prob_at hR hG, ← EReal.coe_zero, coe_ite, Ideal.mulf_def, ← EReal.coe_mul]
  congr 1
  unfold aD aA headP
  show (if (i 3).val < (i 2).val then _ else (0 : ℝ)) * _ = _
  by_cases h : (i 3).val < (i 2).val
  · rw [if_pos h, if_pos h, mul_comm]
  · rw [if_neg h, if_neg h]; ring

/-- The same added over the earlier keys. -/
theorem before_at (b : Fin 2) (h : Fin 4) (t s : Fin 2048) :
    val_main_v41 (F := Ideal) x0 x1 (ValueIdx.ix4 b h t s)
      = ((∑ x ∈ Finset.range s.val, aD (headZ R b.val h.val) (headP R G b.val h.val) t.val x : ℝ) : EReal) := by
  rw [val_main_v41_apply, val_main_v39_apply, dl_at hR hG]
  unfold val_main_v40
  rw [cumsum_before (N1 := 2047) rfl (val_main_v38 (F := Ideal) x0 x1) (val_main_call6_v0 (F := Ideal)) (fun i => by
      rw [val_main_call6_v0_apply, val_main_call6_cst_apply, Ideal.ofBits_def, zero_word]) _ _ b h t s
    (fun k => aD (headZ R b.val h.val) (headP R G b.val h.val) t.val k) (fun k => dl_at hR hG (ValueIdx.ix4 b h t k)),
    Ideal.hostNegf_def, Ideal.negf_def, Ideal.addf_def, ← EReal.coe_neg, ← EReal.coe_add]
  congr 1
  have hs := s.isLt
  show -(aD (headZ R b.val h.val) (headP R G b.val h.val) t.val s.val) + _ = _
  rw [← Finset.sum_filter]
  have e : (Finset.range 2048).filter (fun k => k ≤ s.val) = Finset.range (s.val + 1) := by
    ext k; simp only [Finset.mem_filter, Finset.mem_range]; omega
  rw [e, Finset.sum_range_succ]
  ring

/-- The derivatives of the scores. -/
theorem dz_at (i : S2x4x2048x2048.Idx) : val_main_v46 (F := Ideal) x0 x1 i
    = ((aZ (headZ R (i 0).val (i 1).val) (headP R G (i 0).val (i 1).val) (i 2).val (i 3).val : ℝ) : EReal) := by
  have h := (congrArg (val_main_v41 (F := Ideal) x0 x1) (ValueIdx.eq_ix4 i)).trans (before_at hR hG (i 0) (i 1) (i 2) (i 3))
  rw [val_main_v46_apply, val_main_v44_apply, val_main_v43_apply, val_main_call8_v1_apply, val_main_call8_v0_apply, val_main_v45_apply,
    val_main_call9_v1_apply, val_main_call9_v0_apply, val_main_v42_apply, h, dl_at hR hG, val_main_v27_1_apply, mask_at, val_main_call7_v0_apply,
    val_main_call7_cst_apply, Ideal.ofBits_def, zero_word, select_ofBool, soft_factor i (score_at hR i), soft_neg_factor i (score_at hR i),
    ← EReal.coe_zero, coe_ite]
  simp only [Ideal.hostNegf_def, Ideal.negf_def, Ideal.addf_def, Ideal.mulf_def, ← EReal.coe_neg, ← EReal.coe_mul, ← EReal.coe_add]
  congr 1
  have e1 : ∀ z : ℝ, Real.exp (-z + ls z) = 1 - Real.exp (ls z) := fun z => by rw [← exp_ls_neg]; congr 1; ring
  have e2 : ∀ z : ℝ, Real.exp (z + (ls z - z)) = Real.exp (ls z) := fun z => by congr 1; ring
  rw [e1, e2]
  unfold aZ headZ
  show - -(-(if (i 3).val < (i 2).val then _ else (0 : ℝ)) * _) + _ = _
  by_cases h : (i 3).val < (i 2).val
  · rw [if_pos h, if_pos h]; ring
  · rw [if_neg h, if_neg h, aD, aA_zero _ (by omega)]; ring

/-- The same, scaled. -/
theorem ds_at (i : S2x4x2048x2048.Idx) : val_main_v48 (F := Ideal) x0 x1 i
    = ((aZ (headZ R (i 0).val (i 1).val) (headP R G (i 0).val (i 1).val) (i 2).val (i 3).val * (1 / 8) : ℝ) : EReal) := by
  have e8 : Ideal.ofBits .f32 0x3E000000#32 = ((1 / 8 : ℝ) : EReal) := by
    simp [Ideal.ofBits, Ideal.ieee, -EReal.coe_mul]; norm_num
  rw [val_main_v48_apply, dz_at hR hG, val_main_v47_apply, val_main_cst_2_apply, Ideal.ofBits_def, e8, Ideal.mulf_def, ← EReal.coe_mul]

end

end Cert.Proof
-- ==== Proof.Sb.Tails.lean ====
module

public import proofs.«01_k».proof.Proof.Sb.RefGrad
public import proofs.«01_k».proof.Proof.Gen.KernelIdeal.Frame
public import Idealize.ShloMosaic.Lib.Claim
public import Idealize.ShloMosaic.Lib.KernelVsHost

/-!
The carried tails the host code hands the kernel: of each row of the scan, the entry at the end of each
block of 256 keys.
-/

@[expose] public section

set_option maxRecDepth 8192

noncomputable section

namespace Cert.Proof

open Idealize.ShloMosaic Idealize.ShloMosaic.TcCoe Cert.KernelIdeal Cert.KernelIdeal.Gen Idealize.ShloMosaic.StableHlo Idealize.SL.Sem

variable (m : (ℓ : Loc nD τ sig) → Buf (Elt Ideal) ℓ)
set_option maxHeartbeats 1600000 in
/-- The tails are every 256th entry of the exclusive sums from the right, padded with zeros to 128 lanes. -/
theorem tails_eq (c : Dev nD) : V (F := Ideal) m c main_v26 = pad S2x4x2048x128 ![0, 0, 0, 0] ![0, 0, 0, 120] ![0, 0, 0, 0]
     (Host.slice S2x4x2048x8 ![0, 0, 0, 255] ![1, 1, 1, 256] (Cert.ReferenceIdeal.Read.val_main_v29 (F := Ideal) (m ((c : Thread nD τ).loc main_arg0))) slicesBy_S2x4x2048x2048_S2x4x2048x8_0s1_0s1_0s1_255s256)
     (sitofp (F := Ideal) .f32 (constantI S_ 32 0#32)) pads_S2x4x2048x8_S2x4x2048x128_000_000_000_01200 h_S_ := by
  unfold V
  simp only [hostOps0, hostOps0_1, hostOps0_2, hostOps0_3, hostOps0_4, hostOps0_5, hostOps0_6, List.flatten_cons, List.flatten_nil, List.append_nil, List.cons_append, List.nil_append]
  after_results
  rfl

/-- An entry of the tails: the exclusive sum from the right at the last key of block `i 3`. -/
theorem tails_at {R : ℕ → ℕ → ℝ} (c : Dev nD)
    (hR : ∀ i : S4096x3200.Idx, (i 1).val < 768 → m ((c : Thread nD τ).loc main_arg0) i = ((R (i 0).val (i 1).val : ℝ) : EReal))
    (i : S2x4x2048x128.Idx) (hi : (i 3).val < 8) : V m c main_v26 i
      = ((aT (zS (rowQ R (i 0).val) (rowK R (i 0).val) (i 1).val) (i 2).val (256 * (i 3).val + 255) : ℝ) : EReal) := by
  have e0 : (i 0).val < 2 := (i 0).isLt
  have e1 : (i 1).val < 4 := (i 1).isLt
  have e2 : (i 2).val < 2048 := (i 2).isLt
  rw [tails_eq]
  rw [pad_apply_of_inside (k := (ValueIdx.ix4 ⟨(i 0).val, e0⟩ ⟨(i 1).val, e1⟩ ⟨(i 2).val, e2⟩ ⟨(i 3).val, hi⟩ : S2x4x2048x8.Idx))]
  · refine Eq.trans ?_ (after_at hR ⟨(i 0).val, e0⟩ ⟨(i 1).val, e1⟩ ⟨(i 2).val, e2⟩ ⟨256 * (i 3).val + 255, by omega⟩)
    refine congrArg (Cert.ReferenceIdeal.Read.val_main_v29 (F := Ideal) (m ((c : Thread nD τ).loc main_arg0))) (funext fun a => Fin.ext ?_)
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
    | ⟨3, _⟩ => show 255 + 256 * (i 3).val = 256 * (i 3).val + 255; omega
  · intro a
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
    | ⟨3, _⟩ => show (i 3).val = 0 + (i 3).val * (0 + 1); omega

end Cert.Proof
-- ==== Proof.Sb.RefOut.lean ====
module

public import proofs.«01_k».proof.Proof.Sb.RefGrad

/-!
The reference's three results at real arguments, row by row and lane by lane.
-/

@[expose] public section

noncomputable section

namespace Cert.Proof

open Idealize.ShloMosaic Idealize.ShloMosaic.ValueIdx Cert.ReferenceIdeal Cert.ReferenceIdeal.Read

/-- At a lane, only the head the lane belongs to counts. -/
theorem head_pick (f : ℕ → ℝ) (g : ℕ → ℕ → ℝ) (s : ℕ) {h d : ℕ} (hh : h < 4) (hd : d < 64) :
    (∑ x ∈ Finset.range 4, f x * lane x g s (64 * h + d)) = f h * g s (64 * h + d) := by
  have e : ∀ x ∈ Finset.range 4, f x * lane x g s (64 * h + d) = if x = h then f h * g s (64 * h + d) else 0 := by
    intro x _
    unfold lane
    by_cases hx : x = h
    · subst hx; rw [if_pos (by omega), if_pos rfl]
    · rw [if_neg (by omega), if_neg hx, mul_zero]
  rw [Finset.sum_congr rfl e, Finset.sum_ite_eq' (Finset.range 4) h, if_pos (Finset.mem_range.mpr hh)]

section

variable {x0 : (⟨S4096x3200, .f32⟩ : BufTy).Contents (Elt Ideal)} {x1 : (⟨S4096x1024, .f32⟩ : BufTy).Contents (Elt Ideal)}
  {R G : ℕ → ℕ → ℝ}
  (hR : ∀ i : S4096x3200.Idx, (i 1).val < 768 → x0 i = ((R (i 0).val (i 1).val : ℝ) : EReal))
  (hG : ∀ i : S4096x1024.Idx, (i 1).val < 256 → x1 i = ((G (i 0).val (i 1).val : ℝ) : EReal))
include hR hG

/-- The query gradient, head by head. -/
theorem dq_head (i : S2x4x2048x64.Idx) : val_main_v50 (F := Ideal) x0 x1 i
    = ((((∑ s ∈ Finset.range 2048, dqS (rowQ R (i 0).val) (rowK R (i 0).val) (rowV R (i 0).val) (rowQ G (i 0).val) (i 2).val s (64 * (i 1).val + (i 3).val)) * (1 / 8)) : ℝ) : EReal) := by
  have h1 : (i 1).val < 4 := (i 1).isLt
  have h3 : (i 3).val < 64 := (i 3).isLt
  rw [val_main_v50_apply]
  simp only [ds_at hR hG, k_at hR, ← EReal.coe_mul]
  rw [coe_sum]
  congr 1
  rw [Finset.sum_range, Finset.sum_mul]
  refine Finset.sum_congr rfl fun s _ => ?_
  unfold dqS
  rw [head_pick (fun x => aZ (zS (rowQ R (i 0).val) (rowK R (i 0).val) x) (zS (pre (rowQ G (i 0).val)) (rowV R (i 0).val) x) (i 2).val s.val) _ _ h1 h3]
  show aZ _ _ (i 2).val s.val * (1 / 8) * _ = _
  unfold headZ headP
  ring

/-- The query gradient as the reference returns it. -/
theorem dq_out (i : S4096x256.Idx) : val_main_v53 (F := Ideal) x0 x1 i
    = ((((∑ s ∈ Finset.range 2048, dqS (rowQ R ((i 0).val / 2048)) (rowK R ((i 0).val / 2048)) (rowV R ((i 0).val / 2048)) (rowQ G ((i 0).val / 2048)) ((i 0).val % 2048) s (i 1).val) * (1 / 8)) : ℝ) : EReal) := by
  have h0 : (i 0).val < 4096 := (i 0).isLt
  have h1 : (i 1).val < 256 := (i 1).isLt
  rw [val_main_v53_apply, val_main_v52_apply, val_main_v51_apply]
  generalize hj : idx_main_v51 (idx_main_v52 (idx_main_v53 i)) = j
  have e0 : (j 0).val = (i 0).val / 2048 := by rw [← hj]; dsimp only; omega
  have e1 : (j 1).val = (i 1).val / 64 := by rw [← hj]; dsimp only; omega
  have e2 : (j 2).val = (i 0).val % 2048 := by rw [← hj]; dsimp only; omega
  have e3 : (j 3).val = (i 1).val % 64 := by rw [← hj]; dsimp only; omega
  rw [dq_head hR hG j, e0, e1, e2, e3, Nat.div_add_mod]

/-- The key gradient, head by head. -/
theorem dk_head (i : S2x4x2048x64.Idx) : val_main_v49 (F := Ideal) x0 x1 i
    = (((∑ t ∈ Finset.range 2048, dkS (rowQ R (i 0).val) (rowK R (i 0).val) (rowV R (i 0).val) (rowQ G (i 0).val) t (i 2).val (64 * (i 1).val + (i 3).val)) : ℝ) : EReal) := by
  have h1 : (i 1).val < 4 := (i 1).isLt
  have h3 : (i 3).val < 64 := (i 3).isLt
  rw [val_main_v49_apply]
  simp only [ds_at hR hG, q_at hR, ← EReal.coe_mul]
  rw [coe_sum]
  congr 1
  rw [Finset.sum_range]
  refine Finset.sum_congr rfl fun t _ => ?_
  unfold dkS
  rw [head_pick (fun x => aZ (zS (rowQ R (i 0).val) (rowK R (i 0).val) x) (zS (pre (rowQ G (i 0).val)) (rowV R (i 0).val) x) t.val (i 2).val) _ _ h1 h3]
  show aZ _ _ t.val (i 2).val * (1 / 8) * _ = _
  unfold headZ headP sQ
  ring

/-- The key gradient as the reference returns it. -/
theorem dk_out (i : S4096x256.Idx) : val_main_v56 (F := Ideal) x0 x1 i
    = (((∑ t ∈ Finset.range 2048, dkS (rowQ R ((i 0).val / 2048)) (rowK R ((i 0).val / 2048)) (rowV R ((i 0).val / 2048)) (rowQ G ((i 0).val / 2048)) t ((i 0).val % 2048) (i 1).val) : ℝ) : EReal) := by
  have h0 : (i 0).val < 4096 := (i 0).isLt
  have h1 : (i 1).val < 256 := (i 1).isLt
  rw [val_main_v56_apply, val_main_v55_apply, val_main_v54_apply]
  generalize hj : idx_main_v54 (idx_main_v55 (idx_main_v56 i)) = j
  have e0 : (j 0).val = (i 0).val / 2048 := by rw [← hj]; dsimp only; omega
  have e1 : (j 1).val = (i 1).val / 64 := by rw [← hj]; dsimp only; omega
  have e2 : (j 2).val = (i 0).val % 2048 := by rw [← hj]; dsimp only; omega
  have e3 : (j 3).val = (i 1).val % 64 := by rw [← hj]; dsimp only; omega
  rw [dk_head hR hG j, e0, e1, e2, e3, Nat.div_add_mod]

/-- The value gradient, head by head. -/
theorem dv_head (i : S2x4x2048x64.Idx) : val_main_v35 (F := Ideal) x0 x1 i
    = (((∑ t ∈ Finset.range 2048, dvS (rowQ R (i 0).val) (rowK R (i 0).val) (rowQ G (i 0).val) t (i 2).val (64 * (i 1).val + (i 3).val)) : ℝ) : EReal) := by
  have h1 : (i 1).val < 4 := (i 1).isLt
  have h3 : (i 3).val < 64 := (i 3).isLt
  rw [val_main_v35_apply, val_main_v34_apply]
  simp only [weight_at hR, ct_at hG, ← EReal.coe_mul]
  rw [coe_sum]
  congr 1
  rw [Finset.sum_range]
  refine Finset.sum_congr rfl fun t _ => ?_
  unfold dvS
  rw [head_pick (fun x => aA (zS (rowQ R (i 0).val) (rowK R (i 0).val) x) t.val (i 2).val) _ _ h1 h3]
  show _ * aA _ t.val (i 2).val = _
  unfold headZ
  ring

/-- The value gradient as the reference returns it. -/
theorem dv_out (i : S4096x256.Idx) : val_main_v59 (F := Ideal) x0 x1 i
    = (((∑ t ∈ Finset.range 2048, dvS (rowQ R ((i 0).val / 2048)) (rowK R ((i 0).val / 2048)) (rowQ G ((i 0).val / 2048)) t ((i 0).val % 2048) (i 1).val) : ℝ) : EReal) := by
  have h0 : (i 0).val < 4096 := (i 0).isLt
  have h1 : (i 1).val < 256 := (i 1).isLt
  rw [val_main_v59_apply, val_main_v58_apply, val_main_v57_apply]
  generalize hj : idx_main_v57 (idx_main_v58 (idx_main_v59 i)) = j
  have e0 : (j 0).val = (i 0).val / 2048 := by rw [← hj]; dsimp only; omega
  have e1 : (j 1).val = (i 1).val / 64 := by rw [← hj]; dsimp only; omega
  have e2 : (j 2).val = (i 0).val % 2048 := by rw [← hj]; dsimp only; omega
  have e3 : (j 3).val = (i 1).val % 64 := by rw [← hj]; dsimp only; omega
  rw [dv_head hR hG j, e0, e1, e2, e3, Nat.div_add_mod]

end

end Cert.Proof
-- ==== Proof.Sb.Finite.lean ====
module

public import proofs.«01_k».proof.Pre_finite_inputs
public import proofs.«01_k».proof.Proof.Sb.RefSoft

/-!
What the precondition says: every entry the attention reads is a real number.
-/

@[expose] public section

noncomputable section

namespace Cert.Proof

open Idealize.ShloMosaic Cert.Pre_finite_inputs

/-- The entries of a matrix as real numbers. -/
def reals {n0 n1 : ℕ} (x : (⟨2, ![n0, n1]⟩ : Shape).Idx → EReal) (i j : ℕ) : ℝ :=
  if h : i < n0 ∧ j < n1 then (x (ValueIdx.ix2 ⟨i, h.1⟩ ⟨j, h.2⟩)).toReal else 0

/-- An entry that is neither infinity is the coercion of its real number. -/
theorem reals_at {n0 n1 : ℕ} (x : (⟨2, ![n0, n1]⟩ : Shape).Idx → EReal) (i : (⟨2, ![n0, n1]⟩ : Shape).Idx)
    (h : max (x i) (-(x i)) < ⊤) : x i = ((reals x (i 0).val (i 1).val : ℝ) : EReal) := by
  have e : (ValueIdx.ix2 (n0 := n0) (n1 := n1) ⟨(i 0).val, (i 0).isLt⟩ ⟨(i 1).val, (i 1).isLt⟩) = i :=
    funext fun a => match a with | ⟨0, _⟩ => rfl | ⟨1, _⟩ => rfl
  unfold reals
  rw [dif_pos ⟨(i 0).isLt, (i 1).isLt⟩, e, EReal.coe_toReal]
  · exact (lt_of_le_of_lt (le_max_left _ _) h).ne
  · intro hb
    rw [hb] at h
    simp at h

/-- Two one-bit words whose conjunction is one are both one. -/
theorem and_one {a b : BitVec 1} (h : a &&& b = 1#1) : a = 1#1 ∧ b = 1#1 := by
  revert a b; decide

/-- The comparison with the infinite word is one only where the entry is finite. -/
theorem finite_of_lt {x : EReal} (h : FloatOps.cmpf (F := Ideal) (φ := .f32) .olt (FloatOps.hostAbsf (F := Ideal) (φ := .f32) x)
    (FloatOps.ofBits (F := Ideal) .f32 0x7F800000#32) = 1#1) : max x (-x) < ⊤ := by
  rw [Ideal.ofBits_def, inf_word, Ideal.cmpf_def] at h
  by_contra hn
  change BitVec.ofBool (decide (max x (-x) < ⊤)) = 1#1 at h
  rw [decide_eq_false hn] at h
  exact absurd h (by decide)

/-- An entry of a slice of 256 columns is the entry of the matrix that many columns further. -/
theorem slice_entry {n o : ℕ} {a : Fin 4096} {b : Fin 256} (x : (⟨2, ![4096, n]⟩ : Shape).Idx → EReal)
    (i : (⟨2, ![4096, n]⟩ : Shape).Idx) (h : (⟨2, ![4096, n]⟩ : Shape).Slices ![0, o] S4096x256) (h0 : (i 0).val = a.val)
    (h1 : (i 1).val = o + b.val) : extractStridedSlice S4096x256 ![0, o] x h (ValueIdx.ix2 a b) = x i := by
  refine congrArg x (funext fun d => Fin.ext ?_)
  match d with
  | ⟨0, _⟩ => show 0 + a.val = (i 0).val; rw [h0, Nat.zero_add]
  | ⟨1, _⟩ => show o + b.val = (i 1).val; rw [h1]

variable [Facts] {x0 : S4096x3200.Idx → EReal} {x1 : S4096x1024.Idx → EReal}

/-- Under the precondition every entry of the queries, the keys, the values and the gradient is finite. -/
theorem finite_at (h : Cert.Pre_finite_inputs.fn (F := Ideal) x0 x1 = fun _ => 1#1) :
    (∀ i : S4096x3200.Idx, (i 1).val < 768 → max (x0 i) (-(x0 i)) < ⊤) ∧ (∀ i : S4096x1024.Idx, (i 1).val < 256 → max (x1 i) (-(x1 i)) < ⊤) := by
  have key : ∀ y : S4096x256.Idx, _ := fun y => and_one (congrFun h y)
  have h1 := fun y => and_one (key y).1
  have h2 := fun y => and_one (key y).2
  refine ⟨fun i hi => ?_, fun i hi => ?_⟩
  · have e0 : (i 0).val < 4096 := (i 0).isLt
    by_cases c1 : (i 1).val < 256
    · rw [← slice_entry (o := 0) (a := i 0) (b := ⟨(i 1).val, c1⟩) x0 i Facts.slices_S4096x3200_S4096x256_0_0 rfl (Nat.zero_add _).symm]
      exact finite_of_lt (h1 _).1
    by_cases c2 : (i 1).val < 512
    · rw [← slice_entry (o := 256) (a := i 0) (b := ⟨(i 1).val - 256, by omega⟩) x0 i Facts.slices_S4096x3200_S4096x256_0_256 rfl
        (by show (i 1).val = 256 + ((i 1).val - 256); omega)]
      exact finite_of_lt (h1 _).2
    · rw [← slice_entry (o := 512) (a := i 0) (b := ⟨(i 1).val - 512, by omega⟩) x0 i Facts.slices_S4096x3200_S4096x256_0_512 rfl
        (by show (i 1).val = 512 + ((i 1).val - 512); omega)]
      exact finite_of_lt (h2 _).1
  · rw [← slice_entry (o := 0) (a := i 0) (b := ⟨(i 1).val, hi⟩) x1 i Facts.slices_S4096x1024_S4096x256_0_0 rfl (Nat.zero_add _).symm]
    exact finite_of_lt (h2 _).2

end Cert.Proof
-- ==== Proof.Sb.Equal.lean ====
module

public import proofs.«01_k».proof.Defs
public import proofs.«01_k».proof.Proof.Gen.ReferenceIdeal.Run
public import proofs.«01_k».proof.Proof.Sb.Arrays
public import proofs.«01_k».proof.Proof.Sb.Tails
public import proofs.«01_k».proof.Proof.Sb.RefOut
public import proofs.«01_k».proof.Proof.Sb.Finite

/-!
The equation: over the extended reals the stick-breaking attention's backward kernel leaves the three gradients
that the derivative of the attention's definition gives.
-/

@[expose] public section

noncomputable section

namespace Cert.Proof

open Idealize.ShloMosaic Idealize.ShloMosaic.TcCoe Idealize.SL Idealize.SL.Sem

/-- The kernel and the reference leave the same three gradients wherever the attention's inputs are finite. -/
theorem sb_algebraic [hPre : Cert.Pre_finite_inputs.Facts] : Cert.algebraic_KernelIdeal_ReferenceIdeal_pre_finite_inputs := by
  intro m g m' g' hpre hargs
  have hf := fun c => finite_at (hpre c)
  have hR := fun (c : Dev Cert.KernelIdeal.nD) (i : Cert.KernelIdeal.S4096x3200.Idx) h => reals_at (m ((c.tc : Thread Cert.KernelIdeal.nD Cert.KernelIdeal.τ).loc Cert.KernelIdeal.main_arg0)) i ((hf c).1 i h)
  have hG := fun (c : Dev Cert.KernelIdeal.nD) (i : Cert.KernelIdeal.S4096x1024.Idx) h => reals_at (m ((c.tc : Thread Cert.KernelIdeal.nD Cert.KernelIdeal.τ).loc Cert.KernelIdeal.main_arg1)) i ((hf c).2 i h)
  have hT := fun c => tails_at m c (hR c)
  refine ⟨fun c => Cert.ReferenceIdeal.Value.res_main_v53 m' c, fun c => Cert.ReferenceIdeal.Value.res_main_v56 m' c,
    fun c => Cert.ReferenceIdeal.Value.res_main_v59 m' c, ?_, Cert.ReferenceIdeal.Value.run m' g'⟩
  refine (θ_run Cert.KernelIdeal.defs _ _).mono (fun r h c => ?_) (θ_run_and (KernelIdeal.run_main m g) (KernelIdeal.frame_main m g))
  refine ⟨((h.1 c).1 5).trans ((KernelIdeal.dq_arr m c (hR c) (hG c) (hT c)).trans (funext fun i => ?_)),
    ((h.1 c).1 6).trans ((KernelIdeal.dk_arr m c (hR c) (hG c) (hT c)).trans (funext fun i => ?_)),
    ((h.1 c).1 7).trans ((KernelIdeal.dv_arr m c (hR c) (hG c) (hT c)).trans (funext fun i => ?_)), h.2.1 c⟩
  · refine Eq.trans ?_ (congrFun (Cert.ReferenceIdeal.Read.val_main_v53_eq m' c).symm i)
    rw [(hargs c).1, (hargs c).2]
    exact (dq_out (hR c) (hG c) i).symm
  · refine Eq.trans ?_ (congrFun (Cert.ReferenceIdeal.Read.val_main_v56_eq m' c).symm i)
    rw [(hargs c).1, (hargs c).2]
    exact (dk_out (hR c) (hG c) i).symm
  · refine Eq.trans ?_ (congrFun (Cert.ReferenceIdeal.Read.val_main_v59_eq m' c).symm i)
    rw [(hargs c).1, (hargs c).2]
    exact (dv_out (hR c) (hG c) i).symm

end Cert.Proof
-- ==== Proof.Mm.Same.lean ====
module

public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal
public import proofs.«01_k».proof.Proof.Gen.Kernel7
public import proofs.«01_k».proof.Proof.Gen.Kernel7Ideal
public import proofs.«01_k».proof.Proof.Gen.Kernel8
public import proofs.«01_k».proof.Proof.Gen.Kernel8Ideal
public import proofs.«01_k».proof.Proof.Gen.Kernel9
public import proofs.«01_k».proof.Proof.Gen.Kernel9Ideal
public import proofs.«01_k».proof.Proof.Gen.Kernel10
public import proofs.«01_k».proof.Proof.Gen.Kernel10Ideal
public import proofs.«01_k».proof.Proof.Gen.Kernel11
public import proofs.«01_k».proof.Proof.Gen.Kernel11Ideal
public import proofs.«01_k».proof.Proof.Gen.Kernel12
public import proofs.«01_k».proof.Proof.Gen.Kernel12Ideal
public import proofs.«01_k».proof.Proof.Gen.Kernel13
public import proofs.«01_k».proof.Proof.Gen.Kernel13Ideal
public import proofs.«01_k».proof.Proof.Gen.Kernel14
public import proofs.«01_k».proof.Proof.Gen.Kernel14Ideal
public import proofs.«01_k».proof.Proof.Gen.Kernel15
public import proofs.«01_k».proof.Proof.Gen.Kernel15Ideal
public import proofs.«01_k».proof.Proof.Gen.Kernel16
public import proofs.«01_k».proof.Proof.Gen.Kernel16Ideal
public import proofs.«01_k».proof.Proof.Gen.Kernel17
public import proofs.«01_k».proof.Proof.Gen.Kernel17Ideal
public import proofs.«01_k».proof.Proof.Gen.Kernel18
public import proofs.«01_k».proof.Proof.Gen.Kernel18Ideal
public import proofs.«01_k».proof.Proof.Gen.Kernel19
public import proofs.«01_k».proof.Proof.Gen.Kernel19Ideal
public import proofs.«01_k».proof.Proof.Gen.Kernel20
public import proofs.«01_k».proof.Proof.Gen.Kernel20Ideal
public import proofs.«01_k».proof.Proof.Gen.Kernel21
public import proofs.«01_k».proof.Proof.Gen.Kernel21Ideal
public import proofs.«01_k».proof.Proof.Gen.Kernel22
public import proofs.«01_k».proof.Proof.Gen.Kernel22Ideal
public import proofs.«01_k».proof.Proof.Gen.Kernel23
public import proofs.«01_k».proof.Proof.Gen.Kernel23Ideal
public import proofs.«01_k».proof.Proof.Gen.Kernel24
public import proofs.«01_k».proof.Proof.Gen.Kernel24Ideal
public import Idealize.ShloMosaic.PureOps.BitExact

/-!
Each call's kernel and its ideal kernel are the same program: their tables and their entry
functions are equal.
-/

@[expose] public section

set_option maxRecDepth 16384

namespace Cert.Proof.Mm

open Idealize.ShloMosaic Idealize.ShloMosaic.TcCoe Idealize.SL Idealize.SL.Sem

/-- The body tables of the first half of the feed-forward are equal. -/
theorem bodies2 : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | ⟨0, _⟩, (t, s) => rfl

/-- The tables of the first half of the feed-forward are equal. -/
theorem defs2 : Cert.Kernel2.defs (F := Bits) = Cert.Kernel2Ideal.defs (F := Bits) :=
  congrArg (Pipeline.defs _) bodies2

set_option maxHeartbeats 2000000 in
/-- The entry functions of the first half of the feed-forward are equal. -/
theorem main2 : Cert.Kernel2.main (F := Bits) = Cert.Kernel2Ideal.main (F := Bits) := rfl

/-- The body tables of the gradient of the feed-forward's output weight are equal. -/
theorem bodies3 : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | ⟨0, _⟩, (t, s) => rfl

/-- The tables of the gradient of the feed-forward's output weight are equal. -/
theorem defs3 : Cert.Kernel3.defs (F := Bits) = Cert.Kernel3Ideal.defs (F := Bits) :=
  congrArg (Pipeline.defs _) bodies3

set_option maxHeartbeats 2000000 in
/-- The entry functions of the gradient of the feed-forward's output weight are equal. -/
theorem main3 : Cert.Kernel3.main (F := Bits) = Cert.Kernel3Ideal.main (F := Bits) := rfl

/-- The body tables of the gradient of the rows that enter the feed-forward are equal. -/
theorem bodies4 : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | ⟨0, _⟩, (t, s) => rfl

/-- The tables of the gradient of the rows that enter the feed-forward are equal. -/
theorem defs4 : Cert.Kernel4.defs (F := Bits) = Cert.Kernel4Ideal.defs (F := Bits) :=
  congrArg (Pipeline.defs _) bodies4

set_option maxHeartbeats 2000000 in
/-- The entry functions of the gradient of the rows that enter the feed-forward are equal. -/
theorem main4 : Cert.Kernel4.main (F := Bits) = Cert.Kernel4Ideal.main (F := Bits) := rfl

/-- The body tables of the gradient of the feed-forward's input weights are equal. -/
theorem bodies5 : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | ⟨0, _⟩, (t, s) => rfl

/-- The tables of the gradient of the feed-forward's input weights are equal. -/
theorem defs5 : Cert.Kernel5.defs (F := Bits) = Cert.Kernel5Ideal.defs (F := Bits) :=
  congrArg (Pipeline.defs _) bodies5

set_option maxHeartbeats 2000000 in
/-- The entry functions of the gradient of the feed-forward's input weights are equal. -/
theorem main5 : Cert.Kernel5.main (F := Bits) = Cert.Kernel5Ideal.main (F := Bits) := rfl

/-- The body tables of the gradient of the rows that enter the input projection are equal. -/
theorem bodies6 : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | ⟨0, _⟩, (t, s) => rfl

/-- The tables of the gradient of the rows that enter the input projection are equal. -/
theorem defs6 : Cert.Kernel6.defs (F := Bits) = Cert.Kernel6Ideal.defs (F := Bits) :=
  congrArg (Pipeline.defs _) bodies6

set_option maxHeartbeats 2000000 in
/-- The entry functions of the gradient of the rows that enter the input projection are equal. -/
theorem main6 : Cert.Kernel6.main (F := Bits) = Cert.Kernel6Ideal.main (F := Bits) := rfl

/-- The body tables of the gradient of the input projection's weight are equal. -/
theorem bodies7 : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | ⟨0, _⟩, (t, s) => rfl

/-- The tables of the gradient of the input projection's weight are equal. -/
theorem defs7 : Cert.Kernel7.defs (F := Bits) = Cert.Kernel7Ideal.defs (F := Bits) :=
  congrArg (Pipeline.defs _) bodies7

set_option maxHeartbeats 2000000 in
/-- The entry functions of the gradient of the input projection's weight are equal. -/
theorem main7 : Cert.Kernel7.main (F := Bits) = Cert.Kernel7Ideal.main (F := Bits) := rfl

/-- The body tables of the gradient of the rows that enter the output projection are equal. -/
theorem bodies8 : Cert.Kernel8.defs₀ (F := Bits) = Cert.Kernel8Ideal.defs₀ (F := Bits) := by
  unfold Cert.Kernel8.defs₀ Cert.Kernel8Ideal.defs₀
  refine congrArg Defs.onTc (funext fun l => funext fun a => ?_)
  match l, a with
  | ⟨0, _⟩, (t, s) => rfl

/-- The tables of the gradient of the rows that enter the output projection are equal. -/
theorem defs8 : Cert.Kernel8.defs (F := Bits) = Cert.Kernel8Ideal.defs (F := Bits) :=
  congrArg (Pipeline.defs _) bodies8

set_option maxHeartbeats 2000000 in
/-- The entry functions of the gradient of the rows that enter the output projection are equal. -/
theorem main8 : Cert.Kernel8.main (F := Bits) = Cert.Kernel8Ideal.main (F := Bits) := rfl

/-- The body tables of the gradient of the output projection's weight are equal. -/
theorem bodies9 : Cert.Kernel9.defs₀ (F := Bits) = Cert.Kernel9Ideal.defs₀ (F := Bits) := by
  unfold Cert.Kernel9.defs₀ Cert.Kernel9Ideal.defs₀
  refine congrArg Defs.onTc (funext fun l => funext fun a => ?_)
  match l, a with
  | ⟨0, _⟩, (t, s) => rfl

/-- The tables of the gradient of the output projection's weight are equal. -/
theorem defs9 : Cert.Kernel9.defs (F := Bits) = Cert.Kernel9Ideal.defs (F := Bits) :=
  congrArg (Pipeline.defs _) bodies9

set_option maxHeartbeats 2000000 in
/-- The entry functions of the gradient of the output projection's weight are equal. -/
theorem main9 : Cert.Kernel9.main (F := Bits) = Cert.Kernel9Ideal.main (F := Bits) := rfl

/-- The body tables of the gradients of the gate and of the up projection are equal. -/
theorem bodies10 : Cert.Kernel10.defs₀ (F := Bits) = Cert.Kernel10Ideal.defs₀ (F := Bits) := by
  unfold Cert.Kernel10.defs₀ Cert.Kernel10Ideal.defs₀
  refine congrArg Defs.onTc (funext fun l => funext fun a => ?_)
  match l, a with
  | ⟨0, _⟩, (t, s) => rfl

/-- The tables of the gradients of the gate and of the up projection are equal. -/
theorem defs10 : Cert.Kernel10.defs (F := Bits) = Cert.Kernel10Ideal.defs (F := Bits) :=
  congrArg (Pipeline.defs _) bodies10

set_option maxHeartbeats 2000000 in
/-- The entry functions of the gradients of the gate and of the up projection are equal. -/
theorem main10 : Cert.Kernel10.main (F := Bits) = Cert.Kernel10Ideal.main (F := Bits) := rfl

/-- The body tables of the input projection are equal. -/
theorem bodies11 : Cert.Kernel11.defs₀ (F := Bits) = Cert.Kernel11Ideal.defs₀ (F := Bits) := by
  unfold Cert.Kernel11.defs₀ Cert.Kernel11Ideal.defs₀
  refine congrArg Defs.onTc (funext fun l => funext fun a => ?_)
  match l, a with
  | ⟨0, _⟩, (t, s) => rfl

/-- The tables of the input projection are equal. -/
theorem defs11 : Cert.Kernel11.defs (F := Bits) = Cert.Kernel11Ideal.defs (F := Bits) :=
  congrArg (Pipeline.defs _) bodies11

set_option maxHeartbeats 2000000 in
/-- The entry functions of the input projection are equal. -/
theorem main11 : Cert.Kernel11.main (F := Bits) = Cert.Kernel11Ideal.main (F := Bits) := rfl

/-- The body tables of the feed-forward's output product with its layer norm are equal. -/
theorem bodies12 : Cert.Kernel12.defs₀ (F := Bits) = Cert.Kernel12Ideal.defs₀ (F := Bits) := by
  unfold Cert.Kernel12.defs₀ Cert.Kernel12Ideal.defs₀
  refine congrArg Defs.onTc (funext fun l => funext fun a => ?_)
  match l, a with
  | ⟨0, _⟩, (t, s) => rfl

/-- The tables of the feed-forward's output product with its layer norm are equal. -/
theorem defs12 : Cert.Kernel12.defs (F := Bits) = Cert.Kernel12Ideal.defs (F := Bits) :=
  congrArg (Pipeline.defs _) bodies12

set_option maxHeartbeats 2000000 in
/-- The entry functions of the feed-forward's output product with its layer norm are equal. -/
theorem main12 : Cert.Kernel12.main (F := Bits) = Cert.Kernel12Ideal.main (F := Bits) := rfl

/-- The body tables of the output projection with its layer norm are equal. -/
theorem bodies13 : Cert.Kernel13.defs₀ (F := Bits) = Cert.Kernel13Ideal.defs₀ (F := Bits) := by
  unfold Cert.Kernel13.defs₀ Cert.Kernel13Ideal.defs₀
  refine congrArg Defs.onTc (funext fun l => funext fun a => ?_)
  match l, a with
  | ⟨0, _⟩, (t, s) => rfl

/-- The tables of the output projection with its layer norm are equal. -/
theorem defs13 : Cert.Kernel13.defs (F := Bits) = Cert.Kernel13Ideal.defs (F := Bits) :=
  congrArg (Pipeline.defs _) bodies13

set_option maxHeartbeats 2000000 in
/-- The entry functions of the output projection with its layer norm are equal. -/
theorem main13 : Cert.Kernel13.main (F := Bits) = Cert.Kernel13Ideal.main (F := Bits) := rfl

/-- The body tables of the gradient of the layer norm are equal. -/
theorem bodies14 : Cert.Kernel14.defs₀ (F := Bits) = Cert.Kernel14Ideal.defs₀ (F := Bits) := by
  unfold Cert.Kernel14.defs₀ Cert.Kernel14Ideal.defs₀
  refine congrArg Defs.onTc (funext fun l => funext fun a => ?_)
  match l, a with
  | ⟨0, _⟩, (t, s) => rfl

/-- The tables of the gradient of the layer norm are equal. -/
theorem defs14 : Cert.Kernel14.defs (F := Bits) = Cert.Kernel14Ideal.defs (F := Bits) :=
  congrArg (Pipeline.defs _) bodies14

set_option maxHeartbeats 2000000 in
/-- The entry functions of the gradient of the layer norm are equal. -/
theorem main14 : Cert.Kernel14.main (F := Bits) = Cert.Kernel14Ideal.main (F := Bits) := rfl

/-- The body tables of the gradient of the short gated convolution are equal. -/
theorem bodies15 : Cert.Kernel15.defs₀ (F := Bits) = Cert.Kernel15Ideal.defs₀ (F := Bits) := by
  unfold Cert.Kernel15.defs₀ Cert.Kernel15Ideal.defs₀
  refine congrArg Defs.onTc (funext fun l => funext fun a => ?_)
  match l, a with
  | ⟨0, _⟩, (t, s) => rfl

/-- The tables of the gradient of the short gated convolution are equal. -/
theorem defs15 : Cert.Kernel15.defs (F := Bits) = Cert.Kernel15Ideal.defs (F := Bits) :=
  congrArg (Pipeline.defs _) bodies15

set_option maxHeartbeats 2000000 in
/-- The entry functions of the gradient of the short gated convolution are equal. -/
theorem main15 : Cert.Kernel15.main (F := Bits) = Cert.Kernel15Ideal.main (F := Bits) := rfl

/-- The body tables of the short gated convolution are equal. -/
theorem bodies16 : Cert.Kernel16.defs₀ (F := Bits) = Cert.Kernel16Ideal.defs₀ (F := Bits) := by
  unfold Cert.Kernel16.defs₀ Cert.Kernel16Ideal.defs₀
  refine congrArg Defs.onTc (funext fun l => funext fun a => ?_)
  match l, a with
  | ⟨0, _⟩, (t, s) => rfl

/-- The tables of the short gated convolution are equal. -/
theorem defs16 : Cert.Kernel16.defs (F := Bits) = Cert.Kernel16Ideal.defs (F := Bits) :=
  congrArg (Pipeline.defs _) bodies16

set_option maxHeartbeats 2000000 in
/-- The entry functions of the short gated convolution are equal. -/
theorem main16 : Cert.Kernel16.main (F := Bits) = Cert.Kernel16Ideal.main (F := Bits) := rfl

/-- The body tables of AdamW's step of the gate and the up projection are equal. -/
theorem bodies17 : Cert.Kernel17.defs₀ (F := Bits) = Cert.Kernel17Ideal.defs₀ (F := Bits) := by
  unfold Cert.Kernel17.defs₀ Cert.Kernel17Ideal.defs₀
  refine congrArg Defs.onTc (funext fun l => funext fun a => ?_)
  match l, a with
  | ⟨0, _⟩, (t, s) => rfl

/-- The tables of AdamW's step of the gate and the up projection are equal. -/
theorem defs17 : Cert.Kernel17.defs (F := Bits) = Cert.Kernel17Ideal.defs (F := Bits) :=
  congrArg (Pipeline.defs _) bodies17

set_option maxHeartbeats 2000000 in
/-- The entry functions of AdamW's step of the gate and the up projection are equal. -/
theorem main17 : Cert.Kernel17.main (F := Bits) = Cert.Kernel17Ideal.main (F := Bits) := rfl

/-- The body tables of AdamW's step of the down projection are equal. -/
theorem bodies18 : Cert.Kernel18.defs₀ (F := Bits) = Cert.Kernel18Ideal.defs₀ (F := Bits) := by
  unfold Cert.Kernel18.defs₀ Cert.Kernel18Ideal.defs₀
  refine congrArg Defs.onTc (funext fun l => funext fun a => ?_)
  match l, a with
  | ⟨0, _⟩, (t, s) => rfl

/-- The tables of AdamW's step of the down projection are equal. -/
theorem defs18 : Cert.Kernel18.defs (F := Bits) = Cert.Kernel18Ideal.defs (F := Bits) :=
  congrArg (Pipeline.defs _) bodies18

set_option maxHeartbeats 2000000 in
/-- The entry functions of AdamW's step of the down projection are equal. -/
theorem main18 : Cert.Kernel18.main (F := Bits) = Cert.Kernel18Ideal.main (F := Bits) := rfl

/-- The body tables of AdamW's step of the output projection are equal. -/
theorem bodies19 : Cert.Kernel19.defs₀ (F := Bits) = Cert.Kernel19Ideal.defs₀ (F := Bits) := by
  unfold Cert.Kernel19.defs₀ Cert.Kernel19Ideal.defs₀
  refine congrArg Defs.onTc (funext fun l => funext fun a => ?_)
  match l, a with
  | ⟨0, _⟩, (t, s) => rfl

/-- The tables of AdamW's step of the output projection are equal. -/
theorem defs19 : Cert.Kernel19.defs (F := Bits) = Cert.Kernel19Ideal.defs (F := Bits) :=
  congrArg (Pipeline.defs _) bodies19

set_option maxHeartbeats 2000000 in
/-- The entry functions of AdamW's step of the output projection are equal. -/
theorem main19 : Cert.Kernel19.main (F := Bits) = Cert.Kernel19Ideal.main (F := Bits) := rfl

/-- The body tables of AdamW's step of the input projection are equal. -/
theorem bodies20 : Cert.Kernel20.defs₀ (F := Bits) = Cert.Kernel20Ideal.defs₀ (F := Bits) := by
  unfold Cert.Kernel20.defs₀ Cert.Kernel20Ideal.defs₀
  refine congrArg Defs.onTc (funext fun l => funext fun a => ?_)
  match l, a with
  | ⟨0, _⟩, (t, s) => rfl

/-- The tables of AdamW's step of the input projection are equal. -/
theorem defs20 : Cert.Kernel20.defs (F := Bits) = Cert.Kernel20Ideal.defs (F := Bits) :=
  congrArg (Pipeline.defs _) bodies20

set_option maxHeartbeats 2000000 in
/-- The entry functions of AdamW's step of the input projection are equal. -/
theorem main20 : Cert.Kernel20.main (F := Bits) = Cert.Kernel20Ideal.main (F := Bits) := rfl

/-- The body tables of AdamW's step of the convolution's taps are equal. -/
theorem bodies21 : Cert.Kernel21.defs₀ (F := Bits) = Cert.Kernel21Ideal.defs₀ (F := Bits) := by
  unfold Cert.Kernel21.defs₀ Cert.Kernel21Ideal.defs₀
  refine congrArg Defs.onTc (funext fun l => funext fun a => ?_)
  match l, a with
  | ⟨0, _⟩, (t, s) => rfl

/-- The tables of AdamW's step of the convolution's taps are equal. -/
theorem defs21 : Cert.Kernel21.defs (F := Bits) = Cert.Kernel21Ideal.defs (F := Bits) :=
  congrArg (Pipeline.defs _) bodies21

set_option maxHeartbeats 2000000 in
/-- The entry functions of AdamW's step of the convolution's taps are equal. -/
theorem main21 : Cert.Kernel21.main (F := Bits) = Cert.Kernel21Ideal.main (F := Bits) := rfl

/-- The body tables of AdamW's step of the forget biases are equal. -/
theorem bodies22 : Cert.Kernel22.defs₀ (F := Bits) = Cert.Kernel22Ideal.defs₀ (F := Bits) := by
  unfold Cert.Kernel22.defs₀ Cert.Kernel22Ideal.defs₀
  refine congrArg Defs.onTc (funext fun l => funext fun a => ?_)
  match l, a with
  | ⟨0, _⟩, (t, s) => rfl

/-- The tables of AdamW's step of the forget biases are equal. -/
theorem defs22 : Cert.Kernel22.defs (F := Bits) = Cert.Kernel22Ideal.defs (F := Bits) :=
  congrArg (Pipeline.defs _) bodies22

set_option maxHeartbeats 2000000 in
/-- The entry functions of AdamW's step of the forget biases are equal. -/
theorem main22 : Cert.Kernel22.main (F := Bits) = Cert.Kernel22Ideal.main (F := Bits) := rfl

/-- The body tables of AdamW's step of the relative bias are equal. -/
theorem bodies23 : Cert.Kernel23.defs₀ (F := Bits) = Cert.Kernel23Ideal.defs₀ (F := Bits) := by
  unfold Cert.Kernel23.defs₀ Cert.Kernel23Ideal.defs₀
  refine congrArg Defs.onTc (funext fun l => funext fun a => ?_)
  match l, a with
  | ⟨0, _⟩, (t, s) => rfl

/-- The tables of AdamW's step of the relative bias are equal. -/
theorem defs23 : Cert.Kernel23.defs (F := Bits) = Cert.Kernel23Ideal.defs (F := Bits) :=
  congrArg (Pipeline.defs _) bodies23

set_option maxHeartbeats 2000000 in
/-- The entry functions of AdamW's step of the relative bias are equal. -/
theorem main23 : Cert.Kernel23.main (F := Bits) = Cert.Kernel23Ideal.main (F := Bits) := rfl

/-- The body tables of AdamW's step of the layer norms' gains and biases are equal. -/
theorem bodies24 : Cert.Kernel24.defs₀ (F := Bits) = Cert.Kernel24Ideal.defs₀ (F := Bits) := by
  unfold Cert.Kernel24.defs₀ Cert.Kernel24Ideal.defs₀
  refine congrArg Defs.onTc (funext fun l => funext fun a => ?_)
  match l, a with
  | ⟨0, _⟩, (t, s) => rfl

/-- The tables of AdamW's step of the layer norms' gains and biases are equal. -/
theorem defs24 : Cert.Kernel24.defs (F := Bits) = Cert.Kernel24Ideal.defs (F := Bits) :=
  congrArg (Pipeline.defs _) bodies24

set_option maxHeartbeats 2000000 in
/-- The entry functions of AdamW's step of the layer norms' gains and biases are equal. -/
theorem main24 : Cert.Kernel24.main (F := Bits) = Cert.Kernel24Ideal.main (F := Bits) := rfl

end Cert.Proof.Mm
-- ==== Proof.Mm.Sum.lean ====
module

public import Idealize.ShloMosaic.PureOps.Ideal
public import Idealize.ShloMosaic.Lib.Pipeline.ValueKit

/-!
Sums over a long axis, taken as the sums over its two halves.
-/

@[expose] public section

namespace Cert.Proof.Mm

/-- A sum over `a + b` terms is the sum of the first `a` and the sum of the other `b`. -/
theorem sum_split {M : Type} [AddCommMonoid M] {n : ℕ} (a b : ℕ) (h : n = a + b) (f : Fin n → M) :
    ∑ k : Fin n, f k = (∑ k : Fin a, f ⟨k.val, by omega⟩) + ∑ k : Fin b, f ⟨a + k.val, by omega⟩ := by
  subst h
  exact Fin.sum_univ_add f

/-- Sums of extended reals with equal terms are equal. -/
theorem sum_congr {n : ℕ} {f g : Fin n → EReal} (h : ∀ k, f k = g k) : ∑ k, f k = ∑ k, g k :=
  Finset.sum_congr rfl fun k _ => h k

/-- Products of equal extended reals are equal. -/
theorem mul_congr {a b c d : EReal} (h : a = b) (h' : c = d) : a * c = b * d := by rw [h, h']

/-- Sums of equal extended reals are equal. -/
theorem add_congr {a b c d : EReal} (h : a = b) (h' : c = d) : a + c = b + d := by rw [h, h']

end Cert.Proof.Mm
-- ==== Proof.Mm.FfnIn.lean ====
module

public import proofs.«01_k».proof.Proof.Mm.Sum
public import proofs.«01_k».proof.Proof.Gen.Kernel2Ideal.Value
public import proofs.«01_k».proof.Proof.Gen.Reference2Ideal.Run
public import Idealize.ShloMosaic.Lib.ValueIdx
public import Idealize.ShloMosaic.Lib.Pointwise

/-!
The first half of the feed-forward: the kernel's three result arrays are the gate, the up projection
and the gated hidden rows, and so are the reference's.
-/

@[expose] public section

set_option maxRecDepth 8192

noncomputable section

namespace Cert.Kernel2Ideal.Product

open Idealize.ShloMosaic Idealize.ShloMosaic.TcCoe Cert.Kernel2Ideal Cert.Kernel2Ideal.Gen Idealize.SL.Sem

variable (m : (ℓ : Loc nD τ sig) → Buf (Elt Ideal) ℓ)

/-- A gate entry times its logistic, times the entry of the up projection. -/
def gated (g u : EReal) : EReal := g * Ideal.div 1 (1 + Ideal.exp (-g)) * u

/-- One grid point's gate block, at an entry. -/
theorem gate_apply (x0 : Vec Ideal S512x1024 .bf16) (x1 : Vec Ideal S1024x1408 .bf16) (j : S512x1408.Idx) :
    k0_pay2 (F := Ideal) x0 x1 j = ∑ k : Fin 1024, x0 (ix2 (j 0) k) * x1 (ix2 k (j 1)) := by
  pointwise [k0_pay2, k0_pay1]

/-- One grid point's block of the up projection, at an entry. -/
theorem up_apply (x0 : Vec Ideal S512x1024 .bf16) (x1 : Vec Ideal S1024x1408 .bf16) (j : S512x1408.Idx) :
    k0_pay3 (F := Ideal) x0 x1 j = ∑ k : Fin 1024, x0 (ix2 (j 0) k) * x1 (ix2 k (j 1)) := by
  pointwise [k0_pay3, k0_pay1]

/-- One grid point's hidden block, at an entry. -/
theorem hid_apply (x0 : Vec Ideal S512x1024 .bf16) (x1 x2 : Vec Ideal S1024x1408 .bf16) (j : S512x1408.Idx) :
    k0_pay4 (F := Ideal) x0 x1 x2 j = gated (k0_pay2 (F := Ideal) x0 x1 j) (k0_pay3 (F := Ideal) x0 x2 j) := by
  pointwise [k0_pay4, gated]
  rw [sub_eq_add_neg, zero_add]

/-- The rows, as the pipeline reads them: the argument. -/
theorem x_read (c : Dev nD) (i : S4096x1024.Idx) : V m c main_v2 i = m ((c : Thread nD τ).loc main_arg0) i := by
  unfold V
  simp only [hostOps0]
  after_results
  rfl

/-- The gate's weight, as the pipeline reads it: the first columns of the joined weight. -/
theorem wg_read (c : Dev nD) (i : S1024x5632.Idx) (j : S1024x2816.Idx) (h0 : (i 0).val = (j 0).val) (h1 : (i 1).val = (j 1).val) :
    V m c main_v1 i = m ((c : Thread nD τ).loc main_arg1) j := by
  have hj : (j 1).val < 2816 := (j 1).isLt
  unfold V
  simp only [hostOps0]
  after_results
  pointwise
  rw [dif_pos (by omega)]
  exact congrArg _ (funext fun a => Fin.ext (match a with | ⟨0, _⟩ => h0 | ⟨1, _⟩ => h1))

/-- The up projection's weight, as the pipeline reads it: the last columns of the joined weight. -/
theorem wu_read (c : Dev nD) (i : S1024x5632.Idx) (j : S1024x2816.Idx) (h0 : (i 0).val = (j 0).val) (h1 : (i 1).val = 2816 + (j 1).val) :
    V m c main_v1 i = m ((c : Thread nD τ).loc main_arg2) j := by
  unfold V
  simp only [hostOps0]
  after_results
  pointwise
  rw [dif_neg (by omega)]
  refine congrArg _ (funext fun a => Fin.ext (match a with | ⟨0, _⟩ => h0 | ⟨1, _⟩ => ?_))
  show (i 1).val - 2816 = (j 1).val
  omega

/-- The block index of each window, at each grid point. -/
theorem index_facts : ∀ t : Fin cfg0.N,
    win0_0.index t = ![t.val / 2, 0] ∧ win0_1.index t = ![0, t.val % 2] ∧ win0_2.index t = ![0, 2 + t.val % 2]
    ∧ win0_3.index t = ![t.val / 2, t.val % 2] ∧ win0_4.index t = ![t.val / 2, t.val % 2] ∧ win0_5.index t = ![t.val / 2, t.val % 2] :=
  (by decide +kernel : ∀ t : Fin grid0.N, _)

/-- The rows times a weight. -/
def result (x : Vec Ideal S4096x1024 .f32) (w : Vec Ideal S1024x2816 .f32) : Vec Ideal S4096x2816 .f32 := fun i =>
  ∑ k : Fin 1024, x (ix2 (i 0) k) * w (ix2 k (i 1))

/-- The gated hidden rows. -/
def hidden (x : Vec Ideal S4096x1024 .f32) (wg wu : Vec Ideal S1024x2816 .f32) : Vec Ideal S4096x2816 .bf16 := fun i =>
  gated (result x wg i) (result x wu i)

/-- A gate block is the block of the gate. -/
theorem gate_block (c : Dev nD) (t : Fin cfg0.N) (j : S512x1408.Idx) (i : S4096x2816.Idx)
    (h0 : (i 0).val = (t.val / 2) * 512 + (j 0).val) (h1 : (i 1).val = (t.val % 2) * 1408 + (j 1).val) :
    k0_pay2 (F := Ideal) (iblk m c 0 t) (iblk m c 1 t) j
      = result (m ((c : Thread nD τ).loc main_arg0)) (m ((c : Thread nD τ).loc main_arg1)) i := by
  have e0 := (index_facts t).1
  have e1 := (index_facts t).2.1
  rw [gate_apply]
  unfold result
  refine Cert.Proof.Mm.sum_congr fun k => ?_
  blk_simp [iblk]
  rw [x_read, wg_read m c _ (ix2 k (i 1))]
  · refine Cert.Proof.Mm.mul_congr (congrArg _ ?_) rfl
    blk_ext [e0, h0]
  · blk_simp [e1]
  · blk_simp [e1, h1]

/-- A block of the up projection is the block of the product. -/
theorem up_block (c : Dev nD) (t : Fin cfg0.N) (j : S512x1408.Idx) (i : S4096x2816.Idx)
    (h0 : (i 0).val = (t.val / 2) * 512 + (j 0).val) (h1 : (i 1).val = (t.val % 2) * 1408 + (j 1).val) :
    k0_pay3 (F := Ideal) (iblk m c 0 t) (iblk m c 2 t) j
      = result (m ((c : Thread nD τ).loc main_arg0)) (m ((c : Thread nD τ).loc main_arg2)) i := by
  have e0 := (index_facts t).1
  have e2 := (index_facts t).2.2.1
  rw [up_apply]
  unfold result
  refine Cert.Proof.Mm.sum_congr fun k => ?_
  blk_simp [iblk]
  rw [x_read, wu_read m c _ (ix2 k (i 1))]
  · refine Cert.Proof.Mm.mul_congr (congrArg _ ?_) rfl
    blk_ext [e0, h0]
  · blk_simp [e2]
  · blk_simp [e2, h1]; omega

/-- The gate array at the end. -/
theorem final_gate (c : Dev nD) : (dats m 0 c).arrAt 3 cfg0.N
    = result (m ((c : Thread nD τ).loc main_arg0)) (m ((c : Thread nD τ).loc main_arg1)) := by
  refine (dats m 0 c).arrAt_eq_of_covers 3 _ (by decide +kernel) fun t hf y => ?_
  have e := (index_facts t).2.2.2.1
  blk_simp
  rw [after0_3]
  frame_out
  exact gate_block m c t y _ (by blk_simp [e]) (by blk_simp [e])

/-- The array of the up projection at the end. -/
theorem final_up (c : Dev nD) : (dats m 0 c).arrAt 4 cfg0.N
    = result (m ((c : Thread nD τ).loc main_arg0)) (m ((c : Thread nD τ).loc main_arg2)) := by
  refine (dats m 0 c).arrAt_eq_of_covers 4 _ (by decide +kernel) fun t hf y => ?_
  have e := (index_facts t).2.2.2.2.1
  blk_simp
  rw [after0_4]
  frame_out
  exact up_block m c t y _ (by blk_simp [e]) (by blk_simp [e])

/-- The hidden array at the end. -/
theorem final_hid (c : Dev nD) : (dats m 0 c).arrAt 5 cfg0.N
    = hidden (m ((c : Thread nD τ).loc main_arg0)) (m ((c : Thread nD τ).loc main_arg1)) (m ((c : Thread nD τ).loc main_arg2)) := by
  refine (dats m 0 c).arrAt_eq_of_covers 5 _ (by decide +kernel) fun t hf y => ?_
  have e := (index_facts t).2.2.2.2.2
  blk_simp
  rw [after0_5]
  frame_out
  refine (hid_apply _ _ _ _).trans (congrArg₂ gated ?_ ?_)
  · exact gate_block m c t y _ (by blk_simp [e]) (by blk_simp [e])
  · exact up_block m c t y _ (by blk_simp [e]) (by blk_simp [e])

/-- The kernel's run: its results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v3_0) = result (m ((c : Thread nD τ).loc main_arg0)) (m ((c : Thread nD τ).loc main_arg1))
      ∧ r.2.mem ((c : Thread nD τ).loc main_v3_1) = result (m ((c : Thread nD τ).loc main_arg0)) (m ((c : Thread nD τ).loc main_arg2))
      ∧ r.2.mem ((c : Thread nD τ).loc main_v3_2)
        = hidden (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_gate m c), (h c).2.1.trans (final_up m c), (h c).2.2.1.trans (final_hid m c), (h c).2.2.2⟩)
    (Cert.Kernel2Ideal.Value.run_blocks m ρ)

/-- The reference's product is the same array. -/
theorem reference_eq (x : FVec Ideal S4096x1024 .f32) (w : FVec Ideal S1024x2816 .f32) :
    Host.dotGeneral (F := Ideal) Cert.Reference2Ideal.dot_S4096x1024_S1024x2816_S4096x2816_1_0_0_1_n_n none x w = result x w := by
  funext i
  pointwise [result]

/-- The reference's gated rows, of its gate and its up projection. -/
def silu (g u : FVec Ideal S4096x2816 .f32) : FVec Ideal S4096x2816 .bf16 :=
  truncf (F := Ideal) .bf16 (mulf (mulf g
    (Host.divf (broadcastInDim S4096x2816 ![] Cert.Reference2Ideal.Gen.bcast_S_S4096x2816 (constant Cert.Reference2Ideal.S_ .f32 0x3F800000#32))
      (addf (broadcastInDim S4096x2816 ![] Cert.Reference2Ideal.Gen.bcast_S_S4096x2816 (constant Cert.Reference2Ideal.S_ .f32 0x3F800000#32))
        (Host.exp (Host.negf g))))) u) Cert.Reference2Ideal.Gen.bitsLt_bf16_f32

/-- The reference's gated rows are the same array. -/
theorem reference_hidden (x : FVec Ideal S4096x1024 .f32) (wg wu : FVec Ideal S1024x2816 .f32) :
    silu (result x wg) (result x wu) = hidden x wg wu := by
  funext i
  unfold hidden
  generalize result x wg = g
  generalize result x wu = u
  pointwise [silu, gated]

end Cert.Kernel2Ideal.Product
-- ==== Proof.Mm.OutDw.lean ====
module

public import proofs.«01_k».proof.Proof.Mm.Sum
public import proofs.«01_k».proof.Proof.Gen.Kernel3Ideal.Value
public import proofs.«01_k».proof.Proof.Gen.Reference3Ideal.Run
public import Idealize.ShloMosaic.Lib.ValueIdx
public import Idealize.ShloMosaic.Lib.Pointwise

/-!
The gradient of the second feed-forward weight: the kernel's result array is the product of the
transposed hidden rows and the rows' gradient, and so is the reference's.
-/

@[expose] public section

set_option maxRecDepth 8192

noncomputable section

namespace Cert.Kernel3Ideal.Product

open Idealize.ShloMosaic Idealize.ShloMosaic.TcCoe Cert.Kernel3Ideal Cert.Kernel3Ideal.Gen Idealize.SL.Sem

variable (m : (ℓ : Loc nD τ sig) → Buf (Elt Ideal) ℓ)

/-- One grid point's product of blocks, at an entry. -/
theorem first_apply (x0 : Vec Ideal S2048x1408 .bf16) (x1 : Vec Ideal S2048x1024 .bf16) (j : S1408x1024.Idx) :
    k0_pay2 (F := Ideal) x0 x1 j = ∑ k : Fin 2048, x0 (ix2 k (j 0)) * x1 (ix2 k (j 1)) := by
  pointwise [k0_pay2, k0_pay1]

/-- One grid point's product of blocks added to what the accumulator held, at an entry. -/
theorem next_apply (x0 : Vec Ideal S2048x1408 .bf16) (x1 : Vec Ideal S2048x1024 .bf16) (v : Vec Ideal S1408x1024 .f32)
    (j : S1408x1024.Idx) : k0_pay3 (F := Ideal) x0 x1 v j = v j + ∑ k : Fin 2048, x0 (ix2 k (j 0)) * x1 (ix2 k (j 1)) := by
  pointwise [k0_pay3, k0_pay1]

/-- The rows' gradient, as the pipeline reads it: the argument. -/
theorem dy_read (c : Dev nD) (i : S4096x1024.Idx) : V m c main_v0 i = m ((c : Thread nD τ).loc main_arg2) i := by
  unfold V
  simp only [hostOps0]
  after_results
  rfl

/-- The block index of each window, at each grid point. -/
theorem index_facts : ∀ t : Fin cfg0.N,
    win0_0.index t = ![t.val % 2, t.val / 2] ∧ win0_1.index t = ![t.val % 2, 0] ∧ win0_2.index t = ![t.val / 2, 0] :=
  (by decide +kernel : ∀ t : Fin grid0.N, _)

/-- The product of the transposed hidden rows and the rows' gradient. -/
def result (x : Vec Ideal S4096x2816 .bf16) (dy : Vec Ideal S4096x1024 .f32) : Vec Ideal S2816x1024 .f32 := fun i =>
  ∑ k : Fin 4096, x (ix2 k (i 0)) * dy (ix2 k (i 1))

/-- The kernel's result array holds it at the end. -/
theorem final (c : Dev nD) : (dats m 0 c).arrAt 2 cfg0.N
    = result (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  have hl : t.val < cfg0.N := t.isLt
  have hp : t.val - 1 < cfg0.N := by omega
  have e0 := (index_facts t).1
  have e1 := (index_facts t).2.1
  have e2 := (index_facts t).2.2
  have d0 := (index_facts ⟨t.val - 1, hp⟩).1
  have d1 := (index_facts ⟨t.val - 1, hp⟩).2.1
  blk_simp
  rw [after0_2, outsAt0_B m c t (by omega) h1 h1, outsAt0_A m c ⟨t.val - 1, hp⟩ (by dsimp only; omega) (by dsimp only; omega) (by dsimp only; omega)]
  frame_out
  rw [next_apply, (Memref.isWhole_whole cc0_scratch0).read_unread, first_apply]
  unfold result
  rw [Cert.Proof.Mm.sum_split 2048 2048 rfl]
  refine congrArg₂ (· + ·) (Finset.sum_congr rfl fun k _ => ?_) (Finset.sum_congr rfl fun k _ => ?_)
  · blk_simp [iblk]
    rw [V_main_arg0, dy_read]
    refine congrArg₂ (· * ·) (congrArg _ ?_) (congrArg _ ?_)
    · blk_ext [d0, e2]
    · blk_ext [d1, e2]
  · blk_simp [iblk]
    rw [V_main_arg0, dy_read]
    refine congrArg₂ (· * ·) (congrArg _ ?_) (congrArg _ ?_)
    · blk_ext [e0, e2]
    · blk_ext [e1, e2]

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v1) = result (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel3Ideal.Value.run_blocks m ρ)

/-- The reference's product is the same array. -/
theorem reference_eq (x : FVec Ideal S4096x2816 .bf16) (dy : FVec Ideal S4096x1024 .f32) :
    transpose Cert.Reference3Ideal.S2816x1024 [1, 0] (Host.dotGeneral (F := Ideal)
      Cert.Reference3Ideal.dot_S4096x1024_S4096x2816_S1024x2816_0_0_1_1_n_n none dy (extf .f32 x Cert.Reference3Ideal.Gen.bitsLt_bf16_f32))
      Cert.Reference3Ideal.Gen.transposes_S1024x2816_S2816x1024_1_0 = result x dy := by
  funext i
  pointwise [result]
  exact Cert.Proof.Mm.sum_congr fun k => mul_comm _ _

end Cert.Kernel3Ideal.Product
-- ==== Proof.Mm.FfnInDx.lean ====
module

public import proofs.«01_k».proof.Proof.Mm.Sum
public import proofs.«01_k».proof.Proof.Gen.Kernel4Ideal.Value
public import proofs.«01_k».proof.Proof.Gen.Reference4Ideal.Run
public import Idealize.ShloMosaic.Lib.ValueIdx
public import Idealize.ShloMosaic.Lib.Pointwise

/-!
The gradient of the rows that enter the feed-forward: the kernel's result array is the gate's
gradient times its transposed weight, plus the up projection's, plus the scaled gradient of the
residual, and so is the reference's.
-/

@[expose] public section

set_option maxRecDepth 8192

noncomputable section

namespace Cert.Kernel4Ideal.Product

open Idealize.ShloMosaic Idealize.ShloMosaic.TcCoe Cert.Kernel4Ideal Cert.Kernel4Ideal.Gen Idealize.SL.Sem

variable (m : (ℓ : Loc nD τ sig) → Buf (Elt Ideal) ℓ)

/-- The factor of the residual branch. -/
def scale : EReal := Scalar.ofBits (F := Ideal) .f32 0x3FB504F3#32

/-- One grid point's products of blocks, at an entry. -/
theorem part_apply (x0 x1 x2 x3 : Vec Ideal S1024x1408 .bf16) (j : S1024x1024.Idx) :
    k0_pay1 (F := Ideal) x0 x1 x2 x3 j
      = (∑ k : Fin 1408, x0 (ix2 (j 0) k) * x1 (ix2 (j 1) k)) + ∑ k : Fin 1408, x2 (ix2 (j 0) k) * x3 (ix2 (j 1) k) := by
  pointwise [k0_pay1]

/-- What the first point of a row of blocks keeps. -/
theorem first_apply (x0 x1 x2 x3 : Vec Ideal S1024x1408 .bf16) (j : S1024x1024.Idx) :
    k0_pay2 (F := Ideal) x0 x1 x2 x3 j = k0_pay1 (F := Ideal) x0 x1 x2 x3 j := by
  pointwise [k0_pay2]

/-- What the next point keeps. -/
theorem next_apply (x0 x1 x2 x3 : Vec Ideal S1024x1408 .bf16) (s : Vec Ideal S1024x1024 .f32) (j : S1024x1024.Idx) :
    k0_pay3 (F := Ideal) x0 x1 x2 x3 s j = s j + k0_pay1 (F := Ideal) x0 x1 x2 x3 j := by
  pointwise [k0_pay3]

/-- What the last point writes. -/
theorem last_apply (s d : Vec Ideal S1024x1024 .f32) (j : S1024x1024.Idx) :
    k0_pay4 (F := Ideal) s d j = s j + scale * d j := by
  pointwise [k0_pay4, scale]

/-- The gate's weight, as the pipeline reads it: the first columns of the joined weight. -/
theorem wg_read (c : Dev nD) (i : S1024x5632.Idx) (j : S1024x2816.Idx) (h0 : (i 0).val = (j 0).val) (h1 : (i 1).val = (j 1).val) :
    V m c main_v1 i = m ((c : Thread nD τ).loc main_arg1) j := by
  have hj : (j 1).val < 2816 := (j 1).isLt
  unfold V
  simp only [hostOps0]
  after_results
  pointwise
  rw [dif_pos (by omega)]
  exact congrArg _ (funext fun a => Fin.ext (match a with | ⟨0, _⟩ => h0 | ⟨1, _⟩ => h1))

/-- The up projection's weight, as the pipeline reads it: the last columns of the joined weight. -/
theorem wu_read (c : Dev nD) (i : S1024x5632.Idx) (j : S1024x2816.Idx) (h0 : (i 0).val = (j 0).val) (h1 : (i 1).val = 2816 + (j 1).val) :
    V m c main_v1 i = m ((c : Thread nD τ).loc main_arg2) j := by
  unfold V
  simp only [hostOps0]
  after_results
  pointwise
  rw [dif_neg (by omega)]
  refine congrArg _ (funext fun a => Fin.ext (match a with | ⟨0, _⟩ => h0 | ⟨1, _⟩ => ?_))
  show (i 1).val - 2816 = (j 1).val
  omega

/-- The block index of each window, at each grid point. -/
theorem index_facts : ∀ t : Fin cfg0.N,
    win0_0.index t = ![t.val / 2, t.val % 2] ∧ win0_1.index t = ![t.val / 2, t.val % 2] ∧ win0_2.index t = ![0, t.val % 2]
    ∧ win0_3.index t = ![0, 2 + t.val % 2] ∧ win0_4.index t = ![t.val / 2, 0] ∧ win0_5.index t = ![t.val / 2, 0] :=
  (by decide +kernel : ∀ t : Fin grid0.N, _)

/-- The gradient of the rows. -/
def result (wg wu : Vec Ideal S1024x2816 .f32) (dg du : Vec Ideal S4096x2816 .bf16) (e : Vec Ideal S4096x1024 .f32) : Vec Ideal S4096x1024 .f32 := fun i =>
  ((∑ k : Fin 2816, dg (ix2 (i 0) k) * wg (ix2 (i 1) k)) + ∑ k : Fin 2816, du (ix2 (i 0) k) * wu (ix2 (i 1) k)) + scale * e i

/-- One half of one product: the columns the grid point's blocks hold. -/
theorem gate_part (c : Dev nD) (t : Fin cfg0.N) (j : S1024x1024.Idx) (i : S4096x1024.Idx) (k : Fin 1408) (k' : Fin 2816)
    (h0 : (i 0).val = (t.val / 2) * 1024 + (j 0).val) (h1 : (i 1).val = (j 1).val) (hk : k'.val = (t.val % 2) * 1408 + k.val) :
    @HMul.hMul EReal EReal EReal _ (iblk m c 0 t (ix2 (j 0) k : S1024x1408.Idx)) (iblk m c 2 t (ix2 (j 1) k : S1024x1408.Idx))
      = @HMul.hMul EReal EReal EReal _ (m ((c : Thread nD τ).loc main_arg3) (ix2 (i 0) k' : S4096x2816.Idx)) (m ((c : Thread nD τ).loc main_arg1) (ix2 (i 1) k' : S1024x2816.Idx)) := by
  have e0 := (index_facts t).1
  have e2 := (index_facts t).2.2.1
  blk_simp [iblk]
  rw [V_main_arg3, wg_read m c _ (ix2 (i 1) k')]
  · refine Cert.Proof.Mm.mul_congr (congrArg _ ?_) rfl
    blk_ext [e0, h0, hk]
  · blk_simp [e2, h1]
  · blk_simp [e2, hk]

/-- The same of the up projection's product. -/
theorem up_part (c : Dev nD) (t : Fin cfg0.N) (j : S1024x1024.Idx) (i : S4096x1024.Idx) (k : Fin 1408) (k' : Fin 2816)
    (h0 : (i 0).val = (t.val / 2) * 1024 + (j 0).val) (h1 : (i 1).val = (j 1).val) (hk : k'.val = (t.val % 2) * 1408 + k.val) :
    @HMul.hMul EReal EReal EReal _ (iblk m c 1 t (ix2 (j 0) k : S1024x1408.Idx)) (iblk m c 3 t (ix2 (j 1) k : S1024x1408.Idx))
      = @HMul.hMul EReal EReal EReal _ (m ((c : Thread nD τ).loc main_arg4) (ix2 (i 0) k' : S4096x2816.Idx)) (m ((c : Thread nD τ).loc main_arg2) (ix2 (i 1) k' : S1024x2816.Idx)) := by
  have e1 := (index_facts t).2.1
  have e3 := (index_facts t).2.2.2.1
  blk_simp [iblk]
  rw [V_main_arg4, wu_read m c _ (ix2 (i 1) k')]
  · refine Cert.Proof.Mm.mul_congr (congrArg _ ?_) rfl
    blk_ext [e1, h0, hk]
  · blk_simp [e3, h1]
  · blk_simp [e3, hk]
    omega

/-- The kernel's result array holds it at the end. -/
theorem final (c : Dev nD) : (dats m 0 c).arrAt 5 cfg0.N
    = result (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 5 _ (by decide +kernel) fun t hf y => ?_
  have h1 : t.val % 2 = 1 := (flush0_5 t).mp hf
  have hl : t.val < cfg0.N := t.isLt
  have hp : t.val - 1 < cfg0.N := by omega
  have e4 := (index_facts t).2.2.2.2.1
  have e5 := (index_facts t).2.2.2.2.2
  blk_simp
  rw [after0_5, outsAt0_B m c t (by omega) h1 h1, outsAt0_A m c ⟨t.val - 1, hp⟩ (by dsimp only; omega) (by dsimp only; omega) (by dsimp only; omega)]
  frame_out
  rw [last_apply, next_apply, (Memref.isWhole_whole cc0_scratch0).read_unread, first_apply, part_apply, part_apply]
  unfold result
  rw [Cert.Proof.Mm.sum_split 1408 1408 rfl, Cert.Proof.Mm.sum_split 1408 1408 rfl]
  rw [add_add_add_comm]
  have g0 : ∀ (q : S4096x1024.Idx), (q 0).val = (t.val / 2) * 1024 + (y 0).val → (q 0).val = ((⟨t.val - 1, hp⟩ : Fin cfg0.N).val / 2) * 1024 + (y 0).val := by
    intro q hq; rw [hq]; dsimp only; congr 2; omega
  refine Cert.Proof.Mm.add_congr (Cert.Proof.Mm.add_congr
    (Cert.Proof.Mm.add_congr (Cert.Proof.Mm.sum_congr fun k => ?_) (Cert.Proof.Mm.sum_congr fun k => ?_))
    (Cert.Proof.Mm.add_congr (Cert.Proof.Mm.sum_congr fun k => ?_) (Cert.Proof.Mm.sum_congr fun k => ?_))) (Cert.Proof.Mm.mul_congr rfl ?_)
  · refine gate_part m c ⟨t.val - 1, hp⟩ y _ k _ (g0 _ (by blk_simp [e5])) (by blk_simp [e5]) ?_
    dsimp only; omega
  · refine gate_part m c t y _ k _ (by blk_simp [e5]) (by blk_simp [e5]) ?_
    dsimp only; omega
  · refine up_part m c ⟨t.val - 1, hp⟩ y _ k _ (g0 _ (by blk_simp [e5])) (by blk_simp [e5]) ?_
    dsimp only; omega
  · refine up_part m c t y _ k _ (by blk_simp [e5]) (by blk_simp [e5]) ?_
    dsimp only; omega
  · blk_simp [iblk]
    rw [V_main_arg5]
    refine congrArg _ ?_
    blk_ext [e4, e5]

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v2)
        = result (m ((c : Thread nD τ).loc main_arg1)) (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.Kernel4Ideal.Value.run_blocks m ρ)

/-- The reference's sum is the same array. -/
theorem reference_eq (wg wu : FVec Ideal S1024x2816 .f32) (dg du : FVec Ideal S4096x2816 .bf16) (e : FVec Ideal S4096x1024 .f32) :
    addf (addf (mulf (broadcastInDim Cert.Reference4Ideal.S4096x1024 ![] Cert.Reference4Ideal.Gen.bcast_S_S4096x1024
        (constant (F := Ideal) Cert.Reference4Ideal.S_ .f32 0x3FB504F3#32)) e)
      (Host.dotGeneral (F := Ideal) Cert.Reference4Ideal.dot_S4096x2816_S1024x2816_S4096x1024_1_1_0_0_n_n none
        (extf .f32 du Cert.Reference4Ideal.Gen.bitsLt_bf16_f32) wu))
      (Host.dotGeneral (F := Ideal) Cert.Reference4Ideal.dot_S4096x2816_S1024x2816_S4096x1024_1_1_0_0_n_n none
        (extf .f32 dg Cert.Reference4Ideal.Gen.bitsLt_bf16_f32) wg)
      = result wg wu dg du e := by
  funext i
  pointwise [result, scale]
  rw [add_comm, add_comm (_ * _), ← add_assoc]

end Cert.Kernel4Ideal.Product
-- ==== Proof.Mm.InDw.lean ====
module

public import proofs.«01_k».proof.Proof.Mm.Sum
public import proofs.«01_k».proof.Proof.Gen.Kernel5Ideal.Value
public import proofs.«01_k».proof.Proof.Gen.Reference5Ideal.Run
public import Idealize.ShloMosaic.Lib.ValueIdx
public import Idealize.ShloMosaic.Lib.Pointwise

/-!
The gradient of a first feed-forward weight: the kernel's result array is the product of the
transposed rows and the hidden gradient, and so is the reference's.
-/

@[expose] public section

set_option maxRecDepth 8192

noncomputable section

namespace Cert.Kernel5Ideal.Product

open Idealize.ShloMosaic Idealize.ShloMosaic.TcCoe Cert.Kernel5Ideal Cert.Kernel5Ideal.Gen Idealize.SL.Sem

variable (m : (ℓ : Loc nD τ sig) → Buf (Elt Ideal) ℓ)

/-- One grid point's product of blocks, at an entry. -/
theorem first_apply (x0 : Vec Ideal S2048x1024 .bf16) (x1 : Vec Ideal S2048x1408 .bf16) (j : S1024x1408.Idx) :
    k0_pay2 (F := Ideal) x0 x1 j = ∑ k : Fin 2048, x0 (ix2 k (j 0)) * x1 (ix2 k (j 1)) := by
  pointwise [k0_pay2, k0_pay1]

/-- One grid point's product of blocks added to what the accumulator held, at an entry. -/
theorem next_apply (x0 : Vec Ideal S2048x1024 .bf16) (x1 : Vec Ideal S2048x1408 .bf16) (v : Vec Ideal S1024x1408 .f32)
    (j : S1024x1408.Idx) : k0_pay3 (F := Ideal) x0 x1 v j = v j + ∑ k : Fin 2048, x0 (ix2 k (j 0)) * x1 (ix2 k (j 1)) := by
  pointwise [k0_pay3, k0_pay1]

/-- The rows, as the pipeline reads it: the argument. -/
theorem x_read (c : Dev nD) (i : S4096x1024.Idx) : V m c main_v0 i = m ((c : Thread nD τ).loc main_arg0) i := by
  unfold V
  simp only [hostOps0]
  after_results
  rfl

/-- The block index of each window, at each grid point. -/
theorem index_facts : ∀ t : Fin cfg0.N,
    win0_0.index t = ![t.val % 2, 0] ∧ win0_1.index t = ![t.val % 2, t.val / 2] ∧ win0_2.index t = ![0, t.val / 2] :=
  (by decide +kernel : ∀ t : Fin grid0.N, _)

/-- The product of the transposed rows and the hidden gradient. -/
def result (x : Vec Ideal S4096x1024 .f32) (dy : Vec Ideal S4096x2816 .bf16) : Vec Ideal S1024x2816 .f32 := fun i =>
  ∑ k : Fin 4096, x (ix2 k (i 0)) * dy (ix2 k (i 1))

/-- The kernel's result array holds it at the end. -/
theorem final (c : Dev nD) : (dats m 0 c).arrAt 2 cfg0.N
    = result (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  have hl : t.val < cfg0.N := t.isLt
  have hp : t.val - 1 < cfg0.N := by omega
  have e0 := (index_facts t).1
  have e1 := (index_facts t).2.1
  have e2 := (index_facts t).2.2
  have d0 := (index_facts ⟨t.val - 1, hp⟩).1
  have d1 := (index_facts ⟨t.val - 1, hp⟩).2.1
  blk_simp
  rw [after0_2, outsAt0_B m c t (by omega) h1 h1, outsAt0_A m c ⟨t.val - 1, hp⟩ (by dsimp only; omega) (by dsimp only; omega) (by dsimp only; omega)]
  frame_out
  rw [next_apply, (Memref.isWhole_whole cc0_scratch0).read_unread, first_apply]
  unfold result
  rw [Cert.Proof.Mm.sum_split 2048 2048 rfl]
  refine congrArg₂ (· + ·) (Finset.sum_congr rfl fun k _ => ?_) (Finset.sum_congr rfl fun k _ => ?_)
  · blk_simp [iblk]
    rw [x_read, V_main_arg2]
    refine congrArg₂ (· * ·) (congrArg _ ?_) (congrArg _ ?_)
    · blk_ext [d0, e2]
    · blk_ext [d1, e2]
  · blk_simp [iblk]
    rw [x_read, V_main_arg2]
    refine congrArg₂ (· * ·) (congrArg _ ?_) (congrArg _ ?_)
    · blk_ext [e0, e2]
    · blk_ext [e1, e2]

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v1) = result (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel5Ideal.Value.run_blocks m ρ)

/-- The reference's product is the same array. -/
theorem reference_eq (x : FVec Ideal S4096x1024 .f32) (dy : FVec Ideal S4096x2816 .bf16) :
    transpose Cert.Reference5Ideal.S1024x2816 [1, 0] (Host.dotGeneral (F := Ideal)
      Cert.Reference5Ideal.dot_S4096x2816_S4096x1024_S2816x1024_0_0_1_1_n_n none (extf .f32 dy Cert.Reference5Ideal.Gen.bitsLt_bf16_f32) x)
      Cert.Reference5Ideal.Gen.transposes_S2816x1024_S1024x2816_1_0 = result x dy := by
  funext i
  pointwise [result]
  exact Cert.Proof.Mm.sum_congr fun k => mul_comm _ _

end Cert.Kernel5Ideal.Product
-- ==== Proof.Mm.ProjDx.lean ====
module

public import proofs.«01_k».proof.Proof.Mm.Sum
public import proofs.«01_k».proof.Proof.Gen.Kernel6Ideal.Value
public import proofs.«01_k».proof.Proof.Gen.Reference6Ideal.Run
public import Idealize.ShloMosaic.Lib.ValueIdx
public import Idealize.ShloMosaic.Lib.Pointwise

/-!
The gradient of the rows that enter the input projection: the kernel's result array is the
projections' gradient times the transposed weight plus the scaled gradient of the residual, and so
is the reference's.
-/

@[expose] public section

set_option maxRecDepth 8192

noncomputable section

namespace Cert.Kernel6Ideal.Product

open Idealize.ShloMosaic Idealize.ShloMosaic.TcCoe Cert.Kernel6Ideal Cert.Kernel6Ideal.Gen Idealize.SL.Sem

variable (m : (ℓ : Loc nD τ sig) → Buf (Elt Ideal) ℓ)

/-- The factor of the residual branch. -/
def scale : EReal := Scalar.ofBits (F := Ideal) .f32 0x3FB504F3#32

/-- One grid point's product of blocks and its scaled addend, at an entry. -/
theorem part_apply (x0 : Vec Ideal S1024x3200 .bf16) (x1 : Vec Ideal S512x3200 .bf16) (x2 : Vec Ideal S1024x512 .f32) (j : S1024x512.Idx) :
    k0_pay1 (F := Ideal) x0 x1 x2 j = (∑ k : Fin 3200, x0 (ix2 (j 0) k) * x1 (ix2 (j 1) k)) + scale * x2 j := by
  pointwise [k0_pay1, scale]

/-- The weight with zero columns on the right. -/
def padded (w : FVec Ideal S1024x3076 .f32) : FVec Ideal S1024x3200 .f32 :=
  pad S1024x3200 ![0, 0] ![0, 124] ![0, 0] w (sitofp (F := Ideal) .f32 (constantI S_ 32 0#32)) pads_S1024x3076_S1024x3200_000_01240 h_S_

/-- The projections' gradient, as the pipeline reads it: the argument. -/
theorem d_read (c : Dev nD) (i : S4096x3200.Idx) : V m c main_v2 i = m ((c : Thread nD τ).loc main_arg2) i := by
  unfold V
  simp only [hostOps0, hostOps0_1, hostOps0_2, List.flatten_cons, List.flatten_nil, List.append_nil, List.cons_append, List.nil_append]
  after_results
  rfl

/-- The weight, as the pipeline reads it. -/
theorem w_read (c : Dev nD) (i : S1024x3200.Idx) : V m c main_v1 i = padded (m ((c : Thread nD τ).loc main_arg1)) i := by
  unfold V
  simp only [hostOps0, hostOps0_1, hostOps0_2, List.flatten_cons, List.flatten_nil, List.append_nil, List.cons_append, List.nil_append]
  after_results
  rfl

/-- The block index of each window, at each grid point. -/
theorem index_facts : ∀ t : Fin cfg0.N,
    win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

/-- The projections' gradient times the transposed weight, plus the scaled gradient of the residual. -/
def result (w : Vec Ideal S1024x3076 .f32) (d : Vec Ideal S4096x3200 .f32) (e : Vec Ideal S4096x1024 .f32) : Vec Ideal S4096x1024 .f32 := fun i =>
  (∑ k : Fin 3200, d (ix2 (i 0) k) * padded w (ix2 (i 1) k)) + scale * e i

/-- The kernel's result array holds it at the end. -/
theorem final (c : Dev nD) : (dats m 0 c).arrAt 3 cfg0.N
    = result (m ((c : Thread nD τ).loc main_arg1)) (m ((c : Thread nD τ).loc main_arg2)) (m ((c : Thread nD τ).loc main_arg3)) := by
  refine (dats m 0 c).arrAt_eq_of_covers 3 _ (by decide +kernel) fun t hf y => ?_
  have e0 := (index_facts t).1
  have e1 := (index_facts t).2.1
  have e2 := (index_facts t).2.2.1
  have e3 := (index_facts t).2.2.2
  blk_simp
  rw [after0_3]
  frame_out
  rw [part_apply]
  unfold result
  refine Cert.Proof.Mm.add_congr (Cert.Proof.Mm.sum_congr fun k => ?_) (Cert.Proof.Mm.mul_congr rfl ?_)
  · blk_simp [iblk]
    rw [d_read, w_read]
    refine Cert.Proof.Mm.mul_congr (congrArg _ ?_) (congrArg _ ?_)
    · blk_ext [e0, e3]
    · blk_ext [e1, e3]
  · blk_simp [iblk]
    rw [V_main_arg3]
    refine congrArg _ ?_
    blk_ext [e2, e3]

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v3)
        = result (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.Kernel6Ideal.Value.run_blocks m ρ)

/-- The value the columns are filled with is zero. -/
theorem fill_zero : FloatOps.sitofp (F := Ideal) FTy.f32 0#32 = (0 : EReal) := by
  simp [FloatOps.sitofp]

/-- The reference's sum is the same array: a padded column adds nothing. -/
theorem reference_eq (w : FVec Ideal S1024x3076 .f32) (d : FVec Ideal S4096x3200 .f32) (e : FVec Ideal S4096x1024 .f32) :
    addf (mulf (broadcastInDim Cert.Reference6Ideal.S4096x1024 ![] Cert.Reference6Ideal.Gen.bcast_S_S4096x1024
        (constant (F := Ideal) Cert.Reference6Ideal.S_ .f32 0x3FB504F3#32)) e)
      (Host.dotGeneral (F := Ideal) Cert.Reference6Ideal.dot_S4096x3076_S1024x3076_S4096x1024_1_1_0_0_n_n none
        (extractStridedSlice Cert.Reference6Ideal.S4096x3076 ![0, 0] d Cert.Reference6Ideal.Gen.slices_S4096x3200_S4096x3076_0_0) w)
      = result w d e := by
  funext i
  pointwise [result, padded, scale]
  rw [add_comm]
  refine Cert.Proof.Mm.add_congr ((add_zero _).symm.trans (Cert.Proof.Mm.add_congr rfl ?_)) rfl
  refine (Finset.sum_eq_zero fun k _ => ?_).symm
  rw [fill_zero, mul_zero]

end Cert.Kernel6Ideal.Product
-- ==== Proof.Mm.ProjDw.lean ====
module

public import proofs.«01_k».proof.Proof.Mm.Sum
public import proofs.«01_k».proof.Proof.Gen.Kernel7Ideal.Value
public import proofs.«01_k».proof.Proof.Gen.Reference7Ideal.Run
public import Idealize.ShloMosaic.Lib.ValueIdx
public import Idealize.ShloMosaic.Lib.Pointwise

/-!
The gradient of the input projection's weight: the kernel's result array is the product of the
transposed rows and the projections' gradient, and so is the reference's.
-/

@[expose] public section

set_option maxRecDepth 8192

noncomputable section

namespace Cert.Kernel7Ideal.Product

open Idealize.ShloMosaic Idealize.ShloMosaic.TcCoe Cert.Kernel7Ideal Cert.Kernel7Ideal.Gen Idealize.SL.Sem

variable (m : (ℓ : Loc nD τ sig) → Buf (Elt Ideal) ℓ)

/-- One grid point's product of blocks, at an entry. -/
theorem first_apply (x0 : Vec Ideal S2048x1024 .bf16) (x1 : Vec Ideal S2048x640 .bf16) (j : S1024x640.Idx) :
    k0_pay2 (F := Ideal) x0 x1 j = ∑ k : Fin 2048, x0 (ix2 k (j 0)) * x1 (ix2 k (j 1)) := by
  pointwise [k0_pay2, k0_pay1]

/-- One grid point's product of blocks added to what the accumulator held, at an entry. -/
theorem next_apply (x0 : Vec Ideal S2048x1024 .bf16) (x1 : Vec Ideal S2048x640 .bf16) (v : Vec Ideal S1024x640 .f32)
    (j : S1024x640.Idx) : k0_pay3 (F := Ideal) x0 x1 v j = v j + ∑ k : Fin 2048, x0 (ix2 k (j 0)) * x1 (ix2 k (j 1)) := by
  pointwise [k0_pay3, k0_pay1]

/-- The rows, as the pipeline reads it: the argument. -/
theorem x_read (c : Dev nD) (i : S4096x1024.Idx) : V m c main_v0 i = m ((c : Thread nD τ).loc main_arg0) i := by
  unfold V
  simp only [hostOps0]
  after_results
  rfl

/-- The projections' gradient, as the pipeline reads it: the argument. -/
theorem dy_read (c : Dev nD) (i : S4096x3200.Idx) : V m c main_v1 i = m ((c : Thread nD τ).loc main_arg2) i := by
  unfold V
  simp only [hostOps0]
  after_results
  rfl

/-- The block index of each window, at each grid point. -/
theorem index_facts : ∀ t : Fin cfg0.N,
    win0_0.index t = ![t.val % 2, 0] ∧ win0_1.index t = ![t.val % 2, t.val / 2] ∧ win0_2.index t = ![0, t.val / 2] :=
  (by decide +kernel : ∀ t : Fin grid0.N, _)

/-- The product of the transposed rows and the projections' gradient. -/
def result (x : Vec Ideal S4096x1024 .f32) (dy : Vec Ideal S4096x3200 .f32) : Vec Ideal S1024x3200 .f32 := fun i =>
  ∑ k : Fin 4096, x (ix2 k (i 0)) * dy (ix2 k (i 1))

/-- The kernel's result array holds it at the end. -/
theorem final (c : Dev nD) : (dats m 0 c).arrAt 2 cfg0.N
    = result (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  have hl : t.val < cfg0.N := t.isLt
  have hp : t.val - 1 < cfg0.N := by omega
  have e0 := (index_facts t).1
  have e1 := (index_facts t).2.1
  have e2 := (index_facts t).2.2
  have d0 := (index_facts ⟨t.val - 1, hp⟩).1
  have d1 := (index_facts ⟨t.val - 1, hp⟩).2.1
  blk_simp
  rw [after0_2, outsAt0_B m c t (by omega) h1 h1, outsAt0_A m c ⟨t.val - 1, hp⟩ (by dsimp only; omega) (by dsimp only; omega) (by dsimp only; omega)]
  frame_out
  rw [next_apply, (Memref.isWhole_whole cc0_scratch0).read_unread, first_apply]
  unfold result
  rw [Cert.Proof.Mm.sum_split 2048 2048 rfl]
  refine congrArg₂ (· + ·) (Finset.sum_congr rfl fun k _ => ?_) (Finset.sum_congr rfl fun k _ => ?_)
  · blk_simp [iblk]
    rw [x_read, dy_read]
    refine congrArg₂ (· * ·) (congrArg _ ?_) (congrArg _ ?_)
    · blk_ext [d0, e2]
    · blk_ext [d1, e2]
  · blk_simp [iblk]
    rw [x_read, dy_read]
    refine congrArg₂ (· * ·) (congrArg _ ?_) (congrArg _ ?_)
    · blk_ext [e0, e2]
    · blk_ext [e1, e2]

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel7Ideal.Value.run_blocks m ρ)

/-- The reference's product is the same array. -/
theorem reference_eq (x : FVec Ideal S4096x1024 .f32) (dy : FVec Ideal S4096x3200 .f32) :
    transpose Cert.Reference7Ideal.S1024x3200 [1, 0] (Host.dotGeneral (F := Ideal)
      Cert.Reference7Ideal.dot_S4096x3200_S4096x1024_S3200x1024_0_0_1_1_n_n none dy x)
      Cert.Reference7Ideal.Gen.transposes_S3200x1024_S1024x3200_1_0 = result x dy := by
  funext i
  pointwise [result]
  exact Cert.Proof.Mm.sum_congr fun k => mul_comm _ _

end Cert.Kernel7Ideal.Product
-- ==== Proof.Mm.OutProjDx.lean ====
module

public import proofs.«01_k».proof.Proof.Mm.Sum
public import proofs.«01_k».proof.Proof.Gen.Kernel8Ideal.Value
public import proofs.«01_k».proof.Proof.Gen.Reference8Ideal.Run
public import Idealize.ShloMosaic.Lib.ValueIdx
public import Idealize.ShloMosaic.Lib.Pointwise
public import Idealize.ShloMosaic.Lib.Pipeline.ValueKit

/-!
The gradient of the rows that enter the output projection: the kernel's result array is the rows'
gradient times the transposed weight, and so is the reference's.
-/

@[expose] public section

set_option maxRecDepth 8192

noncomputable section

namespace Cert.Kernel8Ideal.Product

open Idealize.ShloMosaic Idealize.ShloMosaic.TcCoe Cert.Kernel8Ideal Cert.Kernel8Ideal.Gen Idealize.SL.Sem

variable (m : (ℓ : Loc nD τ sig) → Buf (Elt Ideal) ℓ)

/-- One grid point's product of blocks, at an entry. -/
theorem part_apply (x0 : Vec Ideal S1024x1024 .bf16) (x1 : Vec Ideal S1024x1024 .bf16) (j : S1024x1024.Idx) :
    k0_pay1 (F := Ideal) x0 x1 j = ∑ k : Fin 1024, x0 (ix2 (j 0) k) * x1 (ix2 (j 1) k) := by
  pointwise [k0_pay1]

/-- The rows' gradient, as the pipeline reads it: the argument. -/
theorem d_read (c : Dev nD) (i : S4096x1024.Idx) : V m c main_v0 i = m ((c : Thread nD τ).loc main_arg2) i := by
  unfold V
  simp only [hostOps0]
  after_results
  rfl

/-- The weight, as the pipeline reads it: the argument. -/
theorem w_read (c : Dev nD) (i : S1024x1024.Idx) : V m c main_v1 i = m ((c : Thread nD τ).loc main_arg1) i := by
  unfold V
  simp only [hostOps0]
  after_results
  rfl

/-- The block index of each window, at each grid point. -/
theorem index_facts : ∀ t : Fin cfg0.N,
    win0_0.index t = ![t.val, 0] ∧ win0_1.index t = ![0, 0] ∧ win0_2.index t = ![t.val, 0] :=
  (by decide +kernel : ∀ t : Fin grid0.N, _)

/-- The rows' gradient times the transposed weight. -/
def result (w : Vec Ideal S1024x1024 .f32) (d : Vec Ideal S4096x1024 .f32) : Vec Ideal S4096x1024 .f32 := fun i =>
  ∑ k : Fin 1024, d (ix2 (i 0) k) * w (ix2 (i 1) k)

/-- The kernel's result array holds it at the end. -/
theorem final (c : Dev nD) : (dats m 0 c).arrAt 2 cfg0.N
    = result (m ((c : Thread nD τ).loc main_arg1)) (m ((c : Thread nD τ).loc main_arg2)) := by
  refine (dats m 0 c).arrAt_eq_of_covers 2 _ (by decide +kernel) fun t hf y => ?_
  have e0 := (index_facts t).1
  have e1 := (index_facts t).2.1
  have e2 := (index_facts t).2.2
  blk_simp
  rw [after0_2]
  frame_out
  rw [part_apply]
  unfold result
  refine Cert.Proof.Mm.sum_congr fun k => ?_
  blk_simp [iblk]
  rw [d_read, w_read]
  refine Cert.Proof.Mm.mul_congr (congrArg _ ?_) (congrArg _ ?_)
  · blk_ext [e0, e2]
  · blk_ext [e1, e2]

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v2) = result (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel8Ideal.Value.run_blocks m ρ)

/-- The reference's product is the same array. -/
theorem reference_eq (w : FVec Ideal S1024x1024 .f32) (d : FVec Ideal S4096x1024 .f32) :
    Host.dotGeneral (F := Ideal) Cert.Reference8Ideal.dot_S4096x1024_S1024x1024_S4096x1024_1_1_0_0_n_n none d w = result w d := by
  funext i
  pointwise [result]

end Cert.Kernel8Ideal.Product
-- ==== Proof.Mm.OutProjDw.lean ====
module

public import proofs.«01_k».proof.Proof.Mm.Sum
public import proofs.«01_k».proof.Proof.Gen.Kernel9Ideal.Value
public import proofs.«01_k».proof.Proof.Gen.Reference9Ideal.Run
public import Idealize.ShloMosaic.Lib.ValueIdx
public import Idealize.ShloMosaic.Lib.Pointwise

/-!
The gradient of the output projection's weight: the kernel's result array is the product of the
transposed mixed rows and the rows' gradient, and so is the reference's.
-/

@[expose] public section

set_option maxRecDepth 8192

noncomputable section

namespace Cert.Kernel9Ideal.Product

open Idealize.ShloMosaic Idealize.ShloMosaic.TcCoe Cert.Kernel9Ideal Cert.Kernel9Ideal.Gen Idealize.SL.Sem

variable (m : (ℓ : Loc nD τ sig) → Buf (Elt Ideal) ℓ)

/-- One grid point's product of blocks, at an entry. -/
theorem first_apply (x0 : Vec Ideal S2048x1024 .bf16) (x1 : Vec Ideal S2048x1024 .bf16) (j : S1024x1024.Idx) :
    k0_pay2 (F := Ideal) x0 x1 j = ∑ k : Fin 2048, x0 (ix2 k (j 0)) * x1 (ix2 k (j 1)) := by
  pointwise [k0_pay2, k0_pay1]

/-- One grid point's product of blocks added to what the accumulator held, at an entry. -/
theorem next_apply (x0 : Vec Ideal S2048x1024 .bf16) (x1 : Vec Ideal S2048x1024 .bf16) (v : Vec Ideal S1024x1024 .f32)
    (j : S1024x1024.Idx) : k0_pay3 (F := Ideal) x0 x1 v j = v j + ∑ k : Fin 2048, x0 (ix2 k (j 0)) * x1 (ix2 k (j 1)) := by
  pointwise [k0_pay3, k0_pay1]

/-- The mixed rows, as the pipeline reads it: the argument. -/
theorem x_read (c : Dev nD) (i : S4096x1024.Idx) : V m c main_v0 i = m ((c : Thread nD τ).loc main_arg0) i := by
  unfold V
  simp only [hostOps0]
  after_results
  rfl

/-- The rows' gradient, as the pipeline reads it: the argument. -/
theorem dy_read (c : Dev nD) (i : S4096x1024.Idx) : V m c main_v1 i = m ((c : Thread nD τ).loc main_arg2) i := by
  unfold V
  simp only [hostOps0]
  after_results
  rfl

/-- The block index of each window, at each grid point. -/
theorem index_facts : ∀ t : Fin cfg0.N,
    win0_0.index t = ![t.val % 2, 0] ∧ win0_1.index t = ![t.val % 2, 0] ∧ win0_2.index t = ![0, 0] :=
  (by decide +kernel : ∀ t : Fin grid0.N, _)

/-- The product of the transposed mixed rows and the rows' gradient. -/
def result (x : Vec Ideal S4096x1024 .f32) (dy : Vec Ideal S4096x1024 .f32) : Vec Ideal S1024x1024 .f32 := fun i =>
  ∑ k : Fin 4096, x (ix2 k (i 0)) * dy (ix2 k (i 1))

/-- The kernel's result array holds it at the end. -/
theorem final (c : Dev nD) : (dats m 0 c).arrAt 2 cfg0.N
    = result (m ((c : Thread nD τ).loc main_arg0)) (m ((c : Thread nD τ).loc main_arg2)) := by
  refine (dats m 0 c).arrAt_eq_of_covers 2 _ (by decide +kernel) fun t hf y => ?_
  have h1 : t.val % 2 = 1 := (flush0_2 t).mp hf
  have hl : t.val < cfg0.N := t.isLt
  have hp : t.val - 1 < cfg0.N := by omega
  have e0 := (index_facts t).1
  have e1 := (index_facts t).2.1
  have e2 := (index_facts t).2.2
  have d0 := (index_facts ⟨t.val - 1, hp⟩).1
  have d1 := (index_facts ⟨t.val - 1, hp⟩).2.1
  blk_simp
  rw [after0_2, outsAt0_B m c t (by omega) h1 h1, outsAt0_A m c ⟨t.val - 1, hp⟩ (by dsimp only; omega) (by dsimp only; omega) (by dsimp only; omega)]
  frame_out
  rw [next_apply, (Memref.isWhole_whole cc0_scratch0).read_unread, first_apply]
  unfold result
  rw [Cert.Proof.Mm.sum_split 2048 2048 rfl]
  refine congrArg₂ (· + ·) (Finset.sum_congr rfl fun k _ => ?_) (Finset.sum_congr rfl fun k _ => ?_)
  · blk_simp [iblk]
    rw [x_read, dy_read]
    refine congrArg₂ (· * ·) (congrArg _ ?_) (congrArg _ ?_)
    · blk_ext [d0, e2]
    · blk_ext [d1, e2]
  · blk_simp [iblk]
    rw [x_read, dy_read]
    refine congrArg₂ (· * ·) (congrArg _ ?_) (congrArg _ ?_)
    · blk_ext [e0, e2]
    · blk_ext [e1, e2]

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.Kernel9Ideal.Value.run_blocks m ρ)

/-- The reference's product is the same array. -/
theorem reference_eq (x : FVec Ideal S4096x1024 .f32) (dy : FVec Ideal S4096x1024 .f32) :
    transpose Cert.Reference9Ideal.S1024x1024 [1, 0] (Host.dotGeneral (F := Ideal)
      Cert.Reference9Ideal.dot_S4096x1024_S4096x1024_S1024x1024_0_0_1_1_n_n none dy x)
      Cert.Reference9Ideal.Gen.transposes_S1024x1024_S1024x1024_1_0 = result x dy := by
  funext i
  pointwise [result]
  exact Cert.Proof.Mm.sum_congr fun k => mul_comm _ _

end Cert.Kernel9Ideal.Product
-- ==== Proof.Mm.FfnOutDx.lean ====
module

public import proofs.«01_k».proof.Proof.Mm.Sum
public import proofs.«01_k».proof.Proof.Sb.Reals
public import proofs.«01_k».proof.Proof.Gen.Kernel10Ideal.Value
public import proofs.«01_k».proof.Proof.Gen.Reference10Ideal.Run
public import Idealize.ShloMosaic.Lib.ValueIdx
public import Idealize.ShloMosaic.Lib.Pointwise

/-!
The gradients of the gate and of the up projection: the kernel's result arrays, and the reference's,
which are the same where the gradient of the hidden rows and the up projection are finite.
-/

@[expose] public section

set_option maxRecDepth 8192

noncomputable section

namespace Cert.Kernel10Ideal.Product

open Idealize.ShloMosaic Idealize.ShloMosaic.TcCoe Cert.Kernel10Ideal Cert.Kernel10Ideal.Gen Idealize.SL.Sem

variable (m : (ℓ : Loc nD τ sig) → Buf (Elt Ideal) ℓ)

/-- The logistic of a gate entry. -/
def logistic (g : EReal) : EReal := Ideal.div 1 (1 + Ideal.exp (-g))

/-- The gate's gradient, of the hidden rows' gradient `d`, the gate `g` and the up projection `u`. -/
def gateGrad (d g u : EReal) : EReal := d * u * logistic g * (1 + g * (1 - logistic g))

/-- The up projection's gradient. -/
def upGrad (d g : EReal) : EReal := d * g * logistic g

/-- The two forms of the gate's gradient agree where `d * u` is a real number. -/
theorem gateGrad_eq (x : ℝ) (g : EReal) : (x : EReal) * logistic g * (1 + g * (1 - logistic g)) = x * logistic g + g * x * (logistic g * (1 - logistic g)) := by
  unfold logistic
  induction g with
  | bot =>
    have h : (1 : EReal) + ⊤ = ⊤ := rfl
    simp [Ideal.div, h]
  | top =>
    have h : (1 : EReal) - 1 = 0 := by rw [← EReal.coe_one, ← EReal.coe_sub, sub_self, EReal.coe_zero]
    simp [Ideal.div, h]
  | coe r =>
    have h : (1 + Real.exp (-r)) ≠ 0 := by positivity
    rw [← EReal.coe_neg, Ideal.exp_coe, ← EReal.coe_one, ← EReal.coe_add, Ideal.div_coe h]
    norm_cast
    ring

/-- One grid point's gradient of the hidden rows, at an entry. -/
theorem hid_apply (x0 : Vec Ideal S512x1024 .bf16) (x1 : Vec Ideal S1408x1024 .bf16) (j : S512x1408.Idx) :
    k0_pay1 (F := Ideal) x0 x1 j = ∑ k : Fin 1024, x0 (ix2 (j 0) k) * x1 (ix2 (j 1) k) := by
  pointwise [k0_pay1]

/-- One grid point's gate gradient, at an entry. -/
theorem gate_apply (x0 : Vec Ideal S512x1024 .bf16) (x1 : Vec Ideal S1408x1024 .bf16) (x2 x3 : Vec Ideal S512x1408 .f32) (j : S512x1408.Idx) :
    k0_pay3 (F := Ideal) x0 x1 x2 x3 j = gateGrad (k0_pay1 (F := Ideal) x0 x1 j) (x2 j) (x3 j) := by
  pointwise [k0_pay3, k0_pay2, gateGrad, logistic]
  rw [sub_eq_add_neg 0, zero_add]

/-- One grid point's gradient of the up projection, at an entry. -/
theorem up_apply (x0 : Vec Ideal S512x1024 .bf16) (x1 : Vec Ideal S1408x1024 .bf16) (x2 : Vec Ideal S512x1408 .f32) (j : S512x1408.Idx) :
    k0_pay4 (F := Ideal) x0 x1 x2 j = upGrad (k0_pay1 (F := Ideal) x0 x1 j) (x2 j) := by
  pointwise [k0_pay4, k0_pay2, upGrad, logistic]
  rw [sub_eq_add_neg 0, zero_add]

/-- The incoming gradient, as the pipeline reads it: the argument. -/
theorem dy_read (c : Dev nD) (i : S4096x1024.Idx) : V m c main_v0 i = m ((c : Thread nD τ).loc main_arg3) i := by
  unfold V
  simp only [hostOps0]
  after_results
  rfl

/-- The weight, as the pipeline reads it: the argument. -/
theorem w_read (c : Dev nD) (i : S2816x1024.Idx) : V m c main_v1 i = m ((c : Thread nD τ).loc main_arg2) i := by
  unfold V
  simp only [hostOps0]
  after_results
  rfl

/-- The block index of each window, at each grid point. -/
theorem index_facts : ∀ t : Fin cfg0.N,
    win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

/-- The gradient of the hidden rows. -/
def hidGrad (w : Vec Ideal S2816x1024 .f32) (dy : Vec Ideal S4096x1024 .f32) : Vec Ideal S4096x2816 .f32 := fun i =>
  ∑ k : Fin 1024, dy (ix2 (i 0) k) * w (ix2 (i 1) k)

/-- The gate's gradient. -/
def resultGate (g u : Vec Ideal S4096x2816 .f32) (w : Vec Ideal S2816x1024 .f32) (dy : Vec Ideal S4096x1024 .f32) : Vec Ideal S4096x2816 .bf16 := fun i =>
  gateGrad (hidGrad w dy i) (g i) (u i)

/-- The up projection's gradient. -/
def resultUp (g : Vec Ideal S4096x2816 .f32) (w : Vec Ideal S2816x1024 .f32) (dy : Vec Ideal S4096x1024 .f32) : Vec Ideal S4096x2816 .bf16 := fun i =>
  upGrad (hidGrad w dy i) (g i)

/-- A block of the hidden rows' gradient is the block of the array. -/
theorem hid_block (c : Dev nD) (t : Fin cfg0.N) (j : S512x1408.Idx) (i : S4096x2816.Idx)
    (h0 : (i 0).val = (t.val / 2) * 512 + (j 0).val) (h1 : (i 1).val = (t.val % 2) * 1408 + (j 1).val) :
    k0_pay1 (F := Ideal) (iblk m c 0 t) (iblk m c 1 t) j
      = hidGrad (m ((c : Thread nD τ).loc main_arg2)) (m ((c : Thread nD τ).loc main_arg3)) i := by
  have e0 := (index_facts t).1
  have e1 := (index_facts t).2.1
  rw [hid_apply]
  unfold hidGrad
  refine Cert.Proof.Mm.sum_congr fun k => ?_
  blk_simp [iblk]
  rw [dy_read, w_read]
  refine Cert.Proof.Mm.mul_congr (congrArg _ ?_) (congrArg _ ?_)
  · blk_ext [e0, h0]
  · blk_ext [e1, h1]

/-- A block of the gate is the block of the argument. -/
theorem gate_block (c : Dev nD) (t : Fin cfg0.N) (j : S512x1408.Idx) (i : S4096x2816.Idx)
    (h0 : (i 0).val = (t.val / 2) * 512 + (j 0).val) (h1 : (i 1).val = (t.val % 2) * 1408 + (j 1).val) :
    iblk m c 2 t j = m ((c : Thread nD τ).loc main_arg0) i := by
  have e := (index_facts t).2.2.1
  blk_simp [iblk]
  rw [V_main_arg0]
  refine congrArg _ ?_
  blk_ext [e, h0, h1]

/-- A block of the up projection is the block of the argument. -/
theorem up_block (c : Dev nD) (t : Fin cfg0.N) (j : S512x1408.Idx) (i : S4096x2816.Idx)
    (h0 : (i 0).val = (t.val / 2) * 512 + (j 0).val) (h1 : (i 1).val = (t.val % 2) * 1408 + (j 1).val) :
    iblk m c 3 t j = m ((c : Thread nD τ).loc main_arg1) i := by
  have e := (index_facts t).2.2.2.1
  blk_simp [iblk]
  rw [V_main_arg1]
  refine congrArg _ ?_
  blk_ext [e, h0, h1]

/-- The gate gradient's array at the end. -/
theorem final_gate (c : Dev nD) : (dats m 0 c).arrAt 4 cfg0.N
    = resultGate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e := (index_facts t).2.2.2.2.1
  blk_simp
  rw [after0_4]
  frame_out
  refine (gate_apply _ _ _ _ _).trans ?_
  unfold resultGate
  refine congr (congr (congrArg gateGrad (hid_block m c t y _ ?_ ?_)) (gate_block m c t y _ ?_ ?_)) (up_block m c t y _ ?_ ?_) <;> blk_simp [e]

/-- The array of the up projection's gradient at the end. -/
theorem final_up (c : Dev nD) : (dats m 0 c).arrAt 5 cfg0.N
    = resultUp (m ((c : Thread nD τ).loc main_arg0)) (m ((c : Thread nD τ).loc main_arg2)) (m ((c : Thread nD τ).loc main_arg3)) := by
  refine (dats m 0 c).arrAt_eq_of_covers 5 _ (by decide +kernel) fun t hf y => ?_
  have e := (index_facts t).2.2.2.2.2
  blk_simp
  rw [after0_5]
  frame_out
  refine (up_apply _ _ _ _).trans ?_
  unfold resultUp
  refine congr (congrArg upGrad (hid_block m c t y _ ?_ ?_)) (gate_block m c t y _ ?_ ?_) <;> blk_simp [e]

/-- The kernel's run: its results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v2_0)
        = resultGate (m ((c : Thread nD τ).loc main_arg0)) (m ((c : Thread nD τ).loc main_arg1)) (m ((c : Thread nD τ).loc main_arg2)) (m ((c : Thread nD τ).loc main_arg3))
      ∧ r.2.mem ((c : Thread nD τ).loc main_v2_1)
        = resultUp (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_gate m c), (h c).2.1.trans (final_up m c), (h c).2.2⟩)
    (Cert.Kernel10Ideal.Value.run_blocks m ρ)

/-- The reference's gradient of the hidden rows. -/
def hostHid (w : FVec Ideal S2816x1024 .f32) (dy : FVec Ideal S4096x1024 .f32) : FVec Ideal S4096x2816 .f32 :=
  Host.dotGeneral (F := Ideal) Cert.Reference10Ideal.dot_S4096x1024_S2816x1024_S4096x2816_1_1_0_0_n_n none dy w

/-- The reference's array of ones. -/
def hostOne : FVec Ideal S4096x2816 .f32 :=
  broadcastInDim S4096x2816 ![] Cert.Reference10Ideal.Gen.bcast_S_S4096x2816 (constant Cert.Reference10Ideal.S_ .f32 0x3F800000#32)

/-- The reference's logistic of the gate. -/
def hostSig (g : FVec Ideal S4096x2816 .f32) : FVec Ideal S4096x2816 .f32 :=
  Host.divf hostOne (addf hostOne (Host.exp (Host.negf g)))

/-- The reference's gate gradient. -/
def hostGate (g u : FVec Ideal S4096x2816 .f32) (w : FVec Ideal S2816x1024 .f32) (dy : FVec Ideal S4096x1024 .f32) : FVec Ideal S4096x2816 .bf16 :=
  truncf .bf16 (addf (mulf (mulf (hostHid w dy) u) (hostSig g))
    (mulf (mulf g (mulf (hostHid w dy) u)) (mulf (hostSig g) (subf hostOne (hostSig g))))) Cert.Reference10Ideal.Gen.bitsLt_bf16_f32

/-- The reference's gradient of the up projection. -/
def hostUp (g : FVec Ideal S4096x2816 .f32) (w : FVec Ideal S2816x1024 .f32) (dy : FVec Ideal S4096x1024 .f32) : FVec Ideal S4096x2816 .bf16 :=
  truncf .bf16 (mulf (mulf g (hostSig g)) (hostHid w dy)) Cert.Reference10Ideal.Gen.bitsLt_bf16_f32

/-- The reference's gradient of the hidden rows is the same array. -/
theorem reference_hid (w : FVec Ideal S2816x1024 .f32) (dy : FVec Ideal S4096x1024 .f32) : hostHid w dy = hidGrad w dy := by
  funext i
  pointwise [hostHid, hidGrad]

/-- A sum of products of real numbers is a real number. -/
theorem hid_real (w : Vec Ideal S2816x1024 .f32) (dy : Vec Ideal S4096x1024 .f32) (hw : ∀ i, ∃ r : ℝ, w i = (r : EReal)) (hd : ∀ i, ∃ r : ℝ, dy i = (r : EReal))
    (i : S4096x2816.Idx) : ∃ r : ℝ, hidGrad w dy i = (r : EReal) := by
  choose a ha using hw
  choose b hb using hd
  refine ⟨∑ k : Fin 1024, b (ix2 (i 0) k) * a (ix2 (i 1) k), ?_⟩
  rw [← Cert.Proof.coe_sum]
  unfold hidGrad
  refine Cert.Proof.Mm.sum_congr fun k => ?_
  rw [ha, hb, EReal.coe_mul]

/-- The reference's gate gradient is the same array, of real entries of the gradient, the weight and the up projection. -/
theorem reference_gate (g u : FVec Ideal S4096x2816 .f32) (w : FVec Ideal S2816x1024 .f32) (dy : FVec Ideal S4096x1024 .f32)
    (hu : ∀ i, ∃ r : ℝ, u i = (r : EReal)) (hw : ∀ i, ∃ r : ℝ, w i = (r : EReal)) (hd : ∀ i, ∃ r : ℝ, dy i = (r : EReal)) :
    hostGate g u w dy = resultGate g u w dy := by
  funext i
  obtain ⟨x, hx⟩ := hid_real w dy hw hd i
  obtain ⟨y, hy⟩ := hu i
  unfold hostGate
  rw [reference_hid]
  unfold resultGate gateGrad
  rw [hx, hy, ← EReal.coe_mul, gateGrad_eq, EReal.coe_mul, ← hx, ← hy]
  generalize hidGrad w dy = d
  pointwise [hostSig, hostOne, logistic]

/-- The reference's gradient of the up projection is the same array. -/
theorem reference_up (g : FVec Ideal S4096x2816 .f32) (w : FVec Ideal S2816x1024 .f32) (dy : FVec Ideal S4096x1024 .f32) :
    hostUp g w dy = resultUp g w dy := by
  funext i
  unfold hostUp
  rw [reference_hid]
  unfold resultUp upGrad
  generalize hidGrad w dy = d
  pointwise [hostSig, hostOne, logistic]
  rw [mul_comm (d i), mul_assoc, mul_assoc, mul_comm (d i)]

end Cert.Kernel10Ideal.Product
-- ==== Proof.Mm.Proj.lean ====
module

public import proofs.«01_k».proof.Proof.Mm.Sum
public import proofs.«01_k».proof.Proof.Gen.Kernel11Ideal.Value
public import proofs.«01_k».proof.Proof.Gen.Reference11Ideal.Run
public import Idealize.ShloMosaic.Lib.ValueIdx
public import Idealize.ShloMosaic.Lib.Pointwise

/-!
The input projection: the kernel's result array is the product of the rows and the weight, with zero
columns on the right, and so is the reference's.
-/

@[expose] public section

set_option maxRecDepth 8192

noncomputable section

namespace Cert.Kernel11Ideal.Product

open Idealize.ShloMosaic Idealize.ShloMosaic.TcCoe Cert.Kernel11Ideal Cert.Kernel11Ideal.Gen Idealize.SL.Sem

variable (m : (ℓ : Loc nD τ sig) → Buf (Elt Ideal) ℓ)

/-- One grid point's product of blocks, at an entry. -/
theorem part_apply (x0 : Vec Ideal S2048x1024 .bf16) (x1 : Vec Ideal S1024x640 .bf16) (j : S2048x640.Idx) :
    k0_pay1 (F := Ideal) x0 x1 j = ∑ k : Fin 1024, x0 (ix2 (j 0) k) * x1 (ix2 k (j 1)) := by
  pointwise [k0_pay1]

/-- The weight with zero columns on the right. -/
def padded (w : FVec Ideal S1024x3076 .f32) : FVec Ideal S1024x3200 .f32 :=
  pad S1024x3200 ![0, 0] ![0, 124] ![0, 0] w (sitofp (F := Ideal) .f32 (constantI S_ 32 0#32)) pads_S1024x3076_S1024x3200_000_01240 h_S_

/-- The rows, as the pipeline reads them: the argument. -/
theorem x_read (c : Dev nD) (i : S4096x1024.Idx) : V m c main_v2 i = m ((c : Thread nD τ).loc main_arg0) i := by
  unfold V
  simp only [hostOps0, hostOps0_1, hostOps0_2, List.flatten_cons, List.flatten_nil, List.append_nil, List.cons_append, List.nil_append]
  after_results
  rfl

/-- The weight, as the pipeline reads it. -/
theorem w_read (c : Dev nD) (i : S1024x3200.Idx) : V m c main_v1 i = padded (m ((c : Thread nD τ).loc main_arg1)) i := by
  unfold V
  simp only [hostOps0, hostOps0_1, hostOps0_2, List.flatten_cons, List.flatten_nil, List.append_nil, List.cons_append, List.nil_append]
  after_results
  rfl

/-- The block index of each window, at each grid point. -/
theorem index_facts : ∀ t : Fin cfg0.N,
    win0_0.index t = ![t.val / 5, 0] ∧ win0_1.index t = ![0, t.val % 5] ∧ win0_2.index t = ![t.val / 5, t.val % 5] :=
  (by decide +kernel : ∀ t : Fin grid0.N, _)

/-- The rows times the widened weight. -/
def result (x : Vec Ideal S4096x1024 .f32) (w : Vec Ideal S1024x3076 .f32) : Vec Ideal S4096x3200 .f32 := fun i =>
  ∑ k : Fin 1024, x (ix2 (i 0) k) * padded w (ix2 k (i 1))

/-- The kernel's result array holds it at the end. -/
theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  have e0 := (index_facts t).1
  have e1 := (index_facts t).2.1
  have e2 := (index_facts t).2.2
  blk_simp
  rw [after0_2]
  frame_out
  rw [part_apply]
  unfold result
  refine Cert.Proof.Mm.sum_congr fun k => ?_
  blk_simp [iblk]
  rw [x_read, w_read]
  refine Cert.Proof.Mm.mul_congr (congrArg _ ?_) (congrArg _ ?_)
  · blk_ext [e0, e2]
  · blk_ext [e1, e2]

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel11Ideal.Value.run_blocks m ρ)

/-- The value the columns are filled with is zero. -/
theorem fill_zero : FloatOps.sitofp (F := Ideal) FTy.f32 0#32 = (0 : EReal) := by
  simp [FloatOps.sitofp]

/-- The reference's widened product is the same array. -/
theorem reference_eq (x : FVec Ideal S4096x1024 .f32) (w : FVec Ideal S1024x3076 .f32) :
    pad Cert.Reference11Ideal.S4096x3200 ![0, 0] ![0, 124] ![0, 0] (Host.dotGeneral (F := Ideal)
      Cert.Reference11Ideal.dot_S4096x1024_S1024x3076_S4096x3076_1_0_0_1_n_n none x w)
      (sitofp (F := Ideal) .f32 (constantI S_ 32 0#32)) Cert.Reference11Ideal.Gen.pads_S4096x3076_S4096x3200_000_01240
      Cert.Reference11Ideal.Gen.h_S_ = result x w := by
  funext i
  pointwise [result, padded]
  split_ifs with h
  · rfl
  · refine fill_zero.trans (Finset.sum_eq_zero fun k _ => ?_).symm
    rw [fill_zero, mul_zero]

end Cert.Kernel11Ideal.Product
-- ==== Proof.Mm.Norm.lean ====
module

public import proofs.«01_k».proof.Proof.Mm.Sum
public import proofs.«01_k».proof.Proof.Gen.Kernel12Ideal.Value
public import proofs.«01_k».proof.Proof.Gen.Reference12Ideal.Run
public import Idealize.ShloMosaic.Lib.ValueIdx
public import Idealize.ShloMosaic.Lib.Pointwise

/-!
The feed-forward's output product with the layer norm after it: the kernel's three result arrays are the sum of the scaled residual
and the product, and its normalized rows, and so are the reference's.
-/

@[expose] public section

set_option maxRecDepth 8192

noncomputable section

namespace Cert.Kernel12Ideal.Product

open Idealize.ShloMosaic Idealize.ShloMosaic.TcCoe Cert.Kernel12Ideal Cert.Kernel12Ideal.Gen Idealize.SL.Sem

variable (m : (ℓ : Loc nD τ sig) → Buf (Elt Ideal) ℓ)

/-- The factor of the residual branch. -/
def scale : EReal := Scalar.ofBits (F := Ideal) .f32 0x3FB504F3#32

/-- The number of entries of a row. -/
def width : EReal := Scalar.ofBits (F := Ideal) .f32 0x44800000#32

/-- The constant added to the variance. -/
def small : EReal := Scalar.ofBits (F := Ideal) .f32 0x3727C5AC#32

/-- The mean of a row. -/
def mean (p : Fin 1024 → EReal) : EReal := Ideal.div (∑ k, p k) width

/-- The normalized entry `e` of the row `p`, times the gain and plus the bias. -/
def normed (e : EReal) (p : Fin 1024 → EReal) (g b : EReal) : EReal :=
  (e - mean p) * Ideal.rsqrt (mean (fun k => (p k - mean p) * (p k - mean p)) + small) * g + b

/-- One grid point's sum, at an entry. -/
theorem sum_apply (x0 : Vec Ideal S512x1024 .f32) (x1 : Vec Ideal S512x2816 .bf16) (x2 : Vec Ideal S2816x1024 .bf16) (j : S512x1024.Idx) :
    k0_pay1 (F := Ideal) x0 x1 x2 j = scale * x0 j + ∑ k : Fin 2816, x1 (ix2 (j 0) k) * x2 (ix2 k (j 1)) := by
  pointwise [k0_pay1, scale]

/-- One grid point's normalized rows, at an entry. -/
theorem norm_apply (x0 : Vec Ideal S512x1024 .f32) (x1 : Vec Ideal S512x2816 .bf16) (x2 : Vec Ideal S2816x1024 .bf16)
    (x3 x4 : Vec Ideal S1x1024 .f32) (j : S512x1024.Idx) :
    k0_pay2 (F := Ideal) x0 x1 x2 x3 x4 j
      = normed (k0_pay1 (F := Ideal) x0 x1 x2 j) (fun k => k0_pay1 (F := Ideal) x0 x1 x2 (ix2 (j 0) k)) (x3 (ix2 0 (j 1))) (x4 (ix2 0 (j 1))) := by
  pointwise [k0_pay2, normed, mean, width, small]

/-- The same rows, as they are rounded: over the extended reals the rounding changes nothing. -/
theorem cast_apply (x0 : Vec Ideal S512x1024 .f32) (x1 : Vec Ideal S512x2816 .bf16) (x2 : Vec Ideal S2816x1024 .bf16)
    (x3 x4 : Vec Ideal S1x1024 .f32) (j : S512x1024.Idx) :
    k0_pay3 (F := Ideal) x0 x1 x2 x3 x4 j = k0_pay2 (F := Ideal) x0 x1 x2 x3 x4 j := by
  pointwise [k0_pay3]

/-- The weight, as the pipeline reads it: the argument. -/
theorem w_read (c : Dev nD) (i : S2816x1024.Idx) : V m c main_v0 i = m ((c : Thread nD τ).loc main_arg1) i := by
  unfold V
  simp only [hostOps0]
  after_results
  rfl

/-- The gain, as the pipeline reads it. -/
theorem g_read (c : Dev nD) (i : S1x1024.Idx) : V m c main_v1 i = m ((c : Thread nD τ).loc main_arg3) (ix1 (i 1)) := by
  unfold V
  simp only [hostOps0]
  after_results
  pointwise

/-- The bias, as the pipeline reads it. -/
theorem b_read (c : Dev nD) (i : S1x1024.Idx) : V m c main_v2 i = m ((c : Thread nD τ).loc main_arg4) (ix1 (i 1)) := by
  unfold V
  simp only [hostOps0]
  after_results
  pointwise

/-- The block index of each window, at each grid point. -/
theorem index_facts : ∀ t : Fin cfg0.N,
    win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The scaled residual plus the product. -/
def result (a : Vec Ideal S4096x2816 .bf16) (w : Vec Ideal S2816x1024 .f32) (x : Vec Ideal S4096x1024 .f32) : Vec Ideal S4096x1024 .f32 := fun i =>
  scale * x i + ∑ k : Fin 2816, a (ix2 (i 0) k) * w (ix2 k (i 1))

/-- The normalized rows of an array. -/
def rows (p : Vec Ideal S4096x1024 .f32) (g b : Vec Ideal S1024 .f32) : Vec Ideal S4096x1024 .f32 := fun i =>
  normed (p i) (fun k => p (ix2 (i 0) k)) (g (ix1 (i 1))) (b (ix1 (i 1)))

/-- The normalized rows, of the narrower type. -/
def rowsCast (p : Vec Ideal S4096x1024 .f32) (g b : Vec Ideal S1024 .f32) : Vec Ideal S4096x1024 .bf16 := fun i =>
  normed (p i) (fun k => p (ix2 (i 0) k)) (g (ix1 (i 1))) (b (ix1 (i 1)))

/-- The sum's array of the arguments. -/
def pre (c : Dev nD) : Vec Ideal S4096x1024 .f32 :=
  result (m ((c : Thread nD τ).loc main_arg0)) (m ((c : Thread nD τ).loc main_arg1)) (m ((c : Thread nD τ).loc main_arg2))

/-- A block of the sum is the block of the array. -/
theorem sum_block (c : Dev nD) (t : Fin cfg0.N) (j : S512x1024.Idx) (i : S4096x1024.Idx)
    (h0 : (i 0).val = t.val * 512 + (j 0).val) (h1 : (i 1).val = (j 1).val) :
    k0_pay1 (F := Ideal) (iblk m c 2 t) (iblk m c 0 t) (iblk m c 1 t) j = pre m c i := by
  have e0 := (index_facts t).1
  have e1 := (index_facts t).2.1
  have e2 := (index_facts t).2.2.1
  rw [sum_apply]
  unfold pre result
  refine Cert.Proof.Mm.add_congr (Cert.Proof.Mm.mul_congr rfl ?_) (Cert.Proof.Mm.sum_congr fun k => ?_)
  · blk_simp [iblk]
    rw [V_main_arg2]
    refine congrArg _ ?_
    blk_ext [e2, h0, h1]
  · blk_simp [iblk]
    rw [V_main_arg0, w_read]
    refine Cert.Proof.Mm.mul_congr (congrArg _ ?_) (congrArg _ ?_)
    · blk_ext [e0, h0]
    · blk_ext [e1, h1]

/-- A block of the normalized rows is the block of the array. -/
theorem norm_block (c : Dev nD) (t : Fin cfg0.N) (j : S512x1024.Idx) (i : S4096x1024.Idx)
    (h0 : (i 0).val = t.val * 512 + (j 0).val) (h1 : (i 1).val = (j 1).val) :
    k0_pay2 (F := Ideal) (iblk m c 2 t) (iblk m c 0 t) (iblk m c 1 t) (iblk m c 3 t) (iblk m c 4 t) j
      = rows (pre m c) (m ((c : Thread nD τ).loc main_arg3)) (m ((c : Thread nD τ).loc main_arg4)) i := by
  have e3 := (index_facts t).2.2.2.1
  have e4 := (index_facts t).2.2.2.2.1
  rw [norm_apply]
  unfold rows
  have hs : (fun k : Fin 1024 => k0_pay1 (F := Ideal) (iblk m c 2 t) (iblk m c 0 t) (iblk m c 1 t) (ix2 (j 0) k))
      = fun k => pre m c (ix2 (i 0) k) := funext fun k => sum_block m c t (ix2 (j 0) k) (ix2 (i 0) k) h0 rfl
  rw [sum_block m c t j i h0 h1, hs]
  refine congrArg₂ (normed _ _) ?_ ?_
  · blk_simp [iblk]
    rw [g_read]
    refine congrArg _ ?_
    blk_ext [e3, h1]
  · blk_simp [iblk]
    rw [b_read]
    refine congrArg _ ?_
    blk_ext [e4, h1]

/-- The sum's array at the end. -/
theorem final_pre (c : Dev nD) : (dats m 0 c).arrAt 5 cfg0.N = pre m c := by
  refine (dats m 0 c).arrAt_eq_of_covers 5 _ (by decide +kernel) fun t hf y => ?_
  have e := (index_facts t).2.2.2.2.2.1
  blk_simp
  rw [after0_5]
  frame_out
  exact sum_block m c t y _ (by blk_simp [e]) (by blk_simp [e])

/-- The normalized rows' array at the end. -/
theorem final_rows (c : Dev nD) : (dats m 0 c).arrAt 6 cfg0.N
    = rows (pre m c) (m ((c : Thread nD τ).loc main_arg3)) (m ((c : Thread nD τ).loc main_arg4)) := by
  refine (dats m 0 c).arrAt_eq_of_covers 6 _ (by decide +kernel) fun t hf y => ?_
  have e := (index_facts t).2.2.2.2.2.2.1
  blk_simp
  rw [after0_6]
  frame_out
  exact norm_block m c t y _ (by blk_simp [e]) (by blk_simp [e])

/-- The rounded rows' array at the end. -/
theorem final_cast (c : Dev nD) : (dats m 0 c).arrAt 7 cfg0.N
    = rowsCast (pre m c) (m ((c : Thread nD τ).loc main_arg3)) (m ((c : Thread nD τ).loc main_arg4)) := by
  refine (dats m 0 c).arrAt_eq_of_covers 7 _ (by decide +kernel) fun t hf y => ?_
  have e := (index_facts t).2.2.2.2.2.2.2
  blk_simp
  rw [after0_7]
  frame_out
  exact (cast_apply _ _ _ _ _ _).trans (norm_block m c t y _ (by blk_simp [e]) (by blk_simp [e]))

/-- The kernel's run: its results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v3_0) = pre m c
      ∧ r.2.mem ((c : Thread nD τ).loc main_v3_1) = rows (pre m c) (m ((c : Thread nD τ).loc main_arg3)) (m ((c : Thread nD τ).loc main_arg4))
      ∧ r.2.mem ((c : Thread nD τ).loc main_v3_2) = rowsCast (pre m c) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_pre m c), (h c).2.1.trans (final_rows m c), (h c).2.2.1.trans (final_cast m c), (h c).2.2.2⟩)
    (Cert.Kernel12Ideal.Value.run_blocks m ρ)

/-- The reference's sum is the same array. -/
theorem reference_eq (a : FVec Ideal S4096x2816 .bf16) (w : FVec Ideal S2816x1024 .f32) (x : FVec Ideal S4096x1024 .f32) :
    addf (mulf (broadcastInDim Cert.Reference12Ideal.S4096x1024 ![] Cert.Reference12Ideal.Gen.bcast_S_S4096x1024
        (constant (F := Ideal) Cert.Reference12Ideal.S_ .f32 0x3FB504F3#32)) x)
      (Host.dotGeneral (F := Ideal) Cert.Reference12Ideal.dot_S4096x2816_S2816x1024_S4096x1024_1_0_0_1_n_n none (extf .f32 a Cert.Reference12Ideal.Gen.bitsLt_bf16_f32) w)
      = result a w x := by
  funext i
  pointwise [result, scale]

/-- The reference's mean of each row of an array. -/
def hostMean (p : FVec Ideal S4096x1024 .f32) : FVec Ideal Cert.Reference12Ideal.S4096x1 .f32 :=
  Host.divf (broadcastInDim Cert.Reference12Ideal.S4096x1 ![0] Cert.Reference12Ideal.Gen.bcast_S4096_S4096x1_0
      (Host.reduceAdd p (constant Cert.Reference12Ideal.S_ .f32 0x00000000#32) Cert.Reference12Ideal.Gen.reducesTo_S4096x1024_S4096_d1 Cert.Reference12Ideal.Gen.h_S_))
    (broadcastInDim Cert.Reference12Ideal.S4096x1 ![] Cert.Reference12Ideal.Gen.bcast_S_S4096x1 (constant Cert.Reference12Ideal.S_ .f32 0x44800000#32))

/-- The reference's rows less their means. -/
def hostCentred (p : FVec Ideal S4096x1024 .f32) : FVec Ideal S4096x1024 .f32 :=
  subf p (broadcastInDim Cert.Reference12Ideal.S4096x1024 ![0, 1] Cert.Reference12Ideal.Gen.bcast_S4096x1_S4096x1024_0_1 (hostMean p))

/-- The reference's normalized rows of an array. -/
def hostNorm (p : FVec Ideal S4096x1024 .f32) (g b : FVec Ideal S1024 .f32) : FVec Ideal S4096x1024 .f32 :=
  addf (mulf (mulf (hostCentred p)
      (broadcastInDim Cert.Reference12Ideal.S4096x1024 ![0, 1] Cert.Reference12Ideal.Gen.bcast_S4096x1_S4096x1024_0_1
        (Host.rsqrt (addf (hostMean (mulf (hostCentred p) (hostCentred p)))
          (broadcastInDim Cert.Reference12Ideal.S4096x1 ![] Cert.Reference12Ideal.Gen.bcast_S_S4096x1 (constant Cert.Reference12Ideal.S_ .f32 0x3727C5AC#32))))))
      (broadcastInDim Cert.Reference12Ideal.S4096x1024 ![0, 1] Cert.Reference12Ideal.Gen.bcast_S1x1024_S4096x1024_0_1
        (broadcastInDim Cert.Reference12Ideal.S1x1024 ![1] Cert.Reference12Ideal.Gen.bcast_S1024_S1x1024_1 g)))
    (broadcastInDim Cert.Reference12Ideal.S4096x1024 ![0, 1] Cert.Reference12Ideal.Gen.bcast_S1x1024_S4096x1024_0_1
      (broadcastInDim Cert.Reference12Ideal.S1x1024 ![1] Cert.Reference12Ideal.Gen.bcast_S1024_S1x1024_1 b))

/-- The reference's normalized rows are the same array. -/
theorem reference_rows (p : FVec Ideal S4096x1024 .f32) (g b : FVec Ideal S1024 .f32) : hostNorm p g b = rows p g b := by
  funext i
  pointwise [hostNorm, hostCentred, hostMean, rows, normed, mean, width, small]

/-- So are its rounded rows. -/
theorem reference_cast (p : FVec Ideal S4096x1024 .f32) (g b : FVec Ideal S1024 .f32) :
    truncf (F := Ideal) .bf16 (hostNorm p g b) Cert.Reference12Ideal.Gen.bitsLt_bf16_f32 = rowsCast p g b := by
  rw [reference_rows]
  funext i
  pointwise [rows, rowsCast]

end Cert.Kernel12Ideal.Product
-- ==== Proof.Mm.OutNorm.lean ====
module

public import proofs.«01_k».proof.Proof.Mm.Sum
public import proofs.«01_k».proof.Proof.Gen.Kernel13Ideal.Value
public import proofs.«01_k».proof.Proof.Gen.Reference13Ideal.Run
public import Idealize.ShloMosaic.Lib.ValueIdx
public import Idealize.ShloMosaic.Lib.Pointwise

/-!
The output projection with the layer norm after it: the kernel's three result arrays are the sum of the scaled residual
and the product, and its normalized rows, and so are the reference's.
-/

@[expose] public section

set_option maxRecDepth 8192

noncomputable section

namespace Cert.Kernel13Ideal.Product

open Idealize.ShloMosaic Idealize.ShloMosaic.TcCoe Cert.Kernel13Ideal Cert.Kernel13Ideal.Gen Idealize.SL.Sem

variable (m : (ℓ : Loc nD τ sig) → Buf (Elt Ideal) ℓ)

/-- The factor of the residual branch. -/
def scale : EReal := Scalar.ofBits (F := Ideal) .f32 0x3FB504F3#32

/-- The number of entries of a row. -/
def width : EReal := Scalar.ofBits (F := Ideal) .f32 0x44800000#32

/-- The constant added to the variance. -/
def small : EReal := Scalar.ofBits (F := Ideal) .f32 0x3727C5AC#32

/-- The mean of a row. -/
def mean (p : Fin 1024 → EReal) : EReal := Ideal.div (∑ k, p k) width

/-- The normalized entry `e` of the row `p`, times the gain and plus the bias. -/
def normed (e : EReal) (p : Fin 1024 → EReal) (g b : EReal) : EReal :=
  (e - mean p) * Ideal.rsqrt (mean (fun k => (p k - mean p) * (p k - mean p)) + small) * g + b

/-- One grid point's sum, at an entry. -/
theorem sum_apply (x0 : Vec Ideal S512x1024 .f32) (x1 : Vec Ideal S512x1024 .bf16) (x2 : Vec Ideal S1024x1024 .bf16) (j : S512x1024.Idx) :
    k0_pay1 (F := Ideal) x0 x1 x2 j = scale * x0 j + ∑ k : Fin 1024, x1 (ix2 (j 0) k) * x2 (ix2 k (j 1)) := by
  pointwise [k0_pay1, scale]

/-- One grid point's normalized rows, at an entry. -/
theorem norm_apply (x0 : Vec Ideal S512x1024 .f32) (x1 : Vec Ideal S512x1024 .bf16) (x2 : Vec Ideal S1024x1024 .bf16)
    (x3 x4 : Vec Ideal S1x1024 .f32) (j : S512x1024.Idx) :
    k0_pay2 (F := Ideal) x0 x1 x2 x3 x4 j
      = normed (k0_pay1 (F := Ideal) x0 x1 x2 j) (fun k => k0_pay1 (F := Ideal) x0 x1 x2 (ix2 (j 0) k)) (x3 (ix2 0 (j 1))) (x4 (ix2 0 (j 1))) := by
  pointwise [k0_pay2, normed, mean, width, small]

/-- The same rows, as they are rounded: over the extended reals the rounding changes nothing. -/
theorem cast_apply (x0 : Vec Ideal S512x1024 .f32) (x1 : Vec Ideal S512x1024 .bf16) (x2 : Vec Ideal S1024x1024 .bf16)
    (x3 x4 : Vec Ideal S1x1024 .f32) (j : S512x1024.Idx) :
    k0_pay3 (F := Ideal) x0 x1 x2 x3 x4 j = k0_pay2 (F := Ideal) x0 x1 x2 x3 x4 j := by
  pointwise [k0_pay3]

/-- The left factor, as the pipeline reads it: the argument. -/
theorem a_read (c : Dev nD) (i : S4096x1024.Idx) : V m c main_v0 i = m ((c : Thread nD τ).loc main_arg0) i := by
  unfold V
  simp only [hostOps0]
  after_results
  rfl

/-- The weight, as the pipeline reads it: the argument. -/
theorem w_read (c : Dev nD) (i : S1024x1024.Idx) : V m c main_v1 i = m ((c : Thread nD τ).loc main_arg1) i := by
  unfold V
  simp only [hostOps0]
  after_results
  rfl

/-- The gain, as the pipeline reads it. -/
theorem g_read (c : Dev nD) (i : S1x1024.Idx) : V m c main_v2 i = m ((c : Thread nD τ).loc main_arg3) (ix1 (i 1)) := by
  unfold V
  simp only [hostOps0]
  after_results
  pointwise

/-- The bias, as the pipeline reads it. -/
theorem b_read (c : Dev nD) (i : S1x1024.Idx) : V m c main_v3 i = m ((c : Thread nD τ).loc main_arg4) (ix1 (i 1)) := by
  unfold V
  simp only [hostOps0]
  after_results
  pointwise

/-- The block index of each window, at each grid point. -/
theorem index_facts : ∀ t : Fin cfg0.N,
    win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The scaled residual plus the product. -/
def result (a : Vec Ideal S4096x1024 .f32) (w : Vec Ideal S1024x1024 .f32) (x : Vec Ideal S4096x1024 .f32) : Vec Ideal S4096x1024 .f32 := fun i =>
  scale * x i + ∑ k : Fin 1024, a (ix2 (i 0) k) * w (ix2 k (i 1))

/-- The normalized rows of an array. -/
def rows (p : Vec Ideal S4096x1024 .f32) (g b : Vec Ideal S1024 .f32) : Vec Ideal S4096x1024 .f32 := fun i =>
  normed (p i) (fun k => p (ix2 (i 0) k)) (g (ix1 (i 1))) (b (ix1 (i 1)))

/-- The normalized rows, of the narrower type. -/
def rowsCast (p : Vec Ideal S4096x1024 .f32) (g b : Vec Ideal S1024 .f32) : Vec Ideal S4096x1024 .bf16 := fun i =>
  normed (p i) (fun k => p (ix2 (i 0) k)) (g (ix1 (i 1))) (b (ix1 (i 1)))

/-- The sum's array of the arguments. -/
def pre (c : Dev nD) : Vec Ideal S4096x1024 .f32 :=
  result (m ((c : Thread nD τ).loc main_arg0)) (m ((c : Thread nD τ).loc main_arg1)) (m ((c : Thread nD τ).loc main_arg2))

/-- A block of the sum is the block of the array. -/
theorem sum_block (c : Dev nD) (t : Fin cfg0.N) (j : S512x1024.Idx) (i : S4096x1024.Idx)
    (h0 : (i 0).val = t.val * 512 + (j 0).val) (h1 : (i 1).val = (j 1).val) :
    k0_pay1 (F := Ideal) (iblk m c 2 t) (iblk m c 0 t) (iblk m c 1 t) j = pre m c i := by
  have e0 := (index_facts t).1
  have e1 := (index_facts t).2.1
  have e2 := (index_facts t).2.2.1
  rw [sum_apply]
  unfold pre result
  refine Cert.Proof.Mm.add_congr (Cert.Proof.Mm.mul_congr rfl ?_) (Cert.Proof.Mm.sum_congr fun k => ?_)
  · blk_simp [iblk]
    rw [V_main_arg2]
    refine congrArg _ ?_
    blk_ext [e2, h0, h1]
  · blk_simp [iblk]
    rw [a_read, w_read]
    refine Cert.Proof.Mm.mul_congr (congrArg _ ?_) (congrArg _ ?_)
    · blk_ext [e0, h0]
    · blk_ext [e1, h1]

/-- A block of the normalized rows is the block of the array. -/
theorem norm_block (c : Dev nD) (t : Fin cfg0.N) (j : S512x1024.Idx) (i : S4096x1024.Idx)
    (h0 : (i 0).val = t.val * 512 + (j 0).val) (h1 : (i 1).val = (j 1).val) :
    k0_pay2 (F := Ideal) (iblk m c 2 t) (iblk m c 0 t) (iblk m c 1 t) (iblk m c 3 t) (iblk m c 4 t) j
      = rows (pre m c) (m ((c : Thread nD τ).loc main_arg3)) (m ((c : Thread nD τ).loc main_arg4)) i := by
  have e3 := (index_facts t).2.2.2.1
  have e4 := (index_facts t).2.2.2.2.1
  rw [norm_apply]
  unfold rows
  have hs : (fun k : Fin 1024 => k0_pay1 (F := Ideal) (iblk m c 2 t) (iblk m c 0 t) (iblk m c 1 t) (ix2 (j 0) k))
      = fun k => pre m c (ix2 (i 0) k) := funext fun k => sum_block m c t (ix2 (j 0) k) (ix2 (i 0) k) h0 rfl
  rw [sum_block m c t j i h0 h1, hs]
  refine congrArg₂ (normed _ _) ?_ ?_
  · blk_simp [iblk]
    rw [g_read]
    refine congrArg _ ?_
    blk_ext [e3, h1]
  · blk_simp [iblk]
    rw [b_read]
    refine congrArg _ ?_
    blk_ext [e4, h1]

/-- The sum's array at the end. -/
theorem final_pre (c : Dev nD) : (dats m 0 c).arrAt 5 cfg0.N = pre m c := by
  refine (dats m 0 c).arrAt_eq_of_covers 5 _ (by decide +kernel) fun t hf y => ?_
  have e := (index_facts t).2.2.2.2.2.1
  blk_simp
  rw [after0_5]
  frame_out
  exact sum_block m c t y _ (by blk_simp [e]) (by blk_simp [e])

/-- The normalized rows' array at the end. -/
theorem final_rows (c : Dev nD) : (dats m 0 c).arrAt 6 cfg0.N
    = rows (pre m c) (m ((c : Thread nD τ).loc main_arg3)) (m ((c : Thread nD τ).loc main_arg4)) := by
  refine (dats m 0 c).arrAt_eq_of_covers 6 _ (by decide +kernel) fun t hf y => ?_
  have e := (index_facts t).2.2.2.2.2.2.1
  blk_simp
  rw [after0_6]
  frame_out
  exact norm_block m c t y _ (by blk_simp [e]) (by blk_simp [e])

/-- The rounded rows' array at the end. -/
theorem final_cast (c : Dev nD) : (dats m 0 c).arrAt 7 cfg0.N
    = rowsCast (pre m c) (m ((c : Thread nD τ).loc main_arg3)) (m ((c : Thread nD τ).loc main_arg4)) := by
  refine (dats m 0 c).arrAt_eq_of_covers 7 _ (by decide +kernel) fun t hf y => ?_
  have e := (index_facts t).2.2.2.2.2.2.2
  blk_simp
  rw [after0_7]
  frame_out
  exact (cast_apply _ _ _ _ _ _).trans (norm_block m c t y _ (by blk_simp [e]) (by blk_simp [e]))

/-- The kernel's run: its results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v4_0) = pre m c
      ∧ r.2.mem ((c : Thread nD τ).loc main_v4_1) = rows (pre m c) (m ((c : Thread nD τ).loc main_arg3)) (m ((c : Thread nD τ).loc main_arg4))
      ∧ r.2.mem ((c : Thread nD τ).loc main_v4_2) = rowsCast (pre m c) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_pre m c), (h c).2.1.trans (final_rows m c), (h c).2.2.1.trans (final_cast m c), (h c).2.2.2⟩)
    (Cert.Kernel13Ideal.Value.run_blocks m ρ)

/-- The reference's sum is the same array. -/
theorem reference_eq (a : FVec Ideal S4096x1024 .f32) (w : FVec Ideal S1024x1024 .f32) (x : FVec Ideal S4096x1024 .f32) :
    addf (mulf (broadcastInDim Cert.Reference13Ideal.S4096x1024 ![] Cert.Reference13Ideal.Gen.bcast_S_S4096x1024
        (constant (F := Ideal) Cert.Reference13Ideal.S_ .f32 0x3FB504F3#32)) x)
      (Host.dotGeneral (F := Ideal) Cert.Reference13Ideal.dot_S4096x1024_S1024x1024_S4096x1024_1_0_0_1_n_n none a w)
      = result a w x := by
  funext i
  pointwise [result, scale]

/-- The reference's mean of each row of an array. -/
def hostMean (p : FVec Ideal S4096x1024 .f32) : FVec Ideal Cert.Reference13Ideal.S4096x1 .f32 :=
  Host.divf (broadcastInDim Cert.Reference13Ideal.S4096x1 ![0] Cert.Reference13Ideal.Gen.bcast_S4096_S4096x1_0
      (Host.reduceAdd p (constant Cert.Reference13Ideal.S_ .f32 0x00000000#32) Cert.Reference13Ideal.Gen.reducesTo_S4096x1024_S4096_d1 Cert.Reference13Ideal.Gen.h_S_))
    (broadcastInDim Cert.Reference13Ideal.S4096x1 ![] Cert.Reference13Ideal.Gen.bcast_S_S4096x1 (constant Cert.Reference13Ideal.S_ .f32 0x44800000#32))

/-- The reference's rows less their means. -/
def hostCentred (p : FVec Ideal S4096x1024 .f32) : FVec Ideal S4096x1024 .f32 :=
  subf p (broadcastInDim Cert.Reference13Ideal.S4096x1024 ![0, 1] Cert.Reference13Ideal.Gen.bcast_S4096x1_S4096x1024_0_1 (hostMean p))

/-- The reference's normalized rows of an array. -/
def hostNorm (p : FVec Ideal S4096x1024 .f32) (g b : FVec Ideal S1024 .f32) : FVec Ideal S4096x1024 .f32 :=
  addf (mulf (mulf (hostCentred p)
      (broadcastInDim Cert.Reference13Ideal.S4096x1024 ![0, 1] Cert.Reference13Ideal.Gen.bcast_S4096x1_S4096x1024_0_1
        (Host.rsqrt (addf (hostMean (mulf (hostCentred p) (hostCentred p)))
          (broadcastInDim Cert.Reference13Ideal.S4096x1 ![] Cert.Reference13Ideal.Gen.bcast_S_S4096x1 (constant Cert.Reference13Ideal.S_ .f32 0x3727C5AC#32))))))
      (broadcastInDim Cert.Reference13Ideal.S4096x1024 ![0, 1] Cert.Reference13Ideal.Gen.bcast_S1x1024_S4096x1024_0_1
        (broadcastInDim Cert.Reference13Ideal.S1x1024 ![1] Cert.Reference13Ideal.Gen.bcast_S1024_S1x1024_1 g)))
    (broadcastInDim Cert.Reference13Ideal.S4096x1024 ![0, 1] Cert.Reference13Ideal.Gen.bcast_S1x1024_S4096x1024_0_1
      (broadcastInDim Cert.Reference13Ideal.S1x1024 ![1] Cert.Reference13Ideal.Gen.bcast_S1024_S1x1024_1 b))

/-- The reference's normalized rows are the same array. -/
theorem reference_rows (p : FVec Ideal S4096x1024 .f32) (g b : FVec Ideal S1024 .f32) : hostNorm p g b = rows p g b := by
  funext i
  pointwise [hostNorm, hostCentred, hostMean, rows, normed, mean, width, small]

/-- So are its rounded rows. -/
theorem reference_cast (p : FVec Ideal S4096x1024 .f32) (g b : FVec Ideal S1024 .f32) :
    truncf (F := Ideal) .bf16 (hostNorm p g b) Cert.Reference13Ideal.Gen.bitsLt_bf16_f32 = rowsCast p g b := by
  rw [reference_rows]
  funext i
  pointwise [rows, rowsCast]

end Cert.Kernel13Ideal.Product
-- ==== Proof.Mm.RowGrad.lean ====
module

public import proofs.«01_k».proof.Proof.Sb.Reals
public import Idealize.ShloMosaic.PureOps.Ideal

/-!
The gradient of a normalized row: two spellings of it, which agree on real rows.
-/

@[expose] public section

noncomputable section

namespace Cert.Proof.Mm

open Idealize.ShloMosaic

/-- An entry neither infinite is a real number. -/
theorem real_of_lt {x : EReal} (h : max x (-x) < ⊤) : ∃ r : ℝ, x = (r : EReal) := by
  refine ⟨x.toReal, (EReal.coe_toReal (lt_of_le_of_lt (le_max_left _ _) h).ne ?_).symm⟩
  intro hb
  rw [hb] at h
  simp at h

/-- The length of a row. -/
def len : EReal := Ideal.ofBits .f32 0x44800000#32

/-- What is added to the mean square. -/
def eps : EReal := Ideal.ofBits .f32 0x3727C5AC#32

/-- One half, negated. -/
def negHalf : EReal := Ideal.ofBits .f32 0xBF000000#32

/-- Two. -/
def two : EReal := Ideal.ofBits .f32 0x40000000#32

/-- A row's mean. -/
def mean (f : Fin 1024 → EReal) : EReal := Ideal.div (∑ k, f k) len

/-- A row less its mean. -/
def centred (x : Fin 1024 → EReal) (k : Fin 1024) : EReal := x k - mean x

/-- The mean square of the centred row, and the small constant. -/
def spread (x : Fin 1024 → EReal) : EReal := mean (fun k => centred x k * centred x k) + eps

/-- One over the row's deviation. -/
def rstd (x : Fin 1024 → EReal) : EReal := Ideal.rsqrt (spread x)

/-- The normalized row. -/
def xhat (x : Fin 1024 → EReal) (k : Fin 1024) : EReal := centred x k * rstd x

/-- The row's gradient, of the gradient `h` of the normalized row, in the short form. -/
def rowGrad (h x : Fin 1024 → EReal) (k : Fin 1024) : EReal :=
  rstd x * (h k - mean h - xhat x k * mean (fun j => h j * xhat x j))

/-- The factor of the centred row in the gradient of the mean square. -/
def squareGrad (h x : Fin 1024 → EReal) : EReal :=
  Ideal.div ((∑ k, centred x k * h k) * (negHalf * Ideal.div (rstd x) (spread x))) len

/-- The row's gradient, term by term as the chain rule gives it. -/
def chainGrad (h x : Fin 1024 → EReal) (k : Fin 1024) : EReal :=
  h k * rstd x + squareGrad h x * (two * centred x k)
    + Ideal.div ((∑ j, -(h j * rstd x)) + ∑ j, -(squareGrad h x * (two * centred x j))) len

theorem len_eq : len = ((1024 : ℝ) : EReal) := by
  simp [len, Ideal.ofBits, Ideal.ieee, -EReal.coe_mul]
  norm_num

theorem eps_eq : eps = ((10995116 / 1099511627776 : ℝ) : EReal) := by
  simp [eps, Ideal.ofBits, Ideal.ieee, -EReal.coe_mul]
  norm_num

theorem negHalf_eq : negHalf = ((-(1 / 2) : ℝ) : EReal) := by
  simp [negHalf, Ideal.ofBits, Ideal.ieee, -EReal.coe_mul]
  norm_num

theorem two_eq : two = ((2 : ℝ) : EReal) := by
  simp [two, Ideal.ofBits, Ideal.ieee, -EReal.coe_mul]
  norm_num

/-- The mean of a real row. -/
theorem mean_coe (f : Fin 1024 → ℝ) : mean (fun k => (f k : EReal)) = (((∑ k, f k) * (1 / 1024) : ℝ) : EReal) := by
  rw [mean, coe_sum, len_eq, Ideal.div_coe (by norm_num), EReal.coe_mul]

/-- The two spellings agree on real rows. -/
theorem grad_eq (H X : Fin 1024 → ℝ) (k : Fin 1024) :
    chainGrad (fun j => (H j : EReal)) (fun j => (X j : EReal)) k = rowGrad (fun j => (H j : EReal)) (fun j => (X j : EReal)) k := by
  set C : Fin 1024 → ℝ := fun j => X j - (∑ i, X i) * (1 / 1024) with hC
  have hc : ∀ j, centred (fun j => (X j : EReal)) j = (C j : EReal) := fun j => by
    rw [centred, mean_coe, ← EReal.coe_sub]
  set S : ℝ := (∑ j, C j * C j) * (1 / 1024) + 10995116 / 1099511627776 with hS
  have hs : spread (fun j => (X j : EReal)) = (S : EReal) := by
    simp only [spread, hc, ← EReal.coe_mul]
    rw [mean_coe, eps_eq, ← EReal.coe_add]
  have hpos : 0 < S := by
    have : 0 ≤ ∑ j, C j * C j := Finset.sum_nonneg fun j _ => mul_self_nonneg _
    positivity
  set R : ℝ := (Real.sqrt S)⁻¹ with hR
  have hr : rstd (fun j => (X j : EReal)) = (R : EReal) := by
    rw [rstd, hs, Ideal.rsqrt_coe, if_neg (not_lt.mpr hpos.le), if_neg hpos.ne']
  have hRR : R * R = 1 / S := by
    rw [hR, ← mul_inv, Real.mul_self_sqrt hpos.le, one_div]
  have hC0 : ∑ j, C j = 0 := by
    rw [hC, Finset.sum_sub_distrib, Finset.sum_const, Finset.card_univ, Fintype.card_fin, nsmul_eq_mul]
    push_cast
    ring
  have hb : squareGrad (fun j => (H j : EReal)) (fun j => (X j : EReal))
      = (((∑ j, C j * H j) * (-(1 / 2) * (R * (1 / S))) * (1 / 1024) : ℝ) : EReal) := by
    simp only [squareGrad, hc, hr, hs, ← EReal.coe_mul]
    rw [coe_sum, negHalf_eq, len_eq, Ideal.div_coe hpos.ne', ← EReal.coe_mul, ← EReal.coe_mul, ← EReal.coe_mul,
      Ideal.div_coe (by norm_num), ← EReal.coe_mul]
  set B : ℝ := (∑ j, C j * H j) * (-(1 / 2) * (R * (1 / S))) * (1 / 1024) with hB
  have hl : rowGrad (fun j => (H j : EReal)) (fun j => (X j : EReal)) k
      = ((R * (H k - (∑ j, H j) * (1 / 1024) - C k * R * ((∑ j, H j * (C j * R)) * (1 / 1024))) : ℝ) : EReal) := by
    simp only [rowGrad, xhat, hc, hr, ← EReal.coe_mul]
    rw [mean_coe, mean_coe, ← EReal.coe_sub, ← EReal.coe_mul, ← EReal.coe_sub, ← EReal.coe_mul]
  have hrt : chainGrad (fun j => (H j : EReal)) (fun j => (X j : EReal)) k
      = ((H k * R + B * (2 * C k) + ((∑ j, -(H j * R)) + ∑ j, -(B * (2 * C j))) * (1 / 1024) : ℝ) : EReal) := by
    simp only [chainGrad, hc, hr, hb, two_eq, len_eq, ← EReal.coe_mul, ← EReal.coe_neg]
    rw [coe_sum, coe_sum, ← EReal.coe_add, ← EReal.coe_add, Ideal.div_coe (by norm_num), ← EReal.coe_mul, ← EReal.coe_add]
  rw [hl, hrt]
  congr 1
  have e1 : ∑ j, H j * (C j * R) = R * ∑ j, C j * H j := by
    rw [Finset.mul_sum]; exact Finset.sum_congr rfl fun j _ => by ring
  have e2 : ∑ j, -(B * (2 * C j)) = 0 := by
    have : ∑ j, -(B * (2 * C j)) = -(2 * B) * ∑ j, C j := by
      rw [Finset.mul_sum]; exact Finset.sum_congr rfl fun j _ => by ring
    rw [this, hC0, mul_zero]
  have e3 : ∑ j, -(H j * R) = -R * ∑ j, H j := by
    rw [Finset.mul_sum]; exact Finset.sum_congr rfl fun j _ => by ring
  rw [e1, e2, e3, hB, ← hRR]
  ring

end Cert.Proof.Mm
-- ==== Proof.Mm.NormGrad.lean ====
module

public import proofs.«01_k».proof.Proof.Mm.Sum
public import proofs.«01_k».proof.Proof.Mm.RowGrad
public import proofs.«01_k».proof.Proof.Gen.Kernel14Ideal.Value
public import Idealize.ShloMosaic.Lib.WritesUnit
public import Idealize.ShloMosaic.Lib.ValueIdx
public import Idealize.ShloMosaic.Lib.Pointwise

/-!
The gradient of the layer norm, kernel: what one block computes, and what the three result arrays hold at the end.
-/

@[expose] public section

set_option maxRecDepth 8192

noncomputable section

namespace Cert.Kernel14Ideal.Product

open Idealize.ShloMosaic Idealize.ShloMosaic.TcCoe Cert.Kernel14Ideal Cert.Kernel14Ideal.Gen Idealize.SL.Sem
open Cert.Proof.Mm (len eps mean centred spread rstd xhat rowGrad)

variable (m : (ℓ : Loc nD τ sig) → Buf (Elt Ideal) ℓ)

/-- The normalized rows of a block. -/
theorem xhat_apply (v1 : Vec Ideal S256x1024 .f32) (j : S256x1024.Idx) :
    k0_pay6 (F := Ideal) v1 j = xhat (fun k => v1 (ix2 (j 0) k)) (j 1) := by
  pointwise [k0_pay6, k0_pay5, k0_pay4, xhat, rstd, spread, centred, mean, len, eps]

/-- The rows' gradient of a block. -/
theorem row_apply (v0 v1 : Vec Ideal S256x1024 .f32) (v18 : Vec Ideal S1x1024 .f32) (j : S256x1024.Idx) :
    k0_pay7 (F := Ideal) v0 v1 v18 j
      = rowGrad (fun k => v0 (ix2 (j 0) k) * v18 (ix2 0 k)) (fun k => v1 (ix2 (j 0) k)) (j 1) := by
  pointwise [k0_pay7, k0_pay6, k0_pay5, k0_pay4, rowGrad, xhat, rstd, spread, centred, mean, len, eps]

/-- The same, as it is rounded: over the extended reals the rounding changes nothing. -/
theorem cast_apply (v0 v1 : Vec Ideal S256x1024 .f32) (v18 : Vec Ideal S1x1024 .f32) (j : S256x1024.Idx) :
    k0_pay8 (F := Ideal) v0 v1 v18 j = k0_pay7 (F := Ideal) v0 v1 v18 j := by
  pointwise [k0_pay8, k0_pay7]

/-- A block's part of the gain's gradient. -/
theorem gain_apply (v0 v17 : Vec Ideal S256x1024 .f32) (v44 : Vec Ideal S1x1024 .f32) (j : S1x1024.Idx) :
    k0_pay2 (F := Ideal) v0 v17 v44 j = v44 j + ∑ k : Fin 256, v0 (ix2 k (j 1)) * v17 (ix2 k (j 1)) := by
  pointwise [k0_pay2]

/-- A block's part of the bias's gradient. -/
theorem bias_apply (v0 : Vec Ideal S256x1024 .f32) (v51 : Vec Ideal S1x1024 .f32) (j : S1x1024.Idx) :
    k0_pay3 (F := Ideal) v0 v51 j = v51 j + ∑ k : Fin 256, v0 (ix2 k (j 1)) := by
  pointwise [k0_pay3]

/-- A buffer whose first two rows were written, at an entry. -/
theorem two_rows (v : View sig .tc .vmem S8x1024 .f32) (f : v.ty.Contents (Elt Ideal)) (w1 w0 : Vec Ideal S1x1024 .f32)
    (L : List (View.Piece (Elt Ideal) S8x1024 .f32)) (y : S8x1024.Idx) :
    v.read (Elt Ideal) (v.writes (Elt Ideal) f (⟨Rect.unit ![1, 0] ![1, 1024] inb_S8x1024_S1x1024_1_0, w1⟩
        :: ⟨Rect.unit ![0, 0] ![1, 1024] inb_S8x1024_S1x1024_0_0, w0⟩ :: L)) y
      = if (y 0).val = 1 then w1 (ix2 0 (y 1)) else if (y 0).val = 0 then w0 (ix2 0 (y 1)) else v.read (Elt Ideal) (v.writes (Elt Ideal) f L) y := by
  by_cases h1 : (y 0).val = 1
  · rw [if_pos h1]
    exact View.read_writes_cons_rows_of_mem (size := ![1, 1024]) v f _ w1 _ y (show S1x1024.Idx from ix2 0 (y 1)) rfl h1 rfl
  · rw [if_neg h1, View.read_writes_cons_rows_of_not_mem (size := ![1, 1024]) (W := 1) v f _ w1 _ y rfl rfl (by omega)]
    by_cases h0 : (y 0).val = 0
    · rw [if_pos h0]
      exact View.read_writes_cons_rows_of_mem (size := ![1, 1024]) v f _ w0 _ y (show S1x1024.Idx from ix2 0 (y 1)) rfl h0 rfl
    · rw [if_neg h0, View.read_writes_cons_rows_of_not_mem (size := ![1, 1024]) (W := 1) v f _ w0 _ y rfl rfl (by omega)]

/-- A buffer cleared, at an entry. -/
theorem cleared (v : View sig .tc .vmem S8x1024 .f32) (f : v.ty.Contents (Elt Ideal)) (y : S8x1024.Idx) :
    v.read (Elt Ideal) (v.writes (Elt Ideal) f [⟨Rect.unit ![0, 0] ![8, 1024] inb_S8x1024_S8x1024_0_0, k0_pay1 (F := Ideal)⟩]) y = 0 := by
  rw [View.read_writes_cons_rows_of_mem (size := ![8, 1024]) v f _ _ _ y (show S8x1024.Idx from y) rfl (Nat.zero_add _).symm rfl]
  pointwise [k0_pay1]

/-- What one block adds to the rows of the sums. -/
def part (x0 x1 : Vec Ideal S256x1024 .f32) (y : S8x1024.Idx) : EReal :=
  if (y 0).val = 1 then ∑ k : Fin 256, x0 (ix2 k (y 1))
  else if (y 0).val = 0 then ∑ k : Fin 256, x0 (ix2 k (y 1)) * xhat (fun j => x1 (ix2 k j)) (y 1)
  else 0

/-- A later grid point adds its block's part. -/
theorem later (c : Dev nD) (t : Fin cfg0.N) (h : t.val % 16 ≠ 0) (y : S8x1024.Idx) :
    (outsAt0 m c t.val t.isLt).2.2 y
      = (outsAt0 m c (t.val - 1) (Nat.lt_of_le_of_lt (Nat.sub_le _ _) t.isLt)).2.2 y + part (iblk m c 0 t) (iblk m c 1 t) y := by
  rw [outsAt0_B m c t h]
  frame_out
  rw [two_rows, gain_apply, bias_apply, part]
  generalize (outsAt0 m c (t.val - 1) (Nat.lt_of_le_of_lt (Nat.sub_le _ _) t.isLt)).2.2 = p
  by_cases h1 : (y 0).val = 1
  · rw [if_pos h1, if_pos h1]
    refine Cert.Proof.Mm.add_congr ?_ rfl
    exact View.ld_unit_apply_of p _ _ _ _ y (Fin.forall_fin_two.mpr ⟨h1, (Nat.zero_add _).symm⟩)
  · rw [if_neg h1, if_neg h1]
    by_cases h0 : (y 0).val = 0
    · rw [if_pos h0, if_pos h0]
      refine Cert.Proof.Mm.add_congr ?_ (Cert.Proof.Mm.sum_congr fun k => Cert.Proof.Mm.mul_congr rfl (xhat_apply _ _))
      exact View.ld_unit_apply_of p _ _ _ _ y (Fin.forall_fin_two.mpr ⟨h0, (Nat.zero_add _).symm⟩)
    · rw [if_neg h0, if_neg h0, add_zero]
      exact congrFun ((Memref.IsWhole.read_unread (hs0_5 t) p)) y

/-- The first grid point stores its block's part. -/
theorem first (c : Dev nD) (t : Fin cfg0.N) (h : t.val % 16 = 0) (y : S8x1024.Idx) :
    (outsAt0 m c t.val t.isLt).2.2 y = part (iblk m c 0 t) (iblk m c 1 t) y := by
  rw [outsAt0_A m c t h]
  frame_out
  rw [← View.read_writes_junk_apply_eq_canon (ms0_5 t).view, two_rows, gain_apply, bias_apply, part]
  by_cases h1 : (y 0).val = 1
  · rw [if_pos h1, if_pos h1, View.readCov_eq_canon']
    dsimp only
    rw [← View.read_writes_junk_apply_eq_canon (ms0_5 t).view, View.read_writes_cons_rows_of_not_mem (size := ![1, 1024]) (W := 1) _ _ _ _ _ _ rfl rfl (Or.inr (le_of_eq rfl)), cleared, zero_add]
    rfl
  · rw [if_neg h1, if_neg h1]
    by_cases h0 : (y 0).val = 0
    · rw [if_pos h0, if_pos h0, View.readCov_eq_canon']
      dsimp only
      rw [← View.read_writes_junk_apply_eq_canon (ms0_5 t).view, cleared, zero_add]
      exact Cert.Proof.Mm.sum_congr fun k => Cert.Proof.Mm.mul_congr rfl (xhat_apply _ _)
    · rw [if_neg h0, if_neg h0, cleared]

/-- The rows' gradient, of the incoming gradient, the rows and the gain. -/
def result (dy x : Vec Ideal S4096x1024 .f32) (g : Vec Ideal S1024 .f32) : Vec Ideal S4096x1024 .f32 := fun i =>
  rowGrad (fun k => dy (ix2 (i 0) k) * g (ix1 k)) (fun k => x (ix2 (i 0) k)) (i 1)

/-- The same, of the narrower type. -/
def resultCast (dy x : Vec Ideal S4096x1024 .f32) (g : Vec Ideal S1024 .f32) : Vec Ideal S4096x1024 .bf16 := fun i =>
  rowGrad (fun k => dy (ix2 (i 0) k) * g (ix1 k)) (fun k => x (ix2 (i 0) k)) (i 1)

/-- One token's part of the gain's gradient (row 0) and of the bias's gradient (row 1). -/
def token (dy x : Vec Ideal S4096x1024 .f32) (y : S8x1024.Idx) (k : Fin 4096) : EReal :=
  if (y 0).val = 1 then dy (ix2 k (y 1))
  else if (y 0).val = 0 then dy (ix2 k (y 1)) * xhat (fun j => x (ix2 k j)) (y 1)
  else 0

/-- The gradients of the gain and of the bias, in the first two of eight rows. -/
def sums (dy x : Vec Ideal S4096x1024 .f32) : Vec Ideal S8x1024 .f32 := fun y => ∑ k : Fin 4096, token dy x y k

/-- The block index of each window, at each grid point. -/
theorem index_facts : ∀ t : Fin cfg0.N,
    win0_0.index t = ![t.val, 0] ∧ win0_1.index t = ![t.val, 0] ∧ win0_2.index t = ![0, 0] ∧ win0_3.index t = ![t.val, 0]
    ∧ win0_4.index t = ![t.val, 0] ∧ win0_5.index t = ![0, 0] :=
  (by decide +kernel : ∀ t : Fin grid0.N, _)

/-- The gain, as the pipeline reads it. -/
theorem g_read (c : Dev nD) (i : S1x1024.Idx) : V m c main_v0 i = m ((c : Thread nD τ).loc main_arg2) (ix1 (i 1)) := by
  unfold V
  simp only [hostOps0]
  after_results
  pointwise

/-- The block of the incoming gradient. -/
theorem dy_block (c : Dev nD) (t : Fin cfg0.N) (k : Fin 256) (q : Fin 4096) (j : Fin 1024) (h : q.val = t.val * 256 + k.val) :
    (iblk m c 0 t (ix2 k j : S256x1024.Idx) : EReal) = m ((c : Thread nD τ).loc main_arg0) (ix2 q j : S4096x1024.Idx) := by
  have e := (index_facts t).1
  blk_simp [iblk]
  rw [V_main_arg0]
  refine congrArg _ ?_
  blk_ext [e, h]

/-- The block of the rows. -/
theorem x_block (c : Dev nD) (t : Fin cfg0.N) (k : Fin 256) (q : Fin 4096) (j : Fin 1024) (h : q.val = t.val * 256 + k.val) :
    (iblk m c 1 t (ix2 k j : S256x1024.Idx) : EReal) = m ((c : Thread nD τ).loc main_arg1) (ix2 q j : S4096x1024.Idx) := by
  have e := (index_facts t).2.1
  blk_simp [iblk]
  rw [V_main_arg1]
  refine congrArg _ ?_
  blk_ext [e, h]

/-- The block of the gain. -/
theorem g_block (c : Dev nD) (t : Fin cfg0.N) (k : Fin 1024) :
    (iblk m c 2 t (ix2 0 k : S1x1024.Idx) : EReal) = m ((c : Thread nD τ).loc main_arg2) (ix1 k : S1024.Idx) := by
  have e := (index_facts t).2.2.1
  blk_simp [iblk]
  rw [g_read]
  refine congrArg _ ?_
  blk_ext [e]

/-- A block of the rows' gradient is the block of the array. -/
theorem row_block (c : Dev nD) (t : Fin cfg0.N) (j : S256x1024.Idx) (i : S4096x1024.Idx)
    (h0 : (i 0).val = t.val * 256 + (j 0).val) (h1 : (i 1).val = (j 1).val) :
    k0_pay7 (F := Ideal) (iblk m c 0 t) (iblk m c 1 t) (iblk m c 2 t) j
      = result (m ((c : Thread nD τ).loc main_arg0)) (m ((c : Thread nD τ).loc main_arg1)) (m ((c : Thread nD τ).loc main_arg2)) i := by
  rw [row_apply]
  unfold result
  refine congr (congrArg₂ rowGrad (funext fun k => ?_) (funext fun k => ?_)) (Fin.ext h1.symm)
  · exact Cert.Proof.Mm.mul_congr (dy_block m c t (j 0) (i 0) k h0) (g_block m c t k)
  · exact x_block m c t (j 0) (i 0) k h0

/-- The rows' gradient at the end. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := (index_facts t).2.2.2.1
  blk_simp
  rw [after0_3]
  by_cases h : t.val % 16 = 0
  · rw [outsAt0_A m c t h]
    frame_out
    exact row_block m c t y _ (by blk_simp [e]) (by blk_simp [e])
  · rw [outsAt0_B m c t h]
    frame_out
    exact row_block m c t y _ (by blk_simp [e]) (by blk_simp [e])

/-- The rounded rows' gradient at the end. -/
theorem final_cast (c : Dev nD) : (dats m 0 c).arrAt 4 cfg0.N
    = resultCast (m ((c : Thread nD τ).loc main_arg0)) (m ((c : Thread nD τ).loc main_arg1)) (m ((c : Thread nD τ).loc main_arg2)) := by
  refine (dats m 0 c).arrAt_eq_of_covers 4 _ (by decide +kernel) fun t hf y => ?_
  have e := (index_facts t).2.2.2.2.1
  blk_simp
  rw [after0_4]
  by_cases h : t.val % 16 = 0
  · rw [outsAt0_A m c t h]
    frame_out
    exact (cast_apply _ _ _ _).trans (row_block m c t y _ (by blk_simp [e]) (by blk_simp [e]))
  · rw [outsAt0_B m c t h]
    frame_out
    exact (cast_apply _ _ _ _).trans (row_block m c t y _ (by blk_simp [e]) (by blk_simp [e]))

/-- A token's part, at a number. -/
def tokenAt (dy x : Vec Ideal S4096x1024 .f32) (y : S8x1024.Idx) (k : ℕ) : EReal :=
  if h : k < 4096 then token dy x y ⟨k, h⟩ else 0

/-- A block's part is the sum of its tokens' parts. -/
theorem part_block (c : Dev nD) (t : Fin cfg0.N) (y : S8x1024.Idx) :
    part (iblk m c 0 t) (iblk m c 1 t) y
      = ∑ k ∈ Finset.range 256, tokenAt (m ((c : Thread nD τ).loc main_arg0)) (m ((c : Thread nD τ).loc main_arg1)) y (t.val * 256 + k) := by
  have ht : t.val < 16 := t.isLt
  have hk : ∀ k : Fin 256, t.val * 256 + k.val < 4096 := fun k => by have := k.isLt; omega
  rw [Finset.sum_range]
  unfold part
  by_cases h1 : (y 0).val = 1
  · rw [if_pos h1]
    refine Cert.Proof.Mm.sum_congr fun k => ?_
    rw [tokenAt, dif_pos (hk k), token, if_pos h1]
    exact dy_block m c t k ⟨_, hk k⟩ (y 1) rfl
  · rw [if_neg h1]
    by_cases h0 : (y 0).val = 0
    · rw [if_pos h0]
      refine Cert.Proof.Mm.sum_congr fun k => ?_
      rw [tokenAt, dif_pos (hk k), token, if_neg h1, if_pos h0]
      exact Cert.Proof.Mm.mul_congr (dy_block m c t k ⟨_, hk k⟩ (y 1) rfl)
        (congrArg (fun f => xhat f (y 1)) (funext fun j => x_block m c t k ⟨_, hk k⟩ j rfl))
    · rw [if_neg h0]
      refine (Finset.sum_eq_zero fun k _ => ?_).symm
      rw [tokenAt, dif_pos (hk k), token, if_neg h1, if_neg h0]

/-- After a grid point the sums hold the tokens of the blocks done. -/
theorem acc (c : Dev nD) (y : S8x1024.Idx) : ∀ (n : ℕ) (hn : n < cfg0.N), (outsAt0 m c n hn).2.2 y
    = ∑ k ∈ Finset.range ((n + 1) * 256), tokenAt (m ((c : Thread nD τ).loc main_arg0)) (m ((c : Thread nD τ).loc main_arg1)) y k
  | 0, hn => by
    rw [first m c ⟨0, hn⟩ rfl y, part_block]
    refine Finset.sum_congr rfl fun k _ => ?_
    rw [Nat.zero_mul, Nat.zero_add]
  | n + 1, hn => by
    have h16 : n + 1 < 16 := hn
    rw [later m c ⟨n + 1, hn⟩ (by show (n + 1) % 16 ≠ 0; omega) y, part_block, Nat.add_mul (n + 1) 1, Finset.sum_range_add]
    exact Cert.Proof.Mm.add_congr (acc c y n (by omega)) rfl

/-- The sums' array at the end. -/
theorem final_sums (c : Dev nD) : (dats m 0 c).arrAt 5 cfg0.N
    = sums (m ((c : Thread nD τ).loc main_arg0)) (m ((c : Thread nD τ).loc main_arg1)) := by
  refine (dats m 0 c).arrAt_eq_of_covers 5 _ (by decide +kernel) fun t hf y => ?_
  have h15 : t.val % 16 = 15 := (flush0_5 t).mp hf
  have ht : t.val < 16 := t.isLt
  have e := (index_facts t).2.2.2.2.2
  blk_simp
  rw [after0_5, acc]
  have h : (t.val + 1) * 256 = 4096 := by omega
  rw [h, Finset.sum_range]
  unfold sums
  refine Cert.Proof.Mm.sum_congr fun k => ?_
  rw [tokenAt, dif_pos k.isLt]
  refine congrArg (fun z => token _ _ z k) ?_
  blk_ext [e]

/-- The kernel's run: its results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v1_0)
        = result (m ((c : Thread nD τ).loc main_arg0)) (m ((c : Thread nD τ).loc main_arg1)) (m ((c : Thread nD τ).loc main_arg2))
      ∧ r.2.mem ((c : Thread nD τ).loc main_v1_1)
        = resultCast (m ((c : Thread nD τ).loc main_arg0)) (m ((c : Thread nD τ).loc main_arg1)) (m ((c : Thread nD τ).loc main_arg2))
      ∧ r.2.mem ((c : Thread nD τ).loc main_v1_2) = sums (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2.1.trans (final_cast m c), (h c).2.2.1.trans (final_sums m c), (h c).2.2.2⟩)
    (Cert.Kernel14Ideal.Value.run_blocks m ρ)

end Cert.Kernel14Ideal.Product
-- ==== Proof.Mm.NormGradRef.lean ====
module

public import proofs.«01_k».proof.Proof.Mm.NormGrad
public import proofs.«01_k».proof.Proof.Gen.Reference14Ideal.Run

/-!
The gradient of the layer norm, reference: its three arrays are the kernel's, where the entries are finite.
-/

@[expose] public section

set_option maxRecDepth 8192

noncomputable section

namespace Cert.Kernel14Ideal.Product

open Idealize.ShloMosaic Idealize.ShloMosaic.TcCoe Cert.Kernel14Ideal Cert.Kernel14Ideal.Gen Idealize.SL.Sem
open Cert.Proof.Mm (len eps negHalf two mean centred spread rstd xhat rowGrad chainGrad squareGrad)

/-- The reference's mean of each row. -/
def hostMean (x : FVec Ideal S4096x1024 .f32) : FVec Ideal Cert.Reference14Ideal.S4096x1 .f32 :=
  Host.divf (broadcastInDim Cert.Reference14Ideal.S4096x1 ![0] Cert.Reference14Ideal.Gen.bcast_S4096_S4096x1_0 (Host.reduceAdd x (constant Cert.Reference14Ideal.S_ .f32 0x00000000#32) Cert.Reference14Ideal.Gen.reducesTo_S4096x1024_S4096_d1 Cert.Reference14Ideal.Gen.h_S_)) (broadcastInDim Cert.Reference14Ideal.S4096x1 ![] Cert.Reference14Ideal.Gen.bcast_S_S4096x1 (constant Cert.Reference14Ideal.S_ .f32 0x44800000#32))

/-- The reference's rows less their means. -/
def hostCentred (x : FVec Ideal S4096x1024 .f32) : FVec Ideal Cert.Reference14Ideal.S4096x1024 .f32 :=
  subf x (broadcastInDim Cert.Reference14Ideal.S4096x1024 ![0, 1] Cert.Reference14Ideal.Gen.bcast_S4096x1_S4096x1024_0_1 (hostMean x))

/-- The reference's mean squares and the small constant. -/
def hostSpread (x : FVec Ideal S4096x1024 .f32) : FVec Ideal Cert.Reference14Ideal.S4096x1 .f32 :=
  addf (hostMean (mulf (hostCentred x) (hostCentred x))) (broadcastInDim Cert.Reference14Ideal.S4096x1 ![] Cert.Reference14Ideal.Gen.bcast_S_S4096x1 (constant Cert.Reference14Ideal.S_ .f32 0x3727C5AC#32))

/-- The reference's reciprocal deviations. -/
def hostRstd (x : FVec Ideal S4096x1024 .f32) : FVec Ideal Cert.Reference14Ideal.S4096x1 .f32 :=
  Host.rsqrt (hostSpread x)

/-- The reference's gradient of the normalized rows. -/
def hostInner (dy : FVec Ideal S4096x1024 .f32) (g : FVec Ideal S1024 .f32) : FVec Ideal Cert.Reference14Ideal.S4096x1024 .f32 :=
  mulf (shapeCast _ dy Cert.Reference14Ideal.Gen.shapeCasts_S4096x1024_S4096x1024) (broadcastInDim Cert.Reference14Ideal.S4096x1024 ![0, 1] Cert.Reference14Ideal.Gen.bcast_S1x1024_S4096x1024_0_1 (broadcastInDim Cert.Reference14Ideal.S1x1024 ![1] Cert.Reference14Ideal.Gen.bcast_S1024_S1x1024_1 g))

/-- The first term of the reference's gradient. -/
def hostFirst (dy x : FVec Ideal S4096x1024 .f32) (g : FVec Ideal S1024 .f32) : FVec Ideal Cert.Reference14Ideal.S4096x1024 .f32 :=
  mulf (hostInner dy g) (broadcastInDim Cert.Reference14Ideal.S4096x1024 ![0, 1] Cert.Reference14Ideal.Gen.bcast_S4096x1_S4096x1024_0_1 (hostRstd x))

/-- The factor of the centred rows in the gradient of the mean squares. -/
def hostFactor (dy x : FVec Ideal S4096x1024 .f32) (g : FVec Ideal S1024 .f32) : FVec Ideal Cert.Reference14Ideal.S4096x1024 .f32 :=
  broadcastInDim Cert.Reference14Ideal.S4096x1024 ![0] Cert.Reference14Ideal.Gen.bcast_S4096_S4096x1024_0 (Host.reduceAdd (Host.divf (mulf (shapeCast _ (Host.reduceAdd (mulf (hostCentred x) (hostInner dy g)) (constant Cert.Reference14Ideal.S_ .f32 0x00000000#32) Cert.Reference14Ideal.Gen.reducesTo_S4096x1024_S4096_d1 Cert.Reference14Ideal.Gen.h_S_) Cert.Reference14Ideal.Gen.shapeCasts_S4096_S4096x1) (mulf (broadcastInDim Cert.Reference14Ideal.S4096x1 ![] Cert.Reference14Ideal.Gen.bcast_S_S4096x1 (constant Cert.Reference14Ideal.S_ .f32 0xBF000000#32)) (Host.divf (hostRstd x) (hostSpread x)))) (broadcastInDim Cert.Reference14Ideal.S4096x1 ![] Cert.Reference14Ideal.Gen.bcast_S_S4096x1 (constant Cert.Reference14Ideal.S_ .f32 0x44800000#32))) (constant Cert.Reference14Ideal.S_ .f32 0x00000000#32) Cert.Reference14Ideal.Gen.reducesTo_S4096x1_S4096_d1 Cert.Reference14Ideal.Gen.h_S_)

/-- The second term of the reference's gradient. -/
def hostSquare (dy x : FVec Ideal S4096x1024 .f32) (g : FVec Ideal S1024 .f32) : FVec Ideal Cert.Reference14Ideal.S4096x1024 .f32 :=
  mulf (hostFactor dy x g) (mulf (broadcastInDim Cert.Reference14Ideal.S4096x1024 ![] Cert.Reference14Ideal.Gen.bcast_S_S4096x1024 (constant Cert.Reference14Ideal.S_ .f32 0x40000000#32)) (hostCentred x))

/-- The last term of the reference's gradient. -/
def hostLast (dy x : FVec Ideal S4096x1024 .f32) (g : FVec Ideal S1024 .f32) : FVec Ideal Cert.Reference14Ideal.S4096x1024 .f32 :=
  broadcastInDim Cert.Reference14Ideal.S4096x1024 ![0] Cert.Reference14Ideal.Gen.bcast_S4096_S4096x1024_0 (Host.reduceAdd (Host.divf (addf (shapeCast _ (Host.reduceAdd (Host.negf (hostFirst dy x g)) (constant Cert.Reference14Ideal.S_ .f32 0x00000000#32) Cert.Reference14Ideal.Gen.reducesTo_S4096x1024_S4096_d1 Cert.Reference14Ideal.Gen.h_S_) Cert.Reference14Ideal.Gen.shapeCasts_S4096_S4096x1) (shapeCast _ (Host.reduceAdd (Host.negf (hostSquare dy x g)) (constant Cert.Reference14Ideal.S_ .f32 0x00000000#32) Cert.Reference14Ideal.Gen.reducesTo_S4096x1024_S4096_d1 Cert.Reference14Ideal.Gen.h_S_) Cert.Reference14Ideal.Gen.shapeCasts_S4096_S4096x1)) (broadcastInDim Cert.Reference14Ideal.S4096x1 ![] Cert.Reference14Ideal.Gen.bcast_S_S4096x1 (constant Cert.Reference14Ideal.S_ .f32 0x44800000#32))) (constant Cert.Reference14Ideal.S_ .f32 0x00000000#32) Cert.Reference14Ideal.Gen.reducesTo_S4096x1_S4096_d1 Cert.Reference14Ideal.Gen.h_S_)

/-- The reference's gradient of the rows. -/
def hostGrad (dy x : FVec Ideal S4096x1024 .f32) (g : FVec Ideal S1024 .f32) : FVec Ideal Cert.Reference14Ideal.S4096x1024 .f32 :=
  addf (addf (hostFirst dy x g) (hostSquare dy x g)) (hostLast dy x g)

/-- The reference's sum over the tokens, as one row. -/
def hostRow (x : FVec Ideal S4096x1024 .f32) : FVec Ideal Cert.Reference14Ideal.S1x1024 .f32 :=
  broadcastInDim Cert.Reference14Ideal.S1x1024 ![1] Cert.Reference14Ideal.Gen.bcast_S1024_S1x1024_1 (Host.reduceAdd (shapeCast _ (Host.reduceAdd x (constant Cert.Reference14Ideal.S_ .f32 0x00000000#32) Cert.Reference14Ideal.Gen.reducesTo_S4096x1024_S1024_d0 Cert.Reference14Ideal.Gen.h_S_) Cert.Reference14Ideal.Gen.shapeCasts_S1024_S1x1024) (constant Cert.Reference14Ideal.S_ .f32 0x00000000#32) Cert.Reference14Ideal.Gen.reducesTo_S1x1024_S1024_d0 Cert.Reference14Ideal.Gen.h_S_)

/-- The reference's normalized rows times the incoming gradient. -/
def hostXhat (dy x : FVec Ideal S4096x1024 .f32) : FVec Ideal Cert.Reference14Ideal.S4096x1024 .f32 :=
  mulf (mulf (hostCentred x) (broadcastInDim Cert.Reference14Ideal.S4096x1024 ![0, 1] Cert.Reference14Ideal.Gen.bcast_S4096x1_S4096x1024_0_1 (hostRstd x))) (shapeCast _ dy Cert.Reference14Ideal.Gen.shapeCasts_S4096x1024_S4096x1024)

/-- The reference's gradients of the gain and of the bias. -/
def hostSums (dy x : FVec Ideal S4096x1024 .f32) : FVec Ideal Cert.Reference14Ideal.S8x1024 .f32 :=
  concatenate Cert.Reference14Ideal.S8x1024 0 [⟨Cert.Reference14Ideal.S1x1024, hostRow (hostXhat dy x)⟩, ⟨Cert.Reference14Ideal.S1x1024, hostRow dy⟩, ⟨Cert.Reference14Ideal.S6x1024, broadcastInDim Cert.Reference14Ideal.S6x1024 ![] Cert.Reference14Ideal.Gen.bcast_S_S6x1024 (constant Cert.Reference14Ideal.S_ .f32 0x00000000#32)⟩] Cert.Reference14Ideal.Gen.concatenates_S1x1024_S1x1024_S6x1024_S8x1024_d0

theorem hostMean_apply (x : FVec Ideal S4096x1024 .f32) (i : Cert.Reference14Ideal.S4096x1.Idx) :
    hostMean x i = mean fun k => x (ix2 (i 0) k) := by
  pointwise [hostMean, mean, len]

theorem hostCentred_apply (x : FVec Ideal S4096x1024 .f32) (i : S4096x1024.Idx) :
    hostCentred x i = centred (fun k => x (ix2 (i 0) k)) (i 1) := by
  pointwise [hostCentred, hostMean_apply, centred]

theorem hostSpread_apply (x : FVec Ideal S4096x1024 .f32) (i : Cert.Reference14Ideal.S4096x1.Idx) :
    hostSpread x i = spread fun k => x (ix2 (i 0) k) := by
  pointwise [hostSpread, hostMean_apply, hostCentred_apply, spread, eps]

theorem hostRstd_apply (x : FVec Ideal S4096x1024 .f32) (i : Cert.Reference14Ideal.S4096x1.Idx) :
    hostRstd x i = rstd fun k => x (ix2 (i 0) k) := by
  pointwise [hostRstd, hostSpread_apply, rstd]

theorem hostInner_apply (dy : FVec Ideal S4096x1024 .f32) (g : FVec Ideal S1024 .f32) (i : S4096x1024.Idx) :
    hostInner dy g i = dy i * g (ix1 (i 1)) := by
  pointwise [hostInner]

theorem hostFirst_apply (dy x : FVec Ideal S4096x1024 .f32) (g : FVec Ideal S1024 .f32) (i : S4096x1024.Idx) :
    hostFirst dy x g i = dy i * g (ix1 (i 1)) * rstd fun k => x (ix2 (i 0) k) := by
  pointwise [hostFirst, hostInner_apply, hostRstd_apply]

theorem hostFactor_apply (dy x : FVec Ideal S4096x1024 .f32) (g : FVec Ideal S1024 .f32) (i : S4096x1024.Idx) :
    hostFactor dy x g i = squareGrad (fun k => dy (ix2 (i 0) k) * g (ix1 k)) (fun k => x (ix2 (i 0) k)) := by
  pointwise [hostFactor, hostInner_apply, hostRstd_apply, hostSpread_apply, hostCentred_apply, squareGrad, negHalf, len]
  exact Fin.sum_univ_one _

theorem hostSquare_apply (dy x : FVec Ideal S4096x1024 .f32) (g : FVec Ideal S1024 .f32) (i : S4096x1024.Idx) :
    hostSquare dy x g i = squareGrad (fun k => dy (ix2 (i 0) k) * g (ix1 k)) (fun k => x (ix2 (i 0) k))
      * (two * centred (fun k => x (ix2 (i 0) k)) (i 1)) := by
  pointwise [hostSquare, hostFactor_apply, hostCentred_apply, two]

theorem hostLast_apply (dy x : FVec Ideal S4096x1024 .f32) (g : FVec Ideal S1024 .f32) (i : S4096x1024.Idx) :
    hostLast dy x g i = Ideal.div ((∑ j : Fin 1024, -(dy (ix2 (i 0) j) * g (ix1 j) * rstd fun k => x (ix2 (i 0) k)))
      + ∑ j : Fin 1024, -(squareGrad (fun k => dy (ix2 (i 0) k) * g (ix1 k)) (fun k => x (ix2 (i 0) k))
          * (two * centred (fun k => x (ix2 (i 0) k)) j))) len := by
  pointwise [hostLast, hostFirst_apply, hostSquare_apply, len]
  exact Fin.sum_univ_one _

theorem hostGrad_apply (dy x : FVec Ideal S4096x1024 .f32) (g : FVec Ideal S1024 .f32) (i : S4096x1024.Idx) :
    hostGrad dy x g i = chainGrad (fun k => dy (ix2 (i 0) k) * g (ix1 k)) (fun k => x (ix2 (i 0) k)) (i 1) := by
  pointwise [hostGrad, hostFirst_apply, hostSquare_apply, hostLast_apply, chainGrad]

theorem hostRow_apply (x : FVec Ideal S4096x1024 .f32) (i : S1x1024.Idx) :
    hostRow x i = ∑ k : Fin 4096, x (ix2 k (i 1)) := by
  pointwise [hostRow]
  exact Fin.sum_univ_one _

theorem hostXhat_apply (dy x : FVec Ideal S4096x1024 .f32) (i : S4096x1024.Idx) :
    hostXhat dy x i = xhat (fun k => x (ix2 (i 0) k)) (i 1) * dy i := by
  pointwise [hostXhat, hostCentred_apply, hostRstd_apply, xhat]

/-- The reference's sums are the kernel's. -/
theorem hostSums_eq (dy x : FVec Ideal S4096x1024 .f32) : hostSums dy x = sums dy x := by
  funext i
  pointwise [hostSums, hostRow_apply, hostXhat_apply, sums, token]
  by_cases h1 : (i 0).val = 1
  · rw [dif_neg (by omega), dif_pos (by omega)]
    exact Cert.Proof.Mm.sum_congr fun k => (if_pos h1).symm
  · by_cases h0 : (i 0).val = 0
    · rw [dif_pos (by omega)]
      refine Cert.Proof.Mm.sum_congr fun k => ?_
      rw [if_neg h1, if_pos h0, mul_comm]
    · rw [dif_neg (by omega), dif_neg (by omega)]
      exact (Finset.sum_eq_zero fun k _ => by rw [if_neg h1, if_neg h0]).symm

/-- The reference's array is the term its run names. -/
theorem reference_grad (m : (ℓ : Loc Cert.Reference14Ideal.nD Cert.Reference14Ideal.τ Cert.Reference14Ideal.sig) → Buf (Elt Ideal) ℓ)
    (c : Dev Cert.Reference14Ideal.nD) : Cert.Reference14Ideal.Value.res_main_v63 m c
      = hostGrad (m ((c.tc : Thread Cert.Reference14Ideal.nD Cert.Reference14Ideal.τ).loc Cert.Reference14Ideal.main_arg0))
        (m ((c.tc : Thread Cert.Reference14Ideal.nD Cert.Reference14Ideal.τ).loc Cert.Reference14Ideal.main_arg1))
        (m ((c.tc : Thread Cert.Reference14Ideal.nD Cert.Reference14Ideal.τ).loc Cert.Reference14Ideal.main_arg2)) := rfl

end Cert.Kernel14Ideal.Product
-- ==== Proof.Mm.FfnFinite.lean ====
module

public import proofs.«01_k».proof.Pre_finite_gradient
public import proofs.«01_k».proof.Proof.Sb.Finite
public import proofs.«01_k».proof.Proof.Mm.RowGrad
public import Idealize.ShloMosaic.Lib.Pointwise

/-!
What the precondition of the gate's gradient says: every entry of the up projection, of the weight
and of the incoming gradient is a real number.
-/

@[expose] public section

set_option maxRecDepth 8192

noncomputable section

namespace Cert.Proof.Mm

open Idealize.ShloMosaic Cert.Pre_finite_gradient

variable [Facts] {x0 x1 : S4096x2816.Idx → EReal} {x2 : S2816x1024.Idx → EReal} {x3 : S4096x1024.Idx → EReal}

/-- The three arrays side by side, the weight padded below. -/
def joined (x1 : S4096x2816.Idx → EReal) (x2 : S2816x1024.Idx → EReal) (x3 : S4096x1024.Idx → EReal) : FVec Ideal S4096x4864 .f32 :=
  concatenate S4096x4864 1 [⟨S4096x2816, x1⟩, ⟨S4096x1024, x3⟩,
    ⟨S4096x1024, fn_pad (F := Ideal) x2 (constantI S_ 32 0#32)⟩] Facts.concatenates_S4096x2816_S4096x1024_S4096x1024_S4096x4864_d1

/-- Its first columns are the up projection. -/
theorem joined_up (i : S4096x2816.Idx) (j : S4096x4864.Idx) (h0 : (j 0).val = (i 0).val) (h1 : (j 1).val = (i 1).val) : joined x1 x2 x3 j = x1 i := by
  have hi : (i 1).val < 2816 := (i 1).isLt
  pointwise [joined, fn_pad]
  rw [dif_pos (by omega)]
  exact congrArg _ (funext fun a => Fin.ext (match a with | ⟨0, _⟩ => h0 | ⟨1, _⟩ => h1))

/-- The next columns are the incoming gradient. -/
theorem joined_grad (i : S4096x1024.Idx) (j : S4096x4864.Idx) (h0 : (j 0).val = (i 0).val) (h1 : (j 1).val = 2816 + (i 1).val) : joined x1 x2 x3 j = x3 i := by
  have hi : (i 1).val < 1024 := (i 1).isLt
  pointwise [joined, fn_pad]
  rw [dif_neg (by omega), dif_pos (by omega)]
  refine congrArg x3 (funext fun a => Fin.ext ?_)
  fin_cases a
  · exact h0
  · show (j 1).val - 2816 = (i 1).val
    omega

/-- The last columns hold the weight. -/
theorem joined_weight (i : S2816x1024.Idx) (j : S4096x4864.Idx) (h0 : (j 0).val = (i 0).val) (h1 : (j 1).val = 3840 + (i 1).val) : joined x1 x2 x3 j = x2 i := by
  have hi : (i 1).val < 1024 := (i 1).isLt
  have hi0 : (i 0).val < 2816 := (i 0).isLt
  pointwise [joined, fn_pad]
  rw [dif_neg (by omega), dif_neg (by omega), dif_pos (by omega)]
  refine congrArg x2 (funext fun a => Fin.ext ?_)
  fin_cases a
  · exact h0
  · show (j 1).val - 2816 - 1024 = (i 1).val
    omega

/-- Under the precondition every entry of the three arrays is a real number. -/
theorem gradient_finite (h : Cert.Pre_finite_gradient.fn (F := Ideal) x0 x1 x2 x3 = fun _ => 1#1) :
    (∀ i, ∃ r : ℝ, x1 i = (r : EReal)) ∧ (∀ i, ∃ r : ℝ, x2 i = (r : EReal)) ∧ ∀ i, ∃ r : ℝ, x3 i = (r : EReal) := by
  have key : ∀ j, ∃ r : ℝ, joined x1 x2 x3 j = (r : EReal) := fun j => real_of_lt (finite_of_lt (congrFun h j))
  refine ⟨fun i => ?_, fun i => ?_, fun i => ?_⟩
  · have hi : (i 1).val < 2816 := (i 1).isLt
    rw [← joined_up (x1 := x1) (x2 := x2) (x3 := x3) i (ix2 (i 0) ⟨(i 1).val, by omega⟩) rfl rfl]
    exact key _
  · have hi : (i 1).val < 1024 := (i 1).isLt
    have hi0 : (i 0).val < 2816 := (i 0).isLt
    rw [← joined_weight (x1 := x1) (x2 := x2) (x3 := x3) i (ix2 ⟨(i 0).val, by omega⟩ ⟨3840 + (i 1).val, by omega⟩) rfl rfl]
    exact key _
  · have hi : (i 1).val < 1024 := (i 1).isLt
    rw [← joined_grad (x1 := x1) (x2 := x2) (x3 := x3) i (ix2 (i 0) ⟨2816 + (i 1).val, by omega⟩) rfl rfl]
    exact key _

end Cert.Proof.Mm
-- ==== Proof.Mm.RowsFinite.lean ====
module

public import proofs.«01_k».proof.Pre_finite_rows
public import proofs.«01_k».proof.Proof.Mm.NormGradRef
public import proofs.«01_k».proof.Proof.Mm.FfnFinite

/-!
What the precondition of the layer norm's gradient says: every entry of the incoming gradient, of the rows and of the gain is a real
number. Under it the reference's gradient of the rows is the kernel's.
-/

@[expose] public section

set_option maxRecDepth 8192

noncomputable section

namespace Cert.Proof.Mm

open Idealize.ShloMosaic Cert.Pre_finite_rows

variable [Facts] {x0 x1 : S4096x1024.Idx → EReal} {x2 : S1024.Idx → EReal}

/-- The three arrays one under the other. -/
def stacked (x0 x1 : S4096x1024.Idx → EReal) (x2 : S1024.Idx → EReal) : FVec Ideal S8193x1024 .f32 :=
  concatenate S8193x1024 0 [⟨S4096x1024, x0⟩, ⟨S4096x1024, x1⟩,
    ⟨S1x1024, broadcastInDim S1x1024 ![1] Facts.bcast_S1024_S1x1024_1 x2⟩] Facts.concatenates_S4096x1024_S4096x1024_S1x1024_S8193x1024_d0

/-- Its first rows are the incoming gradient. -/
theorem stacked_grad (i : S4096x1024.Idx) (j : S8193x1024.Idx) (h0 : (j 0).val = (i 0).val) (h1 : (j 1).val = (i 1).val) : stacked x0 x1 x2 j = x0 i := by
  have hi : (i 0).val < 4096 := (i 0).isLt
  pointwise [stacked]
  rw [dif_pos (by omega)]
  exact congrArg _ (funext fun a => Fin.ext (match a with | ⟨0, _⟩ => h0 | ⟨1, _⟩ => h1))

/-- The next ones are the rows. -/
theorem stacked_rows (i : S4096x1024.Idx) (j : S8193x1024.Idx) (h0 : (j 0).val = 4096 + (i 0).val) (h1 : (j 1).val = (i 1).val) : stacked x0 x1 x2 j = x1 i := by
  have hi : (i 0).val < 4096 := (i 0).isLt
  pointwise [stacked]
  rw [dif_neg (by omega), dif_pos (by omega)]
  refine congrArg x1 (funext fun a => Fin.ext ?_)
  fin_cases a
  · show (j 0).val - 4096 = (i 0).val
    omega
  · exact h1

/-- The last one is the gain. -/
theorem stacked_gain (i : S1024.Idx) (j : S8193x1024.Idx) (h0 : (j 0).val = 8192) (h1 : (j 1).val = (i 0).val) : stacked x0 x1 x2 j = x2 i := by
  pointwise [stacked]
  rw [dif_neg (by omega), dif_neg (by omega)]
  refine congrArg x2 (funext fun a => Fin.ext ?_)
  fin_cases a
  exact h1

/-- Under the precondition every entry of the three arrays is a real number. -/
theorem rows_finite (h : Cert.Pre_finite_rows.fn (F := Ideal) x0 x1 x2 = fun _ => 1#1) :
    (∀ i, ∃ r : ℝ, x0 i = (r : EReal)) ∧ (∀ i, ∃ r : ℝ, x1 i = (r : EReal)) ∧ ∀ i, ∃ r : ℝ, x2 i = (r : EReal) := by
  have key : ∀ j, ∃ r : ℝ, stacked x0 x1 x2 j = (r : EReal) := fun j => real_of_lt (finite_of_lt (congrFun h j))
  refine ⟨fun i => ?_, fun i => ?_, fun i => ?_⟩
  · have hi : (i 0).val < 4096 := (i 0).isLt
    rw [← stacked_grad (x0 := x0) (x1 := x1) (x2 := x2) i (ix2 ⟨(i 0).val, by omega⟩ (i 1)) rfl rfl]
    exact key _
  · have hi : (i 0).val < 4096 := (i 0).isLt
    rw [← stacked_rows (x0 := x0) (x1 := x1) (x2 := x2) i (ix2 ⟨4096 + (i 0).val, by omega⟩ (i 1)) rfl rfl]
    exact key _
  · rw [← stacked_gain (x0 := x0) (x1 := x1) (x2 := x2) i (ix2 ⟨8192, by omega⟩ (i 0)) rfl rfl]
    exact key _

/-- Where the entries are real numbers the reference's gradient of the rows is the kernel's. -/
theorem rows_grad_eq (h : Cert.Pre_finite_rows.fn (F := Ideal) x0 x1 x2 = fun _ => 1#1) :
    Cert.Kernel14Ideal.Product.hostGrad x0 x1 x2 = Cert.Kernel14Ideal.Product.result x0 x1 x2 := by
  obtain ⟨h0, h1, h2⟩ := rows_finite h
  choose r0 e0 using h0
  choose r1 e1 using h1
  choose r2 e2 using h2
  funext i
  rw [Cert.Kernel14Ideal.Product.hostGrad_apply]
  unfold Cert.Kernel14Ideal.Product.result
  have ha : (fun k : Fin 1024 => @HMul.hMul EReal EReal EReal _ (x0 (ix2 (i 0) k)) (x2 (ix1 k))) = fun k => ((r0 (ix2 (i 0) k) * r2 (ix1 k) : ℝ) : EReal) :=
    funext fun k => by rw [e0, e2, ← EReal.coe_mul]
  have hb : (fun k : Fin 1024 => x1 (ix2 (i 0) k)) = fun k => ((r1 (ix2 (i 0) k) : ℝ) : EReal) := funext fun k => e1 _
  rw [ha, hb]
  exact grad_eq _ _ _

end Cert.Proof.Mm
-- ==== Proof.Mm.Taps.lean ====
module

public import proofs.«01_k».proof.Proof.Mm.Sum
public import Idealize.ShloMosaic.Lib.WordCmp
public import Idealize.ShloMosaic.PureOps.Ideal

/-!
The short gated convolution along one column: what it computes, and its gradient.
-/

@[expose] public section

noncomputable section

namespace Cert.Proof.Mm

open Idealize.ShloMosaic Idealize.ShloMosaic.WordCmp

/-- A column of one sequence, `s` tokens earlier, and 0 before its first token. -/
def back (s : ℕ) (f : Fin 2048 → EReal) (r : Fin 2048) : EReal :=
  if s ≤ r.val then f ⟨r.val - s, lt_of_le_of_lt (Nat.sub_le _ _) r.isLt⟩ else 0

/-- A column of one sequence, `s` tokens later, and 0 after its last token. -/
def fwd (s : ℕ) (f : Fin 2048 → EReal) (r : Fin 2048) : EReal :=
  if h : r.val + s < 2048 then f ⟨r.val + s, h⟩ else 0

/-- The convolution with three taps. -/
def conv (w0 w1 w2 : EReal) (u : Fin 2048 → EReal) (r : Fin 2048) : EReal :=
  w2 * u r + w1 * back 1 u r + w0 * back 2 u r

/-- The gradient of what is convolved. -/
def convGrad (w0 w1 w2 : EReal) (dy : Fin 2048 → EReal) (r : Fin 2048) : EReal :=
  w2 * dy r + w1 * fwd 1 dy r + w0 * fwd 2 dy r

/-- The token of sequence `b` at place `r`. -/
def place (b : Fin 2) (r : Fin 2048) : Fin 4096 := ⟨b.val * 2048 + r.val, by have := b.isLt; have := r.isLt; omega⟩

/-- A choice by a token's number, from below. -/
theorem pick_ge (n s : ℕ) (hn : n < 2048) (hs : s < 2048) (x y : EReal) :
    Scalar.select (IntOp.cmpi .sge (BitVec.ofNat 32 n) (BitVec.ofNat 32 s)) x y = if s ≤ n then x else y := by
  rw [cmpi_sge_ofNat (by omega) (by omega)]
  by_cases h : s ≤ n <;> simp [Scalar.select, h]

/-- A choice by a token's number, from above. -/
theorem pick_lt (n s : ℕ) (hn : n < 2048) (hs : s < 2048) (x y : EReal) :
    Scalar.select (IntOp.cmpi .slt (BitVec.ofNat 32 n) (BitVec.ofNat 32 s)) x y = if n < s then x else y := by
  rw [cmpi_slt_ofNat (by omega) (by omega)]
  by_cases h : n < s <;> simp [Scalar.select, h]

end Cert.Proof.Mm
-- ==== Proof.Mm.ConvGrad.lean ====
module

public import proofs.«01_k».proof.Proof.Mm.Sum
public import proofs.«01_k».proof.Proof.Gen.Kernel15Ideal.Value
public import proofs.«01_k».proof.Proof.Mm.Taps
public import Idealize.ShloMosaic.Lib.WritesUnit
public import Idealize.ShloMosaic.Lib.ValueIdx
public import Idealize.ShloMosaic.Lib.Pointwise

/-!
# The short gated convolution's gradient: what one block computes
-/

@[expose] public section

set_option maxRecDepth 8192

noncomputable section

namespace Cert.Kernel15Ideal.Product

open Idealize.ShloMosaic Idealize.ShloMosaic.TcCoe Cert.Kernel15Ideal Cert.Kernel15Ideal.Gen Idealize.SL.Sem

open Cert.Proof.Mm (back fwd conv convGrad place pick_ge pick_lt)

variable (m : (ℓ : Loc nD τ sig) → Buf (Elt Ideal) ℓ)

/-- The gated column, one token earlier. -/
theorem down1 (v1 v2 : Vec Ideal S2048x256 .f32) (j : S2048x256.Idx) :
    k0_pay4 (F := Ideal) v1 v2 j = back 1 (fun r => v1 (ix2 r (j 1)) * v2 (ix2 r (j 1))) (j 0) := by
  have hj : (j 0).val < 2048 := (j 0).isLt
  pointwise [k0_pay4, k0_pay3]
  rw [pick_ge _ 1 hj (by omega)]
  unfold back
  by_cases h : 1 ≤ (j 0).val
  · rw [if_pos h, if_pos h]
    have e : ((j 0).val + 2048 - 1) % 2048 = (j 0).val - 1 := by omega
    simp only [e]
  · rw [if_neg h, if_neg h]

/-- Two tokens earlier. -/
theorem down2 (v1 v2 : Vec Ideal S2048x256 .f32) (j : S2048x256.Idx) :
    k0_pay5 (F := Ideal) v1 v2 j = back 2 (fun r => v1 (ix2 r (j 1)) * v2 (ix2 r (j 1))) (j 0) := by
  have hj : (j 0).val < 2048 := (j 0).isLt
  pointwise [k0_pay5, k0_pay3]
  rw [pick_ge _ 2 hj (by omega)]
  unfold back
  by_cases h : 2 ≤ (j 0).val
  · rw [if_pos h, if_pos h]
    have e : ((j 0).val + 2048 - 2) % 2048 = (j 0).val - 2 := by omega
    simp only [e]
  · rw [if_neg h, if_neg h]

/-- The convolution of a block. -/
theorem conv_apply (v1 v2 : Vec Ideal S2048x256 .f32) (v16 v20 v25 : Vec Ideal S1x256 .f32) (j : S2048x256.Idx) :
    k0_pay6 (F := Ideal) v1 v2 v16 v20 v25 j
      = conv (v25 (ix2 0 (j 1))) (v20 (ix2 0 (j 1))) (v16 (ix2 0 (j 1))) (fun r => v1 (ix2 r (j 1)) * v2 (ix2 r (j 1))) (j 0) := by
  pointwise [k0_pay6, k0_pay3, down1, down2, conv]

/-- The gradient of the convolution's result. -/
theorem out_apply (v3 v4 : Vec Ideal S2048x256 .f32) (j : S2048x256.Idx) : k0_pay7 (F := Ideal) v3 v4 j = v4 j * v3 j := by
  pointwise [k0_pay7]

set_option maxRecDepth 65536 in
/-- The gradient of what is convolved, of a block. -/
theorem grad_apply (v3 v4 : Vec Ideal S2048x256 .f32) (v31 v35 v45 : Vec Ideal S1x256 .f32) (j : S2048x256.Idx) :
    k0_pay9 (F := Ideal) (iota .tc S2048x256 32 [0] iota_S2048x256_d0_w32) (k0_pay7 (F := Ideal) v3 v4) (k0_pay8 (F := Ideal) v3 v4 v31) v35 v45 j
      = convGrad (v45 (ix2 0 (j 1))) (v35 (ix2 0 (j 1))) (v31 (ix2 0 (j 1))) (fun r => v4 (ix2 r (j 1)) * v3 (ix2 r (j 1))) (j 0) := by
  have hj : (j 0).val < 2048 := (j 0).isLt
  pointwise [k0_pay9, k0_pay8, out_apply]
  rw [pick_lt _ 2047 hj (by omega), pick_lt _ 2046 hj (by omega)]
  unfold convGrad fwd
  have e0 : (ix2 (j 0) (j 1) : S2048x256.Idx) = j := funext (Fin.forall_fin_two.mpr ⟨rfl, rfl⟩)
  refine Cert.Proof.Mm.add_congr (Cert.Proof.Mm.add_congr (Cert.Proof.Mm.mul_congr rfl ?_) ?_) ?_
  · exact (congrArg (fun i : S2048x256.Idx => v4 i * v3 i) e0).symm
  · by_cases h : (j 0).val < 2047
    · have e : ((j 0).val + 2048 - 2047) % 2048 = (j 0).val + 1 := by omega
      rw [if_pos h, dif_pos (by omega)]
      simp only [e]
    · rw [if_neg h, dif_neg (by omega), mul_zero]
  · by_cases h : (j 0).val < 2046
    · have e : ((j 0).val + 2048 - 2046) % 2048 = (j 0).val + 2 := by omega
      rw [if_pos h, dif_pos (by omega)]
      simp only [e]
    · rw [if_neg h, dif_neg (by omega), mul_zero]

/-- The three parts of the gates' gradient. -/
theorem gate_apply (v4 v29 : Vec Ideal S2048x256 .f32) (j : S2048x256.Idx) : k0_pay10 (F := Ideal) v4 v29 j = v4 j * v29 j := by
  pointwise [k0_pay10]

theorem second_apply (v0 : IVec S2048x256 32) (v2 v30 v34 : Vec Ideal S2048x256 .f32) (v35 v45 : Vec Ideal S1x256 .f32) (j : S2048x256.Idx) :
    k0_pay11 (F := Ideal) v0 v2 v30 v34 v35 v45 j = k0_pay9 (F := Ideal) v0 v30 v34 v35 v45 j * v2 j := by
  unfold k0_pay11
  generalize k0_pay9 (F := Ideal) v0 v30 v34 v35 v45 = z
  pointwise

theorem third_apply (v0 : IVec S2048x256 32) (v1 v30 v34 : Vec Ideal S2048x256 .f32) (v35 v45 : Vec Ideal S1x256 .f32) (j : S2048x256.Idx) :
    k0_pay12 (F := Ideal) v0 v1 v30 v34 v35 v45 j = k0_pay9 (F := Ideal) v0 v30 v34 v35 v45 j * v1 j := by
  unfold k0_pay12
  generalize k0_pay9 (F := Ideal) v0 v30 v34 v35 v45 = z
  pointwise

/-- What a block adds to the three taps' gradients. -/
theorem tap0_apply (v15 v30 : FVec Ideal S2048x256 .f32) (v64 : Vec Ideal S1x256 .f32) (j : S1x256.Idx) :
    k0_pay14 (F := Ideal) v15 v30 v64 j = v64 j + ∑ k : Fin 2048, v30 (ix2 k (j 1)) * v15 (ix2 k (j 1)) := by
  pointwise [k0_pay14]

theorem tap1_apply (v15 v30 : FVec Ideal S2048x256 .f32) (v64 : Vec Ideal S1x256 .f32) (j : S1x256.Idx) :
    k0_pay1 (F := Ideal) v15 v30 v64 j = v64 j + ∑ k : Fin 2048, v30 (ix2 k (j 1)) * v15 (ix2 k (j 1)) := by
  pointwise [k0_pay1]

theorem tap2_apply (v15 v30 : FVec Ideal S2048x256 .f32) (v64 : Vec Ideal S1x256 .f32) (j : S1x256.Idx) :
    k0_pay2 (F := Ideal) v15 v30 v64 j = v64 j + ∑ k : Fin 2048, v30 (ix2 k (j 1)) * v15 (ix2 k (j 1)) := by
  pointwise [k0_pay2]

/-- The product that is convolved. -/
theorem product_apply (v1 v2 : Vec Ideal S2048x256 .f32) (j : S2048x256.Idx) : k0_pay3 (F := Ideal) v1 v2 j = v1 j * v2 j := by
  pointwise [k0_pay3]

/-- A buffer whose first three rows were written, at an entry. -/
theorem three_rows (v : View sig .tc .vmem S8x256 .f32) (f : v.ty.Contents (Elt Ideal)) (w2 w1 w0 : Vec Ideal S1x256 .f32)
    (L : List (View.Piece (Elt Ideal) S8x256 .f32)) (y : S8x256.Idx) :
    v.read (Elt Ideal) (v.writes (Elt Ideal) f (⟨Rect.unit ![2, 0] ![1, 256] inb_S8x256_S1x256_2_0, w2⟩
        :: ⟨Rect.unit ![1, 0] ![1, 256] inb_S8x256_S1x256_1_0, w1⟩ :: ⟨Rect.unit ![0, 0] ![1, 256] inb_S8x256_S1x256_0_0, w0⟩ :: L)) y
      = if (y 0).val = 2 then w2 (ix2 0 (y 1)) else if (y 0).val = 1 then w1 (ix2 0 (y 1)) else if (y 0).val = 0 then w0 (ix2 0 (y 1))
        else v.read (Elt Ideal) (v.writes (Elt Ideal) f L) y := by
  by_cases h2 : (y 0).val = 2
  · rw [if_pos h2]
    exact View.read_writes_cons_rows_of_mem (size := ![1, 256]) v f _ w2 _ y (show S1x256.Idx from ix2 0 (y 1)) rfl h2 rfl
  · rw [if_neg h2, View.read_writes_cons_rows_of_not_mem (size := ![1, 256]) (W := 1) v f _ w2 _ y rfl rfl (by omega)]
    by_cases h1 : (y 0).val = 1
    · rw [if_pos h1]
      exact View.read_writes_cons_rows_of_mem (size := ![1, 256]) v f _ w1 _ y (show S1x256.Idx from ix2 0 (y 1)) rfl h1 rfl
    · rw [if_neg h1, View.read_writes_cons_rows_of_not_mem (size := ![1, 256]) (W := 1) v f _ w1 _ y rfl rfl (by omega)]
      by_cases h0 : (y 0).val = 0
      · rw [if_pos h0]
        exact View.read_writes_cons_rows_of_mem (size := ![1, 256]) v f _ w0 _ y (show S1x256.Idx from ix2 0 (y 1)) rfl h0 rfl
      · rw [if_neg h0, View.read_writes_cons_rows_of_not_mem (size := ![1, 256]) (W := 1) v f _ w0 _ y rfl rfl (by omega)]

/-- A buffer cleared, at an entry. -/
theorem cleared (v : View sig .tc .vmem S8x256 .f32) (f : v.ty.Contents (Elt Ideal)) (y : S8x256.Idx) :
    v.read (Elt Ideal) (v.writes (Elt Ideal) f [⟨Rect.unit ![0, 0] ![8, 256] inb_S8x256_S8x256_0_0, k0_pay13 (F := Ideal)⟩]) y = 0 := by
  rw [View.read_writes_cons_rows_of_mem (size := ![8, 256]) v f _ _ _ y (show S8x256.Idx from y) rfl (Nat.zero_add _).symm rfl]
  pointwise [k0_pay13]

/-- What one sequence adds to the taps' gradients. -/
def part (dout bg cg hg : Vec Ideal S2048x256 .f32) (y : S8x256.Idx) : EReal :=
  if (y 0).val = 2 then ∑ k : Fin 2048, dout (ix2 k (y 1)) * bg (ix2 k (y 1)) * (cg (ix2 k (y 1)) * hg (ix2 k (y 1)))
  else if (y 0).val = 1 then ∑ k : Fin 2048, dout (ix2 k (y 1)) * bg (ix2 k (y 1)) * back 1 (fun r => cg (ix2 r (y 1)) * hg (ix2 r (y 1))) k
  else if (y 0).val = 0 then ∑ k : Fin 2048, dout (ix2 k (y 1)) * bg (ix2 k (y 1)) * back 2 (fun r => cg (ix2 r (y 1)) * hg (ix2 r (y 1))) k
  else 0

/-- The second grid point adds its sequence's part. -/
theorem later (c : Dev nD) (t : Fin cfg0.N) (h : t.val % 2 ≠ 0) (y : S8x256.Idx) :
    (outsAt0 m c t.val t.isLt).2 y
      = (outsAt0 m c (t.val - 1) (Nat.lt_of_le_of_lt (Nat.sub_le _ _) t.isLt)).2 y + part (iblk m c 0 t) (X0_1 m c t) (X0_2 m c t) (X0_3 m c t) y := by
  rw [outsAt0_B m c t h]
  frame_out
  rw [three_rows, tap0_apply, tap1_apply, tap2_apply, part]
  generalize (outsAt0 m c (t.val - 1) (Nat.lt_of_le_of_lt (Nat.sub_le _ _) t.isLt)).2 = p
  by_cases h2 : (y 0).val = 2
  · rw [if_pos h2, if_pos h2]
    refine Cert.Proof.Mm.add_congr ?_ (Cert.Proof.Mm.sum_congr fun k => Cert.Proof.Mm.mul_congr (out_apply _ _ _) (product_apply _ _ _))
    exact View.ld_unit_apply_of p _ _ _ _ y (Fin.forall_fin_two.mpr ⟨h2, (Nat.zero_add _).symm⟩)
  · rw [if_neg h2, if_neg h2]
    by_cases h1 : (y 0).val = 1
    · rw [if_pos h1, if_pos h1]
      refine Cert.Proof.Mm.add_congr ?_ (Cert.Proof.Mm.sum_congr fun k => Cert.Proof.Mm.mul_congr (out_apply _ _ _) (down1 _ _ _))
      exact View.ld_unit_apply_of p _ _ _ _ y (Fin.forall_fin_two.mpr ⟨h1, (Nat.zero_add _).symm⟩)
    · rw [if_neg h1, if_neg h1]
      by_cases h0 : (y 0).val = 0
      · rw [if_pos h0, if_pos h0]
        refine Cert.Proof.Mm.add_congr ?_ (Cert.Proof.Mm.sum_congr fun k => Cert.Proof.Mm.mul_congr (out_apply _ _ _) (down2 _ _ _))
        exact View.ld_unit_apply_of p _ _ _ _ y (Fin.forall_fin_two.mpr ⟨h0, (Nat.zero_add _).symm⟩)
      · rw [if_neg h0, if_neg h0, add_zero]
        exact congrFun ((Memref.IsWhole.read_unread (hs0_6 t) p)) y

/-- The first grid point stores its sequence's part. -/
theorem first (c : Dev nD) (t : Fin cfg0.N) (h : t.val % 2 = 0) (y : S8x256.Idx) :
    (outsAt0 m c t.val t.isLt).2 y = part (iblk m c 0 t) (X0_1 m c t) (X0_2 m c t) (X0_3 m c t) y := by
  rw [outsAt0_A m c t h]
  frame_out
  rw [← View.read_writes_junk_apply_eq_canon (ms0_6 t).view, three_rows, tap0_apply, tap1_apply, tap2_apply, part]
  by_cases h2 : (y 0).val = 2
  · rw [if_pos h2, if_pos h2, View.readCov_eq_canon']
    dsimp only
    rw [← View.read_writes_junk_apply_eq_canon (ms0_6 t).view,
      View.read_writes_cons_rows_of_not_mem (size := ![1, 256]) (W := 1) _ _ _ _ _ _ rfl rfl (Or.inr (le_refl 2)),
      View.read_writes_cons_rows_of_not_mem (size := ![1, 256]) (W := 1) _ _ _ _ _ _ rfl rfl (Or.inr (Nat.le_succ 1)), cleared, zero_add]
    exact Cert.Proof.Mm.sum_congr fun k => Cert.Proof.Mm.mul_congr (out_apply _ _ _) (product_apply _ _ _)
  · rw [if_neg h2, if_neg h2]
    by_cases h1 : (y 0).val = 1
    · rw [if_pos h1, if_pos h1, View.readCov_eq_canon']
      dsimp only
      rw [← View.read_writes_junk_apply_eq_canon (ms0_6 t).view,
        View.read_writes_cons_rows_of_not_mem (size := ![1, 256]) (W := 1) _ _ _ _ _ _ rfl rfl (Or.inr (le_of_eq rfl)), cleared, zero_add]
      exact Cert.Proof.Mm.sum_congr fun k => Cert.Proof.Mm.mul_congr (out_apply _ _ _) (down1 _ _ _)
    · rw [if_neg h1, if_neg h1]
      by_cases h0 : (y 0).val = 0
      · rw [if_pos h0, if_pos h0, View.readCov_eq_canon']
        dsimp only
        rw [← View.read_writes_junk_apply_eq_canon (ms0_6 t).view, cleared, zero_add]
        exact Cert.Proof.Mm.sum_congr fun k => Cert.Proof.Mm.mul_congr (out_apply _ _ _) (down2 _ _ _)
      · rw [if_neg h0, if_neg h0, cleared]

end Cert.Kernel15Ideal.Product
-- ==== Proof.Mm.ConvRows.lean ====
module

public import Idealize.ShloMosaic.Lib.Routing.OpsOne
public import Idealize.ShloMosaic.Lib.Routing.OpsSet
public import Idealize.ShloMosaic.Lib.ValueIdx

/-!
# Three rows written into an array of eight

The convolution's three taps are passed to the kernel as the first rows of an array of eight.
-/

@[expose] public section

noncomputable section

namespace Cert.Proof.Mm

open Idealize.ShloMosaic Idealize.ShloMosaic.Routing Idealize.ShloMosaic.ValueIdx

/-- Rows written from the start of the array: the row read is the row written. -/
theorem scatter_rows {α : Type} (d : ScatterDims (⟨2, ![8, 256]⟩ : Shape) ⟨1, ![1]⟩ ⟨2, ![3, 256]⟩) (x0 : (⟨2, ![8, 256]⟩ : Shape).Idx → α)
    (idx : IVec (⟨1, ![1]⟩ : Shape) 32) (upd : (⟨2, ![3, 256]⟩ : Shape).Idx → α) (hs : ∀ j a, d.start j idx a = 0)
    (hw0 : ∀ j, d.window j 0 = (j 0).val) (hw1 : ∀ j, d.window j 1 = (j 1).val) (k : Fin 3) (b : Fin 256) :
    Host.scatter d (fun _ b => b) x0 idx upd (ix2 (⟨k.val, lt_trans k.isLt (by decide)⟩ : Fin 8) b) = upd (ix2 k b) := by
  have lands : ∀ j : (⟨2, ![3, 256]⟩ : Shape).Idx,
      d.resultIdx? j idx = some (ix2 (⟨k.val, lt_trans k.isLt (by decide)⟩ : Fin 8) b) ↔ j = ix2 k b := by
    intro j
    rw [resultIdx?_ix2, hs, hs, hw0, hw1]
    constructor
    · intro h
      funext a
      match a with
      | ⟨0, _⟩ => exact Fin.ext (by have := h.1; simpa using this)
      | ⟨1, _⟩ => exact Fin.ext (by have := h.2; simpa using this)
    · rintro rfl
      simp
  exact scatter_set_hit d x0 idx upd _ _ (fun j hj => congrArg upd ((lands j).1 hj)) (ix2 k b) ((lands _).2 rfl)

end Cert.Proof.Mm
-- ==== Proof.Mm.ConvGradRun.lean ====
module

public import proofs.«01_k».proof.Proof.Mm.ConvGrad
public import proofs.«01_k».proof.Proof.Mm.ConvRows

/-!
# The short gated convolution's gradient: what the kernel's arrays hold

The kernel goes over the two sequences. It stores each sequence's gradients of the three gates side by side, and adds up the taps' gradients.
-/

@[expose] public section

set_option maxRecDepth 8192

noncomputable section

namespace Cert.Kernel15Ideal.Product

open Idealize.ShloMosaic Idealize.ShloMosaic.TcCoe Cert.Kernel15Ideal Cert.Kernel15Ideal.Gen Idealize.SL.Sem

open Cert.Proof.Mm (back fwd conv convGrad place)

/-- The column that is convolved: the product of two gates. -/
def colU (p : FVec Ideal S4096x3200 .f32) (b : Fin 2) (q : Fin 256) (r : Fin 2048) : EReal :=
  p (ix2 (place b r) ⟨2560 + q.val, by omega⟩) * p (ix2 (place b r) ⟨2816 + q.val, by omega⟩)

/-- The gradient of the convolution's result. -/
def colD (d : FVec Ideal S4096x1024 .f32) (p : FVec Ideal S4096x3200 .f32) (b : Fin 2) (q : Fin 256) (r : Fin 2048) : EReal :=
  d (ix2 (place b r) ⟨768 + q.val, by omega⟩) * p (ix2 (place b r) ⟨2304 + q.val, by omega⟩)

/-- The gradient of the product that is convolved. -/
def colG (d : FVec Ideal S4096x1024 .f32) (p : FVec Ideal S4096x3200 .f32) (w : FVec Ideal S3x256 .f32) (b : Fin 2) (q : Fin 256) (r : Fin 2048) : EReal :=
  convGrad (w (ix2 0 q)) (w (ix2 1 q)) (w (ix2 2 q)) (colD d p b q) r

/-- The three gates' gradients of one token, side by side. -/
def gateAt (d : FVec Ideal S4096x1024 .f32) (p : FVec Ideal S4096x3200 .f32) (w : FVec Ideal S3x256 .f32) (b : Fin 2) (r : Fin 2048) (j : Fin 768) : EReal :=
  if h : j.val < 256 then
    d (ix2 (place b r) ⟨768 + j.val, by omega⟩) * conv (w (ix2 0 ⟨j.val, h⟩)) (w (ix2 1 ⟨j.val, h⟩)) (w (ix2 2 ⟨j.val, h⟩)) (colU p b ⟨j.val, h⟩) r
  else if h2 : j.val < 512 then colG d p w b ⟨j.val - 256, by omega⟩ r * p (ix2 (place b r) ⟨2816 + (j.val - 256), by omega⟩)
  else colG d p w b ⟨j.val - 512, by omega⟩ r * p (ix2 (place b r) ⟨2560 + (j.val - 512), by omega⟩)

/-- The gates' gradients. -/
def gates (d : FVec Ideal S4096x1024 .f32) (p : FVec Ideal S4096x3200 .f32) (w : FVec Ideal S3x256 .f32) : FVec Ideal S4096x768 .f32 := fun i =>
  gateAt d p w ⟨(i 0).val / 2048, Nat.div_lt_of_lt_mul (i 0).isLt⟩ ⟨(i 0).val % 2048, Nat.mod_lt _ (by decide)⟩ (i 1)

/-- One sequence's gradients of the taps. -/
def tapAt (d : FVec Ideal S4096x1024 .f32) (p : FVec Ideal S4096x3200 .f32) (b : Fin 2) (y : S8x256.Idx) : EReal :=
  if (y 0).val = 2 then ∑ k : Fin 2048, colD d p b (y 1) k * colU p b (y 1) k
  else if (y 0).val = 1 then ∑ k : Fin 2048, colD d p b (y 1) k * back 1 (colU p b (y 1)) k
  else if (y 0).val = 0 then ∑ k : Fin 2048, colD d p b (y 1) k * back 2 (colU p b (y 1)) k
  else 0

/-- The taps' gradients, below them rows of zeros. -/
def taps (d : FVec Ideal S4096x1024 .f32) (p : FVec Ideal S4096x3200 .f32) : FVec Ideal S8x256 .f32 := fun y => tapAt d p 0 y + tapAt d p 1 y

theorem conv_congr {w0 w1 w2 v0 v1 v2 : EReal} {f g : Fin 2048 → EReal} (h0 : w0 = v0) (h1 : w1 = v1) (h2 : w2 = v2) (h : ∀ r, f r = g r) (r : Fin 2048) :
    conv w0 w1 w2 f r = conv v0 v1 v2 g r := by
  rw [h0, h1, h2, show f = g from funext h]

theorem convGrad_congr {w0 w1 w2 v0 v1 v2 : EReal} {f g : Fin 2048 → EReal} (h0 : w0 = v0) (h1 : w1 = v1) (h2 : w2 = v2) (h : ∀ r, f r = g r) (r : Fin 2048) :
    convGrad w0 w1 w2 f r = convGrad v0 v1 v2 g r := by
  rw [h0, h1, h2, show f = g from funext h]

theorem gateAt_congr (d : FVec Ideal S4096x1024 .f32) (p : FVec Ideal S4096x3200 .f32) (w : FVec Ideal S3x256 .f32) {b b' : Fin 2} {r r' : Fin 2048} {j j' : Fin 768}
    (hb : b.val = b'.val) (hr : r.val = r'.val) (hj : j.val = j'.val) : gateAt d p w b r j = gateAt d p w b' r' j' := by
  rw [Fin.ext hb, Fin.ext hr, Fin.ext hj]

variable (m : (ℓ : Loc nD τ sig) → Buf (Elt Ideal) ℓ)

/-- The blocks' places. -/
theorem index_facts : ∀ t : Fin grid0.N,
    ((cfg0.win 0).index t 0 = t.val ∧ (cfg0.win 0).index t 1 = 3) ∧ ((cfg0.win 1).index t 0 = t.val ∧ (cfg0.win 1).index t 1 = 9)
    ∧ ((cfg0.win 2).index t 0 = t.val ∧ (cfg0.win 2).index t 1 = 10) ∧ ((cfg0.win 3).index t 0 = t.val ∧ (cfg0.win 3).index t 1 = 11)
    ∧ ((cfg0.win 4).index t 0 = 0 ∧ (cfg0.win 4).index t 1 = 0) ∧ ((cfg0.win 5).index t 0 = t.val ∧ (cfg0.win 5).index t 1 = 0)
    ∧ ((cfg0.win 6).index t 0 = 0 ∧ (cfg0.win 6).index t 1 = 0) := by
  decide +kernel

/-- The taps, as the pipeline reads them. -/
theorem w_read (c : Dev nD) (k : Fin 3) (b : Fin 256) :
    V m c main_v2 (ix2 (⟨k.val, lt_trans k.isLt (by decide)⟩ : Fin 8) b) = m ((c : Thread nD τ).loc main_arg2) (ix2 k b) := by
  unfold V
  simp only [hostOps0]
  after_results
  refine Cert.Proof.Mm.scatter_rows _ _ _ _ ?_ ?_ ?_ k b
  · intro j a
    unfold ScatterDims.start
    split <;> rfl
  · exact fun j => rfl
  · exact fun j => rfl

/-- A tap of a block. -/
theorem w_block (c : Dev nD) (t : Fin cfg0.N) (k : Fin 3) (q : Fin 256) :
    iblk m c 4 t (ix2 (⟨k.val, lt_trans k.isLt (by decide)⟩ : Fin 8) q) = m ((c : Thread nD τ).loc main_arg2) (ix2 k q) := by
  blk_simp [iblk]
  show V m c main_v2 _ = _
  refine Eq.trans (congrArg _ ?_) (w_read m c k q)
  blk_ext [(index_facts t).2.2.2.2.1]

/-- The incoming gradient's block. -/
theorem d_block (c : Dev nD) (t : Fin cfg0.N) (b : Fin 2) (hb : b.val = t.val) (r : Fin 2048) (q : Fin 256) :
    iblk m c 0 t (ix2 r q) = m ((c : Thread nD τ).loc main_arg0) (ix2 (place b r) ⟨768 + q.val, by omega⟩) := by
  blk_simp [iblk]
  show V m c main_arg0 _ = _
  rw [V_main_arg0]
  refine congrArg _ ?_
  have e := (index_facts t).1
  blk_ext [e, place, hb]

/-- The output gate's block. -/
theorem p_block1 (c : Dev nD) (t : Fin cfg0.N) (b : Fin 2) (hb : b.val = t.val) (r : Fin 2048) (q : Fin 256) :
    X0_1 m c t (ix2 r q) = m ((c : Thread nD τ).loc main_arg1) (ix2 (place b r) ⟨2304 + q.val, by omega⟩) := by
  unfold X0_1 Pipeline.Window.fill
  rw [dif_pos (moved0_1 t (ix2 r q))]
  unfold iblk
  rw [View.read_apply, cast_eq]
  show V m c main_arg1 _ = _
  rw [V_main_arg1]
  refine congrArg _ (funext fun a => Fin.ext ?_)
  refine (Pipeline.Window.rect_emb_val (cfg0.win 1) t _ a).trans ?_
  match a with
  | ⟨0, _⟩ => show (cfg0.win 1).index t 0 * 2048 + r.val = b.val * 2048 + r.val; rw [(index_facts t).2.1.1, hb]
  | ⟨1, _⟩ => show (cfg0.win 1).index t 1 * 256 + q.val = 2304 + q.val; rw [(index_facts t).2.1.2]

/-- The first input gate's block. -/
theorem p_block2 (c : Dev nD) (t : Fin cfg0.N) (b : Fin 2) (hb : b.val = t.val) (r : Fin 2048) (q : Fin 256) :
    X0_2 m c t (ix2 r q) = m ((c : Thread nD τ).loc main_arg1) (ix2 (place b r) ⟨2560 + q.val, by omega⟩) := by
  unfold X0_2 Pipeline.Window.fill
  rw [dif_pos (moved0_2 t (ix2 r q))]
  unfold iblk
  rw [View.read_apply, cast_eq]
  show V m c main_arg1 _ = _
  rw [V_main_arg1]
  refine congrArg _ (funext fun a => Fin.ext ?_)
  refine (Pipeline.Window.rect_emb_val (cfg0.win 2) t _ a).trans ?_
  match a with
  | ⟨0, _⟩ => show (cfg0.win 2).index t 0 * 2048 + r.val = b.val * 2048 + r.val; rw [(index_facts t).2.2.1.1, hb]
  | ⟨1, _⟩ => show (cfg0.win 2).index t 1 * 256 + q.val = 2560 + q.val; rw [(index_facts t).2.2.1.2]

/-- The second input gate's block. -/
theorem p_block3 (c : Dev nD) (t : Fin cfg0.N) (b : Fin 2) (hb : b.val = t.val) (r : Fin 2048) (q : Fin 256) :
    X0_3 m c t (ix2 r q) = m ((c : Thread nD τ).loc main_arg1) (ix2 (place b r) ⟨2816 + q.val, by omega⟩) := by
  unfold X0_3 Pipeline.Window.fill
  rw [dif_pos (moved0_3 t (ix2 r q))]
  unfold iblk
  rw [View.read_apply, cast_eq]
  show V m c main_arg1 _ = _
  rw [V_main_arg1]
  refine congrArg _ (funext fun a => Fin.ext ?_)
  refine (Pipeline.Window.rect_emb_val (cfg0.win 3) t _ a).trans ?_
  match a with
  | ⟨0, _⟩ => show (cfg0.win 3).index t 0 * 2048 + r.val = b.val * 2048 + r.val; rw [(index_facts t).2.2.2.1.1, hb]
  | ⟨1, _⟩ => show (cfg0.win 3).index t 1 * 256 + q.val = 2816 + q.val; rw [(index_facts t).2.2.2.1.2]

/-- A buffer written in three column ranges, at an entry. -/
theorem three_cols (v : View sig .tc .vmem S2048x768 .f32) (f : v.ty.Contents (Elt Ideal)) (w2 w1 w0 : Vec Ideal S2048x256 .f32) (y : S2048x768.Idx) :
    v.read (Elt Ideal) (v.writes (Elt Ideal) f [⟨Rect.unit ![0, 512] ![2048, 256] inb_S2048x768_S2048x256_0_512, w2⟩,
        ⟨Rect.unit ![0, 256] ![2048, 256] inb_S2048x768_S2048x256_0_256, w1⟩, ⟨Rect.unit ![0, 0] ![2048, 256] inb_S2048x768_S2048x256_0_0, w0⟩]) y
      = if h : (y 1).val < 256 then w0 (ix2 (y 0) ⟨(y 1).val, h⟩)
        else if h2 : (y 1).val < 512 then w1 (ix2 (y 0) ⟨(y 1).val - 256, by omega⟩)
        else w2 (ix2 (y 0) ⟨(y 1).val - 512, by have : (y 1).val < 768 := (y 1).isLt; omega⟩) := by
  have hy : (y 1).val < 768 := (y 1).isLt
  by_cases h : (y 1).val < 256
  · rw [dif_pos h, View.read_writes_cons_unit_of_not_mem (off' := ![0, 512]) (size := ![2048, 256]) v f _ w2 _ y rfl 1 (Or.inl (by show (y 1).val < 512; omega)),
      View.read_writes_cons_unit_of_not_mem (off' := ![0, 256]) (size := ![2048, 256]) v f _ w1 _ y rfl 1 (Or.inl h)]
    exact View.read_writes_cons_unit_of_mem v f _ w0 _ y (show S2048x256.Idx from ix2 (y 0) ⟨(y 1).val, h⟩) rfl
      (Fin.forall_fin_two.mpr ⟨(Nat.zero_add _).symm, (Nat.zero_add _).symm⟩)
  · rw [dif_neg h]
    by_cases h2 : (y 1).val < 512
    · rw [dif_pos h2, View.read_writes_cons_unit_of_not_mem (off' := ![0, 512]) (size := ![2048, 256]) v f _ w2 _ y rfl 1 (Or.inl h2)]
      exact View.read_writes_cons_unit_of_mem v f _ w1 _ y (show S2048x256.Idx from ix2 (y 0) ⟨(y 1).val - 256, by omega⟩) rfl
        (Fin.forall_fin_two.mpr ⟨(Nat.zero_add _).symm, by show (y 1).val = 256 + ((y 1).val - 256); omega⟩)
    · rw [dif_neg h2]
      exact View.read_writes_cons_unit_of_mem v f _ w2 _ y (show S2048x256.Idx from ix2 (y 0) ⟨(y 1).val - 512, by omega⟩) rfl
        (Fin.forall_fin_two.mpr ⟨(Nat.zero_add _).symm, by show (y 1).val = 512 + ((y 1).val - 512); omega⟩)

/-- A tap, as a block reads it. -/
theorem tap_row (c : Dev nD) (t : Fin cfg0.N) (k : Fin 3) (inb : ∀ a, (![k.val, 0] : Fin 2 → ℕ) a + S1x256.size a ≤ S8x256.size a) (q : Fin 256) :
    View.ld (iblk m c 4 t) (Rect.unit ![k.val, 0] S1x256.size inb) (ix2 0 q) = m ((c : Thread nD τ).loc main_arg2) (ix2 k q) := by
  refine Eq.trans ?_ (w_block m c t k q)
  exact View.ld_unit_apply_of (iblk m c 4 t) _ _ _ _ (ix2 (⟨k.val, lt_trans k.isLt (by decide)⟩ : Fin 8) q)
    (Fin.forall_fin_two.mpr ⟨rfl, (Nat.zero_add _).symm⟩)

/-- The gradient of the product that is convolved, in a block. -/
theorem grad_block (c : Dev nD) (t : Fin cfg0.N) (b : Fin 2) (hb : b.val = t.val) (r : Fin 2048) (q : Fin 256) :
    k0_pay9 (F := Ideal) (iota .tc S2048x256 32 [0] iota_S2048x256_d0_w32) (k0_pay7 (F := Ideal) (X0_1 m c t) (iblk m c 0 t))
        (k0_pay8 (F := Ideal) (X0_1 m c t) (iblk m c 0 t) (View.ld (iblk m c 4 t) (Rect.unit ![2, 0] ![1, 256] inb_S8x256_S1x256_2_0)))
        (View.ld (iblk m c 4 t) (Rect.unit ![1, 0] ![1, 256] inb_S8x256_S1x256_1_0))
        (View.ld (iblk m c 4 t) (Rect.unit ![0, 0] ![1, 256] inb_S8x256_S1x256_0_0)) (ix2 r q)
      = colG (m ((c : Thread nD τ).loc main_arg0)) (m ((c : Thread nD τ).loc main_arg1)) (m ((c : Thread nD τ).loc main_arg2)) b q r := by
  rw [grad_apply, colG]
  exact convGrad_congr (tap_row m c t 0 _ q) (tap_row m c t 1 _ q) (tap_row m c t 2 _ q)
    (fun r => Cert.Proof.Mm.mul_congr (d_block m c t b hb r q) (p_block1 m c t b hb r q)) r

/-- The three stores of a block, at an entry. -/
theorem stores (c : Dev nD) (t : Fin cfg0.N) (b : Fin 2) (hb : b.val = t.val) (y : S2048x768.Idx) :
    View.canon (Val := Elt Ideal) (s := S2048x768) (e := .f32)
      [⟨Rect.unit ![0, 512] ![2048, 256] inb_S2048x768_S2048x256_0_512,
          k0_pay12 (iota Kind.tc S2048x256 32 [0] iota_S2048x256_d0_w32) (X0_2 m c t)
            (k0_pay7 (X0_1 m c t) (iblk m c 0 t))
            (k0_pay8 (X0_1 m c t) (iblk m c 0 t)
              (View.ld (iblk m c 4 t) (Rect.unit ![2, 0] ![1, 256] inb_S8x256_S1x256_2_0)))
            (View.ld (iblk m c 4 t) (Rect.unit ![1, 0] ![1, 256] inb_S8x256_S1x256_1_0))
            (View.ld (iblk m c 4 t) (Rect.unit ![0, 0] ![1, 256] inb_S8x256_S1x256_0_0))⟩,
        ⟨Rect.unit ![0, 256] ![2048, 256] inb_S2048x768_S2048x256_0_256,
          k0_pay11 (iota Kind.tc S2048x256 32 [0] iota_S2048x256_d0_w32) (X0_3 m c t)
            (k0_pay7 (X0_1 m c t) (iblk m c 0 t))
            (k0_pay8 (X0_1 m c t) (iblk m c 0 t)
              (View.ld (iblk m c 4 t) (Rect.unit ![2, 0] ![1, 256] inb_S8x256_S1x256_2_0)))
            (View.ld (iblk m c 4 t) (Rect.unit ![1, 0] ![1, 256] inb_S8x256_S1x256_1_0))
            (View.ld (iblk m c 4 t) (Rect.unit ![0, 0] ![1, 256] inb_S8x256_S1x256_0_0))⟩,
        ⟨Rect.unit ![0, 0] ![2048, 256] inb_S2048x768_S2048x256_0_0,
          k0_pay10 (iblk m c 0 t)
            (k0_pay6 (X0_2 m c t) (X0_3 m c t)
              (View.ld (iblk m c 4 t) (Rect.unit ![2, 0] ![1, 256] inb_S8x256_S1x256_2_0))
              (View.ld (iblk m c 4 t) (Rect.unit ![1, 0] ![1, 256] inb_S8x256_S1x256_1_0))
              (View.ld (iblk m c 4 t) (Rect.unit ![0, 0] ![1, 256] inb_S8x256_S1x256_0_0)))⟩]
      y
      = gateAt (m ((c : Thread nD τ).loc main_arg0)) (m ((c : Thread nD τ).loc main_arg1)) (m ((c : Thread nD τ).loc main_arg2)) b (y 0) (y 1) := by
  rw [← View.read_writes_junk_apply_eq_canon (ms0_5 t).view, three_cols]
  unfold gateAt
  by_cases h : (y 1).val < 256
  · rw [dif_pos h, dif_pos h, gate_apply, conv_apply]
    exact Cert.Proof.Mm.mul_congr (d_block m c t b hb (y 0) ⟨(y 1).val, h⟩)
      (conv_congr (tap_row m c t 0 _ _) (tap_row m c t 1 _ _) (tap_row m c t 2 _ _)
        (fun r => Cert.Proof.Mm.mul_congr (p_block2 m c t b hb r _) (p_block3 m c t b hb r _)) _)
  · rw [dif_neg h, dif_neg h]
    by_cases h2 : (y 1).val < 512
    · rw [dif_pos h2, dif_pos h2, second_apply]
      exact Cert.Proof.Mm.mul_congr (grad_block m c t b hb _ _) (p_block3 m c t b hb _ _)
    · rw [dif_neg h2, dif_neg h2, third_apply]
      exact Cert.Proof.Mm.mul_congr (grad_block m c t b hb _ _) (p_block2 m c t b hb _ _)

/-- The gates' gradients of a block. -/
theorem gates_block (c : Dev nD) (t : Fin cfg0.N) (b : Fin 2) (hb : b.val = t.val) (y : S2048x768.Idx) :
    (outsAt0 m c t.val t.isLt).1 y
      = gateAt (m ((c : Thread nD τ).loc main_arg0)) (m ((c : Thread nD τ).loc main_arg1)) (m ((c : Thread nD τ).loc main_arg2)) b (y 0) (y 1) := by
  by_cases h : t.val % 2 = 0
  · rw [outsAt0_A m c t h]
    frame_out
    exact stores m c t b hb y
  · rw [outsAt0_B m c t h]
    frame_out
    exact stores m c t b hb y

/-- The gates' array at the end. -/
theorem final_gates (c : Dev nD) : (dats m 0 c).arrAt 5 cfg0.N
    = gates (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 2 := t.isLt
  have e := (index_facts t).2.2.2.2.2.1
  blk_simp
  rw [after0_5, gates_block m c t ⟨t.val, ht⟩ rfl]
  unfold gates
  have hr : (y 0).val < 2048 := (y 0).isLt
  refine gateAt_congr _ _ _ ?_ ?_ ?_
  · show t.val = ((cfg0.win 5).index t 0 * 2048 + 1 * (y 0).val) / 2048
    rw [e.1]; omega
  · show (y 0).val = ((cfg0.win 5).index t 0 * 2048 + 1 * (y 0).val) % 2048
    rw [e.1]; omega
  · show (y 1).val = (cfg0.win 5).index t 1 * 768 + 1 * (y 1).val
    rw [e.2]; omega

/-- A block's part of the taps' gradients. -/
theorem part_block (c : Dev nD) (t : Fin cfg0.N) (b : Fin 2) (hb : b.val = t.val) (y : S8x256.Idx) :
    part (iblk m c 0 t) (X0_1 m c t) (X0_2 m c t) (X0_3 m c t) y
      = tapAt (m ((c : Thread nD τ).loc main_arg0)) (m ((c : Thread nD τ).loc main_arg1)) b y := by
  have hd : ∀ r : Fin 2048, @HMul.hMul EReal EReal EReal _ (iblk m c 0 t (ix2 r (y 1))) (X0_1 m c t (ix2 r (y 1)))
      = colD (m ((c : Thread nD τ).loc main_arg0)) (m ((c : Thread nD τ).loc main_arg1)) b (y 1) r :=
    fun r => Cert.Proof.Mm.mul_congr (d_block m c t b hb r (y 1)) (p_block1 m c t b hb r (y 1))
  have hu : (fun r : Fin 2048 => @HMul.hMul EReal EReal EReal _ (X0_2 m c t (ix2 r (y 1))) (X0_3 m c t (ix2 r (y 1)))) = colU (m ((c : Thread nD τ).loc main_arg1)) b (y 1) :=
    funext fun r => Cert.Proof.Mm.mul_congr (p_block2 m c t b hb r (y 1)) (p_block3 m c t b hb r (y 1))
  unfold part tapAt
  by_cases h2 : (y 0).val = 2
  · rw [if_pos h2, if_pos h2]
    exact Cert.Proof.Mm.sum_congr fun k => Cert.Proof.Mm.mul_congr (hd k) (congrFun hu k)
  · rw [if_neg h2, if_neg h2]
    by_cases h1 : (y 0).val = 1
    · rw [if_pos h1, if_pos h1]
      exact Cert.Proof.Mm.sum_congr fun k => Cert.Proof.Mm.mul_congr (hd k) (congrArg (fun f => back 1 f k) hu)
    · rw [if_neg h1, if_neg h1]
      by_cases h0 : (y 0).val = 0
      · rw [if_pos h0, if_pos h0]
        exact Cert.Proof.Mm.sum_congr fun k => Cert.Proof.Mm.mul_congr (hd k) (congrArg (fun f => back 2 f k) hu)
      · rw [if_neg h0, if_neg h0]

/-- The taps' gradients after the first grid point. -/
theorem start_taps (c : Dev nD) (n : ℕ) (hn : n < cfg0.N) (h : n = 0) (y : S8x256.Idx) :
    (outsAt0 m c n hn).2 y = tapAt (m ((c : Thread nD τ).loc main_arg0)) (m ((c : Thread nD τ).loc main_arg1)) 0 y := by
  subst h
  exact (first m c ⟨0, hn⟩ rfl y).trans (part_block m c _ 0 rfl y)

/-- The taps' array at the end. -/
theorem final_taps (c : Dev nD) : (dats m 0 c).arrAt 6 cfg0.N
    = taps (m ((c : Thread nD τ).loc main_arg0)) (m ((c : Thread nD τ).loc main_arg1)) := by
  refine (dats m 0 c).arrAt_eq_of_covers 6 _ (by decide +kernel) fun t hf y => ?_
  have h1 : t.val % 2 = 1 := (flush0_6 t).mp hf
  have ht : t.val < 2 := t.isLt
  have e := (index_facts t).2.2.2.2.2.2
  blk_simp
  rw [after0_6, later m c t (by omega), part_block m c t 1 (by show 1 = t.val; omega), start_taps m c _ _ (by omega) y]
  show taps _ _ y = _
  refine congrArg (taps _ _) ?_
  blk_ext [e]

/-- The kernel's run: its results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v3_0)
        = gates (m ((c : Thread nD τ).loc main_arg0)) (m ((c : Thread nD τ).loc main_arg1)) (m ((c : Thread nD τ).loc main_arg2))
      ∧ r.2.mem ((c : Thread nD τ).loc main_v3_1) = taps (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_gates m c), (h c).2.1.trans (final_taps m c), (h c).2.2⟩)
    (Cert.Kernel15Ideal.Value.run_blocks m ρ)

end Cert.Kernel15Ideal.Product
-- ==== Proof.Mm.ConvGradRef.lean ====
module

public import proofs.«01_k».proof.Proof.Mm.ConvGradRun
public import proofs.«01_k».proof.Proof.Gen.Reference15Ideal.Run

/-!
# The short gated convolution's gradient: what the reference computes
-/

@[expose] public section

set_option maxRecDepth 8192

noncomputable section

namespace Cert.Reference15Ideal.Product

open Idealize.ShloMosaic Idealize.ShloMosaic.TcCoe Cert.Reference15Ideal Cert.Reference15Ideal.Gen Idealize.SL.Sem

open Cert.Proof.Mm (back fwd conv convGrad place)

open Cert.Kernel15Ideal.Product (colU colD colG gateAt gates tapAt taps)

variable (d : FVec Ideal S4096x1024 .f32) (p : FVec Ideal S4096x3200 .f32) (w : FVec Ideal S3x256 .f32)

/-- The output gate of the two sequences. -/
def gateB : FVec Ideal S2x2048x256 .f32 :=
  extractStridedSlice S2x2048x256 ![0, 0, 2304] (shapeCast _ p shapeCasts_S4096x3200_S2x2048x3200) slices_S2x2048x3200_S2x2048x256_0_0_2304

/-- The first input gate. -/
def gateC : FVec Ideal S2x2048x256 .f32 :=
  extractStridedSlice S2x2048x256 ![0, 0, 2560] (shapeCast _ p shapeCasts_S4096x3200_S2x2048x3200) slices_S2x2048x3200_S2x2048x256_0_0_2560

/-- The second input gate. -/
def gateH : FVec Ideal S2x2048x256 .f32 :=
  extractStridedSlice S2x2048x256 ![0, 0, 2816] (shapeCast _ p shapeCasts_S4096x3200_S2x2048x3200) slices_S2x2048x3200_S2x2048x256_0_0_2816

/-- The incoming gradient. -/
def incoming : FVec Ideal S2x2048x256 .f32 :=
  shapeCast _ (extractStridedSlice S4096x256 ![0, 768] d slices_S4096x1024_S4096x256_0_768) shapeCasts_S4096x256_S2x2048x256

/-- What is convolved, after two zeros. -/
def past : FVec Ideal S2x2050x256 .f32 :=
  concatenate S2x2050x256 1 [⟨S2x2x256, (broadcastInDim S2x2x256 ![] bcast_S_S2x2x256 (constant S_ .f32 0x00000000#32))⟩,
    ⟨S2x2048x256, (mulf (gateC p) (gateH p))⟩] concatenates_S2x2x256_S2x2048x256_S2x2050x256_d1

/-- The taps over the two sequences. -/
def tap0 : FVec Ideal S2x2048x256 .f32 :=
  broadcastInDim S2x2048x256 ![0, 1, 2] bcast_S1x1x256_S2x2048x256_0_1_2 (broadcastInDim S1x1x256 ![2] bcast_S256_S1x1x256_2
    (shapeCast _ (extractStridedSlice S1x256 ![0, 0] w slices_S3x256_S1x256_0_0) shapeCasts_S1x256_S256))

def tap1 : FVec Ideal S2x2048x256 .f32 :=
  broadcastInDim S2x2048x256 ![0, 1, 2] bcast_S1x1x256_S2x2048x256_0_1_2 (broadcastInDim S1x1x256 ![2] bcast_S256_S1x1x256_2
    (shapeCast _ (extractStridedSlice S1x256 ![1, 0] w slices_S3x256_S1x256_1_0) shapeCasts_S1x256_S256))

def tap2 : FVec Ideal S2x2048x256 .f32 :=
  broadcastInDim S2x2048x256 ![0, 1, 2] bcast_S1x1x256_S2x2048x256_0_1_2 (broadcastInDim S1x1x256 ![2] bcast_S256_S1x1x256_2
    (shapeCast _ (extractStridedSlice S1x256 ![2, 0] w slices_S3x256_S1x256_2_0) shapeCasts_S1x256_S256))

/-- The gradient of the convolution's result. -/
def dy : FVec Ideal S2x2048x256 .f32 := mulf (gateB p) (incoming d)

/-- The convolution. -/
def convolved : FVec Ideal S2x2048x256 .f32 :=
  addf (addf (addf (broadcastInDim S2x2048x256 ![] bcast_S_S2x2048x256 (constant S_ .f32 0x00000000#32))
      (mulf (tap0 w) (extractStridedSlice S2x2048x256 ![0, 0, 0] (past p) slices_S2x2050x256_S2x2048x256_0_0_0)))
      (mulf (tap1 w) (extractStridedSlice S2x2048x256 ![0, 1, 0] (past p) slices_S2x2050x256_S2x2048x256_0_1_0)))
    (mulf (tap2 w) (extractStridedSlice S2x2048x256 ![0, 2, 0] (past p) slices_S2x2050x256_S2x2048x256_0_2_0))

/-- The gradient of what is convolved. -/
def du : FVec Ideal S2x2048x256 .f32 :=
  extractStridedSlice S2x2048x256 ![0, 2, 0] (addf (addf
      (pad S2x2050x256 ![0, 2, 0] ![0, 0, 0] ![0, 0, 0] (mulf (tap2 w) (dy d p)) (constant S_ .f32 0x00000000#32) pads_S2x2048x256_S2x2050x256_000_200_000 h_S_)
      (pad S2x2050x256 ![0, 1, 0] ![0, 1, 0] ![0, 0, 0] (mulf (tap1 w) (dy d p)) (constant S_ .f32 0x00000000#32) pads_S2x2048x256_S2x2050x256_000_110_000 h_S_))
      (pad S2x2050x256 ![0, 0, 0] ![0, 2, 0] ![0, 0, 0] (mulf (tap0 w) (dy d p)) (constant S_ .f32 0x00000000#32) pads_S2x2048x256_S2x2050x256_000_020_000 h_S_))
    slices_S2x2050x256_S2x2048x256_0_2_0

/-- The gates' gradients. -/
def hostGates : FVec Ideal S4096x768 .f32 :=
  shapeCast _ ((concatenate S2x2048x768 2 [⟨S2x2048x256, mulf (incoming d) (convolved p w)⟩, ⟨S2x2048x256, mulf (du d p w) (gateH p)⟩,
    ⟨S2x2048x256, mulf (gateC p) (du d p w)⟩] concatenates_S2x2048x256_S2x2048x256_S2x2048x256_S2x2048x768_d2)) shapeCasts_S2x2048x768_S4096x768

/-- A tap's gradient: a sum over both sequences. -/
def total (z : FVec Ideal S2x2048x256 .f32) : FVec Ideal S1x256 .f32 :=
  broadcastInDim S1x256 ![1] bcast_S256_S1x256_1 (Host.reduceAdd (shapeCast _ (Host.reduceAdd z (constant S_ .f32 0x00000000#32)
    reducesTo_S2x2048x256_S256_d0_1 h_S_) shapeCasts_S256_S1x1x256) (constant S_ .f32 0x00000000#32) reducesTo_S1x1x256_S256_d0_1 h_S_)

/-- The taps' gradients, with rows of zeros below. -/
def hostTaps : FVec Ideal S8x256 .f32 :=
  pad S8x256 ![0, 0] ![5, 0] ![0, 0] (addf (addf
      (pad S3x256 ![2, 0] ![0, 0] ![0, 0] (total (mulf (dy d p) (extractStridedSlice S2x2048x256 ![0, 2, 0] (past p) slices_S2x2050x256_S2x2048x256_0_2_0)))
        (constant S_ .f32 0x00000000#32) pads_S1x256_S3x256_200_000 h_S_)
      (pad S3x256 ![1, 0] ![1, 0] ![0, 0] (total (mulf (dy d p) (extractStridedSlice S2x2048x256 ![0, 1, 0] (past p) slices_S2x2050x256_S2x2048x256_0_1_0)))
        (constant S_ .f32 0x00000000#32) pads_S1x256_S3x256_110_000 h_S_))
      (pad S3x256 ![0, 0] ![2, 0] ![0, 0] (total (mulf (dy d p) (extractStridedSlice S2x2048x256 ![0, 0, 0] (past p) slices_S2x2050x256_S2x2048x256_0_0_0)))
        (constant S_ .f32 0x00000000#32) pads_S1x256_S3x256_020_000 h_S_))
    (sitofp .f32 (constantI S_ 32 0#32)) pads_S3x256_S8x256_050_000 h_S_

theorem reference_gates (m : (ℓ : Loc nD τ sig) → Buf (Elt Ideal) ℓ) (c : Dev nD) : Value.res_main_v71 m c
    = hostGates (m ((c.tc : Thread nD τ).loc main_arg0)) (m ((c.tc : Thread nD τ).loc main_arg1)) (m ((c.tc : Thread nD τ).loc main_arg2)) := rfl

theorem reference_taps (m : (ℓ : Loc nD τ sig) → Buf (Elt Ideal) ℓ) (c : Dev nD) : Value.res_main_v72 m c
    = hostTaps (m ((c.tc : Thread nD τ).loc main_arg0)) (m ((c.tc : Thread nD τ).loc main_arg1)) := rfl

theorem gateC_apply (i : S2x2048x256.Idx) : gateC p i = p (ix2 (place (i 0) (i 1)) ⟨2560 + (i 2).val, by have : (i 2).val < 256 := (i 2).isLt; omega⟩) := by
  pointwise [gateC]
  rfl

theorem gateH_apply (i : S2x2048x256.Idx) : gateH p i = p (ix2 (place (i 0) (i 1)) ⟨2816 + (i 2).val, by have : (i 2).val < 256 := (i 2).isLt; omega⟩) := by
  pointwise [gateH]
  rfl

theorem gateB_apply (i : S2x2048x256.Idx) : gateB p i = p (ix2 (place (i 0) (i 1)) ⟨2304 + (i 2).val, by have : (i 2).val < 256 := (i 2).isLt; omega⟩) := by
  pointwise [gateB]
  rfl

theorem incoming_apply (i : S2x2048x256.Idx) : incoming d i = d (ix2 (place (i 0) (i 1)) ⟨768 + (i 2).val, by have : (i 2).val < 256 := (i 2).isLt; omega⟩) := by
  pointwise [incoming]
  rfl

theorem tap0_apply (i : S2x2048x256.Idx) : tap0 w i = w (ix2 0 (i 2)) := by
  pointwise [tap0]

theorem tap1_apply (i : S2x2048x256.Idx) : tap1 w i = w (ix2 1 (i 2)) := by
  pointwise [tap1]

theorem tap2_apply (i : S2x2048x256.Idx) : tap2 w i = w (ix2 2 (i 2)) := by
  pointwise [tap2]

theorem past_apply (i : S2x2050x256.Idx) : past p i = if h : 2 ≤ (i 1).val then colU p (i 0) (i 2) ⟨(i 1).val - 2, by have : (i 1).val < 2050 := (i 1).isLt; omega⟩ else 0 := by
  pointwise [past]
  by_cases h : (i 1).val < 2
  · rw [dif_pos h, dif_neg (by omega)]
  · rw [dif_neg h, dif_pos (by omega), gateC_apply, gateH_apply]
    rfl

theorem dy_apply (i : S2x2048x256.Idx) : dy d p i = colD d p (i 0) (i 2) (i 1) := by
  pointwise [dy]
  rw [gateB_apply, incoming_apply, mul_comm]
  rfl

theorem back_zero (f : Fin 2048 → EReal) (k : Fin 2048) : back 0 f k = f k := if_pos (Nat.zero_le _)

theorem past_back (s : ℕ) (hs : s ≤ 2) (b : Fin 2) (k : Fin 2048) (q : Fin 256) (n : Fin 2050) (hn : n.val = s + k.val) :
    past p (ix3 b n q) = back (2 - s) (colU p b q) k := by
  rw [past_apply, back]
  show (if h : 2 ≤ n.val then colU p b q ⟨n.val - 2, _⟩ else 0) = _
  by_cases h : 2 ≤ n.val
  · rw [dif_pos h, if_pos (by omega)]
    exact congrArg _ (Fin.ext (by show n.val - 2 = k.val - (2 - s); omega))
  · rw [dif_neg h, if_neg (by omega)]

theorem convolved_apply (i : S2x2048x256.Idx) : convolved p w i = conv (w (ix2 0 (i 2))) (w (ix2 1 (i 2))) (w (ix2 2 (i 2))) (colU p (i 0) (i 2)) (i 1) := by
  have hi : (i 1).val < 2048 := (i 1).isLt
  pointwise [convolved]
  refine (Cert.Proof.Mm.add_congr (Cert.Proof.Mm.add_congr
    (Cert.Proof.Mm.mul_congr (tap0_apply w i) (past_back p 0 (by decide) (i 0) (i 1) (i 2) _ (Nat.zero_add _).symm))
    (Cert.Proof.Mm.mul_congr (tap1_apply w i) (past_back p 1 (by decide) (i 0) (i 1) (i 2) _ rfl)))
    (Cert.Proof.Mm.mul_congr (tap2_apply w i) ((past_back p 2 le_rfl (i 0) (i 1) (i 2) _ rfl).trans (back_zero _ _)))).trans ?_
  unfold conv
  rw [add_comm, add_comm (w (ix2 0 (i 2)) * _), ← add_assoc]

theorem du_apply (i : S2x2048x256.Idx) : du d p w i = colG d p w (i 0) (i 2) (i 1) := by
  have hi : (i 1).val < 2048 := (i 1).isLt
  pointwise [du]
  unfold colG convGrad fwd
  refine Cert.Proof.Mm.add_congr (Cert.Proof.Mm.add_congr (Cert.Proof.Mm.mul_congr (tap2_apply w i) (dy_apply d p i)) ?_) ?_
  · by_cases h : (i 1).val + 1 < 2048
    · have e : 2 + (i 1).val - 1 = (i 1).val + 1 := by omega
      rw [dif_pos (by omega), dif_pos h, tap1_apply, dy_apply]
      simp only [e]
      rfl
    · rw [dif_neg (by omega), dif_neg h, mul_zero]
  · by_cases h : (i 1).val + 2 < 2048
    · have e : 2 + (i 1).val = (i 1).val + 2 := by omega
      rw [dif_pos (by omega), dif_pos h, tap0_apply, dy_apply]
      simp only [e]
      rfl
    · rw [dif_neg (by omega), dif_neg h, mul_zero]

/-- A sum over the first two of three axes. -/
theorem sum_two_axes {n0 n1 n2 : ℕ} (h : (⟨3, ![n0, n1, n2]⟩ : Shape).ReducesTo [0, 1] ⟨1, ![n2]⟩) (x : (⟨3, ![n0, n1, n2]⟩ : Shape).Idx → EReal)
    (init : EReal) (q : Fin n2) : Ideal.hostReduceAdd h x init (ix1 q) = init + ∑ b : Fin n0, ∑ k : Fin n1, x (ix3 b k q) := by
  unfold Ideal.hostReduceAdd
  refine Cert.Proof.Mm.add_congr rfl ?_
  refine (Finset.sum_filter_eq_sum_of_fiber _ (fun k : Fin n0 × Fin n1 => (ix3 k.1 k.2 q : (⟨3, ![n0, n1, n2]⟩ : Shape).Idx))
    (fun _ _ e => Prod.ext (congrFun e 0) (congrFun e 1)) (fun i => ?_) x).trans (Fintype.sum_prod_type _)
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem total_apply (z : FVec Ideal S2x2048x256 .f32) (i : S1x256.Idx) : total z i = ∑ b : Fin 2, ∑ k : Fin 2048, z (ix3 b k (i 1)) := by
  pointwise [total]
  refine (sum_two_axes _ _ _ (i 1)).trans ?_
  rw [zero_add, Fin.sum_univ_one, Fin.sum_univ_one]
  pointwise
  refine (sum_two_axes _ _ _ (i 1)).trans ?_
  rw [zero_add]
  rfl

theorem hostGates_eq : hostGates d p w = gates d p w := by
  funext i
  have hi : (i 1).val < 768 := (i 1).isLt
  pointwise [hostGates]
  unfold gates gateAt
  by_cases h : (i 1).val < 256
  · rw [dif_pos h, dif_pos h, incoming_apply, convolved_apply]
    rfl
  · rw [dif_neg h, dif_neg h]
    by_cases h2 : (i 1).val < 512
    · rw [dif_pos (by omega), dif_pos h2, du_apply, gateH_apply]
      rfl
    · rw [dif_neg (by omega), dif_neg h2, du_apply, gateC_apply, mul_comm]
      have e : (i 1).val - 256 - 256 = (i 1).val - 512 := by omega
      simp only [e]
      rfl

/-- One tap's gradient, from what was convolved `e` tokens earlier. -/
theorem row_apply (s e : ℕ) (hs : s + e = 2) (z : FVec Ideal S2x2048x256 .f32) (i : S1x256.Idx)
    (hz : ∀ (b : Fin 2) (k : Fin 2048), z (ix3 b k (i 1)) = colD d p b (i 1) k * past p (ix3 b ⟨s + k.val, by omega⟩ (i 1))) :
    total z i = (∑ k : Fin 2048, colD d p 0 (i 1) k * back e (colU p 0 (i 1)) k) + ∑ k : Fin 2048, colD d p 1 (i 1) k * back e (colU p 1 (i 1)) k := by
  obtain rfl : e = 2 - s := by omega
  rw [total_apply, Fin.sum_univ_two]
  have key : ∀ (b : Fin 2) (k : Fin 2048), z (ix3 b k (i 1)) = colD d p b (i 1) k * back (2 - s) (colU p b (i 1)) k := by
    intro b k
    rw [hz]
    exact Cert.Proof.Mm.mul_congr rfl (past_back p s (by omega) b k (i 1) _ rfl)
  exact Cert.Proof.Mm.add_congr (Cert.Proof.Mm.sum_congr fun k => key 0 k) (Cert.Proof.Mm.sum_congr fun k => key 1 k)

theorem taps_two (i : S8x256.Idx) (h : (i 0).val = 2) :
    taps d p i = (∑ k : Fin 2048, colD d p 0 (i 1) k * colU p 0 (i 1) k) + ∑ k : Fin 2048, colD d p 1 (i 1) k * colU p 1 (i 1) k := by
  unfold taps tapAt
  rw [if_pos h, if_pos h]

theorem taps_one (i : S8x256.Idx) (h : (i 0).val = 1) :
    taps d p i = (∑ k : Fin 2048, colD d p 0 (i 1) k * back 1 (colU p 0 (i 1)) k) + ∑ k : Fin 2048, colD d p 1 (i 1) k * back 1 (colU p 1 (i 1)) k := by
  unfold taps tapAt
  rw [if_neg (show ¬(i 0).val = 2 by omega), if_neg (show ¬(i 0).val = 2 by omega), if_pos h, if_pos h]

theorem taps_zero (i : S8x256.Idx) (h : (i 0).val = 0) :
    taps d p i = (∑ k : Fin 2048, colD d p 0 (i 1) k * back 2 (colU p 0 (i 1)) k) + ∑ k : Fin 2048, colD d p 1 (i 1) k * back 2 (colU p 1 (i 1)) k := by
  unfold taps tapAt
  rw [if_neg (show ¬(i 0).val = 2 by omega), if_neg (show ¬(i 0).val = 2 by omega), if_neg (show ¬(i 0).val = 1 by omega), if_neg (show ¬(i 0).val = 1 by omega), if_pos h, if_pos h]

theorem taps_below (i : S8x256.Idx) (h : 3 ≤ (i 0).val) : taps d p i = 0 := by
  unfold taps tapAt
  rw [if_neg (show ¬(i 0).val = 2 by omega), if_neg (show ¬(i 0).val = 2 by omega), if_neg (show ¬(i 0).val = 1 by omega), if_neg (show ¬(i 0).val = 1 by omega),
    if_neg (show ¬(i 0).val = 0 by omega), if_neg (show ¬(i 0).val = 0 by omega), add_zero]

theorem hostTaps_eq : hostTaps d p = taps d p := by
  funext i
  have hi : (i 0).val < 8 := (i 0).isLt
  have r2 := fun y : S1x256.Idx => row_apply d p 2 0 rfl (mulf (dy d p) (extractStridedSlice S2x2048x256 ![0, 2, 0] (past p) slices_S2x2050x256_S2x2048x256_0_2_0)) y
    (fun b k => by pointwise; exact Cert.Proof.Mm.mul_congr (dy_apply d p _) rfl)
  have r1 := fun y : S1x256.Idx => row_apply d p 1 1 rfl (mulf (dy d p) (extractStridedSlice S2x2048x256 ![0, 1, 0] (past p) slices_S2x2050x256_S2x2048x256_0_1_0)) y
    (fun b k => by pointwise; exact Cert.Proof.Mm.mul_congr (dy_apply d p _) rfl)
  have r0 := fun y : S1x256.Idx => row_apply d p 0 2 rfl (mulf (dy d p) (extractStridedSlice S2x2048x256 ![0, 0, 0] (past p) slices_S2x2050x256_S2x2048x256_0_0_0)) y
    (fun b k => by
      pointwise
      exact Cert.Proof.Mm.mul_congr (dy_apply d p _) rfl)
  pointwise [hostTaps]
  by_cases h2 : (i 0).val = 2
  · rw [dif_pos (by omega), dif_pos (by omega), dif_neg (by omega), dif_neg (by omega), add_zero, add_zero, taps_two d p i h2]
    exact (r2 (ix2 ⟨(i 0).val - 2, by omega⟩ (i 1))).trans (Cert.Proof.Mm.add_congr (Cert.Proof.Mm.sum_congr fun k => Cert.Proof.Mm.mul_congr rfl (back_zero _ _))
      (Cert.Proof.Mm.sum_congr fun k => Cert.Proof.Mm.mul_congr rfl (back_zero _ _)))
  · by_cases h1 : (i 0).val = 1
    · rw [dif_pos (by omega), dif_neg (by omega), dif_pos (by omega), dif_neg (by omega), zero_add, add_zero, taps_one d p i h1]
      exact r1 (ix2 ⟨(i 0).val - 1, by omega⟩ (i 1))
    · by_cases h0 : (i 0).val = 0
      · rw [dif_pos (by omega), dif_neg (by omega), dif_neg (by omega), dif_pos (by omega), zero_add, zero_add, taps_zero d p i h0]
        exact r0 (ix2 ⟨(i 0).val, by omega⟩ (i 1))
      · rw [dif_neg (by omega), taps_below d p i (by omega)]
        show (((0#32 : BitVec 32).toInt : ℝ) : EReal) = 0
        simp

end Cert.Reference15Ideal.Product
-- ==== Proof.Mm.Conv.lean ====
module

public import proofs.«01_k».proof.Proof.Mm.Sum
public import proofs.«01_k».proof.Proof.Mm.Taps
public import proofs.«01_k».proof.Proof.Mm.ConvRows
public import proofs.«01_k».proof.Proof.Gen.Kernel16Ideal.Value
public import Idealize.ShloMosaic.Lib.ValueIdx
public import Idealize.ShloMosaic.Lib.Pointwise

/-!
# The short gated convolution: what the kernel's array holds
-/

@[expose] public section

set_option maxRecDepth 8192

noncomputable section

namespace Cert.Kernel16Ideal.Product

open Idealize.ShloMosaic Idealize.ShloMosaic.TcCoe Cert.Kernel16Ideal Cert.Kernel16Ideal.Gen Idealize.SL.Sem

open Cert.Proof.Mm (back conv place pick_ge)

/-- The column that is convolved: the product of two gates. -/
def col (p : FVec Ideal S4096x3200 .f32) (b : Fin 2) (q : Fin 256) (r : Fin 2048) : EReal :=
  p (ix2 (place b r) ⟨2560 + q.val, by omega⟩) * p (ix2 (place b r) ⟨2816 + q.val, by omega⟩)

/-- One gated entry. -/
def gatedAt (p : FVec Ideal S4096x3200 .f32) (w : FVec Ideal S3x256 .f32) (b : Fin 2) (r : Fin 2048) (q : Fin 256) : EReal :=
  p (ix2 (place b r) ⟨2304 + q.val, by omega⟩) * conv (w (ix2 0 q)) (w (ix2 1 q)) (w (ix2 2 q)) (col p b q) r

/-- The gated convolution. -/
def gated (p : FVec Ideal S4096x3200 .f32) (w : FVec Ideal S3x256 .f32) : FVec Ideal S4096x256 .f32 := fun i =>
  gatedAt p w ⟨(i 0).val / 2048, Nat.div_lt_of_lt_mul (i 0).isLt⟩ ⟨(i 0).val % 2048, Nat.mod_lt _ (by decide)⟩ (i 1)

theorem gatedAt_congr (p : FVec Ideal S4096x3200 .f32) (w : FVec Ideal S3x256 .f32) {b b' : Fin 2} {r r' : Fin 2048} {q q' : Fin 256}
    (hb : b.val = b'.val) (hr : r.val = r'.val) (hq : q.val = q'.val) : gatedAt p w b r q = gatedAt p w b' r' q' := by
  rw [Fin.ext hb, Fin.ext hr, Fin.ext hq]

theorem conv_congr {w0 w1 w2 v0 v1 v2 : EReal} {f g : Fin 2048 → EReal} (h0 : w0 = v0) (h1 : w1 = v1) (h2 : w2 = v2) (h : ∀ r, f r = g r) (r : Fin 2048) :
    conv w0 w1 w2 f r = conv v0 v1 v2 g r := by
  rw [h0, h1, h2, show f = g from funext h]

set_option maxRecDepth 65536 in
/-- One block, at an entry. -/
theorem block_apply (v1 v2 v28 : Vec Ideal S2048x256 .f32) (v4 v8 v18 : Vec Ideal S1x256 .f32) (j : S2048x256.Idx) :
    k0_pay1 (F := Ideal) v1 v2 v4 v8 v18 v28 j
      = v28 j * conv (v18 (ix2 0 (j 1))) (v8 (ix2 0 (j 1))) (v4 (ix2 0 (j 1))) (fun r => v1 (ix2 r (j 1)) * v2 (ix2 r (j 1))) (j 0) := by
  have hj : (j 0).val < 2048 := (j 0).isLt
  pointwise [k0_pay1]
  rw [pick_ge _ 1 hj (by omega), pick_ge _ 2 hj (by omega)]
  unfold conv back
  have e0 : (ix2 (j 0) (j 1) : S2048x256.Idx) = j := funext (Fin.forall_fin_two.mpr ⟨rfl, rfl⟩)
  refine Cert.Proof.Mm.mul_congr rfl (Cert.Proof.Mm.add_congr (Cert.Proof.Mm.add_congr (Cert.Proof.Mm.mul_congr rfl ?_) ?_) ?_)
  · exact (congrArg (fun i : S2048x256.Idx => v1 i * v2 i) e0).symm
  · by_cases h : 1 ≤ (j 0).val
    · have e : ((j 0).val + 2048 - 1) % 2048 = (j 0).val - 1 := by omega
      rw [if_pos h, if_pos h]
      simp only [e]
    · rw [if_neg h, if_neg h, mul_zero]
  · by_cases h : 2 ≤ (j 0).val
    · have e : ((j 0).val + 2048 - 2) % 2048 = (j 0).val - 2 := by omega
      rw [if_pos h, if_pos h]
      simp only [e]
    · rw [if_neg h, if_neg h, mul_zero]

variable (m : (ℓ : Loc nD τ sig) → Buf (Elt Ideal) ℓ)

/-- The blocks' places. -/
theorem index_facts : ∀ t : Fin grid0.N,
    ((cfg0.win 0).index t 0 = t.val ∧ (cfg0.win 0).index t 1 = 9) ∧ ((cfg0.win 1).index t 0 = t.val ∧ (cfg0.win 1).index t 1 = 10)
    ∧ ((cfg0.win 2).index t 0 = t.val ∧ (cfg0.win 2).index t 1 = 11)
    ∧ ((cfg0.win 3).index t 0 = 0 ∧ (cfg0.win 3).index t 1 = 0) ∧ ((cfg0.win 4).index t 0 = t.val ∧ (cfg0.win 4).index t 1 = 0) := by
  decide +kernel

/-- The taps, as the pipeline reads them. -/
theorem w_read (c : Dev nD) (k : Fin 3) (b : Fin 256) :
    V m c main_v2 (ix2 (⟨k.val, lt_trans k.isLt (by decide)⟩ : Fin 8) b) = m ((c : Thread nD τ).loc main_arg1) (ix2 k b) := by
  unfold V
  simp only [hostOps0]
  after_results
  refine Cert.Proof.Mm.scatter_rows _ _ _ _ ?_ ?_ ?_ k b
  · intro j a
    unfold ScatterDims.start
    split <;> rfl
  · exact fun j => rfl
  · exact fun j => rfl

/-- A tap of a block. -/
theorem w_block (c : Dev nD) (t : Fin cfg0.N) (k : Fin 3) (q : Fin 256) :
    iblk m c 3 t (ix2 (⟨k.val, lt_trans k.isLt (by decide)⟩ : Fin 8) q) = m ((c : Thread nD τ).loc main_arg1) (ix2 k q) := by
  blk_simp [iblk]
  show V m c main_v2 _ = _
  refine Eq.trans (congrArg _ ?_) (w_read m c k q)
  blk_ext [(index_facts t).2.2.2.1]

/-- A tap, as a block reads it. -/
theorem tap_row (c : Dev nD) (t : Fin cfg0.N) (k : Fin 3) (inb : ∀ a, (![k.val, 0] : Fin 2 → ℕ) a + S1x256.size a ≤ S8x256.size a) (q : Fin 256) :
    View.ld (iblk m c 3 t) (Rect.unit ![k.val, 0] S1x256.size inb) (ix2 0 q) = m ((c : Thread nD τ).loc main_arg1) (ix2 k q) := by
  refine Eq.trans ?_ (w_block m c t k q)
  exact View.ld_unit_apply_of (iblk m c 3 t) _ _ _ _ (ix2 (⟨k.val, lt_trans k.isLt (by decide)⟩ : Fin 8) q)
    (Fin.forall_fin_two.mpr ⟨rfl, (Nat.zero_add _).symm⟩)

/-- The output gate's block. -/
theorem p_block0 (c : Dev nD) (t : Fin cfg0.N) (b : Fin 2) (hb : b.val = t.val) (r : Fin 2048) (q : Fin 256) :
    X0_0 m c t (ix2 r q) = m ((c : Thread nD τ).loc main_arg0) (ix2 (place b r) ⟨2304 + q.val, by omega⟩) := by
  unfold X0_0 Pipeline.Window.fill
  rw [dif_pos (moved0_0 t (ix2 r q))]
  unfold iblk
  rw [View.read_apply, cast_eq]
  show V m c main_arg0 _ = _
  rw [V_main_arg0]
  refine congrArg _ (funext fun a => Fin.ext ?_)
  refine (Pipeline.Window.rect_emb_val (cfg0.win 0) t _ a).trans ?_
  match a with
  | ⟨0, _⟩ => show (cfg0.win 0).index t 0 * 2048 + r.val = b.val * 2048 + r.val; rw [(index_facts t).1.1, hb]
  | ⟨1, _⟩ => show (cfg0.win 0).index t 1 * 256 + q.val = 2304 + q.val; rw [(index_facts t).1.2]

/-- The first input gate's block. -/
theorem p_block1 (c : Dev nD) (t : Fin cfg0.N) (b : Fin 2) (hb : b.val = t.val) (r : Fin 2048) (q : Fin 256) :
    X0_1 m c t (ix2 r q) = m ((c : Thread nD τ).loc main_arg0) (ix2 (place b r) ⟨2560 + q.val, by omega⟩) := by
  unfold X0_1 Pipeline.Window.fill
  rw [dif_pos (moved0_1 t (ix2 r q))]
  unfold iblk
  rw [View.read_apply, cast_eq]
  show V m c main_arg0 _ = _
  rw [V_main_arg0]
  refine congrArg _ (funext fun a => Fin.ext ?_)
  refine (Pipeline.Window.rect_emb_val (cfg0.win 1) t _ a).trans ?_
  match a with
  | ⟨0, _⟩ => show (cfg0.win 1).index t 0 * 2048 + r.val = b.val * 2048 + r.val; rw [(index_facts t).2.1.1, hb]
  | ⟨1, _⟩ => show (cfg0.win 1).index t 1 * 256 + q.val = 2560 + q.val; rw [(index_facts t).2.1.2]

/-- The second input gate's block. -/
theorem p_block2 (c : Dev nD) (t : Fin cfg0.N) (b : Fin 2) (hb : b.val = t.val) (r : Fin 2048) (q : Fin 256) :
    X0_2 m c t (ix2 r q) = m ((c : Thread nD τ).loc main_arg0) (ix2 (place b r) ⟨2816 + q.val, by omega⟩) := by
  unfold X0_2 Pipeline.Window.fill
  rw [dif_pos (moved0_2 t (ix2 r q))]
  unfold iblk
  rw [View.read_apply, cast_eq]
  show V m c main_arg0 _ = _
  rw [V_main_arg0]
  refine congrArg _ (funext fun a => Fin.ext ?_)
  refine (Pipeline.Window.rect_emb_val (cfg0.win 2) t _ a).trans ?_
  match a with
  | ⟨0, _⟩ => show (cfg0.win 2).index t 0 * 2048 + r.val = b.val * 2048 + r.val; rw [(index_facts t).2.2.1.1, hb]
  | ⟨1, _⟩ => show (cfg0.win 2).index t 1 * 256 + q.val = 2816 + q.val; rw [(index_facts t).2.2.1.2]

/-- The array at the end. -/
theorem final (c : Dev nD) : (dats m 0 c).arrAt 4 cfg0.N
    = gated (m ((c : Thread nD τ).loc main_arg0)) (m ((c : Thread nD τ).loc main_arg1)) := by
  refine (dats m 0 c).arrAt_eq_of_covers 4 _ (by decide +kernel) fun t hf y => ?_
  have ht : t.val < 2 := t.isLt
  have e := (index_facts t).2.2.2.2
  have hr : (y 0).val < 2048 := (y 0).isLt
  have ey : (ix2 (y 0) (y 1) : S2048x256.Idx) = y := funext (Fin.forall_fin_two.mpr ⟨rfl, rfl⟩)
  blk_simp
  rw [after0_4]
  unfold outsAt0
  frame_out
  rw [block_apply]
  unfold gated
  refine Eq.trans (b := gatedAt (m ((c : Thread nD τ).loc main_arg0)) (m ((c : Thread nD τ).loc main_arg1)) ⟨t.val, ht⟩ (y 0) (y 1)) ?_ (gatedAt_congr _ _ ?_ ?_ ?_)
  · exact Cert.Proof.Mm.mul_congr ((congrArg (X0_0 m c t) ey.symm).trans (p_block0 m c t ⟨t.val, ht⟩ rfl (y 0) (y 1)))
      (conv_congr (tap_row m c t 0 _ _) (tap_row m c t 1 _ _) (tap_row m c t 2 _ _)
        (fun r => Cert.Proof.Mm.mul_congr (p_block1 m c t ⟨t.val, ht⟩ rfl r _) (p_block2 m c t ⟨t.val, ht⟩ rfl r _)) _)
  · show t.val = ((cfg0.win 4).index t 0 * 2048 + 1 * (y 0).val) / 2048
    rw [e.1]; omega
  · show (y 0).val = ((cfg0.win 4).index t 0 * 2048 + 1 * (y 0).val) % 2048
    rw [e.1]; omega
  · show (y 1).val = (cfg0.win 4).index t 1 * 256 + 1 * (y 1).val
    rw [e.2]; omega

/-- The kernel's run: its result, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v3) = gated (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.Kernel16Ideal.Value.run_blocks m ρ)

end Cert.Kernel16Ideal.Product
-- ==== Proof.Mm.ConvRef.lean ====
module

public import proofs.«01_k».proof.Proof.Mm.Conv
public import proofs.«01_k».proof.Proof.Mm.ConvGradRef
public import proofs.«01_k».proof.Proof.Gen.Reference16Ideal.Run

/-!
# The short gated convolution: the reference's array is the kernel's
-/

@[expose] public section

set_option maxRecDepth 8192

noncomputable section

namespace Cert.Reference16Ideal.Product

open Idealize.ShloMosaic Idealize.ShloMosaic.TcCoe Idealize.SL.Sem

open Cert.Reference15Ideal.Product (gateB convolved gateB_apply convolved_apply)

/-- What the reference computes: the gate times the convolution. -/
def hostGated (p : FVec Ideal Cert.Reference15Ideal.S4096x3200 .f32) (w : FVec Ideal Cert.Reference15Ideal.S3x256 .f32) :
    FVec Ideal Cert.Reference16Ideal.S4096x256 .f32 :=
  shapeCast _ (mulf (gateB p) (convolved p w)) Cert.Reference16Ideal.Gen.shapeCasts_S2x2048x256_S4096x256

/-- It is what the kernel's array holds. -/
theorem hostGated_eq (p : FVec Ideal Cert.Reference15Ideal.S4096x3200 .f32) (w : FVec Ideal Cert.Reference15Ideal.S3x256 .f32) :
    hostGated p w = Cert.Kernel16Ideal.Product.gated p w := by
  funext i
  pointwise [hostGated]
  rw [gateB_apply, convolved_apply]
  rfl

open Cert.Reference16Ideal in
/-- The reference's run: its result, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = hostGated (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference16Ideal.Value.run m ρ

end Cert.Reference16Ideal.Product
-- ==== Proof.Mm.Adam.lean ====
module

public import Idealize.ShloMosaic.PureOps.Ideal

/-!
# AdamW, of one entry
The constants are the rationals their words are: the decay rates of the two moments and what is left of them, the
corrections of their bias at the tenth step, the learning rate, the weight decay and the small number under the quotient.
-/

@[expose] public section

noncomputable section

namespace Cert.Proof.Mm

open Idealize.ShloMosaic

/-- The new first moment: the old one and the gradient, weighted. -/
def adamMean (g m : EReal) : EReal :=
  Ideal.ofBits FTy.f32 0x3F666666#32 * m + Ideal.ofBits FTy.f32 0x3DCCCCCD#32 * g

/-- The new second moment: the old one and the gradient's square, weighted. -/
def adamSquare (g v : EReal) : EReal :=
  Ideal.ofBits FTy.f32 0x3F7FBE77#32 * v + Ideal.ofBits FTy.f32 0x3A83126F#32 * (g * g)

/-- What the weight is changed by: the corrected first moment over the root of the corrected second one, and the decay of the
weight, times the learning rate. -/
def adamDelta (w g m v : EReal) : EReal :=
  Ideal.ofBits FTy.f32 0xBA83126F#32
    * (Ideal.div (Ideal.div (adamMean g m) (Ideal.ofBits FTy.f32 0x3F26BD02#32))
        (Ideal.sqrt (Ideal.div (adamSquare g v) (Ideal.ofBits FTy.f32 0x3C231ACC#32)) + Ideal.ofBits FTy.f32 0x322BCC77#32)
      + Ideal.ofBits FTy.f32 0x3C23D70A#32 * w)

end Cert.Proof.Mm
-- ==== Proof.Mm.AdamGate.lean ====
module

public import proofs.«01_k».proof.Proof.Mm.Adam
public import proofs.«01_k».proof.Proof.Gen.Kernel17Ideal.Value
public import proofs.«01_k».proof.Proof.Gen.Reference17Ideal.Run
public import Idealize.ShloMosaic.Lib.Pipeline.ValueKit
public import Idealize.ShloMosaic.Lib.ValueIdx
public import Idealize.ShloMosaic.Lib.Pointwise

/-!
# AdamW's step of the gate and the up projection
-/

@[expose] public section

set_option maxRecDepth 8192

noncomputable section

namespace Cert.Kernel17Ideal.Product

open Idealize.ShloMosaic Idealize.ShloMosaic.TcCoe Cert.Kernel17Ideal Cert.Kernel17Ideal.Gen Idealize.SL.Sem
open Cert.Proof.Mm (adamMean adamSquare adamDelta)

/-- What the weights are changed by. -/
def deltas (w g m v : FVec Ideal S2x1024x704 .f32) : FVec Ideal S2x1024x704 .f32 := fun i => adamDelta (w i) (g i) (m i) (v i)

/-- The new first moments. -/
def means (g m : FVec Ideal S2x1024x704 .f32) : FVec Ideal S2x1024x704 .f32 := fun i => adamMean (g i) (m i)

/-- The new second moments. -/
def squares (g v : FVec Ideal S2x1024x704 .f32) : FVec Ideal S2x1024x704 .f32 := fun i => adamSquare (g i) (v i)

variable (m : (ℓ : Loc nD τ sig) → Buf (Elt Ideal) ℓ)

/-- The kernel's run: its three results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = means (m ((c : Thread nD τ).loc main_arg1)) (m ((c : Thread nD τ).loc main_arg2))
      ∧ r.2.mem ((c : Thread nD τ).loc main_v0_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => rfl), (h c).2.1.trans (funext fun i => rfl),
    (h c).2.2.1.trans (funext fun i => rfl), (h c).2.2.2⟩) (Cert.Kernel17Ideal.Value.run m ρ)

end Cert.Kernel17Ideal.Product

namespace Cert.Reference17Ideal.Product

open Idealize.ShloMosaic Idealize.ShloMosaic.TcCoe Cert.Reference17Ideal Cert.Reference17Ideal.Gen Idealize.SL.Sem
open Cert.Kernel17Ideal.Product (deltas means squares)
open Cert.Proof.Mm (adamMean adamSquare adamDelta)

variable (m : (ℓ : Loc nD τ sig) → Buf (Elt Ideal) ℓ)

/-- The reference's run: the same three results, and its arguments as they were. -/
theorem reference_run (ρ : Dev nD → PrngReg) :
    θ_run defs (onTc (τ := τ) (main (F := Ideal))) ⟨m, fun _ => 0, ρ⟩ fun r => ∀ c : Dev nD,
      r.2.mem ((c : Thread nD τ).loc main_v23) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v4) = means (m ((c : Thread nD τ).loc main_arg1)) (m ((c : Thread nD τ).loc main_arg2))
      ∧ r.2.mem ((c : Thread nD τ).loc main_v10) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by pointwise [deltas, adamDelta, adamMean, adamSquare]),
    (h c).2.1.trans (funext fun i => by pointwise [means, adamMean]),
    (h c).2.2.1.trans (funext fun i => by pointwise [squares, adamSquare]), (h c).2.2.2⟩) (Cert.Reference17Ideal.Value.run m ρ)

end Cert.Reference17Ideal.Product
-- ==== Proof.Mm.AdamDown.lean ====
module

public import proofs.«01_k».proof.Proof.Mm.Adam
public import proofs.«01_k».proof.Proof.Gen.Kernel18Ideal.Value
public import proofs.«01_k».proof.Proof.Gen.Reference18Ideal.Run
public import Idealize.ShloMosaic.Lib.Pipeline.ValueKit
public import Idealize.ShloMosaic.Lib.ValueIdx
public import Idealize.ShloMosaic.Lib.Pointwise

/-!
# AdamW's step of the down projection
-/

@[expose] public section

set_option maxRecDepth 8192

noncomputable section

namespace Cert.Kernel18Ideal.Product

open Idealize.ShloMosaic Idealize.ShloMosaic.TcCoe Cert.Kernel18Ideal Cert.Kernel18Ideal.Gen Idealize.SL.Sem
open Cert.Proof.Mm (adamMean adamSquare adamDelta)

/-- What the weights are changed by. -/
def deltas (w g m v : FVec Ideal S2x704x1024 .f32) : FVec Ideal S2x704x1024 .f32 := fun i => adamDelta (w i) (g i) (m i) (v i)

/-- The new first moments. -/
def means (g m : FVec Ideal S2x704x1024 .f32) : FVec Ideal S2x704x1024 .f32 := fun i => adamMean (g i) (m i)

/-- The new second moments. -/
def squares (g v : FVec Ideal S2x704x1024 .f32) : FVec Ideal S2x704x1024 .f32 := fun i => adamSquare (g i) (v i)

variable (m : (ℓ : Loc nD τ sig) → Buf (Elt Ideal) ℓ)

/-- The kernel's run: its three results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = means (m ((c : Thread nD τ).loc main_arg1)) (m ((c : Thread nD τ).loc main_arg2))
      ∧ r.2.mem ((c : Thread nD τ).loc main_v0_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => rfl), (h c).2.1.trans (funext fun i => rfl),
    (h c).2.2.1.trans (funext fun i => rfl), (h c).2.2.2⟩) (Cert.Kernel18Ideal.Value.run m ρ)

end Cert.Kernel18Ideal.Product

namespace Cert.Reference18Ideal.Product

open Idealize.ShloMosaic Idealize.ShloMosaic.TcCoe Cert.Reference18Ideal Cert.Reference18Ideal.Gen Idealize.SL.Sem
open Cert.Kernel18Ideal.Product (deltas means squares)
open Cert.Proof.Mm (adamMean adamSquare adamDelta)

variable (m : (ℓ : Loc nD τ sig) → Buf (Elt Ideal) ℓ)

/-- The reference's run: the same three results, and its arguments as they were. -/
theorem reference_run (ρ : Dev nD → PrngReg) :
    θ_run defs (onTc (τ := τ) (main (F := Ideal))) ⟨m, fun _ => 0, ρ⟩ fun r => ∀ c : Dev nD,
      r.2.mem ((c : Thread nD τ).loc main_v23) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v4) = means (m ((c : Thread nD τ).loc main_arg1)) (m ((c : Thread nD τ).loc main_arg2))
      ∧ r.2.mem ((c : Thread nD τ).loc main_v10) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by pointwise [deltas, adamDelta, adamMean, adamSquare]),
    (h c).2.1.trans (funext fun i => by pointwise [means, adamMean]),
    (h c).2.2.1.trans (funext fun i => by pointwise [squares, adamSquare]), (h c).2.2.2⟩) (Cert.Reference18Ideal.Value.run m ρ)

end Cert.Reference18Ideal.Product
-- ==== Proof.Mm.AdamOut.lean ====
module

public import proofs.«01_k».proof.Proof.Mm.Adam
public import proofs.«01_k».proof.Proof.Gen.Kernel19Ideal.Value
public import proofs.«01_k».proof.Proof.Gen.Reference19Ideal.Run
public import Idealize.ShloMosaic.Lib.Pipeline.ValueKit
public import Idealize.ShloMosaic.Lib.ValueIdx
public import Idealize.ShloMosaic.Lib.Pointwise

/-!
# AdamW's step of the output projection
-/

@[expose] public section

set_option maxRecDepth 8192

noncomputable section

namespace Cert.Kernel19Ideal.Product

open Idealize.ShloMosaic Idealize.ShloMosaic.TcCoe Cert.Kernel19Ideal Cert.Kernel19Ideal.Gen Idealize.SL.Sem
open Cert.Proof.Mm (adamMean adamSquare adamDelta)

/-- What the weights are changed by. -/
def deltas (w g m v : FVec Ideal S2x256x1024 .f32) : FVec Ideal S2x256x1024 .f32 := fun i => adamDelta (w i) (g i) (m i) (v i)

/-- The new first moments. -/
def means (g m : FVec Ideal S2x256x1024 .f32) : FVec Ideal S2x256x1024 .f32 := fun i => adamMean (g i) (m i)

/-- The new second moments. -/
def squares (g v : FVec Ideal S2x256x1024 .f32) : FVec Ideal S2x256x1024 .f32 := fun i => adamSquare (g i) (v i)

variable (m : (ℓ : Loc nD τ sig) → Buf (Elt Ideal) ℓ)

/-- The kernel's run: its three results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = means (m ((c : Thread nD τ).loc main_arg1)) (m ((c : Thread nD τ).loc main_arg2))
      ∧ r.2.mem ((c : Thread nD τ).loc main_v0_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => rfl), (h c).2.1.trans (funext fun i => rfl),
    (h c).2.2.1.trans (funext fun i => rfl), (h c).2.2.2⟩) (Cert.Kernel19Ideal.Value.run m ρ)

end Cert.Kernel19Ideal.Product

namespace Cert.Reference19Ideal.Product

open Idealize.ShloMosaic Idealize.ShloMosaic.TcCoe Cert.Reference19Ideal Cert.Reference19Ideal.Gen Idealize.SL.Sem
open Cert.Kernel19Ideal.Product (deltas means squares)
open Cert.Proof.Mm (adamMean adamSquare adamDelta)

variable (m : (ℓ : Loc nD τ sig) → Buf (Elt Ideal) ℓ)

/-- The reference's run: the same three results, and its arguments as they were. -/
theorem reference_run (ρ : Dev nD → PrngReg) :
    θ_run defs (onTc (τ := τ) (main (F := Ideal))) ⟨m, fun _ => 0, ρ⟩ fun r => ∀ c : Dev nD,
      r.2.mem ((c : Thread nD τ).loc main_v23) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v4) = means (m ((c : Thread nD τ).loc main_arg1)) (m ((c : Thread nD τ).loc main_arg2))
      ∧ r.2.mem ((c : Thread nD τ).loc main_v10) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by pointwise [deltas, adamDelta, adamMean, adamSquare]),
    (h c).2.1.trans (funext fun i => by pointwise [means, adamMean]),
    (h c).2.2.1.trans (funext fun i => by pointwise [squares, adamSquare]), (h c).2.2.2⟩) (Cert.Reference19Ideal.Value.run m ρ)

end Cert.Reference19Ideal.Product
-- ==== Proof.Mm.AdamIn.lean ====
module

public import proofs.«01_k».proof.Proof.Mm.Adam
public import proofs.«01_k».proof.Proof.Gen.Kernel20Ideal.Value
public import proofs.«01_k».proof.Proof.Gen.Reference20Ideal.Run
public import Idealize.ShloMosaic.Lib.Pipeline.ValueKit
public import Idealize.ShloMosaic.Lib.ValueIdx
public import Idealize.ShloMosaic.Lib.Pointwise

/-!
# AdamW's step of the input projection
-/

@[expose] public section

set_option maxRecDepth 8192

noncomputable section

namespace Cert.Kernel20Ideal.Product

open Idealize.ShloMosaic Idealize.ShloMosaic.TcCoe Cert.Kernel20Ideal Cert.Kernel20Ideal.Gen Idealize.SL.Sem
open Cert.Proof.Mm (adamMean adamSquare adamDelta)

/-- What the weights are changed by. -/
def deltas (w g m v : FVec Ideal S2x1024x769 .f32) : FVec Ideal S2x1024x769 .f32 := fun i => adamDelta (w i) (g i) (m i) (v i)

/-- The new first moments. -/
def means (g m : FVec Ideal S2x1024x769 .f32) : FVec Ideal S2x1024x769 .f32 := fun i => adamMean (g i) (m i)

/-- The new second moments. -/
def squares (g v : FVec Ideal S2x1024x769 .f32) : FVec Ideal S2x1024x769 .f32 := fun i => adamSquare (g i) (v i)

variable (m : (ℓ : Loc nD τ sig) → Buf (Elt Ideal) ℓ)

/-- The kernel's run: its three results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = means (m ((c : Thread nD τ).loc main_arg1)) (m ((c : Thread nD τ).loc main_arg2))
      ∧ r.2.mem ((c : Thread nD τ).loc main_v0_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => rfl), (h c).2.1.trans (funext fun i => rfl),
    (h c).2.2.1.trans (funext fun i => rfl), (h c).2.2.2⟩) (Cert.Kernel20Ideal.Value.run m ρ)

end Cert.Kernel20Ideal.Product

namespace Cert.Reference20Ideal.Product

open Idealize.ShloMosaic Idealize.ShloMosaic.TcCoe Cert.Reference20Ideal Cert.Reference20Ideal.Gen Idealize.SL.Sem
open Cert.Kernel20Ideal.Product (deltas means squares)
open Cert.Proof.Mm (adamMean adamSquare adamDelta)

variable (m : (ℓ : Loc nD τ sig) → Buf (Elt Ideal) ℓ)

/-- The reference's run: the same three results, and its arguments as they were. -/
theorem reference_run (ρ : Dev nD → PrngReg) :
    θ_run defs (onTc (τ := τ) (main (F := Ideal))) ⟨m, fun _ => 0, ρ⟩ fun r => ∀ c : Dev nD,
      r.2.mem ((c : Thread nD τ).loc main_v23) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v4) = means (m ((c : Thread nD τ).loc main_arg1)) (m ((c : Thread nD τ).loc main_arg2))
      ∧ r.2.mem ((c : Thread nD τ).loc main_v10) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by pointwise [deltas, adamDelta, adamMean, adamSquare]),
    (h c).2.1.trans (funext fun i => by pointwise [means, adamMean]),
    (h c).2.2.1.trans (funext fun i => by pointwise [squares, adamSquare]), (h c).2.2.2⟩) (Cert.Reference20Ideal.Value.run m ρ)

end Cert.Reference20Ideal.Product
-- ==== Proof.Mm.AdamTaps.lean ====
module

public import proofs.«01_k».proof.Proof.Mm.Adam
public import proofs.«01_k».proof.Proof.Gen.Kernel21Ideal.Value
public import proofs.«01_k».proof.Proof.Gen.Reference21Ideal.Run
public import Idealize.ShloMosaic.Lib.Pipeline.ValueKit
public import Idealize.ShloMosaic.Lib.ValueIdx
public import Idealize.ShloMosaic.Lib.Pointwise

/-!
# AdamW's step of the convolution's taps
-/

@[expose] public section

set_option maxRecDepth 8192

noncomputable section

namespace Cert.Kernel21Ideal.Product

open Idealize.ShloMosaic Idealize.ShloMosaic.TcCoe Cert.Kernel21Ideal Cert.Kernel21Ideal.Gen Idealize.SL.Sem
open Cert.Proof.Mm (adamMean adamSquare adamDelta)

/-- What the weights are changed by. -/
def deltas (w g m v : FVec Ideal S2x3x64 .f32) : FVec Ideal S2x3x64 .f32 := fun i => adamDelta (w i) (g i) (m i) (v i)

/-- The new first moments. -/
def means (g m : FVec Ideal S2x3x64 .f32) : FVec Ideal S2x3x64 .f32 := fun i => adamMean (g i) (m i)

/-- The new second moments. -/
def squares (g v : FVec Ideal S2x3x64 .f32) : FVec Ideal S2x3x64 .f32 := fun i => adamSquare (g i) (v i)

variable (m : (ℓ : Loc nD τ sig) → Buf (Elt Ideal) ℓ)

/-- The kernel's run: its three results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v0_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = means (m ((c : Thread nD τ).loc main_arg1)) (m ((c : Thread nD τ).loc main_arg2))
      ∧ r.2.mem ((c : Thread nD τ).loc main_v0_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => rfl), (h c).2.1.trans (funext fun i => rfl),
    (h c).2.2.1.trans (funext fun i => rfl), (h c).2.2.2⟩) (Cert.Kernel21Ideal.Value.run m ρ)

end Cert.Kernel21Ideal.Product

namespace Cert.Reference21Ideal.Product

open Idealize.ShloMosaic Idealize.ShloMosaic.TcCoe Cert.Reference21Ideal Cert.Reference21Ideal.Gen Idealize.SL.Sem
open Cert.Kernel21Ideal.Product (deltas means squares)
open Cert.Proof.Mm (adamMean adamSquare adamDelta)

variable (m : (ℓ : Loc nD τ sig) → Buf (Elt Ideal) ℓ)

/-- The reference's run: the same three results, and its arguments as they were. -/
theorem reference_run (ρ : Dev nD → PrngReg) :
    θ_run defs (onTc (τ := τ) (main (F := Ideal))) ⟨m, fun _ => 0, ρ⟩ fun r => ∀ c : Dev nD,
      r.2.mem ((c : Thread nD τ).loc main_v23) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v4) = means (m ((c : Thread nD τ).loc main_arg1)) (m ((c : Thread nD τ).loc main_arg2))
      ∧ r.2.mem ((c : Thread nD τ).loc main_v10) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by pointwise [deltas, adamDelta, adamMean, adamSquare]),
    (h c).2.1.trans (funext fun i => by pointwise [means, adamMean]),
    (h c).2.2.1.trans (funext fun i => by pointwise [squares, adamSquare]), (h c).2.2.2⟩) (Cert.Reference21Ideal.Value.run m ρ)

end Cert.Reference21Ideal.Product
-- ==== Proof.Mm.AdamForget.lean ====
module

public import proofs.«01_k».proof.Proof.Mm.Adam
public import proofs.«01_k».proof.Proof.Gen.Kernel22Ideal.Value
public import proofs.«01_k».proof.Proof.Gen.Reference22Ideal.Run
public import Idealize.ShloMosaic.Lib.Pipeline.ValueKit
public import Idealize.ShloMosaic.Lib.ValueIdx
public import Idealize.ShloMosaic.Lib.Pointwise

/-!
# AdamW's step of the forget biases
-/

@[expose] public section

set_option maxRecDepth 8192

noncomputable section

namespace Cert.Kernel22Ideal.Product

open Idealize.ShloMosaic Idealize.ShloMosaic.TcCoe Cert.Kernel22Ideal Cert.Kernel22Ideal.Gen Idealize.SL.Sem
open Cert.Proof.Mm (adamMean adamSquare adamDelta)

/-- What the weights are changed by. -/
def deltas (w g m v : FVec Ideal S2x4 .f32) : FVec Ideal S1x2x4 .f32 := fun i => adamDelta (w (ix2 (i 1) (i 2))) (g (ix2 (i 1) (i 2))) (m (ix2 (i 1) (i 2))) (v (ix2 (i 1) (i 2)))

/-- The new first moments. -/
def means (g m : FVec Ideal S2x4 .f32) : FVec Ideal S1x2x4 .f32 := fun i => adamMean (g (ix2 (i 1) (i 2))) (m (ix2 (i 1) (i 2)))

/-- The new second moments. -/
def squares (g v : FVec Ideal S2x4 .f32) : FVec Ideal S1x2x4 .f32 := fun i => adamSquare (g (ix2 (i 1) (i 2))) (v (ix2 (i 1) (i 2)))

variable (m : (ℓ : Loc nD τ sig) → Buf (Elt Ideal) ℓ)

/-- The weights, as the pipeline reads them. -/
theorem read0 (c : Dev nD) (i : S1x2x4.Idx) : V m c main_v0 i = m ((c : Thread nD τ).loc main_arg0) (ix2 (i 1) (i 2)) := by
  unfold V
  simp only [hostOps0]
  after_results
  pointwise

/-- The gradients, as the pipeline reads them. -/
theorem read1 (c : Dev nD) (i : S1x2x4.Idx) : V m c main_v1 i = m ((c : Thread nD τ).loc main_arg1) (ix2 (i 1) (i 2)) := by
  unfold V
  simp only [hostOps0]
  after_results
  pointwise

/-- The first moments, as the pipeline reads them. -/
theorem read2 (c : Dev nD) (i : S1x2x4.Idx) : V m c main_v2 i = m ((c : Thread nD τ).loc main_arg2) (ix2 (i 1) (i 2)) := by
  unfold V
  simp only [hostOps0]
  after_results
  pointwise

/-- The second moments, as the pipeline reads them. -/
theorem read3 (c : Dev nD) (i : S1x2x4.Idx) : V m c main_v3 i = m ((c : Thread nD τ).loc main_arg3) (ix2 (i 1) (i 2)) := by
  unfold V
  simp only [hostOps0]
  after_results
  pointwise

/-- The array of what the weights are changed by, at the end. -/
theorem final4 (c : Dev nD) : (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay4, k0_pay3, k0_pay2, k0_pay1, deltas]
  blk_simp [iblk]
  rw [read0, read1, read2, read3]
  rfl

/-- The array of the new first moments, at the end. -/
theorem final5 (c : Dev nD) : (dats m 0 c).arrAt 5 cfg0.N = means (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay2, k0_pay1, means]
  blk_simp [iblk]
  rw [read1, read2]
  rfl

/-- The array of the new second moments, at the end. -/
theorem final6 (c : Dev nD) : (dats m 0 c).arrAt 6 cfg0.N = squares (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay3, k0_pay1, squares]
  blk_simp [iblk]
  rw [read1, read3]
  rfl

/-- The kernel's run: its three results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v4_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v4_1) = means (m ((c : Thread nD τ).loc main_arg1)) (m ((c : Thread nD τ).loc main_arg2))
      ∧ r.2.mem ((c : Thread nD τ).loc main_v4_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (final4 m c)), ((h c).2.1.trans (final5 m c)),
    ((h c).2.2.1.trans (final6 m c)), (h c).2.2.2⟩) (Cert.Kernel22Ideal.Value.run_blocks m ρ)

end Cert.Kernel22Ideal.Product

namespace Cert.Reference22Ideal.Product

open Idealize.ShloMosaic Idealize.ShloMosaic.TcCoe Cert.Reference22Ideal Cert.Reference22Ideal.Gen Idealize.SL.Sem
open Cert.Kernel22Ideal.Product (deltas means squares)
open Cert.Proof.Mm (adamMean adamSquare adamDelta)

variable (m : (ℓ : Loc nD τ sig) → Buf (Elt Ideal) ℓ)

/-- The reference's run: the same three results, and its arguments as they were. -/
theorem reference_run (ρ : Dev nD → PrngReg) :
    θ_run defs (onTc (τ := τ) (main (F := Ideal))) ⟨m, fun _ => 0, ρ⟩ fun r => ∀ c : Dev nD,
      r.2.mem ((c : Thread nD τ).loc main_v24) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v25) = means (m ((c : Thread nD τ).loc main_arg1)) (m ((c : Thread nD τ).loc main_arg2))
      ∧ r.2.mem ((c : Thread nD τ).loc main_v26) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by pointwise [deltas, adamDelta, adamMean, adamSquare]),
    (h c).2.1.trans (funext fun i => by pointwise [means, adamMean]),
    (h c).2.2.1.trans (funext fun i => by pointwise [squares, adamSquare]), (h c).2.2.2⟩) (Cert.Reference22Ideal.Value.run m ρ)

end Cert.Reference22Ideal.Product
-- ==== Proof.Mm.AdamBias.lean ====
module

public import proofs.«01_k».proof.Proof.Mm.Adam
public import proofs.«01_k».proof.Proof.Gen.Kernel23Ideal.Value
public import proofs.«01_k».proof.Proof.Gen.Reference23Ideal.Run
public import Idealize.ShloMosaic.Lib.Pipeline.ValueKit
public import Idealize.ShloMosaic.Lib.ValueIdx
public import Idealize.ShloMosaic.Lib.Pointwise

/-!
# AdamW's step of the relative bias
-/

@[expose] public section

set_option maxRecDepth 8192

noncomputable section

namespace Cert.Kernel23Ideal.Product

open Idealize.ShloMosaic Idealize.ShloMosaic.TcCoe Cert.Kernel23Ideal Cert.Kernel23Ideal.Gen Idealize.SL.Sem
open Cert.Proof.Mm (adamMean adamSquare adamDelta)

/-- What the weights are changed by. -/
def deltas (w g m v : FVec Ideal S32x4 .f32) : FVec Ideal S1x32x4 .f32 := fun i => adamDelta (w (ix2 (i 1) (i 2))) (g (ix2 (i 1) (i 2))) (m (ix2 (i 1) (i 2))) (v (ix2 (i 1) (i 2)))

/-- The new first moments. -/
def means (g m : FVec Ideal S32x4 .f32) : FVec Ideal S1x32x4 .f32 := fun i => adamMean (g (ix2 (i 1) (i 2))) (m (ix2 (i 1) (i 2)))

/-- The new second moments. -/
def squares (g v : FVec Ideal S32x4 .f32) : FVec Ideal S1x32x4 .f32 := fun i => adamSquare (g (ix2 (i 1) (i 2))) (v (ix2 (i 1) (i 2)))

variable (m : (ℓ : Loc nD τ sig) → Buf (Elt Ideal) ℓ)

/-- The weights, as the pipeline reads them. -/
theorem read0 (c : Dev nD) (i : S1x32x4.Idx) : V m c main_v0 i = m ((c : Thread nD τ).loc main_arg0) (ix2 (i 1) (i 2)) := by
  unfold V
  simp only [hostOps0]
  after_results
  pointwise

/-- The gradients, as the pipeline reads them. -/
theorem read1 (c : Dev nD) (i : S1x32x4.Idx) : V m c main_v1 i = m ((c : Thread nD τ).loc main_arg1) (ix2 (i 1) (i 2)) := by
  unfold V
  simp only [hostOps0]
  after_results
  pointwise

/-- The first moments, as the pipeline reads them. -/
theorem read2 (c : Dev nD) (i : S1x32x4.Idx) : V m c main_v2 i = m ((c : Thread nD τ).loc main_arg2) (ix2 (i 1) (i 2)) := by
  unfold V
  simp only [hostOps0]
  after_results
  pointwise

/-- The second moments, as the pipeline reads them. -/
theorem read3 (c : Dev nD) (i : S1x32x4.Idx) : V m c main_v3 i = m ((c : Thread nD τ).loc main_arg3) (ix2 (i 1) (i 2)) := by
  unfold V
  simp only [hostOps0]
  after_results
  pointwise

/-- The array of what the weights are changed by, at the end. -/
theorem final4 (c : Dev nD) : (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay4, k0_pay3, k0_pay2, k0_pay1, deltas]
  blk_simp [iblk]
  rw [read0, read1, read2, read3]
  rfl

/-- The array of the new first moments, at the end. -/
theorem final5 (c : Dev nD) : (dats m 0 c).arrAt 5 cfg0.N = means (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay2, k0_pay1, means]
  blk_simp [iblk]
  rw [read1, read2]
  rfl

/-- The array of the new second moments, at the end. -/
theorem final6 (c : Dev nD) : (dats m 0 c).arrAt 6 cfg0.N = squares (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay3, k0_pay1, squares]
  blk_simp [iblk]
  rw [read1, read3]
  rfl

/-- The kernel's run: its three results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v4_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v4_1) = means (m ((c : Thread nD τ).loc main_arg1)) (m ((c : Thread nD τ).loc main_arg2))
      ∧ r.2.mem ((c : Thread nD τ).loc main_v4_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (final4 m c)), ((h c).2.1.trans (final5 m c)),
    ((h c).2.2.1.trans (final6 m c)), (h c).2.2.2⟩) (Cert.Kernel23Ideal.Value.run_blocks m ρ)

end Cert.Kernel23Ideal.Product

namespace Cert.Reference23Ideal.Product

open Idealize.ShloMosaic Idealize.ShloMosaic.TcCoe Cert.Reference23Ideal Cert.Reference23Ideal.Gen Idealize.SL.Sem
open Cert.Kernel23Ideal.Product (deltas means squares)
open Cert.Proof.Mm (adamMean adamSquare adamDelta)

variable (m : (ℓ : Loc nD τ sig) → Buf (Elt Ideal) ℓ)

/-- The reference's run: the same three results, and its arguments as they were. -/
theorem reference_run (ρ : Dev nD → PrngReg) :
    θ_run defs (onTc (τ := τ) (main (F := Ideal))) ⟨m, fun _ => 0, ρ⟩ fun r => ∀ c : Dev nD,
      r.2.mem ((c : Thread nD τ).loc main_v24) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v25) = means (m ((c : Thread nD τ).loc main_arg1)) (m ((c : Thread nD τ).loc main_arg2))
      ∧ r.2.mem ((c : Thread nD τ).loc main_v26) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by pointwise [deltas, adamDelta, adamMean, adamSquare]),
    (h c).2.1.trans (funext fun i => by pointwise [means, adamMean]),
    (h c).2.2.1.trans (funext fun i => by pointwise [squares, adamSquare]), (h c).2.2.2⟩) (Cert.Reference23Ideal.Value.run m ρ)

end Cert.Reference23Ideal.Product
-- ==== Proof.Mm.AdamNorm.lean ====
module

public import proofs.«01_k».proof.Proof.Mm.Adam
public import proofs.«01_k».proof.Proof.Gen.Kernel24Ideal.Value
public import proofs.«01_k».proof.Proof.Gen.Reference24Ideal.Run
public import Idealize.ShloMosaic.Lib.Pipeline.ValueKit
public import Idealize.ShloMosaic.Lib.ValueIdx
public import Idealize.ShloMosaic.Lib.Pointwise

/-!
# AdamW's step of the layer norms' gains and biases
-/

@[expose] public section

set_option maxRecDepth 8192

noncomputable section

namespace Cert.Kernel24Ideal.Product

open Idealize.ShloMosaic Idealize.ShloMosaic.TcCoe Cert.Kernel24Ideal Cert.Kernel24Ideal.Gen Idealize.SL.Sem
open Cert.Proof.Mm (adamMean adamSquare adamDelta)

/-- What the weights are changed by. -/
def deltas (w g m v : FVec Ideal S2x1024 .f32) : FVec Ideal S1x2x1024 .f32 := fun i => adamDelta (w (ix2 (i 1) (i 2))) (g (ix2 (i 1) (i 2))) (m (ix2 (i 1) (i 2))) (v (ix2 (i 1) (i 2)))

/-- The new first moments. -/
def means (g m : FVec Ideal S2x1024 .f32) : FVec Ideal S1x2x1024 .f32 := fun i => adamMean (g (ix2 (i 1) (i 2))) (m (ix2 (i 1) (i 2)))

/-- The new second moments. -/
def squares (g v : FVec Ideal S2x1024 .f32) : FVec Ideal S1x2x1024 .f32 := fun i => adamSquare (g (ix2 (i 1) (i 2))) (v (ix2 (i 1) (i 2)))

variable (m : (ℓ : Loc nD τ sig) → Buf (Elt Ideal) ℓ)

/-- The weights, as the pipeline reads them. -/
theorem read0 (c : Dev nD) (i : S1x2x1024.Idx) : V m c main_v0 i = m ((c : Thread nD τ).loc main_arg0) (ix2 (i 1) (i 2)) := by
  unfold V
  simp only [hostOps0]
  after_results
  pointwise

/-- The gradients, as the pipeline reads them. -/
theorem read1 (c : Dev nD) (i : S1x2x1024.Idx) : V m c main_v1 i = m ((c : Thread nD τ).loc main_arg1) (ix2 (i 1) (i 2)) := by
  unfold V
  simp only [hostOps0]
  after_results
  pointwise

/-- The first moments, as the pipeline reads them. -/
theorem read2 (c : Dev nD) (i : S1x2x1024.Idx) : V m c main_v2 i = m ((c : Thread nD τ).loc main_arg2) (ix2 (i 1) (i 2)) := by
  unfold V
  simp only [hostOps0]
  after_results
  pointwise

/-- The second moments, as the pipeline reads them. -/
theorem read3 (c : Dev nD) (i : S1x2x1024.Idx) : V m c main_v3 i = m ((c : Thread nD τ).loc main_arg3) (ix2 (i 1) (i 2)) := by
  unfold V
  simp only [hostOps0]
  after_results
  pointwise

/-- The array of what the weights are changed by, at the end. -/
theorem final4 (c : Dev nD) : (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay4, k0_pay3, k0_pay2, k0_pay1, deltas]
  blk_simp [iblk]
  rw [read0, read1, read2, read3]
  rfl

/-- The array of the new first moments, at the end. -/
theorem final5 (c : Dev nD) : (dats m 0 c).arrAt 5 cfg0.N = means (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay2, k0_pay1, means]
  blk_simp [iblk]
  rw [read1, read2]
  rfl

/-- The array of the new second moments, at the end. -/
theorem final6 (c : Dev nD) : (dats m 0 c).arrAt 6 cfg0.N = squares (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay3, k0_pay1, squares]
  blk_simp [iblk]
  rw [read1, read3]
  rfl

/-- The kernel's run: its three results, and its arguments as they were. -/
theorem kernel_run (ρ : Dev nD → PrngReg) :
    θ_run defs (onTc (τ := τ) (main (F := Ideal))) ⟨m, fun _ => 0, ρ⟩ fun r => ∀ c : Dev nD,
      r.2.mem ((c : Thread nD τ).loc main_v4_0) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v4_1) = means (m ((c : Thread nD τ).loc main_arg1)) (m ((c : Thread nD τ).loc main_arg2))
      ∧ r.2.mem ((c : Thread nD τ).loc main_v4_2) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1.trans (final4 m c)), ((h c).2.1.trans (final5 m c)),
    ((h c).2.2.1.trans (final6 m c)), (h c).2.2.2⟩) (Cert.Kernel24Ideal.Value.run_blocks m ρ)

end Cert.Kernel24Ideal.Product

namespace Cert.Reference24Ideal.Product

open Idealize.ShloMosaic Idealize.ShloMosaic.TcCoe Cert.Reference24Ideal Cert.Reference24Ideal.Gen Idealize.SL.Sem
open Cert.Kernel24Ideal.Product (deltas means squares)
open Cert.Proof.Mm (adamMean adamSquare adamDelta)

variable (m : (ℓ : Loc nD τ sig) → Buf (Elt Ideal) ℓ)

/-- The reference's run: the same three results, and its arguments as they were. -/
theorem reference_run (ρ : Dev nD → PrngReg) :
    θ_run defs (onTc (τ := τ) (main (F := Ideal))) ⟨m, fun _ => 0, ρ⟩ fun r => ∀ c : Dev nD,
      r.2.mem ((c : Thread nD τ).loc main_v24) = deltas (m ((c : Thread nD τ).loc main_arg0)) (m ((c : Thread nD τ).loc main_arg1)) (m ((c : Thread nD τ).loc main_arg2)) (m ((c : Thread nD τ).loc main_arg3))
      ∧ r.2.mem ((c : Thread nD τ).loc main_v25) = means (m ((c : Thread nD τ).loc main_arg1)) (m ((c : Thread nD τ).loc main_arg2))
      ∧ r.2.mem ((c : Thread nD τ).loc main_v26) = squares (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by pointwise [deltas, adamDelta, adamMean, adamSquare]),
    (h c).2.1.trans (funext fun i => by pointwise [means, adamMean]),
    (h c).2.2.1.trans (funext fun i => by pointwise [squares, adamSquare]), (h c).2.2.2⟩) (Cert.Reference24Ideal.Value.run m ρ)

end Cert.Reference24Ideal.Product
-- ==== Proof.Mm.Claims.lean ====
module

public import proofs.«01_k».proof.Defs
public import proofs.«01_k».proof.Proof.Mm.Same
public import proofs.«01_k».proof.Proof.Mm.FfnIn
public import proofs.«01_k».proof.Proof.Mm.OutDw
public import proofs.«01_k».proof.Proof.Mm.FfnInDx
public import proofs.«01_k».proof.Proof.Mm.InDw
public import proofs.«01_k».proof.Proof.Mm.ProjDx
public import proofs.«01_k».proof.Proof.Mm.ProjDw
public import proofs.«01_k».proof.Proof.Mm.OutProjDx
public import proofs.«01_k».proof.Proof.Mm.OutProjDw
public import proofs.«01_k».proof.Proof.Mm.FfnOutDx
public import proofs.«01_k».proof.Proof.Mm.Proj
public import proofs.«01_k».proof.Proof.Mm.Norm
public import proofs.«01_k».proof.Proof.Mm.OutNorm
public import proofs.«01_k».proof.Proof.Mm.RowsFinite
public import proofs.«01_k».proof.Proof.Mm.ConvGradRef
public import proofs.«01_k».proof.Proof.Mm.ConvRef
public import proofs.«01_k».proof.Proof.Mm.AdamGate
public import proofs.«01_k».proof.Proof.Mm.AdamDown
public import proofs.«01_k».proof.Proof.Mm.AdamOut
public import proofs.«01_k».proof.Proof.Mm.AdamIn
public import proofs.«01_k».proof.Proof.Mm.AdamTaps
public import proofs.«01_k».proof.Proof.Mm.AdamForget
public import proofs.«01_k».proof.Proof.Mm.AdamBias
public import proofs.«01_k».proof.Proof.Mm.AdamNorm
public import proofs.«01_k».proof.Proof.Mm.FfnFinite
public import Idealize.ShloMosaic.Adequacy
public import Idealize.ShloMosaic.Init

/-!
The claims of every call but the stick-breaking attention's: each program's frame, and each kernel's
equation with its reference.
-/

@[expose] public section

noncomputable section

namespace Cert.Proof.Mm

open Idealize.ShloMosaic Idealize.ShloMosaic.TcCoe Idealize.SL Idealize.SL.Sem

/-- The kernel of the first half of the feed-forward runs and leaves its arguments and counters as they were. -/
theorem frame_kernel2 : Cert.quiescent_Kernel2 := fun m ρ _ => by
  rw [defs2, main2]
  exact Cert.Kernel2Ideal.Gen.frame (F := Bits) m ρ

/-- So does the ideal kernel. -/
theorem frame_kernelIdeal2 : Cert.quiescent_Kernel2Ideal := fun m ρ _ =>
  Cert.Kernel2Ideal.Gen.frame (F := Ideal) m ρ

/-- So does the reference. -/
theorem frame_referenceIdeal2 : Cert.quiescent_Reference2Ideal := fun m ρ _ =>
  (θ_run Cert.Reference2Ideal.defs _ _).mono
    (fun r h => ⟨fun c => (h c).2.2.2, Idealize.ShloMosaic.sem_eq_zero_of_no_sems rfl r.2⟩)
    (Cert.Reference2Ideal.Value.run (F := Ideal) m ρ)

/-- The ideal kernel and the reference compute the same arrays. -/
theorem algebraic2 : Cert.algebraic_Kernel2Ideal_Reference2Ideal := fun m g m' g' _ hargs =>
  ⟨fun c => Cert.Kernel2Ideal.Product.result (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)),
    fun c => Cert.Kernel2Ideal.Product.result (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg2)),
    fun c => Cert.Kernel2Ideal.Product.hidden (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)),
    Cert.Kernel2Ideal.Product.kernel_run m g,
    (θ_run Cert.Reference2Ideal.defs _ _).mono
      (fun r h c => ⟨(h c).1.trans (by rw [(hargs c).1, (hargs c).2.1]; exact Cert.Kernel2Ideal.Product.reference_eq _ _),
        (h c).2.1.trans (by rw [(hargs c).1, (hargs c).2.2]; exact Cert.Kernel2Ideal.Product.reference_eq _ _),
        (h c).2.2.1.trans (by
          rw [(hargs c).1, (hargs c).2.1, (hargs c).2.2]
          exact (congrArg₂ Cert.Kernel2Ideal.Product.silu (Cert.Kernel2Ideal.Product.reference_eq _ _) (Cert.Kernel2Ideal.Product.reference_eq _ _)).trans (Cert.Kernel2Ideal.Product.reference_hidden _ _ _)),
        (h c).2.2.2⟩)
      (Cert.Reference2Ideal.Value.run (F := Ideal) m' g')⟩

/-- The kernel of the gradient of the feed-forward's output weight runs and leaves its arguments and counters as they were. -/
theorem frame_kernel3 : Cert.quiescent_Kernel3 := fun m ρ _ => by
  rw [defs3, main3]
  exact Cert.Kernel3Ideal.Gen.frame (F := Bits) m ρ

/-- So does the ideal kernel. -/
theorem frame_kernelIdeal3 : Cert.quiescent_Kernel3Ideal := fun m ρ _ =>
  Cert.Kernel3Ideal.Gen.frame (F := Ideal) m ρ

/-- So does the reference. -/
theorem frame_referenceIdeal3 : Cert.quiescent_Reference3Ideal := fun m ρ _ =>
  (θ_run Cert.Reference3Ideal.defs _ _).mono
    (fun r h => ⟨fun c => (h c).2, Idealize.ShloMosaic.sem_eq_zero_of_no_sems rfl r.2⟩)
    (Cert.Reference3Ideal.Value.run (F := Ideal) m ρ)

/-- The ideal kernel and the reference compute the same arrays. -/
theorem algebraic3 : Cert.algebraic_Kernel3Ideal_Reference3Ideal := fun m g m' g' _ hargs =>
  ⟨fun c => Cert.Kernel3Ideal.Product.result (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg2)),
    Cert.Kernel3Ideal.Product.kernel_run m g,
    (θ_run Cert.Reference3Ideal.defs _ _).mono
      (fun r h c => ⟨(h c).1.trans (by
        rw [(hargs c).1, (hargs c).2.2]
        exact Cert.Kernel3Ideal.Product.reference_eq _ _), (h c).2⟩)
      (Cert.Reference3Ideal.Value.run (F := Ideal) m' g')⟩

/-- The kernel of the gradient of the rows that enter the feed-forward runs and leaves its arguments and counters as they were. -/
theorem frame_kernel4 : Cert.quiescent_Kernel4 := fun m ρ _ => by
  rw [defs4, main4]
  exact Cert.Kernel4Ideal.Gen.frame (F := Bits) m ρ

/-- So does the ideal kernel. -/
theorem frame_kernelIdeal4 : Cert.quiescent_Kernel4Ideal := fun m ρ _ =>
  Cert.Kernel4Ideal.Gen.frame (F := Ideal) m ρ

/-- So does the reference. -/
theorem frame_referenceIdeal4 : Cert.quiescent_Reference4Ideal := fun m ρ _ =>
  (θ_run Cert.Reference4Ideal.defs _ _).mono
    (fun r h => ⟨fun c => (h c).2, Idealize.ShloMosaic.sem_eq_zero_of_no_sems rfl r.2⟩)
    (Cert.Reference4Ideal.Value.run (F := Ideal) m ρ)

/-- The ideal kernel and the reference compute the same arrays. -/
theorem algebraic4 : Cert.algebraic_Kernel4Ideal_Reference4Ideal := fun m g m' g' _ hargs =>
  ⟨fun c => Cert.Kernel4Ideal.Product.result (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)),
    Cert.Kernel4Ideal.Product.kernel_run m g,
    (θ_run Cert.Reference4Ideal.defs _ _).mono
      (fun r h c => ⟨(h c).1.trans (by
        rw [(hargs c).2.1, (hargs c).2.2.1, (hargs c).2.2.2.1, (hargs c).2.2.2.2.1, (hargs c).2.2.2.2.2]
        exact Cert.Kernel4Ideal.Product.reference_eq _ _ _ _ _), (h c).2⟩)
      (Cert.Reference4Ideal.Value.run (F := Ideal) m' g')⟩

/-- The kernel of the gradient of the feed-forward's input weights runs and leaves its arguments and counters as they were. -/
theorem frame_kernel5 : Cert.quiescent_Kernel5 := fun m ρ _ => by
  rw [defs5, main5]
  exact Cert.Kernel5Ideal.Gen.frame (F := Bits) m ρ

/-- So does the ideal kernel. -/
theorem frame_kernelIdeal5 : Cert.quiescent_Kernel5Ideal := fun m ρ _ =>
  Cert.Kernel5Ideal.Gen.frame (F := Ideal) m ρ

/-- So does the reference. -/
theorem frame_referenceIdeal5 : Cert.quiescent_Reference5Ideal := fun m ρ _ =>
  (θ_run Cert.Reference5Ideal.defs _ _).mono
    (fun r h => ⟨fun c => (h c).2, Idealize.ShloMosaic.sem_eq_zero_of_no_sems rfl r.2⟩)
    (Cert.Reference5Ideal.Value.run (F := Ideal) m ρ)

/-- The ideal kernel and the reference compute the same arrays. -/
theorem algebraic5 : Cert.algebraic_Kernel5Ideal_Reference5Ideal := fun m g m' g' _ hargs =>
  ⟨fun c => Cert.Kernel5Ideal.Product.result (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg2)),
    Cert.Kernel5Ideal.Product.kernel_run m g,
    (θ_run Cert.Reference5Ideal.defs _ _).mono
      (fun r h c => ⟨(h c).1.trans (by
        rw [(hargs c).1, (hargs c).2.2]
        exact Cert.Kernel5Ideal.Product.reference_eq _ _), (h c).2⟩)
      (Cert.Reference5Ideal.Value.run (F := Ideal) m' g')⟩

/-- The kernel of the gradient of the rows that enter the input projection runs and leaves its arguments and counters as they were. -/
theorem frame_kernel6 : Cert.quiescent_Kernel6 := fun m ρ _ => by
  rw [defs6, main6]
  exact Cert.Kernel6Ideal.Gen.frame (F := Bits) m ρ

/-- So does the ideal kernel. -/
theorem frame_kernelIdeal6 : Cert.quiescent_Kernel6Ideal := fun m ρ _ =>
  Cert.Kernel6Ideal.Gen.frame (F := Ideal) m ρ

/-- So does the reference. -/
theorem frame_referenceIdeal6 : Cert.quiescent_Reference6Ideal := fun m ρ _ =>
  (θ_run Cert.Reference6Ideal.defs _ _).mono
    (fun r h => ⟨fun c => (h c).2, Idealize.ShloMosaic.sem_eq_zero_of_no_sems rfl r.2⟩)
    (Cert.Reference6Ideal.Value.run (F := Ideal) m ρ)

/-- The ideal kernel and the reference compute the same arrays. -/
theorem algebraic6 : Cert.algebraic_Kernel6Ideal_Reference6Ideal := fun m g m' g' _ hargs =>
  ⟨fun c => Cert.Kernel6Ideal.Product.result (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)),
    Cert.Kernel6Ideal.Product.kernel_run m g,
    (θ_run Cert.Reference6Ideal.defs _ _).mono
      (fun r h c => ⟨(h c).1.trans (by
        rw [(hargs c).2.1, (hargs c).2.2.1, (hargs c).2.2.2]
        exact Cert.Kernel6Ideal.Product.reference_eq _ _ _), (h c).2⟩)
      (Cert.Reference6Ideal.Value.run (F := Ideal) m' g')⟩

/-- The kernel of the gradient of the input projection's weight runs and leaves its arguments and counters as they were. -/
theorem frame_kernel7 : Cert.quiescent_Kernel7 := fun m ρ _ => by
  rw [defs7, main7]
  exact Cert.Kernel7Ideal.Gen.frame (F := Bits) m ρ

/-- So does the ideal kernel. -/
theorem frame_kernelIdeal7 : Cert.quiescent_Kernel7Ideal := fun m ρ _ =>
  Cert.Kernel7Ideal.Gen.frame (F := Ideal) m ρ

/-- So does the reference. -/
theorem frame_referenceIdeal7 : Cert.quiescent_Reference7Ideal := fun m ρ _ =>
  (θ_run Cert.Reference7Ideal.defs _ _).mono
    (fun r h => ⟨fun c => (h c).2, Idealize.ShloMosaic.sem_eq_zero_of_no_sems rfl r.2⟩)
    (Cert.Reference7Ideal.Value.run (F := Ideal) m ρ)

/-- The ideal kernel and the reference compute the same arrays. -/
theorem algebraic7 : Cert.algebraic_Kernel7Ideal_Reference7Ideal := fun m g m' g' _ hargs =>
  ⟨fun c => Cert.Kernel7Ideal.Product.result (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg2)),
    Cert.Kernel7Ideal.Product.kernel_run m g,
    (θ_run Cert.Reference7Ideal.defs _ _).mono
      (fun r h c => ⟨(h c).1.trans (by
        rw [(hargs c).1, (hargs c).2.2]
        exact Cert.Kernel7Ideal.Product.reference_eq _ _), (h c).2⟩)
      (Cert.Reference7Ideal.Value.run (F := Ideal) m' g')⟩

/-- The kernel of the gradient of the rows that enter the output projection runs and leaves its arguments and counters as they were. -/
theorem frame_kernel8 : Cert.quiescent_Kernel8 := fun m ρ _ => by
  rw [defs8, main8]
  exact Cert.Kernel8Ideal.Gen.frame (F := Bits) m ρ

/-- So does the ideal kernel. -/
theorem frame_kernelIdeal8 : Cert.quiescent_Kernel8Ideal := fun m ρ _ =>
  Cert.Kernel8Ideal.Gen.frame (F := Ideal) m ρ

/-- So does the reference. -/
theorem frame_referenceIdeal8 : Cert.quiescent_Reference8Ideal := fun m ρ _ =>
  (θ_run Cert.Reference8Ideal.defs _ _).mono
    (fun r h => ⟨fun c => (h c).2, Idealize.ShloMosaic.sem_eq_zero_of_no_sems rfl r.2⟩)
    (Cert.Reference8Ideal.Value.run (F := Ideal) m ρ)

/-- The ideal kernel and the reference compute the same arrays. -/
theorem algebraic8 : Cert.algebraic_Kernel8Ideal_Reference8Ideal := fun m g m' g' _ hargs =>
  ⟨fun c => Cert.Kernel8Ideal.Product.result (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)),
    Cert.Kernel8Ideal.Product.kernel_run m g,
    (θ_run Cert.Reference8Ideal.defs _ _).mono
      (fun r h c => ⟨(h c).1.trans (by
        rw [(hargs c).2.1, (hargs c).2.2]
        exact Cert.Kernel8Ideal.Product.reference_eq _ _), (h c).2⟩)
      (Cert.Reference8Ideal.Value.run (F := Ideal) m' g')⟩

/-- The kernel of the gradient of the output projection's weight runs and leaves its arguments and counters as they were. -/
theorem frame_kernel9 : Cert.quiescent_Kernel9 := fun m ρ _ => by
  rw [defs9, main9]
  exact Cert.Kernel9Ideal.Gen.frame (F := Bits) m ρ

/-- So does the ideal kernel. -/
theorem frame_kernelIdeal9 : Cert.quiescent_Kernel9Ideal := fun m ρ _ =>
  Cert.Kernel9Ideal.Gen.frame (F := Ideal) m ρ

/-- So does the reference. -/
theorem frame_referenceIdeal9 : Cert.quiescent_Reference9Ideal := fun m ρ _ =>
  (θ_run Cert.Reference9Ideal.defs _ _).mono
    (fun r h => ⟨fun c => (h c).2, Idealize.ShloMosaic.sem_eq_zero_of_no_sems rfl r.2⟩)
    (Cert.Reference9Ideal.Value.run (F := Ideal) m ρ)

/-- The ideal kernel and the reference compute the same arrays. -/
theorem algebraic9 : Cert.algebraic_Kernel9Ideal_Reference9Ideal := fun m g m' g' _ hargs =>
  ⟨fun c => Cert.Kernel9Ideal.Product.result (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg2)),
    Cert.Kernel9Ideal.Product.kernel_run m g,
    (θ_run Cert.Reference9Ideal.defs _ _).mono
      (fun r h c => ⟨(h c).1.trans (by
        rw [(hargs c).1, (hargs c).2.2]
        exact Cert.Kernel9Ideal.Product.reference_eq _ _), (h c).2⟩)
      (Cert.Reference9Ideal.Value.run (F := Ideal) m' g')⟩

/-- The kernel of the gradients of the gate and of the up projection runs and leaves its arguments and counters as they were. -/
theorem frame_kernel10 : Cert.quiescent_Kernel10 := fun m ρ _ => by
  rw [defs10, main10]
  exact Cert.Kernel10Ideal.Gen.frame (F := Bits) m ρ

/-- So does the ideal kernel. -/
theorem frame_kernelIdeal10 : Cert.quiescent_Kernel10Ideal := fun m ρ _ =>
  Cert.Kernel10Ideal.Gen.frame (F := Ideal) m ρ

/-- So does the reference. -/
theorem frame_referenceIdeal10 : Cert.quiescent_Reference10Ideal := fun m ρ _ =>
  (θ_run Cert.Reference10Ideal.defs _ _).mono
    (fun r h => ⟨fun c => (h c).2.2, Idealize.ShloMosaic.sem_eq_zero_of_no_sems rfl r.2⟩)
    (Cert.Reference10Ideal.Value.run (F := Ideal) m ρ)

/-- So does the ideal kernel of the gate's gradient where the precondition holds. -/
theorem frame_kernelIdeal10_pre [hPre : Cert.Pre_finite_gradient.Facts] : Cert.quiescent_Kernel10Ideal_pre_finite_gradient := fun m ρ _ =>
  frame_kernelIdeal10 m ρ trivial

/-- And its reference. -/
theorem frame_referenceIdeal10_pre [hPre : Cert.Pre_finite_gradient.Facts] : Cert.quiescent_Reference10Ideal_pre_finite_gradient := fun m ρ _ =>
  frame_referenceIdeal10 m ρ trivial

/-- The side conditions of the precondition's own program. -/
theorem gradient_facts : Cert.Pre_finite_gradient.Facts := ⟨by decide, by decide, by decide, by decide⟩

/-- The ideal kernel and the reference compute the same arrays, where the precondition holds. -/
theorem algebraic10 [hPre : Cert.Pre_finite_gradient.Facts] : Cert.algebraic_Kernel10Ideal_Reference10Ideal_pre_finite_gradient := fun m g m' g' hf hargs =>
  ⟨fun c => Cert.Kernel10Ideal.Product.resultGate (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2)) (m ((c : Thread Cert.Kernel10Ideal.nD Cert.Kernel10Ideal.τ).loc Cert.Kernel10Ideal.main_arg3)),
    fun c => Cert.Kernel10Ideal.Product.resultUp (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg2)) (m ((c : Thread Cert.Kernel10Ideal.nD Cert.Kernel10Ideal.τ).loc Cert.Kernel10Ideal.main_arg3)),
    Cert.Kernel10Ideal.Product.kernel_run m g,
    (θ_run Cert.Reference10Ideal.defs _ _).mono
      (fun r h c => ⟨(h c).1.trans (by
          rw [(hargs c).1, (hargs c).2.1, (hargs c).2.2.1, (hargs c).2.2.2]
          exact Cert.Kernel10Ideal.Product.reference_gate _ _ _ _ (gradient_finite (hf c)).1 (gradient_finite (hf c)).2.1 (gradient_finite (hf c)).2.2),
        (h c).2.1.trans (by
          rw [(hargs c).1, (hargs c).2.2.1, (hargs c).2.2.2]
          exact Cert.Kernel10Ideal.Product.reference_up _ _ _),
        (h c).2.2⟩)
      (Cert.Reference10Ideal.Value.run (F := Ideal) m' g')⟩

/-- The kernel of the input projection runs and leaves its arguments and counters as they were. -/
theorem frame_kernel11 : Cert.quiescent_Kernel11 := fun m ρ _ => by
  rw [defs11, main11]
  exact Cert.Kernel11Ideal.Gen.frame (F := Bits) m ρ

/-- So does the ideal kernel. -/
theorem frame_kernelIdeal11 : Cert.quiescent_Kernel11Ideal := fun m ρ _ =>
  Cert.Kernel11Ideal.Gen.frame (F := Ideal) m ρ

/-- So does the reference. -/
theorem frame_referenceIdeal11 : Cert.quiescent_Reference11Ideal := fun m ρ _ =>
  (θ_run Cert.Reference11Ideal.defs _ _).mono
    (fun r h => ⟨fun c => (h c).2, Idealize.ShloMosaic.sem_eq_zero_of_no_sems rfl r.2⟩)
    (Cert.Reference11Ideal.Value.run (F := Ideal) m ρ)

/-- The ideal kernel and the reference compute the same arrays. -/
theorem algebraic11 : Cert.algebraic_Kernel11Ideal_Reference11Ideal := fun m g m' g' _ hargs =>
  ⟨fun c => Cert.Kernel11Ideal.Product.result (m ((c : Thread Cert.Kernel11Ideal.nD Cert.Kernel11Ideal.τ).loc Cert.Kernel11Ideal.main_arg0)) (m ((c : Thread Cert.Kernel11Ideal.nD Cert.Kernel11Ideal.τ).loc Cert.Kernel11Ideal.main_arg1)),
    Cert.Kernel11Ideal.Product.kernel_run m g,
    (θ_run Cert.Reference11Ideal.defs _ _).mono
      (fun r h c => ⟨(h c).1.trans (by
        rw [(hargs c).1, (hargs c).2]
        exact Cert.Kernel11Ideal.Product.reference_eq _ _), (h c).2⟩)
      (Cert.Reference11Ideal.Value.run (F := Ideal) m' g')⟩

/-- The kernel of the feed-forward's output product with its layer norm runs and leaves its arguments and counters as they were. -/
theorem frame_kernel12 : Cert.quiescent_Kernel12 := fun m ρ _ => by
  rw [defs12, main12]
  exact Cert.Kernel12Ideal.Gen.frame (F := Bits) m ρ

/-- So does the ideal kernel. -/
theorem frame_kernelIdeal12 : Cert.quiescent_Kernel12Ideal := fun m ρ _ =>
  Cert.Kernel12Ideal.Gen.frame (F := Ideal) m ρ

/-- So does the reference. -/
theorem frame_referenceIdeal12 : Cert.quiescent_Reference12Ideal := fun m ρ _ =>
  (θ_run Cert.Reference12Ideal.defs _ _).mono
    (fun r h => ⟨fun c => (h c).2.2.2, Idealize.ShloMosaic.sem_eq_zero_of_no_sems rfl r.2⟩)
    (Cert.Reference12Ideal.Value.run (F := Ideal) m ρ)

/-- The ideal kernel and the reference compute the same arrays. -/
theorem algebraic12 : Cert.algebraic_Kernel12Ideal_Reference12Ideal := fun m g m' g' _ hargs =>
  ⟨fun c => Cert.Kernel12Ideal.Product.pre m c,
    fun c => Cert.Kernel12Ideal.Product.rows (Cert.Kernel12Ideal.Product.pre m c) (m ((c : Thread Cert.Kernel12Ideal.nD Cert.Kernel12Ideal.τ).loc Cert.Kernel12Ideal.main_arg3)) (m ((c : Thread Cert.Kernel12Ideal.nD Cert.Kernel12Ideal.τ).loc Cert.Kernel12Ideal.main_arg4)),
    fun c => Cert.Kernel12Ideal.Product.rowsCast (Cert.Kernel12Ideal.Product.pre m c) (m ((c : Thread Cert.Kernel12Ideal.nD Cert.Kernel12Ideal.τ).loc Cert.Kernel12Ideal.main_arg3)) (m ((c : Thread Cert.Kernel12Ideal.nD Cert.Kernel12Ideal.τ).loc Cert.Kernel12Ideal.main_arg4)),
    Cert.Kernel12Ideal.Product.kernel_run m g,
    (θ_run Cert.Reference12Ideal.defs _ _).mono
      (fun r h c => ⟨(h c).1.trans (by
          rw [(hargs c).1, (hargs c).2.1, (hargs c).2.2.1]
          exact Cert.Kernel12Ideal.Product.reference_eq _ _ _),
        (h c).2.1.trans (by
          rw [(hargs c).1, (hargs c).2.1, (hargs c).2.2.1, (hargs c).2.2.2.1, (hargs c).2.2.2.2]
          exact (Cert.Kernel12Ideal.Product.reference_rows _ _ _).trans (congrArg (fun p => Cert.Kernel12Ideal.Product.rows p _ _) (Cert.Kernel12Ideal.Product.reference_eq _ _ _))),
        (h c).2.2.1.trans (by
          rw [(hargs c).1, (hargs c).2.1, (hargs c).2.2.1, (hargs c).2.2.2.1, (hargs c).2.2.2.2]
          exact (Cert.Kernel12Ideal.Product.reference_cast _ _ _).trans (congrArg (fun p => Cert.Kernel12Ideal.Product.rowsCast p _ _) (Cert.Kernel12Ideal.Product.reference_eq _ _ _))),
        (h c).2.2.2⟩)
      (Cert.Reference12Ideal.Value.run (F := Ideal) m' g')⟩

/-- The kernel of the output projection with its layer norm runs and leaves its arguments and counters as they were. -/
theorem frame_kernel13 : Cert.quiescent_Kernel13 := fun m ρ _ => by
  rw [defs13, main13]
  exact Cert.Kernel13Ideal.Gen.frame (F := Bits) m ρ

/-- So does the ideal kernel. -/
theorem frame_kernelIdeal13 : Cert.quiescent_Kernel13Ideal := fun m ρ _ =>
  Cert.Kernel13Ideal.Gen.frame (F := Ideal) m ρ

/-- So does the reference. -/
theorem frame_referenceIdeal13 : Cert.quiescent_Reference13Ideal := fun m ρ _ =>
  (θ_run Cert.Reference13Ideal.defs _ _).mono
    (fun r h => ⟨fun c => (h c).2.2.2, Idealize.ShloMosaic.sem_eq_zero_of_no_sems rfl r.2⟩)
    (Cert.Reference13Ideal.Value.run (F := Ideal) m ρ)

/-- The ideal kernel and the reference compute the same arrays. -/
theorem algebraic13 : Cert.algebraic_Kernel13Ideal_Reference13Ideal := fun m g m' g' _ hargs =>
  ⟨fun c => Cert.Kernel13Ideal.Product.pre m c,
    fun c => Cert.Kernel13Ideal.Product.rows (Cert.Kernel13Ideal.Product.pre m c) (m ((c : Thread Cert.Kernel13Ideal.nD Cert.Kernel13Ideal.τ).loc Cert.Kernel13Ideal.main_arg3)) (m ((c : Thread Cert.Kernel13Ideal.nD Cert.Kernel13Ideal.τ).loc Cert.Kernel13Ideal.main_arg4)),
    fun c => Cert.Kernel13Ideal.Product.rowsCast (Cert.Kernel13Ideal.Product.pre m c) (m ((c : Thread Cert.Kernel13Ideal.nD Cert.Kernel13Ideal.τ).loc Cert.Kernel13Ideal.main_arg3)) (m ((c : Thread Cert.Kernel13Ideal.nD Cert.Kernel13Ideal.τ).loc Cert.Kernel13Ideal.main_arg4)),
    Cert.Kernel13Ideal.Product.kernel_run m g,
    (θ_run Cert.Reference13Ideal.defs _ _).mono
      (fun r h c => ⟨(h c).1.trans (by
          rw [(hargs c).1, (hargs c).2.1, (hargs c).2.2.1]
          exact Cert.Kernel13Ideal.Product.reference_eq _ _ _),
        (h c).2.1.trans (by
          rw [(hargs c).1, (hargs c).2.1, (hargs c).2.2.1, (hargs c).2.2.2.1, (hargs c).2.2.2.2]
          exact (Cert.Kernel13Ideal.Product.reference_rows _ _ _).trans (congrArg (fun p => Cert.Kernel13Ideal.Product.rows p _ _) (Cert.Kernel13Ideal.Product.reference_eq _ _ _))),
        (h c).2.2.1.trans (by
          rw [(hargs c).1, (hargs c).2.1, (hargs c).2.2.1, (hargs c).2.2.2.1, (hargs c).2.2.2.2]
          exact (Cert.Kernel13Ideal.Product.reference_cast _ _ _).trans (congrArg (fun p => Cert.Kernel13Ideal.Product.rowsCast p _ _) (Cert.Kernel13Ideal.Product.reference_eq _ _ _))),
        (h c).2.2.2⟩)
      (Cert.Reference13Ideal.Value.run (F := Ideal) m' g')⟩

/-- The kernel of the gradient of the layer norm runs and leaves its arguments and counters as they were. -/
theorem frame_kernel14 : Cert.quiescent_Kernel14 := fun m ρ _ => by
  rw [defs14, main14]
  exact Cert.Kernel14Ideal.Gen.frame (F := Bits) m ρ

/-- So does the ideal kernel. -/
theorem frame_kernelIdeal14 : Cert.quiescent_Kernel14Ideal := fun m ρ _ =>
  Cert.Kernel14Ideal.Gen.frame (F := Ideal) m ρ

/-- So does the reference. -/
theorem frame_referenceIdeal14 : Cert.quiescent_Reference14Ideal := fun m ρ _ =>
  (θ_run Cert.Reference14Ideal.defs _ _).mono
    (fun r h => ⟨fun c => (h c).2.2.2, Idealize.ShloMosaic.sem_eq_zero_of_no_sems rfl r.2⟩)
    (Cert.Reference14Ideal.Value.run (F := Ideal) m ρ)

/-- So does the ideal kernel of the layer norm's gradient where the precondition holds. -/
theorem frame_kernelIdeal14_pre [hPre : Cert.Pre_finite_rows.Facts] : Cert.quiescent_Kernel14Ideal_pre_finite_rows := fun m ρ _ =>
  frame_kernelIdeal14 m ρ trivial

/-- And its reference. -/
theorem frame_referenceIdeal14_pre [hPre : Cert.Pre_finite_rows.Facts] : Cert.quiescent_Reference14Ideal_pre_finite_rows := fun m ρ _ =>
  frame_referenceIdeal14 m ρ trivial

/-- The side conditions of the precondition's own program. -/
theorem rows_facts : Cert.Pre_finite_rows.Facts := ⟨by decide, by decide, by decide⟩

/-- The ideal kernel and the reference compute the same arrays, where the precondition holds. -/
theorem algebraic14 [hPre : Cert.Pre_finite_rows.Facts] : Cert.algebraic_Kernel14Ideal_Reference14Ideal_pre_finite_rows := fun m g m' g' hf hargs =>
  have key : ∀ c : Dev Cert.Kernel14Ideal.nD, Cert.Kernel14Ideal.Product.hostGrad (m' (c.tc.loc Cert.Reference14Ideal.main_arg0)) (m' (c.tc.loc Cert.Reference14Ideal.main_arg1))
      (m' (c.tc.loc Cert.Reference14Ideal.main_arg2))
      = Cert.Kernel14Ideal.Product.result (m (c.tc.loc Cert.Kernel14Ideal.main_arg0)) (m (c.tc.loc Cert.Kernel14Ideal.main_arg1)) (m (c.tc.loc Cert.Kernel14Ideal.main_arg2)) := fun c => by
    rw [(hargs c).1, (hargs c).2.1, (hargs c).2.2]
    exact rows_grad_eq (hf c)
  ⟨fun c => Cert.Kernel14Ideal.Product.result (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg1)) (m ((c : Thread Cert.Kernel14Ideal.nD Cert.Kernel14Ideal.τ).loc Cert.Kernel14Ideal.main_arg2)),
    fun c => Cert.Kernel14Ideal.Product.resultCast (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg1)) (m ((c : Thread Cert.Kernel14Ideal.nD Cert.Kernel14Ideal.τ).loc Cert.Kernel14Ideal.main_arg2)),
    fun c => Cert.Kernel14Ideal.Product.sums (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg1)),
    Cert.Kernel14Ideal.Product.kernel_run m g,
    (θ_run Cert.Reference14Ideal.defs _ _).mono
      (fun r h c => ⟨(h c).1.trans ((Cert.Kernel14Ideal.Product.reference_grad m' c).trans (key c)),
        (h c).2.1.trans (funext fun i => congrFun (key c) i),
        (h c).2.2.1.trans (by
          rw [(hargs c).1, (hargs c).2.1]
          exact Cert.Kernel14Ideal.Product.hostSums_eq _ _),
        (h c).2.2.2⟩)
      (Cert.Reference14Ideal.Value.run (F := Ideal) m' g')⟩

/-- The kernel of the gradient of the short gated convolution runs and leaves its arguments and counters as they were. -/
theorem frame_kernel15 : Cert.quiescent_Kernel15 := fun m ρ _ => by
  rw [defs15, main15]
  exact Cert.Kernel15Ideal.Gen.frame (F := Bits) m ρ

/-- So does the ideal kernel. -/
theorem frame_kernelIdeal15 : Cert.quiescent_Kernel15Ideal := fun m ρ _ =>
  Cert.Kernel15Ideal.Gen.frame (F := Ideal) m ρ

/-- So does the reference. -/
theorem frame_referenceIdeal15 : Cert.quiescent_Reference15Ideal := fun m ρ _ =>
  (θ_run Cert.Reference15Ideal.defs _ _).mono
    (fun r h => ⟨fun c => (h c).2.2, Idealize.ShloMosaic.sem_eq_zero_of_no_sems rfl r.2⟩)
    (Cert.Reference15Ideal.Value.run (F := Ideal) m ρ)

/-- The ideal kernel and the reference compute the same arrays. -/
theorem algebraic15 : Cert.algebraic_Kernel15Ideal_Reference15Ideal := fun m g m' g' _ hargs =>
  ⟨fun c => Cert.Kernel15Ideal.Product.gates (m ((c : Thread Cert.Kernel15Ideal.nD Cert.Kernel15Ideal.τ).loc Cert.Kernel15Ideal.main_arg0)) (m ((c : Thread Cert.Kernel15Ideal.nD Cert.Kernel15Ideal.τ).loc Cert.Kernel15Ideal.main_arg1)) (m ((c : Thread Cert.Kernel15Ideal.nD Cert.Kernel15Ideal.τ).loc Cert.Kernel15Ideal.main_arg2)),
    fun c => Cert.Kernel15Ideal.Product.taps (m ((c : Thread Cert.Kernel15Ideal.nD Cert.Kernel15Ideal.τ).loc Cert.Kernel15Ideal.main_arg0)) (m ((c : Thread Cert.Kernel15Ideal.nD Cert.Kernel15Ideal.τ).loc Cert.Kernel15Ideal.main_arg1)),
    Cert.Kernel15Ideal.Product.kernel_run m g,
    (θ_run Cert.Reference15Ideal.defs _ _).mono
      (fun r h c => ⟨(h c).1.trans ((Cert.Reference15Ideal.Product.reference_gates m' c).trans (by
          rw [(hargs c).1, (hargs c).2.1, (hargs c).2.2]
          exact Cert.Reference15Ideal.Product.hostGates_eq _ _ _)),
        (h c).2.1.trans ((Cert.Reference15Ideal.Product.reference_taps m' c).trans (by
          rw [(hargs c).1, (hargs c).2.1]
          exact Cert.Reference15Ideal.Product.hostTaps_eq _ _)),
        (h c).2.2⟩)
      (Cert.Reference15Ideal.Value.run (F := Ideal) m' g')⟩

/-- The kernel of the short gated convolution runs and leaves its arguments and counters as they were. -/
theorem frame_kernel16 : Cert.quiescent_Kernel16 := fun m ρ _ => by
  rw [defs16, main16]
  exact Cert.Kernel16Ideal.Gen.frame (F := Bits) m ρ

/-- So does the ideal kernel. -/
theorem frame_kernelIdeal16 : Cert.quiescent_Kernel16Ideal := fun m ρ _ =>
  Cert.Kernel16Ideal.Gen.frame (F := Ideal) m ρ

/-- So does the reference. -/
theorem frame_referenceIdeal16 : Cert.quiescent_Reference16Ideal := fun m ρ _ =>
  (θ_run Cert.Reference16Ideal.defs _ _).mono
    (fun r h => ⟨fun c => (h c).2, Idealize.ShloMosaic.sem_eq_zero_of_no_sems rfl r.2⟩)
    (Cert.Reference16Ideal.Value.run (F := Ideal) m ρ)

/-- The ideal kernel and the reference compute the same arrays. -/
theorem algebraic16 : Cert.algebraic_Kernel16Ideal_Reference16Ideal := fun m g m' g' _ hargs =>
  ⟨fun c => Cert.Kernel16Ideal.Product.gated (m ((c : Thread Cert.Kernel16Ideal.nD Cert.Kernel16Ideal.τ).loc Cert.Kernel16Ideal.main_arg0)) (m ((c : Thread Cert.Kernel16Ideal.nD Cert.Kernel16Ideal.τ).loc Cert.Kernel16Ideal.main_arg1)),
    Cert.Kernel16Ideal.Product.kernel_run m g,
    (θ_run Cert.Reference16Ideal.defs _ _).mono
      (fun r h c => ⟨(h c).1.trans (by
        rw [(hargs c).1, (hargs c).2]
        exact Cert.Reference16Ideal.Product.hostGated_eq _ _), (h c).2⟩)
      (Cert.Reference16Ideal.Product.reference_run m' g')⟩

/-- The kernel of AdamW's step of the gate and the up projection runs and leaves its arguments and counters as they were. -/
theorem frame_kernel17 : Cert.quiescent_Kernel17 := fun m ρ _ => by
  rw [defs17, main17]
  exact Cert.Kernel17Ideal.Gen.frame (F := Bits) m ρ

/-- So does the ideal kernel. -/
theorem frame_kernelIdeal17 : Cert.quiescent_Kernel17Ideal := fun m ρ _ =>
  Cert.Kernel17Ideal.Gen.frame (F := Ideal) m ρ

/-- So does the reference. -/
theorem frame_referenceIdeal17 : Cert.quiescent_Reference17Ideal := fun m ρ _ =>
  (θ_run Cert.Reference17Ideal.defs _ _).mono
    (fun r h => ⟨fun c => (h c).2.2.2, Idealize.ShloMosaic.sem_eq_zero_of_no_sems rfl r.2⟩)
    (Cert.Reference17Ideal.Value.run (F := Ideal) m ρ)

/-- The ideal kernel and the reference compute the same arrays. -/
theorem algebraic17 : Cert.algebraic_Kernel17Ideal_Reference17Ideal := fun m g m' g' _ hargs =>
  ⟨fun c => Cert.Kernel17Ideal.Product.deltas (m ((c : Thread Cert.Kernel17Ideal.nD Cert.Kernel17Ideal.τ).loc Cert.Kernel17Ideal.main_arg0)) (m ((c : Thread Cert.Kernel17Ideal.nD Cert.Kernel17Ideal.τ).loc Cert.Kernel17Ideal.main_arg1)) (m ((c : Thread Cert.Kernel17Ideal.nD Cert.Kernel17Ideal.τ).loc Cert.Kernel17Ideal.main_arg2)) (m ((c : Thread Cert.Kernel17Ideal.nD Cert.Kernel17Ideal.τ).loc Cert.Kernel17Ideal.main_arg3)),
    fun c => Cert.Kernel17Ideal.Product.means (m ((c : Thread Cert.Kernel17Ideal.nD Cert.Kernel17Ideal.τ).loc Cert.Kernel17Ideal.main_arg1)) (m ((c : Thread Cert.Kernel17Ideal.nD Cert.Kernel17Ideal.τ).loc Cert.Kernel17Ideal.main_arg2)),
    fun c => Cert.Kernel17Ideal.Product.squares (m ((c : Thread Cert.Kernel17Ideal.nD Cert.Kernel17Ideal.τ).loc Cert.Kernel17Ideal.main_arg1)) (m ((c : Thread Cert.Kernel17Ideal.nD Cert.Kernel17Ideal.τ).loc Cert.Kernel17Ideal.main_arg3)),
    Cert.Kernel17Ideal.Product.kernel_run m g,
    (θ_run Cert.Reference17Ideal.defs _ _).mono
      (fun r h c => ⟨(h c).1.trans (by rw [(hargs c).1, (hargs c).2.1, (hargs c).2.2.1, (hargs c).2.2.2]),
        (h c).2.1.trans (by rw [(hargs c).2.1, (hargs c).2.2.1]),
        (h c).2.2.1.trans (by rw [(hargs c).2.1, (hargs c).2.2.2]), (h c).2.2.2⟩)
      (Cert.Reference17Ideal.Product.reference_run m' g')⟩

/-- The kernel of AdamW's step of the down projection runs and leaves its arguments and counters as they were. -/
theorem frame_kernel18 : Cert.quiescent_Kernel18 := fun m ρ _ => by
  rw [defs18, main18]
  exact Cert.Kernel18Ideal.Gen.frame (F := Bits) m ρ

/-- So does the ideal kernel. -/
theorem frame_kernelIdeal18 : Cert.quiescent_Kernel18Ideal := fun m ρ _ =>
  Cert.Kernel18Ideal.Gen.frame (F := Ideal) m ρ

/-- So does the reference. -/
theorem frame_referenceIdeal18 : Cert.quiescent_Reference18Ideal := fun m ρ _ =>
  (θ_run Cert.Reference18Ideal.defs _ _).mono
    (fun r h => ⟨fun c => (h c).2.2.2, Idealize.ShloMosaic.sem_eq_zero_of_no_sems rfl r.2⟩)
    (Cert.Reference18Ideal.Value.run (F := Ideal) m ρ)

/-- The ideal kernel and the reference compute the same arrays. -/
theorem algebraic18 : Cert.algebraic_Kernel18Ideal_Reference18Ideal := fun m g m' g' _ hargs =>
  ⟨fun c => Cert.Kernel18Ideal.Product.deltas (m ((c : Thread Cert.Kernel18Ideal.nD Cert.Kernel18Ideal.τ).loc Cert.Kernel18Ideal.main_arg0)) (m ((c : Thread Cert.Kernel18Ideal.nD Cert.Kernel18Ideal.τ).loc Cert.Kernel18Ideal.main_arg1)) (m ((c : Thread Cert.Kernel18Ideal.nD Cert.Kernel18Ideal.τ).loc Cert.Kernel18Ideal.main_arg2)) (m ((c : Thread Cert.Kernel18Ideal.nD Cert.Kernel18Ideal.τ).loc Cert.Kernel18Ideal.main_arg3)),
    fun c => Cert.Kernel18Ideal.Product.means (m ((c : Thread Cert.Kernel18Ideal.nD Cert.Kernel18Ideal.τ).loc Cert.Kernel18Ideal.main_arg1)) (m ((c : Thread Cert.Kernel18Ideal.nD Cert.Kernel18Ideal.τ).loc Cert.Kernel18Ideal.main_arg2)),
    fun c => Cert.Kernel18Ideal.Product.squares (m ((c : Thread Cert.Kernel18Ideal.nD Cert.Kernel18Ideal.τ).loc Cert.Kernel18Ideal.main_arg1)) (m ((c : Thread Cert.Kernel18Ideal.nD Cert.Kernel18Ideal.τ).loc Cert.Kernel18Ideal.main_arg3)),
    Cert.Kernel18Ideal.Product.kernel_run m g,
    (θ_run Cert.Reference18Ideal.defs _ _).mono
      (fun r h c => ⟨(h c).1.trans (by rw [(hargs c).1, (hargs c).2.1, (hargs c).2.2.1, (hargs c).2.2.2]),
        (h c).2.1.trans (by rw [(hargs c).2.1, (hargs c).2.2.1]),
        (h c).2.2.1.trans (by rw [(hargs c).2.1, (hargs c).2.2.2]), (h c).2.2.2⟩)
      (Cert.Reference18Ideal.Product.reference_run m' g')⟩

/-- The kernel of AdamW's step of the output projection runs and leaves its arguments and counters as they were. -/
theorem frame_kernel19 : Cert.quiescent_Kernel19 := fun m ρ _ => by
  rw [defs19, main19]
  exact Cert.Kernel19Ideal.Gen.frame (F := Bits) m ρ

/-- So does the ideal kernel. -/
theorem frame_kernelIdeal19 : Cert.quiescent_Kernel19Ideal := fun m ρ _ =>
  Cert.Kernel19Ideal.Gen.frame (F := Ideal) m ρ

/-- So does the reference. -/
theorem frame_referenceIdeal19 : Cert.quiescent_Reference19Ideal := fun m ρ _ =>
  (θ_run Cert.Reference19Ideal.defs _ _).mono
    (fun r h => ⟨fun c => (h c).2.2.2, Idealize.ShloMosaic.sem_eq_zero_of_no_sems rfl r.2⟩)
    (Cert.Reference19Ideal.Value.run (F := Ideal) m ρ)

/-- The ideal kernel and the reference compute the same arrays. -/
theorem algebraic19 : Cert.algebraic_Kernel19Ideal_Reference19Ideal := fun m g m' g' _ hargs =>
  ⟨fun c => Cert.Kernel19Ideal.Product.deltas (m ((c : Thread Cert.Kernel19Ideal.nD Cert.Kernel19Ideal.τ).loc Cert.Kernel19Ideal.main_arg0)) (m ((c : Thread Cert.Kernel19Ideal.nD Cert.Kernel19Ideal.τ).loc Cert.Kernel19Ideal.main_arg1)) (m ((c : Thread Cert.Kernel19Ideal.nD Cert.Kernel19Ideal.τ).loc Cert.Kernel19Ideal.main_arg2)) (m ((c : Thread Cert.Kernel19Ideal.nD Cert.Kernel19Ideal.τ).loc Cert.Kernel19Ideal.main_arg3)),
    fun c => Cert.Kernel19Ideal.Product.means (m ((c : Thread Cert.Kernel19Ideal.nD Cert.Kernel19Ideal.τ).loc Cert.Kernel19Ideal.main_arg1)) (m ((c : Thread Cert.Kernel19Ideal.nD Cert.Kernel19Ideal.τ).loc Cert.Kernel19Ideal.main_arg2)),
    fun c => Cert.Kernel19Ideal.Product.squares (m ((c : Thread Cert.Kernel19Ideal.nD Cert.Kernel19Ideal.τ).loc Cert.Kernel19Ideal.main_arg1)) (m ((c : Thread Cert.Kernel19Ideal.nD Cert.Kernel19Ideal.τ).loc Cert.Kernel19Ideal.main_arg3)),
    Cert.Kernel19Ideal.Product.kernel_run m g,
    (θ_run Cert.Reference19Ideal.defs _ _).mono
      (fun r h c => ⟨(h c).1.trans (by rw [(hargs c).1, (hargs c).2.1, (hargs c).2.2.1, (hargs c).2.2.2]),
        (h c).2.1.trans (by rw [(hargs c).2.1, (hargs c).2.2.1]),
        (h c).2.2.1.trans (by rw [(hargs c).2.1, (hargs c).2.2.2]), (h c).2.2.2⟩)
      (Cert.Reference19Ideal.Product.reference_run m' g')⟩

/-- The kernel of AdamW's step of the input projection runs and leaves its arguments and counters as they were. -/
theorem frame_kernel20 : Cert.quiescent_Kernel20 := fun m ρ _ => by
  rw [defs20, main20]
  exact Cert.Kernel20Ideal.Gen.frame (F := Bits) m ρ

/-- So does the ideal kernel. -/
theorem frame_kernelIdeal20 : Cert.quiescent_Kernel20Ideal := fun m ρ _ =>
  Cert.Kernel20Ideal.Gen.frame (F := Ideal) m ρ

/-- So does the reference. -/
theorem frame_referenceIdeal20 : Cert.quiescent_Reference20Ideal := fun m ρ _ =>
  (θ_run Cert.Reference20Ideal.defs _ _).mono
    (fun r h => ⟨fun c => (h c).2.2.2, Idealize.ShloMosaic.sem_eq_zero_of_no_sems rfl r.2⟩)
    (Cert.Reference20Ideal.Value.run (F := Ideal) m ρ)

/-- The ideal kernel and the reference compute the same arrays. -/
theorem algebraic20 : Cert.algebraic_Kernel20Ideal_Reference20Ideal := fun m g m' g' _ hargs =>
  ⟨fun c => Cert.Kernel20Ideal.Product.deltas (m ((c : Thread Cert.Kernel20Ideal.nD Cert.Kernel20Ideal.τ).loc Cert.Kernel20Ideal.main_arg0)) (m ((c : Thread Cert.Kernel20Ideal.nD Cert.Kernel20Ideal.τ).loc Cert.Kernel20Ideal.main_arg1)) (m ((c : Thread Cert.Kernel20Ideal.nD Cert.Kernel20Ideal.τ).loc Cert.Kernel20Ideal.main_arg2)) (m ((c : Thread Cert.Kernel20Ideal.nD Cert.Kernel20Ideal.τ).loc Cert.Kernel20Ideal.main_arg3)),
    fun c => Cert.Kernel20Ideal.Product.means (m ((c : Thread Cert.Kernel20Ideal.nD Cert.Kernel20Ideal.τ).loc Cert.Kernel20Ideal.main_arg1)) (m ((c : Thread Cert.Kernel20Ideal.nD Cert.Kernel20Ideal.τ).loc Cert.Kernel20Ideal.main_arg2)),
    fun c => Cert.Kernel20Ideal.Product.squares (m ((c : Thread Cert.Kernel20Ideal.nD Cert.Kernel20Ideal.τ).loc Cert.Kernel20Ideal.main_arg1)) (m ((c : Thread Cert.Kernel20Ideal.nD Cert.Kernel20Ideal.τ).loc Cert.Kernel20Ideal.main_arg3)),
    Cert.Kernel20Ideal.Product.kernel_run m g,
    (θ_run Cert.Reference20Ideal.defs _ _).mono
      (fun r h c => ⟨(h c).1.trans (by rw [(hargs c).1, (hargs c).2.1, (hargs c).2.2.1, (hargs c).2.2.2]),
        (h c).2.1.trans (by rw [(hargs c).2.1, (hargs c).2.2.1]),
        (h c).2.2.1.trans (by rw [(hargs c).2.1, (hargs c).2.2.2]), (h c).2.2.2⟩)
      (Cert.Reference20Ideal.Product.reference_run m' g')⟩

/-- The kernel of AdamW's step of the convolution's taps runs and leaves its arguments and counters as they were. -/
theorem frame_kernel21 : Cert.quiescent_Kernel21 := fun m ρ _ => by
  rw [defs21, main21]
  exact Cert.Kernel21Ideal.Gen.frame (F := Bits) m ρ

/-- So does the ideal kernel. -/
theorem frame_kernelIdeal21 : Cert.quiescent_Kernel21Ideal := fun m ρ _ =>
  Cert.Kernel21Ideal.Gen.frame (F := Ideal) m ρ

/-- So does the reference. -/
theorem frame_referenceIdeal21 : Cert.quiescent_Reference21Ideal := fun m ρ _ =>
  (θ_run Cert.Reference21Ideal.defs _ _).mono
    (fun r h => ⟨fun c => (h c).2.2.2, Idealize.ShloMosaic.sem_eq_zero_of_no_sems rfl r.2⟩)
    (Cert.Reference21Ideal.Value.run (F := Ideal) m ρ)

/-- The ideal kernel and the reference compute the same arrays. -/
theorem algebraic21 : Cert.algebraic_Kernel21Ideal_Reference21Ideal := fun m g m' g' _ hargs =>
  ⟨fun c => Cert.Kernel21Ideal.Product.deltas (m ((c : Thread Cert.Kernel21Ideal.nD Cert.Kernel21Ideal.τ).loc Cert.Kernel21Ideal.main_arg0)) (m ((c : Thread Cert.Kernel21Ideal.nD Cert.Kernel21Ideal.τ).loc Cert.Kernel21Ideal.main_arg1)) (m ((c : Thread Cert.Kernel21Ideal.nD Cert.Kernel21Ideal.τ).loc Cert.Kernel21Ideal.main_arg2)) (m ((c : Thread Cert.Kernel21Ideal.nD Cert.Kernel21Ideal.τ).loc Cert.Kernel21Ideal.main_arg3)),
    fun c => Cert.Kernel21Ideal.Product.means (m ((c : Thread Cert.Kernel21Ideal.nD Cert.Kernel21Ideal.τ).loc Cert.Kernel21Ideal.main_arg1)) (m ((c : Thread Cert.Kernel21Ideal.nD Cert.Kernel21Ideal.τ).loc Cert.Kernel21Ideal.main_arg2)),
    fun c => Cert.Kernel21Ideal.Product.squares (m ((c : Thread Cert.Kernel21Ideal.nD Cert.Kernel21Ideal.τ).loc Cert.Kernel21Ideal.main_arg1)) (m ((c : Thread Cert.Kernel21Ideal.nD Cert.Kernel21Ideal.τ).loc Cert.Kernel21Ideal.main_arg3)),
    Cert.Kernel21Ideal.Product.kernel_run m g,
    (θ_run Cert.Reference21Ideal.defs _ _).mono
      (fun r h c => ⟨(h c).1.trans (by rw [(hargs c).1, (hargs c).2.1, (hargs c).2.2.1, (hargs c).2.2.2]),
        (h c).2.1.trans (by rw [(hargs c).2.1, (hargs c).2.2.1]),
        (h c).2.2.1.trans (by rw [(hargs c).2.1, (hargs c).2.2.2]), (h c).2.2.2⟩)
      (Cert.Reference21Ideal.Product.reference_run m' g')⟩

/-- The kernel of AdamW's step of the forget biases runs and leaves its arguments and counters as they were. -/
theorem frame_kernel22 : Cert.quiescent_Kernel22 := fun m ρ _ => by
  rw [defs22, main22]
  exact Cert.Kernel22Ideal.Gen.frame (F := Bits) m ρ

/-- So does the ideal kernel. -/
theorem frame_kernelIdeal22 : Cert.quiescent_Kernel22Ideal := fun m ρ _ =>
  Cert.Kernel22Ideal.Gen.frame (F := Ideal) m ρ

/-- So does the reference. -/
theorem frame_referenceIdeal22 : Cert.quiescent_Reference22Ideal := fun m ρ _ =>
  (θ_run Cert.Reference22Ideal.defs _ _).mono
    (fun r h => ⟨fun c => (h c).2.2.2, Idealize.ShloMosaic.sem_eq_zero_of_no_sems rfl r.2⟩)
    (Cert.Reference22Ideal.Value.run (F := Ideal) m ρ)

/-- The ideal kernel and the reference compute the same arrays. -/
theorem algebraic22 : Cert.algebraic_Kernel22Ideal_Reference22Ideal := fun m g m' g' _ hargs =>
  ⟨fun c => Cert.Kernel22Ideal.Product.deltas (m ((c : Thread Cert.Kernel22Ideal.nD Cert.Kernel22Ideal.τ).loc Cert.Kernel22Ideal.main_arg0)) (m ((c : Thread Cert.Kernel22Ideal.nD Cert.Kernel22Ideal.τ).loc Cert.Kernel22Ideal.main_arg1)) (m ((c : Thread Cert.Kernel22Ideal.nD Cert.Kernel22Ideal.τ).loc Cert.Kernel22Ideal.main_arg2)) (m ((c : Thread Cert.Kernel22Ideal.nD Cert.Kernel22Ideal.τ).loc Cert.Kernel22Ideal.main_arg3)),
    fun c => Cert.Kernel22Ideal.Product.means (m ((c : Thread Cert.Kernel22Ideal.nD Cert.Kernel22Ideal.τ).loc Cert.Kernel22Ideal.main_arg1)) (m ((c : Thread Cert.Kernel22Ideal.nD Cert.Kernel22Ideal.τ).loc Cert.Kernel22Ideal.main_arg2)),
    fun c => Cert.Kernel22Ideal.Product.squares (m ((c : Thread Cert.Kernel22Ideal.nD Cert.Kernel22Ideal.τ).loc Cert.Kernel22Ideal.main_arg1)) (m ((c : Thread Cert.Kernel22Ideal.nD Cert.Kernel22Ideal.τ).loc Cert.Kernel22Ideal.main_arg3)),
    Cert.Kernel22Ideal.Product.kernel_run m g,
    (θ_run Cert.Reference22Ideal.defs _ _).mono
      (fun r h c => ⟨(h c).1.trans (by rw [(hargs c).1, (hargs c).2.1, (hargs c).2.2.1, (hargs c).2.2.2]),
        (h c).2.1.trans (by rw [(hargs c).2.1, (hargs c).2.2.1]),
        (h c).2.2.1.trans (by rw [(hargs c).2.1, (hargs c).2.2.2]), (h c).2.2.2⟩)
      (Cert.Reference22Ideal.Product.reference_run m' g')⟩

/-- The kernel of AdamW's step of the relative bias runs and leaves its arguments and counters as they were. -/
theorem frame_kernel23 : Cert.quiescent_Kernel23 := fun m ρ _ => by
  rw [defs23, main23]
  exact Cert.Kernel23Ideal.Gen.frame (F := Bits) m ρ

/-- So does the ideal kernel. -/
theorem frame_kernelIdeal23 : Cert.quiescent_Kernel23Ideal := fun m ρ _ =>
  Cert.Kernel23Ideal.Gen.frame (F := Ideal) m ρ

/-- So does the reference. -/
theorem frame_referenceIdeal23 : Cert.quiescent_Reference23Ideal := fun m ρ _ =>
  (θ_run Cert.Reference23Ideal.defs _ _).mono
    (fun r h => ⟨fun c => (h c).2.2.2, Idealize.ShloMosaic.sem_eq_zero_of_no_sems rfl r.2⟩)
    (Cert.Reference23Ideal.Value.run (F := Ideal) m ρ)

/-- The ideal kernel and the reference compute the same arrays. -/
theorem algebraic23 : Cert.algebraic_Kernel23Ideal_Reference23Ideal := fun m g m' g' _ hargs =>
  ⟨fun c => Cert.Kernel23Ideal.Product.deltas (m ((c : Thread Cert.Kernel23Ideal.nD Cert.Kernel23Ideal.τ).loc Cert.Kernel23Ideal.main_arg0)) (m ((c : Thread Cert.Kernel23Ideal.nD Cert.Kernel23Ideal.τ).loc Cert.Kernel23Ideal.main_arg1)) (m ((c : Thread Cert.Kernel23Ideal.nD Cert.Kernel23Ideal.τ).loc Cert.Kernel23Ideal.main_arg2)) (m ((c : Thread Cert.Kernel23Ideal.nD Cert.Kernel23Ideal.τ).loc Cert.Kernel23Ideal.main_arg3)),
    fun c => Cert.Kernel23Ideal.Product.means (m ((c : Thread Cert.Kernel23Ideal.nD Cert.Kernel23Ideal.τ).loc Cert.Kernel23Ideal.main_arg1)) (m ((c : Thread Cert.Kernel23Ideal.nD Cert.Kernel23Ideal.τ).loc Cert.Kernel23Ideal.main_arg2)),
    fun c => Cert.Kernel23Ideal.Product.squares (m ((c : Thread Cert.Kernel23Ideal.nD Cert.Kernel23Ideal.τ).loc Cert.Kernel23Ideal.main_arg1)) (m ((c : Thread Cert.Kernel23Ideal.nD Cert.Kernel23Ideal.τ).loc Cert.Kernel23Ideal.main_arg3)),
    Cert.Kernel23Ideal.Product.kernel_run m g,
    (θ_run Cert.Reference23Ideal.defs _ _).mono
      (fun r h c => ⟨(h c).1.trans (by rw [(hargs c).1, (hargs c).2.1, (hargs c).2.2.1, (hargs c).2.2.2]),
        (h c).2.1.trans (by rw [(hargs c).2.1, (hargs c).2.2.1]),
        (h c).2.2.1.trans (by rw [(hargs c).2.1, (hargs c).2.2.2]), (h c).2.2.2⟩)
      (Cert.Reference23Ideal.Product.reference_run m' g')⟩

/-- The kernel of AdamW's step of the layer norms' gains and biases runs and leaves its arguments and counters as they were. -/
theorem frame_kernel24 : Cert.quiescent_Kernel24 := fun m ρ _ => by
  rw [defs24, main24]
  exact Cert.Kernel24Ideal.Gen.frame (F := Bits) m ρ

/-- So does the ideal kernel. -/
theorem frame_kernelIdeal24 : Cert.quiescent_Kernel24Ideal := fun m ρ _ =>
  Cert.Kernel24Ideal.Gen.frame (F := Ideal) m ρ

/-- So does the reference. -/
theorem frame_referenceIdeal24 : Cert.quiescent_Reference24Ideal := fun m ρ _ =>
  (θ_run Cert.Reference24Ideal.defs _ _).mono
    (fun r h => ⟨fun c => (h c).2.2.2, Idealize.ShloMosaic.sem_eq_zero_of_no_sems rfl r.2⟩)
    (Cert.Reference24Ideal.Value.run (F := Ideal) m ρ)

/-- The ideal kernel and the reference compute the same arrays. -/
theorem algebraic24 : Cert.algebraic_Kernel24Ideal_Reference24Ideal := fun m g m' g' _ hargs =>
  ⟨fun c => Cert.Kernel24Ideal.Product.deltas (m ((c : Thread Cert.Kernel24Ideal.nD Cert.Kernel24Ideal.τ).loc Cert.Kernel24Ideal.main_arg0)) (m ((c : Thread Cert.Kernel24Ideal.nD Cert.Kernel24Ideal.τ).loc Cert.Kernel24Ideal.main_arg1)) (m ((c : Thread Cert.Kernel24Ideal.nD Cert.Kernel24Ideal.τ).loc Cert.Kernel24Ideal.main_arg2)) (m ((c : Thread Cert.Kernel24Ideal.nD Cert.Kernel24Ideal.τ).loc Cert.Kernel24Ideal.main_arg3)),
    fun c => Cert.Kernel24Ideal.Product.means (m ((c : Thread Cert.Kernel24Ideal.nD Cert.Kernel24Ideal.τ).loc Cert.Kernel24Ideal.main_arg1)) (m ((c : Thread Cert.Kernel24Ideal.nD Cert.Kernel24Ideal.τ).loc Cert.Kernel24Ideal.main_arg2)),
    fun c => Cert.Kernel24Ideal.Product.squares (m ((c : Thread Cert.Kernel24Ideal.nD Cert.Kernel24Ideal.τ).loc Cert.Kernel24Ideal.main_arg1)) (m ((c : Thread Cert.Kernel24Ideal.nD Cert.Kernel24Ideal.τ).loc Cert.Kernel24Ideal.main_arg3)),
    Cert.Kernel24Ideal.Product.kernel_run m g,
    (θ_run Cert.Reference24Ideal.defs _ _).mono
      (fun r h c => ⟨(h c).1.trans (by rw [(hargs c).1, (hargs c).2.1, (hargs c).2.2.1, (hargs c).2.2.2]),
        (h c).2.1.trans (by rw [(hargs c).2.1, (hargs c).2.2.1]),
        (h c).2.2.1.trans (by rw [(hargs c).2.1, (hargs c).2.2.2]), (h c).2.2.2⟩)
      (Cert.Reference24Ideal.Product.reference_run m' g')⟩

end Cert.Proof.Mm
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Sb.Frame
public import proofs.«01_k».proof.Proof.Sb.Same
public import proofs.«01_k».proof.Proof.Sb.Equal
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Mm.Claims
public import Idealize.ShloMosaic.Adequacy
public import Idealize.ShloMosaic.Init

@[expose] public section

noncomputable section

namespace Cert.Proof

open Idealize.ShloMosaic Idealize.ShloMosaic.TcCoe Idealize.SL Idealize.SL.Sem

theorem frame_kernel : Cert.quiescent_Kernel := fun m ρ _ => by
  rw [defs_same, main_same]
  exact Cert.Proof.KernelIdeal.frame_main (F := Bits) m ρ

theorem frame_kernelIdeal : Cert.quiescent_KernelIdeal := fun m ρ _ =>
  Cert.Proof.KernelIdeal.frame_main (F := Ideal) m ρ

theorem frame_referenceIdeal : Cert.quiescent_ReferenceIdeal := fun m ρ _ =>
  (θ_run Cert.ReferenceIdeal.defs _ _).mono
    (fun r h => ⟨fun c => (h c).2.2.2, Idealize.ShloMosaic.sem_eq_zero_of_no_sems rfl r.2⟩)
    (Cert.ReferenceIdeal.Value.run (F := Ideal) m ρ)

/-- The side conditions of the precondition's operations. -/
theorem pre_facts : Cert.Pre_finite_inputs.Facts := ⟨by decide, by decide, by decide, by decide, by decide⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  pre_facts, Mm.gradient_facts, Mm.rows_facts,
  frame_kernel, frame_kernelIdeal, fun m ρ _ => Cert.Proof.KernelIdeal.frame_main (F := Ideal) m ρ, frame_referenceIdeal,
  fun m ρ _ => frame_referenceIdeal m ρ trivial,
  Mm.frame_kernel2, Mm.frame_kernelIdeal2, Mm.frame_referenceIdeal2,
  Mm.frame_kernel3, Mm.frame_kernelIdeal3, Mm.frame_referenceIdeal3,
  Mm.frame_kernel4, Mm.frame_kernelIdeal4, Mm.frame_referenceIdeal4,
  Mm.frame_kernel5, Mm.frame_kernelIdeal5, Mm.frame_referenceIdeal5,
  Mm.frame_kernel6, Mm.frame_kernelIdeal6, Mm.frame_referenceIdeal6,
  Mm.frame_kernel7, Mm.frame_kernelIdeal7, Mm.frame_referenceIdeal7,
  Mm.frame_kernel8, Mm.frame_kernelIdeal8, Mm.frame_referenceIdeal8,
  Mm.frame_kernel9, Mm.frame_kernelIdeal9, Mm.frame_referenceIdeal9,
  Mm.frame_kernel10, Mm.frame_kernelIdeal10, Mm.frame_kernelIdeal10_pre (hPre := Mm.gradient_facts), Mm.frame_referenceIdeal10,
  Mm.frame_referenceIdeal10_pre (hPre := Mm.gradient_facts),
  Mm.frame_kernel11, Mm.frame_kernelIdeal11, Mm.frame_referenceIdeal11,
  Mm.frame_kernel12, Mm.frame_kernelIdeal12, Mm.frame_referenceIdeal12,
  Mm.frame_kernel13, Mm.frame_kernelIdeal13, Mm.frame_referenceIdeal13,
  Mm.frame_kernel14, Mm.frame_kernelIdeal14, Mm.frame_kernelIdeal14_pre (hPre := Mm.rows_facts), Mm.frame_referenceIdeal14,
  Mm.frame_referenceIdeal14_pre (hPre := Mm.rows_facts),
  Mm.frame_kernel15, Mm.frame_kernelIdeal15, Mm.frame_referenceIdeal15,
  Mm.frame_kernel16, Mm.frame_kernelIdeal16, Mm.frame_referenceIdeal16,
  Mm.frame_kernel17, Mm.frame_kernelIdeal17, Mm.frame_referenceIdeal17,
  Mm.frame_kernel18, Mm.frame_kernelIdeal18, Mm.frame_referenceIdeal18,
  Mm.frame_kernel19, Mm.frame_kernelIdeal19, Mm.frame_referenceIdeal19,
  Mm.frame_kernel20, Mm.frame_kernelIdeal20, Mm.frame_referenceIdeal20,
  Mm.frame_kernel21, Mm.frame_kernelIdeal21, Mm.frame_referenceIdeal21,
  Mm.frame_kernel22, Mm.frame_kernelIdeal22, Mm.frame_referenceIdeal22,
  Mm.frame_kernel23, Mm.frame_kernelIdeal23, Mm.frame_referenceIdeal23,
  Mm.frame_kernel24, Mm.frame_kernelIdeal24, Mm.frame_referenceIdeal24,
  trivial, sb_algebraic (hPre := pre_facts),
  trivial, Mm.algebraic2,
  trivial, Mm.algebraic3,
  trivial, Mm.algebraic4,
  trivial, Mm.algebraic5,
  trivial, Mm.algebraic6,
  trivial, Mm.algebraic7,
  trivial, Mm.algebraic8,
  trivial, Mm.algebraic9,
  trivial, Mm.algebraic10 (hPre := Mm.gradient_facts),
  trivial, Mm.algebraic11,
  trivial, Mm.algebraic12,
  trivial, Mm.algebraic13,
  trivial, Mm.algebraic14 (hPre := Mm.rows_facts),
  trivial, Mm.algebraic15,
  trivial, Mm.algebraic16,
  trivial, Mm.algebraic17,
  trivial, Mm.algebraic18,
  trivial, Mm.algebraic19,
  trivial, Mm.algebraic20,
  trivial, Mm.algebraic21,
  trivial, Mm.algebraic22,
  trivial, Mm.algebraic23,
  trivial, Mm.algebraic24⟩

end Cert.Proof
